-- ==== Defs.lean ====
def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_v_finite [hPre_v_finite : Cert.Pre_v_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_v_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_v_finite [hPre_v_finite : Cert.Pre_v_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_v_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_v_finite [hKernel6Ideal : Cert.Kernel6Ideal.Facts] [hPre_v_finite : Cert.Pre_v_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_v_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_v_finite [hReference6Ideal : Cert.Reference6Ideal.Facts] [hPre_v_finite : Cert.Pre_v_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_v_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v49_0)) (v1 : (c : Dev Cert.Kernel3Ideal.nD) → Buf (Elt Ideal) ((c.tc : Thread Cert.Kernel3Ideal.nD Cert.Kernel3Ideal.τ).loc Cert.Kernel3Ideal.main_v49_1)) (v2 : (c : Dev Cert.Kernel3Ideal.nD) → Buf (Elt Ideal) ((c.tc : Thread Cert.Kernel3Ideal.nD Cert.Kernel3Ideal.τ).loc Cert.Kernel3Ideal.main_v49_2)) (v3 : (c : Dev Cert.Kernel3Ideal.nD) → Buf (Elt Ideal) ((c.tc : Thread Cert.Kernel3Ideal.nD Cert.Kernel3Ideal.τ).loc Cert.Kernel3Ideal.main_v49_3)) (v4 : (c : Dev Cert.Kernel3Ideal.nD) → Buf (Elt Ideal) ((c.tc : Thread Cert.Kernel3Ideal.nD Cert.Kernel3Ideal.τ).loc Cert.Kernel3Ideal.main_v49_4)) (v5 : (c : Dev Cert.Kernel3Ideal.nD) → Buf (Elt Ideal) ((c.tc : Thread Cert.Kernel3Ideal.nD Cert.Kernel3Ideal.τ).loc Cert.Kernel3Ideal.main_v49_5)) (v6 : (c : Dev Cert.Kernel3Ideal.nD) → Buf (Elt Ideal) ((c.tc : Thread Cert.Kernel3Ideal.nD Cert.Kernel3Ideal.τ).loc Cert.Kernel3Ideal.main_v49_6)) (v7 : (c : Dev Cert.Kernel3Ideal.nD) → Buf (Elt Ideal) ((c.tc : Thread Cert.Kernel3Ideal.nD Cert.Kernel3Ideal.τ).loc Cert.Kernel3Ideal.main_v49_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v49_0) = v0 c
          ∧ r.2.mem ((c.tc : Thread Cert.Kernel3Ideal.nD Cert.Kernel3Ideal.τ).loc Cert.Kernel3Ideal.main_v49_1) = v1 c
          ∧ r.2.mem ((c.tc : Thread Cert.Kernel3Ideal.nD Cert.Kernel3Ideal.τ).loc Cert.Kernel3Ideal.main_v49_2) = v2 c
          ∧ r.2.mem ((c.tc : Thread Cert.Kernel3Ideal.nD Cert.Kernel3Ideal.τ).loc Cert.Kernel3Ideal.main_v49_3) = v3 c
          ∧ r.2.mem ((c.tc : Thread Cert.Kernel3Ideal.nD Cert.Kernel3Ideal.τ).loc Cert.Kernel3Ideal.main_v49_4) = v4 c
          ∧ r.2.mem ((c.tc : Thread Cert.Kernel3Ideal.nD Cert.Kernel3Ideal.τ).loc Cert.Kernel3Ideal.main_v49_5) = v5 c
          ∧ r.2.mem ((c.tc : Thread Cert.Kernel3Ideal.nD Cert.Kernel3Ideal.τ).loc Cert.Kernel3Ideal.main_v49_6) = v6 c
          ∧ r.2.mem ((c.tc : Thread Cert.Kernel3Ideal.nD Cert.Kernel3Ideal.τ).loc Cert.Kernel3Ideal.main_v49_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_v39) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v27) = v5 c
          ∧ r.2.mem ((c.tc : Thread Cert.Reference3Ideal.nD Cert.Reference3Ideal.τ).loc Cert.Reference3Ideal.main_v40) = v6 c
          ∧ r.2.mem ((c.tc : Thread Cert.Reference3Ideal.nD Cert.Reference3Ideal.τ).loc Cert.Reference3Ideal.main_v41) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v33_0)) (v1 : (c : Dev Cert.Kernel2Ideal.nD) → Buf (Elt Ideal) ((c.tc : Thread Cert.Kernel2Ideal.nD Cert.Kernel2Ideal.τ).loc Cert.Kernel2Ideal.main_v33_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33_0) = v0 c
          ∧ r.2.mem ((c.tc : Thread Cert.Kernel2Ideal.nD Cert.Kernel2Ideal.τ).loc Cert.Kernel2Ideal.main_v33_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_v102) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v49_0)) (v1 : (c : Dev Cert.Kernel5Ideal.nD) → Buf (Elt Ideal) ((c.tc : Thread Cert.Kernel5Ideal.nD Cert.Kernel5Ideal.τ).loc Cert.Kernel5Ideal.main_v49_1)) (v2 : (c : Dev Cert.Kernel5Ideal.nD) → Buf (Elt Ideal) ((c.tc : Thread Cert.Kernel5Ideal.nD Cert.Kernel5Ideal.τ).loc Cert.Kernel5Ideal.main_v49_2)) (v3 : (c : Dev Cert.Kernel5Ideal.nD) → Buf (Elt Ideal) ((c.tc : Thread Cert.Kernel5Ideal.nD Cert.Kernel5Ideal.τ).loc Cert.Kernel5Ideal.main_v49_3)) (v4 : (c : Dev Cert.Kernel5Ideal.nD) → Buf (Elt Ideal) ((c.tc : Thread Cert.Kernel5Ideal.nD Cert.Kernel5Ideal.τ).loc Cert.Kernel5Ideal.main_v49_4)) (v5 : (c : Dev Cert.Kernel5Ideal.nD) → Buf (Elt Ideal) ((c.tc : Thread Cert.Kernel5Ideal.nD Cert.Kernel5Ideal.τ).loc Cert.Kernel5Ideal.main_v49_5)) (v6 : (c : Dev Cert.Kernel5Ideal.nD) → Buf (Elt Ideal) ((c.tc : Thread Cert.Kernel5Ideal.nD Cert.Kernel5Ideal.τ).loc Cert.Kernel5Ideal.main_v49_6)) (v7 : (c : Dev Cert.Kernel5Ideal.nD) → Buf (Elt Ideal) ((c.tc : Thread Cert.Kernel5Ideal.nD Cert.Kernel5Ideal.τ).loc Cert.Kernel5Ideal.main_v49_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v49_0) = v0 c
          ∧ r.2.mem ((c.tc : Thread Cert.Kernel5Ideal.nD Cert.Kernel5Ideal.τ).loc Cert.Kernel5Ideal.main_v49_1) = v1 c
          ∧ r.2.mem ((c.tc : Thread Cert.Kernel5Ideal.nD Cert.Kernel5Ideal.τ).loc Cert.Kernel5Ideal.main_v49_2) = v2 c
          ∧ r.2.mem ((c.tc : Thread Cert.Kernel5Ideal.nD Cert.Kernel5Ideal.τ).loc Cert.Kernel5Ideal.main_v49_3) = v3 c
          ∧ r.2.mem ((c.tc : Thread Cert.Kernel5Ideal.nD Cert.Kernel5Ideal.τ).loc Cert.Kernel5Ideal.main_v49_4) = v4 c
          ∧ r.2.mem ((c.tc : Thread Cert.Kernel5Ideal.nD Cert.Kernel5Ideal.τ).loc Cert.Kernel5Ideal.main_v49_5) = v5 c
          ∧ r.2.mem ((c.tc : Thread Cert.Kernel5Ideal.nD Cert.Kernel5Ideal.τ).loc Cert.Kernel5Ideal.main_v49_6) = v6 c
          ∧ r.2.mem ((c.tc : Thread Cert.Kernel5Ideal.nD Cert.Kernel5Ideal.τ).loc Cert.Kernel5Ideal.main_v49_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_v39) = v3 c
          ∧ r.2.mem ((c.tc : Thread Cert.Reference5Ideal.nD Cert.Reference5Ideal.τ).loc Cert.Reference5Ideal.main_v25) = v4 c
          ∧ r.2.mem ((c.tc : Thread Cert.Reference5Ideal.nD Cert.Reference5Ideal.τ).loc Cert.Reference5Ideal.main_v27) = v5 c
          ∧ r.2.mem ((c.tc : Thread Cert.Reference5Ideal.nD Cert.Reference5Ideal.τ).loc Cert.Reference5Ideal.main_v40) = v6 c
          ∧ r.2.mem ((c.tc : Thread Cert.Reference5Ideal.nD Cert.Reference5Ideal.τ).loc Cert.Reference5Ideal.main_v41) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_v_finite [hKernel6Ideal : Cert.Kernel6Ideal.Facts] [hReference6Ideal : Cert.Reference6Ideal.Facts] [hPre_v_finite : Cert.Pre_v_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_v_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_v69) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel4 : Cert.Kernel4.Facts) (hKernel4Ideal : Cert.Kernel4Ideal.Facts) (hReference4Ideal : Cert.Reference4Ideal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_v_finite : Cert.Pre_v_finite.Facts),
    quiescent_Kernel4 (hKernel4 := hKernel4)
    ∧ quiescent_Kernel4Ideal (hKernel4Ideal := hKernel4Ideal)
    ∧ quiescent_Reference4Ideal (hReference4Ideal := hReference4Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_v_finite (hKernel6Ideal := hKernel6Ideal) (hPre_v_finite := hPre_v_finite)
    ∧ quiescent_Reference6Ideal (hReference6Ideal := hReference6Ideal)
    ∧ quiescent_Reference6Ideal_pre_v_finite (hReference6Ideal := hReference6Ideal) (hPre_v_finite := hPre_v_finite)
    ∧ preserves_Kernel4_Kernel4Ideal
    ∧ algebraic_Kernel4Ideal_Reference4Ideal (hKernel4Ideal := hKernel4Ideal) (hReference4Ideal := hReference4Ideal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_v_finite (hKernel6Ideal := hKernel6Ideal) (hReference6Ideal := hReference6Ideal) (hPre_v_finite := hPre_v_finite)
-- ==== Pre_v_finite.lean ====
abbrev S32x16x256 : Shape := ⟨3, ![32, 16, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S32x16x256 : S_.BroadcastsInDim S32x16x256 (![] : Fin 0 → Fin S32x16x256.rank)

variable [Facts]

def fn {F : FTy → Type} [FloatOps F] (main_arg0 : FVec F S32x16x256 .f32) (main_arg1 : FVec F S32x16x256 .f32) (main_arg2 : FVec F S256 .f32) (main_arg3 : FVec F S256 .f32) (main_arg4 : FVec F S4x128x128 .f32) (main_arg5 : FVec F S4x128 .f32) : IVec S32x16x256 1 :=
  let main_v0 : FVec F S32x16x256 .f32 := Host.absf main_arg1
  let main_cst : FVec F S_ .f32 := constant S_ .f32 0x7F800000#32
  let main_v1 : FVec F S32x16x256 .f32 := broadcastInDim S32x16x256 ![] bcast_S_S32x16x256 main_cst
  let main_v2 : IVec S32x16x256 1 := cmpf .olt main_v0 main_v1
  main_v2
-- ==== Kernel4.lean ====
abbrev S32x16x1024 : Shape := ⟨3, ![32, 16, 1024]⟩
abbrev S32x16x256 : Shape := ⟨3, ![32, 16, 256]⟩
abbrev S32x16x384 : Shape := ⟨3, ![32, 16, 384]⟩
abbrev S32x2x2816 : Shape := ⟨3, ![32, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S_ : Shape := ⟨0, ![]⟩
abbrev S32x14x2816 : Shape := ⟨3, ![32, 14, 2816]⟩
abbrev S32x1x2816 : Shape := ⟨3, ![32, 1, 2816]⟩
abbrev S32x16x2816 : Shape := ⟨3, ![32, 16, 2816]⟩
abbrev S512x2816 : Shape := ⟨2, ![512, 2816]⟩
abbrev S512x1024 : Shape := ⟨2, ![512, 1024]⟩
abbrev S512x256 : Shape := ⟨2, ![512, 256]⟩
abbrev S512x384 : Shape := ⟨2, ![512, 384]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩

abbrev nBuf : Space → Nat
  | .hbm => 58
  | .vmem => 29
  | .smem => 0
  | _ => 0

abbrev bufTy : (tb : Table) → Fin (tcTables nBuf tb) → BufTy
  | .hbm, ⟨0, _⟩ => ⟨S32x16x1024, .f32⟩
  | .hbm, ⟨1, _⟩ => ⟨S32x16x256, .f32⟩
  | .hbm, ⟨2, _⟩ => ⟨S32x16x384, .f32⟩
  | .hbm, ⟨3, _⟩ => ⟨S32x16x384, .f32⟩
  | .hbm, ⟨4, _⟩ => ⟨S32x2x2816, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S1x1024x1024, .f32⟩
  | .hbm, ⟨16, _⟩ => ⟨S1x1024, .f32⟩
  | .hbm, ⟨17, _⟩ => ⟨S1x1024, .f32⟩
  | .hbm, ⟨18, _⟩ => ⟨S1x1024x2816, .f32⟩
  | .hbm, ⟨19, _⟩ => ⟨S1x1024x2816, .f32⟩
  | .hbm, ⟨20, _⟩ => ⟨S1x3x2816, .f32⟩
  | .hbm, ⟨21, _⟩ => ⟨S1x2816, .f32⟩
  | .hbm, ⟨22, _⟩ => ⟨S1x2816x1024, .f32⟩
  | .hbm, ⟨23, _⟩ => ⟨S1x1024, .f32⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024x2816, .f32⟩
  | .hbm, ⟨32, _⟩ => ⟨S1024x2816, .bf16⟩
  | .hbm, ⟨33, _⟩ => ⟨S1024x2816, .f32⟩
  | .hbm, ⟨34, _⟩ => ⟨S1024x2816, .bf16⟩
  | .hbm, ⟨35, _⟩ => ⟨S3x2816, .f32⟩
  | .hbm, ⟨36, _⟩ => ⟨S2816, .f32⟩
  | .hbm, ⟨37, _⟩ => ⟨S1x2816, .f32⟩
  | .hbm, ⟨38, _⟩ => ⟨S2816x1024, .f32⟩
  | .hbm, ⟨39, _⟩ => ⟨S2816x1024, .bf16⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S32x14x2816, .f32⟩
  | .hbm, ⟨46, _⟩ => ⟨S32x1x2816, .f32⟩
  | .hbm, ⟨47, _⟩ => ⟨S32x1x2816, .f32⟩
  | .hbm, ⟨48, _⟩ => ⟨S32x16x2816, .f32⟩
  | .hbm, ⟨49, _⟩ => ⟨S512x2816, .f32⟩
  | .hbm, ⟨50, _⟩ => ⟨S32x16x2816, .f32⟩
  | .hbm, ⟨51, _⟩ => ⟨S512x2816, .f32⟩
  | .hbm, ⟨52, _⟩ => ⟨S512x1024, .f32⟩
  | .hbm, ⟨53, _⟩ => ⟨S512x256, .f32⟩
  | .hbm, ⟨54, _⟩ => ⟨S512x384, .f32⟩
  | .hbm, ⟨55, _⟩ => ⟨S512x384, .f32⟩
  | .hbm, ⟨56, _⟩ => ⟨S512x1024, .f32⟩
  | .hbm, ⟨57, _⟩ => ⟨S512x2816, .f32⟩
  | .local _ .vmem, ⟨0, _⟩ => ⟨S512x1024, .f32⟩
  | .local _ .vmem, ⟨1, _⟩ => ⟨S512x256, .f32⟩
  | .local _ .vmem, ⟨2, _⟩ => ⟨S512x384, .f32⟩
  | .local _ .vmem, ⟨3, _⟩ => ⟨S512x384, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S3x256, .f32⟩
  | .local _ .vmem, ⟨12, _⟩ => ⟨S3x256, .f32⟩
  | .local _ .vmem, ⟨13, _⟩ => ⟨S1x256, .f32⟩
  | .local _ .vmem, ⟨14, _⟩ => ⟨S1x256, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x1024, .f32⟩
  | .local _ .vmem, ⟨24, _⟩ => ⟨S512x256, .f32⟩
  | .local _ .vmem, ⟨25, _⟩ => ⟨S512x256, .f32⟩
  | .local _ .vmem, ⟨26, _⟩ => ⟨S512x1024, .f32⟩
  | .local _ .vmem, ⟨27, _⟩ => ⟨S512x1024, .bf16⟩
  | .local _ .vmem, ⟨28, _⟩ => ⟨S512x1024, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40_0 : Ref sig .tc := ⟨.hbm, 56, rfl⟩
abbrev main_v40_1 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v80 : BitVec 1 := Scalar.cmpi .eq arg1 c10_i32
  let v81 : BitVec 32 := Scalar.extui v80
  let c0_i32_35 : BitVec 32 := 0#32
  let v82 : BitVec 1 := Scalar.cmpi .ne v81 c0_i32_35
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S512x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, false]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S32x16x1024 : Shape := ⟨3, ![32, 16, 1024]⟩
abbrev S32x16x256 : Shape := ⟨3, ![32, 16, 256]⟩
abbrev S32x16x384 : Shape := ⟨3, ![32, 16, 384]⟩
abbrev S32x2x2816 : Shape := ⟨3, ![32, 2, 2816]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩
abbrev S32x16x2816 : Shape := ⟨3, ![32, 16, 2816]⟩
abbrev S32x18x2816 : Shape := ⟨3, ![32, 18, 2816]⟩
abbrev S1x2816 : Shape := ⟨2, ![1, 2816]⟩
abbrev S1x1x2816 : Shape := ⟨3, ![1, 1, 2816]⟩
abbrev S512x1024 : Shape := ⟨2, ![512, 1024]⟩
abbrev S512x2816 : Shape := ⟨2, ![512, 2816]⟩

abbrev nBuf : Space → Nat
  | .hbm => 133
  | .vmem => 0
  | .smem => 0
  | _ => 0

abbrev hbmTy0_0 (i : Nat) : BufTy := match i % 128 with
  | 0 => ⟨S32x16x1024, .f32⟩
  | 1 => ⟨S32x16x256, .f32⟩
  | 2 => ⟨S32x16x384, .f32⟩
  | 3 => ⟨S32x16x384, .f32⟩
  | 4 => ⟨S32x2x2816, .f32⟩
  | 5 => ⟨S1024x1024, .f32⟩
  | 6 => ⟨S1024, .f32⟩
  | 7 => ⟨S1024, .f32⟩
  | 8 => ⟨S1024x2816, .f32⟩
  | 9 => ⟨S1024x2816, .f32⟩
  | 10 => ⟨S3x2816, .f32⟩
  | 11 => ⟨S2816, .f32⟩
  | 12 => ⟨S2816x1024, .f32⟩
  | 13 => ⟨S1024, .f32⟩
  | 14 => ⟨S1024, .f32⟩
  | 15 => ⟨S32x16x1024, .f32⟩
  | 16 => ⟨S_, .f32⟩
  | 17 => ⟨S32x16x1024, .f32⟩
  | 18 => ⟨S32x16x1024, .f32⟩
  | 19 => ⟨S32x16x1024, .f32⟩
  | 20 => ⟨S32x16x1024, .f32⟩
  | 21 => ⟨S_, .f32⟩
  | 22 => ⟨S32x16, .f32⟩
  | 23 => ⟨S32x16x1, .f32⟩
  | 24 => ⟨S_, .f32⟩
  | 25 => ⟨S32x16x1, .f32⟩
  | 26 => ⟨S32x16x1, .f32⟩
  | 27 => ⟨S32x16x1024, .f32⟩
  | 28 => ⟨S32x16x1024, .f32⟩
  | 29 => ⟨S32x16x1024, .f32⟩
  | 30 => ⟨S_, .f32⟩
  | 31 => ⟨S32x16, .f32⟩
  | 32 => ⟨S32x16x1, .f32⟩
  | 33 => ⟨S_, .f32⟩
  | 34 => ⟨S32x16x1, .f32⟩
  | 35 => ⟨S32x16x1, .f32⟩
  | 36 => ⟨S32x16x1024, .f32⟩
  | 37 => ⟨S32x16x1024, .f32⟩
  | 38 => ⟨S_, .f32⟩
  | 39 => ⟨S32x16x1, .f32⟩
  | 40 => ⟨S32x16x1, .f32⟩
  | 41 => ⟨S32x16x1, .f32⟩
  | 42 => ⟨S32x16x1024, .f32⟩
  | 43 => ⟨S32x16x1024, .f32⟩
  | 44 => ⟨S1x1x1024, .f32⟩
  | 45 => ⟨S32x16x1024, .f32⟩
  | 46 => ⟨S32x16x1024, .f32⟩
  | 47 => ⟨S1x1x1024, .f32⟩
  | 48 => ⟨S32x16x1024, .f32⟩
  | 49 => ⟨S32x16x1024, .f32⟩
  | 50 => ⟨S32x16x2816, .f32⟩
  | 51 => ⟨S32x16x2816, .f32⟩
  | 52 => ⟨S32x18x2816, .f32⟩
  | 53 => ⟨S1x2816, .f32⟩
  | 54 => ⟨S2816, .f32⟩
  | 55 => ⟨S32x16x2816, .f32⟩
  | 56 => ⟨S1x1x2816, .f32⟩
  | 57 => ⟨S32x16x2816, .f32⟩
  | 58 => ⟨S32x16x2816, .f32⟩
  | 59 => ⟨S_, .f32⟩
  | 60 => ⟨S32x16x2816, .f32⟩
  | 61 => ⟨S32x16x2816, .f32⟩
  | 62 => ⟨S1x2816, .f32⟩
  | 63 => ⟨S2816, .f32⟩
  | 64 => ⟨S32x16x2816, .f32⟩
  | 65 => ⟨S1x1x2816, .f32⟩
  | 66 => ⟨S32x16x2816, .f32⟩
  | 67 => ⟨S32x16x2816, .f32⟩
  | 68 => ⟨S32x16x2816, .f32⟩
  | 69 => ⟨S1x2816, .f32⟩
  | 70 => ⟨S2816, .f32⟩
  | 71 => ⟨S32x16x2816, .f32⟩
  | 72 => ⟨S1x1x2816, .f32⟩
  | 73 => ⟨S32x16x2816, .f32⟩
  | 74 => ⟨S32x16x2816, .f32⟩
  | 75 => ⟨S32x16x2816, .f32⟩
  | 76 => ⟨S1x1x2816, .f32⟩
  | 77 => ⟨S32x16x2816, .f32⟩
  | 78 => ⟨S32x16x2816, .f32⟩
  | 79 => ⟨S32x16x2816, .f32⟩
  | 80 => ⟨S32x16x2816, .f32⟩
  | 81 => ⟨S_, .f32⟩
  | 82 => ⟨S32x16x2816, .f32⟩
  | 83 => ⟨S32x16x2816, .f32⟩
  | 84 => ⟨S32x16x2816, .f32⟩
  | 85 => ⟨S_, .f32⟩
  | 86 => ⟨S32x16x2816, .f32⟩
  | 87 => ⟨S32x16x2816, .f32⟩
  | 88 => ⟨S32x16x2816, .f32⟩
  | 89 => ⟨S_, .f32⟩
  | 90 => ⟨S32x16x2816, .f32⟩
  | 91 => ⟨S32x16x2816, .f32⟩
  | 92 => ⟨S_, .f32⟩
  | 93 => ⟨S32x16x2816, .f32⟩
  | 94 => ⟨S32x16x2816, .f32⟩
  | 95 => ⟨S32x16x2816, .f32⟩
  | 96 => ⟨S32x16x2816, .f32⟩
  | 97 => ⟨S32x16x1024, .f32⟩
  | 98 => ⟨S_, .f32⟩
  | 99 => ⟨S32x16x1024, .f32⟩
  | 100 => ⟨S32x16x1024, .f32⟩
  | 101 => ⟨S32x16x1024, .f32⟩
  | 102 => ⟨S_, .f32⟩
  | 103 => ⟨S32x16, .f32⟩
  | 104 => ⟨S32x16x1, .f32⟩
  | 105 => ⟨S_, .f32⟩
  | 106 => ⟨S32x16x1, .f32⟩
  | 107 => ⟨S32x16x1, .f32⟩
  | 108 => ⟨S32x16x1024, .f32⟩
  | 109 => ⟨S32x16x1024, .f32⟩
  | 110 => ⟨S32x16x1024, .f32⟩
  | 111 => ⟨S_, .f32⟩
  | 112 => ⟨S32x16, .f32⟩
  | 113 => ⟨S32x16x1, .f32⟩
  | 114 => ⟨S_, .f32⟩
  | 115 => ⟨S32x16x1, .f32⟩
  | 116 => ⟨S32x16x1, .f32⟩
  | 117 => ⟨S32x16x1024, .f32⟩
  | 118 => ⟨S32x16x1024, .f32⟩
  | 119 => ⟨S_, .f32⟩
  | 120 => ⟨S32x16x1, .f32⟩
  | 121 => ⟨S32x16x1, .f32⟩
  | 122 => ⟨S32x16x1, .f32⟩
  | 123 => ⟨S32x16x1024, .f32⟩
  | 124 => ⟨S32x16x1024, .f32⟩
  | 125 => ⟨S1x1x1024, .f32⟩
  | 126 => ⟨S32x16x1024, .f32⟩
  | 127 => ⟨S32x16x1024, .f32⟩
  | _ => ⟨S32x16x1024, .f32⟩

abbrev hbmTy0_1 (i : Nat) : BufTy := match i % 128 with
  | 0 => ⟨S1x1x1024, .f32⟩
  | 1 => ⟨S32x16x1024, .f32⟩
  | 2 => ⟨S32x16x1024, .f32⟩
  | 3 => ⟨S512x1024, .f32⟩
  | 4 => ⟨S512x2816, .f32⟩
  | _ => ⟨S32x16x1024, .f32⟩

abbrev hbmTy (i : Nat) : BufTy := match i / 128 with
  | 0 => hbmTy0_0 i
  | 1 => hbmTy0_1 i
  | _ => ⟨S32x16x1024, .f32⟩

abbrev bufTy : (tb : Table) → Fin (tcTables nBuf tb) → BufTy
  | .hbm, ⟨i, _⟩ => hbmTy i
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_cst_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_10 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_cst_14 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_15 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024x2856 : Shape := ⟨2, ![1024, 2856]⟩
abbrev S16384x1024 : Shape := ⟨2, ![16384, 1024]⟩
abbrev S1024x256 : Shape := ⟨2, ![1024, 256]⟩
abbrev S1024x384 : Shape := ⟨2, ![1024, 384]⟩
abbrev S1024x64 : Shape := ⟨2, ![1024, 64]⟩
abbrev S1024x32 : Shape := ⟨2, ![1024, 32]⟩
abbrev S1024x8 : Shape := ⟨2, ![1024, 8]⟩
abbrev S_ : Shape := ⟨0, ![]⟩
abbrev S1024x128 : Shape := ⟨2, ![1024, 128]⟩
abbrev S1024x40 : Shape := ⟨2, ![1024, 40]⟩
abbrev S1024x3328 : Shape := ⟨2, ![1024, 3328]⟩
abbrev S1024x768 : Shape := ⟨2, ![1024, 768]⟩
abbrev S1024x4096 : Shape := ⟨2, ![1024, 4096]⟩
abbrev S16384x512 : Shape := ⟨2, ![16384, 512]⟩
abbrev S16384x768 : Shape := ⟨2, ![16384, 768]⟩
abbrev S16384x1536 : Shape := ⟨2, ![16384, 1536]⟩
abbrev S16384x128 : Shape := ⟨2, ![16384, 128]⟩
abbrev S512x1024 : Shape := ⟨2, ![512, 1024]⟩
abbrev S512x512 : Shape := ⟨2, ![512, 512]⟩
abbrev S512x768 : Shape := ⟨2, ![512, 768]⟩
abbrev S512x1536 : Shape := ⟨2, ![512, 1536]⟩
abbrev S512x128 : Shape := ⟨2, ![512, 128]⟩
abbrev S1024x512 : Shape := ⟨2, ![1024, 512]⟩
abbrev S1024x1536 : Shape := ⟨2, ![1024, 1536]⟩
abbrev S1024x1024 : Shape := ⟨2, ![1024, 1024]⟩

abbrev nBuf : Space → Nat
  | .hbm => 90
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1024x2856, .f32⟩
  | .hbm, ⟨2, _⟩ => ⟨S16384x1024, .f32⟩
  | .hbm, ⟨3, _⟩ => ⟨S1024x256, .f32⟩
  | .hbm, ⟨4, _⟩ => ⟨S1024x256, .f32⟩
  | .hbm, ⟨5, _⟩ => ⟨S1024x384, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x64, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x64, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x64, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x64, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x64, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x64, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x32, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x32, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x32, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x32, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x32, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x32, .f32⟩
  | .hbm, ⟨63, _⟩ => ⟨S_, .i32⟩
  | .hbm, ⟨64, _⟩ => ⟨S_, .f32⟩
  | .hbm, ⟨65, _⟩ => ⟨S1024x128, .f32⟩
  | .hbm, ⟨66, _⟩ => ⟨S1024x32, .f32⟩
  | .hbm, ⟨67, _⟩ => ⟨S_, .i32⟩
  | .hbm, ⟨68, _⟩ => ⟨S_, .f32⟩
  | .hbm, ⟨69, _⟩ => ⟨S1024x128, .f32⟩
  | .hbm, ⟨70, _⟩ => ⟨S1024x32, .f32⟩
  | .hbm, ⟨71, _⟩ => ⟨S_, .i32⟩
  | .hbm, ⟨72, _⟩ => ⟨S_, .f32⟩
  | .hbm, ⟨73, _⟩ => ⟨S1024x128, .f32⟩
  | .hbm, ⟨74, _⟩ => ⟨S1024x40, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S1024x3328, .f32⟩
  | .hbm, ⟨79, _⟩ => ⟨S1024x768, .f32⟩
  | .hbm, ⟨80, _⟩ => ⟨S1024x4096, .f32⟩
  | .hbm, ⟨81, _⟩ => ⟨S1024x4096, .bf16⟩
  | .hbm, ⟨82, _⟩ => ⟨S16384x512, .f32⟩
  | .hbm, ⟨83, _⟩ => ⟨S16384x768, .bf16⟩
  | .hbm, ⟨84, _⟩ => ⟨S16384x1536, .f32⟩
  | .hbm, ⟨85, _⟩ => ⟨S16384x1024, .bf16⟩
  | .hbm, ⟨86, _⟩ => ⟨S16384x128, .f32⟩
  | .hbm, ⟨87, _⟩ => ⟨S16384x128, .f32⟩
  | .hbm, ⟨88, _⟩ => ⟨S16384x128, .bf16⟩
  | .hbm, ⟨89, _⟩ => ⟨S16384x128, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x512, .f32⟩
  | .local _ .vmem, ⟨4, _⟩ => ⟨S512x512, .f32⟩
  | .local _ .vmem, ⟨5, _⟩ => ⟨S512x768, .bf16⟩
  | .local _ .vmem, ⟨6, _⟩ => ⟨S512x768, .bf16⟩
  | .local _ .vmem, ⟨7, _⟩ => ⟨S512x1536, .f32⟩
  | .local _ .vmem, ⟨8, _⟩ => ⟨S512x1536, .f32⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call4_v0 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call5_v0 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call6_v0 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call7_v0 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call8_v0 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_call9_v0 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_call10_v0 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_call11_v0 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_call12_v0 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_call13_v0 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_call14_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_v49_3 : Ref sig .tc := ⟨.hbm, 85, rfl⟩
abbrev main_v49_4 : Ref sig .tc := ⟨.hbm, 86, rfl⟩
abbrev main_v49_5 : Ref sig .tc := ⟨.hbm, 87, rfl⟩
abbrev main_v49_6 : Ref sig .tc := ⟨.hbm, 88, rfl⟩
abbrev main_v49_7 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel3Ideal.lean ====
abbrev S2x8192x1024 : Shape := ⟨3, ![2, 8192, 1024]⟩
abbrev S1024x2856 : Shape := ⟨2, ![1024, 2856]⟩
abbrev S16384x1024 : Shape := ⟨2, ![16384, 1024]⟩
abbrev S1024x256 : Shape := ⟨2, ![1024, 256]⟩
abbrev S1024x384 : Shape := ⟨2, ![1024, 384]⟩
abbrev S1024x64 : Shape := ⟨2, ![1024, 64]⟩
abbrev S1024x32 : Shape := ⟨2, ![1024, 32]⟩
abbrev S1024x8 : Shape := ⟨2, ![1024, 8]⟩
abbrev S_ : Shape := ⟨0, ![]⟩
abbrev S1024x128 : Shape := ⟨2, ![1024, 128]⟩
abbrev S1024x40 : Shape := ⟨2, ![1024, 40]⟩
abbrev S1024x3328 : Shape := ⟨2, ![1024, 3328]⟩
abbrev S1024x768 : Shape := ⟨2, ![1024, 768]⟩
abbrev S1024x4096 : Shape := ⟨2, ![1024, 4096]⟩
abbrev S16384x512 : Shape := ⟨2, ![16384, 512]⟩
abbrev S16384x768 : Shape := ⟨2, ![16384, 768]⟩
abbrev S16384x1536 : Shape := ⟨2, ![16384, 1536]⟩
abbrev S16384x128 : Shape := ⟨2, ![16384, 128]⟩
abbrev S512x1024 : Shape := ⟨2, ![512, 1024]⟩
abbrev S512x512 : Shape := ⟨2, ![512, 512]⟩
abbrev S512x768 : Shape := ⟨2, ![512, 768]⟩
abbrev S512x1536 : Shape := ⟨2, ![512, 1536]⟩
abbrev S512x128 : Shape := ⟨2, ![512, 128]⟩
abbrev S1024x512 : Shape := ⟨2, ![1024, 512]⟩
abbrev S1024x1536 : Shape := ⟨2, ![1024, 1536]⟩
abbrev S1024x1024 : Shape := ⟨2, ![1024, 1024]⟩

abbrev nBuf : Space → Nat
  | .hbm => 90
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S1024x2856, .f32⟩
  | .hbm, ⟨2, _⟩ => ⟨S16384x1024, .f32⟩
  | .hbm, ⟨3, _⟩ => ⟨S1024x256, .f32⟩
  | .hbm, ⟨4, _⟩ => ⟨S1024x256, .f32⟩
  | .hbm, ⟨5, _⟩ => ⟨S1024x384, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x64, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x64, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x64, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x64, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x64, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x64, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x32, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x32, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x32, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x32, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x32, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x32, .f32⟩
  | .hbm, ⟨63, _⟩ => ⟨S_, .i32⟩
  | .hbm, ⟨64, _⟩ => ⟨S_, .f32⟩
  | .hbm, ⟨65, _⟩ => ⟨S1024x128, .f32⟩
  | .hbm, ⟨66, _⟩ => ⟨S1024x32, .f32⟩
  | .hbm, ⟨67, _⟩ => ⟨S_, .i32⟩
  | .hbm, ⟨68, _⟩ => ⟨S_, .f32⟩
  | .hbm, ⟨69, _⟩ => ⟨S1024x128, .f32⟩
  | .hbm, ⟨70, _⟩ => ⟨S1024x32, .f32⟩
  | .hbm, ⟨71, _⟩ => ⟨S_, .i32⟩
  | .hbm, ⟨72, _⟩ => ⟨S_, .f32⟩
  | .hbm, ⟨73, _⟩ => ⟨S1024x128, .f32⟩
  | .hbm, ⟨74, _⟩ => ⟨S1024x40, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S1024x3328, .f32⟩
  | .hbm, ⟨79, _⟩ => ⟨S1024x768, .f32⟩
  | .hbm, ⟨80, _⟩ => ⟨S1024x4096, .f32⟩
  | .hbm, ⟨81, _⟩ => ⟨S1024x4096, .bf16⟩
  | .hbm, ⟨82, _⟩ => ⟨S16384x512, .f32⟩
  | .hbm, ⟨83, _⟩ => ⟨S16384x768, .bf16⟩
  | .hbm, ⟨84, _⟩ => ⟨S16384x1536, .f32⟩
  | .hbm, ⟨85, _⟩ => ⟨S16384x1024, .bf16⟩
  | .hbm, ⟨86, _⟩ => ⟨S16384x128, .f32⟩
  | .hbm, ⟨87, _⟩ => ⟨S16384x128, .f32⟩
  | .hbm, ⟨88, _⟩ => ⟨S16384x128, .bf16⟩
  | .hbm, ⟨89, _⟩ => ⟨S16384x128, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x512, .f32⟩
  | .local _ .vmem, ⟨4, _⟩ => ⟨S512x512, .f32⟩
  | .local _ .vmem, ⟨5, _⟩ => ⟨S512x768, .bf16⟩
  | .local _ .vmem, ⟨6, _⟩ => ⟨S512x768, .bf16⟩
  | .local _ .vmem, ⟨7, _⟩ => ⟨S512x1536, .f32⟩
  | .local _ .vmem, ⟨8, _⟩ => ⟨S512x1536, .f32⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call4_v0 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call5_v0 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call6_v0 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call7_v0 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call8_v0 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_call9_v0 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_call10_v0 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_call11_v0 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_call12_v0 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_call13_v0 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_call14_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_v49_3 : Ref sig .tc := ⟨.hbm, 85, rfl⟩
abbrev main_v49_4 : Ref sig .tc := ⟨.hbm, 86, rfl⟩
abbrev main_v49_5 : Ref sig .tc := ⟨.hbm, 87, rfl⟩
abbrev main_v49_6 : Ref sig .tc := ⟨.hbm, 88, rfl⟩
abbrev main_v49_7 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S2x8192x1024 : Shape := ⟨3, ![2, 8192, 1024]⟩
abbrev S1024x2856 : Shape := ⟨2, ![1024, 2856]⟩
abbrev S2x8192x2856 : Shape := ⟨3, ![2, 8192, 2856]⟩
abbrev S2x8192x256 : Shape := ⟨3, ![2, 8192, 256]⟩
abbrev S2x8192x384 : Shape := ⟨3, ![2, 8192, 384]⟩
abbrev S2x8192x64 : Shape := ⟨3, ![2, 8192, 64]⟩
abbrev S2x8192x32 : Shape := ⟨3, ![2, 8192, 32]⟩
abbrev S2x8192x8 : Shape := ⟨3, ![2, 8192, 8]⟩
abbrev S16384x256 : Shape := ⟨2, ![16384, 256]⟩
abbrev S16384x384 : Shape := ⟨2, ![16384, 384]⟩
abbrev S16384x64 : Shape := ⟨2, ![16384, 64]⟩
abbrev S16384x32 : Shape := ⟨2, ![16384, 32]⟩
abbrev S16384x8 : Shape := ⟨2, ![16384, 8]⟩
abbrev S16384x128 : Shape := ⟨2, ![16384, 128]⟩
abbrev S16384x40 : Shape := ⟨2, ![16384, 40]⟩
abbrev S_ : Shape := ⟨0, ![]⟩
abbrev S16384x512 : Shape := ⟨2, ![16384, 512]⟩
abbrev S16384x6x64 : Shape := ⟨3, ![16384, 6, 64]⟩
abbrev S16384x6x128 : Shape := ⟨3, ![16384, 6, 128]⟩
abbrev S16384x768 : Shape := ⟨2, ![16384, 768]⟩
abbrev S16384x1536 : Shape := ⟨2, ![16384, 1536]⟩
abbrev S16384x8x32 : Shape := ⟨3, ![16384, 8, 32]⟩
abbrev S16384x8x128 : Shape := ⟨3, ![16384, 8, 128]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2856, .f32⟩
  | .hbm, ⟨2, _⟩ => ⟨S2x8192x2856, .f32⟩
  | .hbm, ⟨3, _⟩ => ⟨S2x8192x256, .f32⟩
  | .hbm, ⟨4, _⟩ => ⟨S2x8192x256, .f32⟩
  | .hbm, ⟨5, _⟩ => ⟨S2x8192x384, .f32⟩
  | .hbm, ⟨6, _⟩ => ⟨S2x8192x64, .f32⟩
  | .hbm, ⟨7, _⟩ => ⟨S2x8192x64, .f32⟩
  | .hbm, ⟨8, _⟩ => ⟨S2x8192x256, .f32⟩
  | .hbm, ⟨9, _⟩ => ⟨S2x8192x32, .f32⟩
  | .hbm, ⟨10, _⟩ => ⟨S2x8192x8, .f32⟩
  | .hbm, ⟨11, _⟩ => ⟨S2x8192x384, .f32⟩
  | .hbm, ⟨12, _⟩ => ⟨S2x8192x384, .f32⟩
  | .hbm, ⟨13, _⟩ => ⟨S2x8192x384, .f32⟩
  | .hbm, ⟨14, _⟩ => ⟨S2x8192x384, .f32⟩
  | .hbm, ⟨15, _⟩ => ⟨S16384x256, .f32⟩
  | .hbm, ⟨16, _⟩ => ⟨S16384x256, .f32⟩
  | .hbm, ⟨17, _⟩ => ⟨S16384x384, .f32⟩
  | .hbm, ⟨18, _⟩ => ⟨S16384x64, .f32⟩
  | .hbm, ⟨19, _⟩ => ⟨S16384x64, .f32⟩
  | .hbm, ⟨20, _⟩ => ⟨S16384x256, .f32⟩
  | .hbm, ⟨21, _⟩ => ⟨S16384x32, .f32⟩
  | .hbm, ⟨22, _⟩ => ⟨S16384x8, .f32⟩
  | .hbm, ⟨23, _⟩ => ⟨S16384x384, .f32⟩
  | .hbm, ⟨24, _⟩ => ⟨S16384x384, .f32⟩
  | .hbm, ⟨25, _⟩ => ⟨S16384x384, .f32⟩
  | .hbm, ⟨26, _⟩ => ⟨S16384x384, .f32⟩
  | .hbm, ⟨27, _⟩ => ⟨S16384x128, .f32⟩
  | .hbm, ⟨28, _⟩ => ⟨S16384x40, .f32⟩
  | .hbm, ⟨29, _⟩ => ⟨S_, .i32⟩
  | .hbm, ⟨30, _⟩ => ⟨S_, .f32⟩
  | .hbm, ⟨31, _⟩ => ⟨S16384x128, .f32⟩
  | .hbm, ⟨32, _⟩ => ⟨S16384x512, .f32⟩
  | .hbm, ⟨33, _⟩ => ⟨S_, .f32⟩
  | .hbm, ⟨34, _⟩ => ⟨S16384x384, .f32⟩
  | .hbm, ⟨35, _⟩ => ⟨S16384x384, .f32⟩
  | .hbm, ⟨36, _⟩ => ⟨S16384x6x64, .f32⟩
  | .hbm, ⟨37, _⟩ => ⟨S_, .i32⟩
  | .hbm, ⟨38, _⟩ => ⟨S_, .f32⟩
  | .hbm, ⟨39, _⟩ => ⟨S16384x6x128, .f32⟩
  | .hbm, ⟨40, _⟩ => ⟨S16384x768, .f32⟩
  | .hbm, ⟨41, _⟩ => ⟨S16384x768, .bf16⟩
  | .hbm, ⟨42, _⟩ => ⟨S16384x1536, .f32⟩
  | .hbm, ⟨43, _⟩ => ⟨S16384x8x32, .f32⟩
  | .hbm, ⟨44, _⟩ => ⟨S_, .i32⟩
  | .hbm, ⟨45, _⟩ => ⟨S_, .f32⟩
  | .hbm, ⟨46, _⟩ => ⟨S16384x8x128, .f32⟩
  | .hbm, ⟨47, _⟩ => ⟨S16384x1024, .f32⟩
  | .hbm, ⟨48, _⟩ => ⟨S16384x1024, .bf16⟩
  | .hbm, ⟨49, _⟩ => ⟨S16384x128, .bf16⟩
  | .hbm, ⟨50, _⟩ => ⟨S16384x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_c : Ref sig .tc := ⟨.hbm, 29, rfl⟩
abbrev main_call0_v0 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_call1_v0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_call2_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x256 : Shape := ⟨3, ![2, 8192, 256]⟩
abbrev S2x8192x384 : Shape := ⟨3, ![2, 8192, 384]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x3x2816 : Shape := ⟨3, ![1, 3, 2816]⟩
abbrev S1x2816 : Shape := ⟨2, ![1, 2816]⟩
abbrev S1x2816x1024 : Shape := ⟨3, ![1, 2816, 1024]⟩
abbrev S16384x1024 : Shape := ⟨2, ![16384, 1024]⟩
abbrev S16384x256 : Shape := ⟨2, ![16384, 256]⟩
abbrev S16384x384 : Shape := ⟨2, ![16384, 384]⟩
abbrev S32x8x2816 : Shape := ⟨3, ![32, 8, 2816]⟩
abbrev S512x1024 : Shape := ⟨2, ![512, 1024]⟩
abbrev S512x256 : Shape := ⟨2, ![512, 256]⟩
abbrev S512x384 : Shape := ⟨2, ![512, 384]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x8x1408 : Shape := ⟨3, ![1, 8, 1408]⟩
abbrev S2x8x1408 : Shape := ⟨3, ![2, 8, 1408]⟩
abbrev S256x1024 : Shape := ⟨2, ![256, 1024]⟩
abbrev S384x1024 : Shape := ⟨2, ![384, 1024]⟩
abbrev S512 : Shape := ⟨1, ![512]⟩
abbrev S512x1 : Shape := ⟨2, ![512, 1]⟩
abbrev S512x1408 : Shape := ⟨2, ![512, 1408]⟩
abbrev S8x1408 : Shape := ⟨2, ![8, 1408]⟩
abbrev S504x1408 : Shape := ⟨2, ![504, 1408]⟩

abbrev nBuf : Space → Nat
  | .hbm => 49
  | .vmem => 31
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x384, .f32⟩
  | .hbm, ⟨3, _⟩ => ⟨S2x8192x384, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S3x2816, .f32⟩
  | .hbm, ⟨10, _⟩ => ⟨S2816, .f32⟩
  | .hbm, ⟨11, _⟩ => ⟨S2816x1024, .f32⟩
  | .hbm, ⟨12, _⟩ => ⟨S1024, .f32⟩
  | .hbm, ⟨13, _⟩ => ⟨S1024, .f32⟩
  | .hbm, ⟨14, _⟩ => ⟨S1x1024x1024, .f32⟩
  | .hbm, ⟨15, _⟩ => ⟨S1x1024, .f32⟩
  | .hbm, ⟨16, _⟩ => ⟨S1x1024, .f32⟩
  | .hbm, ⟨17, _⟩ => ⟨S1x1024x2816, .f32⟩
  | .hbm, ⟨18, _⟩ => ⟨S1x1024x2816, .f32⟩
  | .hbm, ⟨19, _⟩ => ⟨S1x3x2816, .f32⟩
  | .hbm, ⟨20, _⟩ => ⟨S1x2816, .f32⟩
  | .hbm, ⟨21, _⟩ => ⟨S1x2816x1024, .f32⟩
  | .hbm, ⟨22, _⟩ => ⟨S1x1024, .f32⟩
  | .hbm, ⟨23, _⟩ => ⟨S1x1024, .f32⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024x2816, .f32⟩
  | .hbm, ⟨31, _⟩ => ⟨S1024x2816, .bf16⟩
  | .hbm, ⟨32, _⟩ => ⟨S1024x2816, .f32⟩
  | .hbm, ⟨33, _⟩ => ⟨S1024x2816, .bf16⟩
  | .hbm, ⟨34, _⟩ => ⟨S3x2816, .f32⟩
  | .hbm, ⟨35, _⟩ => ⟨S2816, .f32⟩
  | .hbm, ⟨36, _⟩ => ⟨S1x2816, .f32⟩
  | .hbm, ⟨37, _⟩ => ⟨S2816x1024, .f32⟩
  | .hbm, ⟨38, _⟩ => ⟨S2816x1024, .bf16⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S16384x1024, .f32⟩
  | .hbm, ⟨44, _⟩ => ⟨S16384x256, .f32⟩
  | .hbm, ⟨45, _⟩ => ⟨S16384x384, .f32⟩
  | .hbm, ⟨46, _⟩ => ⟨S16384x384, .f32⟩
  | .hbm, ⟨47, _⟩ => ⟨S16384x1024, .f32⟩
  | .hbm, ⟨48, _⟩ => ⟨S32x8x2816, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S3x1408, .f32⟩
  | .local _ .vmem, ⟨16, _⟩ => ⟨S3x1408, .f32⟩
  | .local _ .vmem, ⟨17, _⟩ => ⟨S1x1408, .f32⟩
  | .local _ .vmem, ⟨18, _⟩ => ⟨S1x1408, .f32⟩
  | .local _ .vmem, ⟨19, _⟩ => ⟨S1408x1024, .bf16⟩
  | .local _ .vmem, ⟨20, _⟩ => ⟨S1408x1024, .bf16⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S1x8x1408, .f32⟩
  | .local _ .vmem, ⟨26, _⟩ => ⟨S1x8x1408, .f32⟩
  | .local _ .vmem, ⟨27, _⟩ => ⟨S512x1024, .f32⟩
  | .local _ .vmem, ⟨28, _⟩ => ⟨S512x1024, .bf16⟩
  | .local _ .vmem, ⟨29, _⟩ => ⟨S512x1024, .f32⟩
  | .local _ .vmem, ⟨30, _⟩ => ⟨S2x8x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg0 : BitVec 32 := BitVec.ofNat 32 (i 0).val
  let c512_i32 : BitVec 32 := 512#32
  let v12 : BitVec 32 := Scalar.muli arg0 c512_i32
  let c8192_i32 : BitVec 32 := 8192#32
  let c0_i32_7 : BitVec 32 := 0#32
  let v13 : BitVec 1 := Scalar.cmpi .eq c8192_i32 c0_i32_7
  let c1_i32_8 : BitVec 32 := 1#32
  let v14 : BitVec 32 := Scalar.select v13 c1_i32_8 c8192_i32
  let v15 : BitVec 32 := Scalar.remsi v12 v14
  let c0_i32_10 : BitVec 32 := 0#32
  let v17 : BitVec 1 := Scalar.cmpi .slt v15 c0_i32_10
  let c0_i32_11 : BitVec 32 := 0#32
  let v18 : BitVec 1 := Scalar.cmpi .slt v14 c0_i32_11
  let v19 : BitVec 1 := Scalar.xori v17 v18
  let c0_i32_9 : BitVec 32 := 0#32
  let v16 : BitVec 1 := Scalar.cmpi .ne v15 c0_i32_9
  let v20 : BitVec 1 := Scalar.andi v19 v16
  let v21 : BitVec 32 := Scalar.addi v15 v14
  let v22 : BitVec 32 := Scalar.select v20 v21 v15
  let c0_i32_12 : BitVec 32 := 0#32
  let v23 : BitVec 1 := Scalar.cmpi .eq v22 c0_i32_12
  let v24 : BitVec 32 := Scalar.extui v23
  let c0_i32_13 : BitVec 32 := 0#32
  let v25 : BitVec 1 := Scalar.cmpi .ne v24 c0_i32_13
  v25

def k0_off1 (i : grid0.Coords) : Fin 3 → Nat :=
  let arg1 : BitVec 32 := BitVec.ofNat 32 (i 1).val
  let v106 : Index := Scalar.indexCast arg1
  let c0_42 : Index := 0#32
  let c0_43 : Index := 0#32
  ![v106.toNat, 0, 0]
def k0_off2 (i : grid0.Coords) : Fin 3 → Nat :=
  let arg1 : BitVec 32 := BitVec.ofNat 32 (i 1).val
  let v26 : Index := Scalar.indexCast arg1
  let c0_14 : Index := 0#32
  let c0_15 : Index := 0#32
  ![v26.toNat, 0, 0]
def k0_cond3 (i : grid0.Coords) : BitVec 1 :=
  let arg1 : BitVec 32 := BitVec.ofNat 32 (i 1).val
  let c1_i32_39 : BitVec 32 := 1#32
  let v102 : BitVec 1 := Scalar.cmpi .eq arg1 c1_i32_39
  let v103 : BitVec 32 := Scalar.extui v102
  let c0_i32_40 : BitVec 32 := 0#32
  let v104 : BitVec 1 := Scalar.cmpi .ne v103 c0_i32_40
  v104

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S2x8192x1024 : Shape := ⟨3, ![2, 8192, 1024]⟩
abbrev S2x8192x256 : Shape := ⟨3, ![2, 8192, 256]⟩
abbrev S2x8192x384 : Shape := ⟨3, ![2, 8192, 384]⟩
abbrev S1024x1024 : Shape := ⟨2, ![1024, 1024]⟩
abbrev S1024 : Shape := ⟨1, ![1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x2x2816 : Shape := ⟨3, ![2, 2, 2816]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S16384x1024 : Shape := ⟨2, ![16384, 1024]⟩
abbrev S32x512x2816 : Shape := ⟨3, ![32, 512, 2816]⟩
abbrev S32x8x2816 : Shape := ⟨3, ![32, 8, 2816]⟩

abbrev nBuf : Space → Nat
  | .hbm => 135
  | .vmem => 0
  | .smem => 0
  | _ => 0

abbrev hbmTy0_0 (i : Nat) : BufTy := match i % 128 with
  | 0 => ⟨S2x8192x1024, .f32⟩
  | 1 => ⟨S2x8192x256, .f32⟩
  | 2 => ⟨S2x8192x384, .f32⟩
  | 3 => ⟨S2x8192x384, .f32⟩
  | 4 => ⟨S1024x1024, .f32⟩
  | 5 => ⟨S1024, .f32⟩
  | 6 => ⟨S1024, .f32⟩
  | 7 => ⟨S1024x2816, .f32⟩
  | 8 => ⟨S1024x2816, .f32⟩
  | 9 => ⟨S3x2816, .f32⟩
  | 10 => ⟨S2816, .f32⟩
  | 11 => ⟨S2816x1024, .f32⟩
  | 12 => ⟨S1024, .f32⟩
  | 13 => ⟨S1024, .f32⟩
  | 14 => ⟨S2x8192x1024, .f32⟩
  | 15 => ⟨S_, .f32⟩
  | 16 => ⟨S2x2x2816, .f32⟩
  | 17 => ⟨S_, .f32⟩
  | 18 => ⟨S2x8192x1024, .f32⟩
  | 19 => ⟨S2x8192x1024, .f32⟩
  | 20 => ⟨S2x8192x1024, .f32⟩
  | 21 => ⟨S2x8192x1024, .f32⟩
  | 22 => ⟨S_, .f32⟩
  | 23 => ⟨S2x8192, .f32⟩
  | 24 => ⟨S2x8192x1, .f32⟩
  | 25 => ⟨S_, .f32⟩
  | 26 => ⟨S2x8192x1, .f32⟩
  | 27 => ⟨S2x8192x1, .f32⟩
  | 28 => ⟨S2x8192x1024, .f32⟩
  | 29 => ⟨S2x8192x1024, .f32⟩
  | 30 => ⟨S2x8192x1024, .f32⟩
  | 31 => ⟨S_, .f32⟩
  | 32 => ⟨S2x8192, .f32⟩
  | 33 => ⟨S2x8192x1, .f32⟩
  | 34 => ⟨S_, .f32⟩
  | 35 => ⟨S2x8192x1, .f32⟩
  | 36 => ⟨S2x8192x1, .f32⟩
  | 37 => ⟨S2x8192x1024, .f32⟩
  | 38 => ⟨S2x8192x1024, .f32⟩
  | 39 => ⟨S_, .f32⟩
  | 40 => ⟨S2x8192x1, .f32⟩
  | 41 => ⟨S2x8192x1, .f32⟩
  | 42 => ⟨S2x8192x1, .f32⟩
  | 43 => ⟨S2x8192x1024, .f32⟩
  | 44 => ⟨S2x8192x1024, .f32⟩
  | 45 => ⟨S1x1x1024, .f32⟩
  | 46 => ⟨S2x8192x1024, .f32⟩
  | 47 => ⟨S2x8192x1024, .f32⟩
  | 48 => ⟨S1x1x1024, .f32⟩
  | 49 => ⟨S2x8192x1024, .f32⟩
  | 50 => ⟨S2x8192x1024, .f32⟩
  | 51 => ⟨S2x8192x2816, .f32⟩
  | 52 => ⟨S2x8192x2816, .f32⟩
  | 53 => ⟨S2x8194x2816, .f32⟩
  | 54 => ⟨S1x2816, .f32⟩
  | 55 => ⟨S2816, .f32⟩
  | 56 => ⟨S2x8192x2816, .f32⟩
  | 57 => ⟨S1x1x2816, .f32⟩
  | 58 => ⟨S2x8192x2816, .f32⟩
  | 59 => ⟨S2x8192x2816, .f32⟩
  | 60 => ⟨S_, .f32⟩
  | 61 => ⟨S2x8192x2816, .f32⟩
  | 62 => ⟨S2x8192x2816, .f32⟩
  | 63 => ⟨S1x2816, .f32⟩
  | 64 => ⟨S2816, .f32⟩
  | 65 => ⟨S2x8192x2816, .f32⟩
  | 66 => ⟨S1x1x2816, .f32⟩
  | 67 => ⟨S2x8192x2816, .f32⟩
  | 68 => ⟨S2x8192x2816, .f32⟩
  | 69 => ⟨S2x8192x2816, .f32⟩
  | 70 => ⟨S1x2816, .f32⟩
  | 71 => ⟨S2816, .f32⟩
  | 72 => ⟨S2x8192x2816, .f32⟩
  | 73 => ⟨S1x1x2816, .f32⟩
  | 74 => ⟨S2x8192x2816, .f32⟩
  | 75 => ⟨S2x8192x2816, .f32⟩
  | 76 => ⟨S2x8192x2816, .f32⟩
  | 77 => ⟨S1x1x2816, .f32⟩
  | 78 => ⟨S2x8192x2816, .f32⟩
  | 79 => ⟨S2x8192x2816, .f32⟩
  | 80 => ⟨S2x8192x2816, .f32⟩
  | 81 => ⟨S2x8192x2816, .f32⟩
  | 82 => ⟨S_, .f32⟩
  | 83 => ⟨S2x8192x2816, .f32⟩
  | 84 => ⟨S2x8192x2816, .f32⟩
  | 85 => ⟨S2x8192x2816, .f32⟩
  | 86 => ⟨S_, .f32⟩
  | 87 => ⟨S2x8192x2816, .f32⟩
  | 88 => ⟨S2x8192x2816, .f32⟩
  | 89 => ⟨S2x8192x2816, .f32⟩
  | 90 => ⟨S_, .f32⟩
  | 91 => ⟨S2x8192x2816, .f32⟩
  | 92 => ⟨S2x8192x2816, .f32⟩
  | 93 => ⟨S_, .f32⟩
  | 94 => ⟨S2x8192x2816, .f32⟩
  | 95 => ⟨S2x8192x2816, .f32⟩
  | 96 => ⟨S2x8192x2816, .f32⟩
  | 97 => ⟨S2x8192x2816, .f32⟩
  | 98 => ⟨S2x8192x1024, .f32⟩
  | 99 => ⟨S_, .f32⟩
  | 100 => ⟨S2x8192x1024, .f32⟩
  | 101 => ⟨S2x8192x1024, .f32⟩
  | 102 => ⟨S2x8192x1024, .f32⟩
  | 103 => ⟨S_, .f32⟩
  | 104 => ⟨S2x8192, .f32⟩
  | 105 => ⟨S2x8192x1, .f32⟩
  | 106 => ⟨S_, .f32⟩
  | 107 => ⟨S2x8192x1, .f32⟩
  | 108 => ⟨S2x8192x1, .f32⟩
  | 109 => ⟨S2x8192x1024, .f32⟩
  | 110 => ⟨S2x8192x1024, .f32⟩
  | 111 => ⟨S2x8192x1024, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S2x8192x1024, .f32⟩
  | 119 => ⟨S2x8192x1024, .f32⟩
  | 120 => ⟨S_, .f32⟩
  | 121 => ⟨S2x8192x1, .f32⟩
  | 122 => ⟨S2x8192x1, .f32⟩
  | 123 => ⟨S2x8192x1, .f32⟩
  | 124 => ⟨S2x8192x1024, .f32⟩
  | 125 => ⟨S2x8192x1024, .f32⟩
  | 126 => ⟨S1x1x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S1x1x1024, .f32⟩
  | 2 => ⟨S2x8192x1024, .f32⟩
  | 3 => ⟨S2x8192x1024, .f32⟩
  | 4 => ⟨S16384x1024, .f32⟩
  | 5 => ⟨S32x512x2816, .f32⟩
  | 6 => ⟨S32x8x2816, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_9 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]
-- ==== Kernel5.lean ====
abbrev S32x16x1024 : Shape := ⟨3, ![32, 16, 1024]⟩
abbrev S1024x2856 : Shape := ⟨2, ![1024, 2856]⟩
abbrev S512x1024 : Shape := ⟨2, ![512, 1024]⟩
abbrev S1024x256 : Shape := ⟨2, ![1024, 256]⟩
abbrev S1024x384 : Shape := ⟨2, ![1024, 384]⟩
abbrev S1024x64 : Shape := ⟨2, ![1024, 64]⟩
abbrev S1024x32 : Shape := ⟨2, ![1024, 32]⟩
abbrev S1024x8 : Shape := ⟨2, ![1024, 8]⟩
abbrev S_ : Shape := ⟨0, ![]⟩
abbrev S1024x128 : Shape := ⟨2, ![1024, 128]⟩
abbrev S1024x40 : Shape := ⟨2, ![1024, 40]⟩
abbrev S1024x3328 : Shape := ⟨2, ![1024, 3328]⟩
abbrev S1024x768 : Shape := ⟨2, ![1024, 768]⟩
abbrev S1024x4096 : Shape := ⟨2, ![1024, 4096]⟩
abbrev S512x512 : Shape := ⟨2, ![512, 512]⟩
abbrev S512x768 : Shape := ⟨2, ![512, 768]⟩
abbrev S512x1536 : Shape := ⟨2, ![512, 1536]⟩
abbrev S512x128 : Shape := ⟨2, ![512, 128]⟩
abbrev S1024x512 : Shape := ⟨2, ![1024, 512]⟩
abbrev S1024x1536 : Shape := ⟨2, ![1024, 1536]⟩
abbrev S1024x1024 : Shape := ⟨2, ![1024, 1024]⟩

abbrev nBuf : Space → Nat
  | .hbm => 90
  | .vmem => 10
  | .smem => 0
  | _ => 0

abbrev bufTy : (tb : Table) → Fin (tcTables nBuf tb) → BufTy
  | .hbm, ⟨0, _⟩ => ⟨S32x16x1024, .f32⟩
  | .hbm, ⟨1, _⟩ => ⟨S1024x2856, .f32⟩
  | .hbm, ⟨2, _⟩ => ⟨S512x1024, .f32⟩
  | .hbm, ⟨3, _⟩ => ⟨S1024x256, .f32⟩
  | .hbm, ⟨4, _⟩ => ⟨S1024x256, .f32⟩
  | .hbm, ⟨5, _⟩ => ⟨S1024x384, .f32⟩
  | .hbm, ⟨6, _⟩ => ⟨S1024x64, .f32⟩
  | .hbm, ⟨7, _⟩ => ⟨S1024x64, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x64, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x64, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S1024x64, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x64, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1024x64, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x64, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x32, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x32, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x32, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x32, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x32, .f32⟩
  | .hbm, ⟨59, _⟩ => ⟨S_, .i32⟩
  | .hbm, ⟨60, _⟩ => ⟨S_, .f32⟩
  | .hbm, ⟨61, _⟩ => ⟨S1024x128, .f32⟩
  | .hbm, ⟨62, _⟩ => ⟨S1024x32, .f32⟩
  | .hbm, ⟨63, _⟩ => ⟨S_, .i32⟩
  | .hbm, ⟨64, _⟩ => ⟨S_, .f32⟩
  | .hbm, ⟨65, _⟩ => ⟨S1024x128, .f32⟩
  | .hbm, ⟨66, _⟩ => ⟨S1024x32, .f32⟩
  | .hbm, ⟨67, _⟩ => ⟨S_, .i32⟩
  | .hbm, ⟨68, _⟩ => ⟨S_, .f32⟩
  | .hbm, ⟨69, _⟩ => ⟨S1024x128, .f32⟩
  | .hbm, ⟨70, _⟩ => ⟨S1024x32, .f32⟩
  | .hbm, ⟨71, _⟩ => ⟨S_, .i32⟩
  | .hbm, ⟨72, _⟩ => ⟨S_, .f32⟩
  | .hbm, ⟨73, _⟩ => ⟨S1024x128, .f32⟩
  | .hbm, ⟨74, _⟩ => ⟨S1024x40, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S1024x3328, .f32⟩
  | .hbm, ⟨79, _⟩ => ⟨S1024x768, .f32⟩
  | .hbm, ⟨80, _⟩ => ⟨S1024x4096, .f32⟩
  | .hbm, ⟨81, _⟩ => ⟨S1024x4096, .bf16⟩
  | .hbm, ⟨82, _⟩ => ⟨S512x512, .f32⟩
  | .hbm, ⟨83, _⟩ => ⟨S512x768, .bf16⟩
  | .hbm, ⟨84, _⟩ => ⟨S512x1536, .f32⟩
  | .hbm, ⟨85, _⟩ => ⟨S512x1024, .bf16⟩
  | .hbm, ⟨86, _⟩ => ⟨S512x128, .f32⟩
  | .hbm, ⟨87, _⟩ => ⟨S512x128, .f32⟩
  | .hbm, ⟨88, _⟩ => ⟨S512x128, .bf16⟩
  | .hbm, ⟨89, _⟩ => ⟨S512x128, .bf16⟩
  | .local _ .vmem, ⟨0, _⟩ => ⟨S512x1024, .f32⟩
  | .local _ .vmem, ⟨1, _⟩ => ⟨S1024x4096, .bf16⟩
  | .local _ .vmem, ⟨2, _⟩ => ⟨S512x512, .f32⟩
  | .local _ .vmem, ⟨3, _⟩ => ⟨S512x768, .bf16⟩
  | .local _ .vmem, ⟨4, _⟩ => ⟨S512x1536, .f32⟩
  | .local _ .vmem, ⟨5, _⟩ => ⟨S512x1024, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_call4_v0 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_call5_v0 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call6_v0 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_call7_v0 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_call8_v0 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_call9_v0 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_call10_v0 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_call11_v0 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_call12_v0 : Ref sig .tc := ⟨.hbm, 68, rfl⟩
abbrev main_v40 : Ref sig .tc := ⟨.hbm, 69, rfl⟩
abbrev main_v41 : Ref sig .tc := ⟨.hbm, 70, rfl⟩
abbrev main_c_12 : Ref sig .tc := ⟨.hbm, 71, rfl⟩
abbrev main_call13_v0 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_call14_v0 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_v49_3 : Ref sig .tc := ⟨.hbm, 85, rfl⟩
abbrev main_v49_4 : Ref sig .tc := ⟨.hbm, 86, rfl⟩
abbrev main_v49_5 : Ref sig .tc := ⟨.hbm, 87, rfl⟩
abbrev main_v49_6 : Ref sig .tc := ⟨.hbm, 88, rfl⟩
abbrev main_v49_7 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S32x16x1024 : Shape := ⟨3, ![32, 16, 1024]⟩
abbrev S1024x2856 : Shape := ⟨2, ![1024, 2856]⟩
abbrev S32x16x2856 : Shape := ⟨3, ![32, 16, 2856]⟩
abbrev S32x16x256 : Shape := ⟨3, ![32, 16, 256]⟩
abbrev S32x16x384 : Shape := ⟨3, ![32, 16, 384]⟩
abbrev S32x16x64 : Shape := ⟨3, ![32, 16, 64]⟩
abbrev S32x16x32 : Shape := ⟨3, ![32, 16, 32]⟩
abbrev S32x16x8 : Shape := ⟨3, ![32, 16, 8]⟩
abbrev S512x256 : Shape := ⟨2, ![512, 256]⟩
abbrev S512x384 : Shape := ⟨2, ![512, 384]⟩
abbrev S512x64 : Shape := ⟨2, ![512, 64]⟩
abbrev S512x32 : Shape := ⟨2, ![512, 32]⟩
abbrev S512x8 : Shape := ⟨2, ![512, 8]⟩
abbrev S512x128 : Shape := ⟨2, ![512, 128]⟩
abbrev S512x40 : Shape := ⟨2, ![512, 40]⟩
abbrev S_ : Shape := ⟨0, ![]⟩
abbrev S512x512 : Shape := ⟨2, ![512, 512]⟩
abbrev S512x6x64 : Shape := ⟨3, ![512, 6, 64]⟩
abbrev S512x6x128 : Shape := ⟨3, ![512, 6, 128]⟩
abbrev S512x768 : Shape := ⟨2, ![512, 768]⟩
abbrev S512x1536 : Shape := ⟨2, ![512, 1536]⟩
abbrev S512x8x32 : Shape := ⟨3, ![512, 8, 32]⟩
abbrev S512x8x128 : Shape := ⟨3, ![512, 8, 128]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S1024x2856, .f32⟩
  | .hbm, ⟨2, _⟩ => ⟨S32x16x2856, .f32⟩
  | .hbm, ⟨3, _⟩ => ⟨S32x16x256, .f32⟩
  | .hbm, ⟨4, _⟩ => ⟨S32x16x256, .f32⟩
  | .hbm, ⟨5, _⟩ => ⟨S32x16x384, .f32⟩
  | .hbm, ⟨6, _⟩ => ⟨S32x16x64, .f32⟩
  | .hbm, ⟨7, _⟩ => ⟨S32x16x64, .f32⟩
  | .hbm, ⟨8, _⟩ => ⟨S32x16x256, .f32⟩
  | .hbm, ⟨9, _⟩ => ⟨S32x16x32, .f32⟩
  | .hbm, ⟨10, _⟩ => ⟨S32x16x8, .f32⟩
  | .hbm, ⟨11, _⟩ => ⟨S32x16x384, .f32⟩
  | .hbm, ⟨12, _⟩ => ⟨S32x16x384, .f32⟩
  | .hbm, ⟨13, _⟩ => ⟨S32x16x384, .f32⟩
  | .hbm, ⟨14, _⟩ => ⟨S32x16x384, .f32⟩
  | .hbm, ⟨15, _⟩ => ⟨S512x256, .f32⟩
  | .hbm, ⟨16, _⟩ => ⟨S512x256, .f32⟩
  | .hbm, ⟨17, _⟩ => ⟨S512x384, .f32⟩
  | .hbm, ⟨18, _⟩ => ⟨S512x64, .f32⟩
  | .hbm, ⟨19, _⟩ => ⟨S512x64, .f32⟩
  | .hbm, ⟨20, _⟩ => ⟨S512x256, .f32⟩
  | .hbm, ⟨21, _⟩ => ⟨S512x32, .f32⟩
  | .hbm, ⟨22, _⟩ => ⟨S512x8, .f32⟩
  | .hbm, ⟨23, _⟩ => ⟨S512x384, .f32⟩
  | .hbm, ⟨24, _⟩ => ⟨S512x384, .f32⟩
  | .hbm, ⟨25, _⟩ => ⟨S512x384, .f32⟩
  | .hbm, ⟨26, _⟩ => ⟨S512x384, .f32⟩
  | .hbm, ⟨27, _⟩ => ⟨S512x128, .f32⟩
  | .hbm, ⟨28, _⟩ => ⟨S512x40, .f32⟩
  | .hbm, ⟨29, _⟩ => ⟨S_, .i32⟩
  | .hbm, ⟨30, _⟩ => ⟨S_, .f32⟩
  | .hbm, ⟨31, _⟩ => ⟨S512x128, .f32⟩
  | .hbm, ⟨32, _⟩ => ⟨S512x512, .f32⟩
  | .hbm, ⟨33, _⟩ => ⟨S_, .f32⟩
  | .hbm, ⟨34, _⟩ => ⟨S512x384, .f32⟩
  | .hbm, ⟨35, _⟩ => ⟨S512x384, .f32⟩
  | .hbm, ⟨36, _⟩ => ⟨S512x6x64, .f32⟩
  | .hbm, ⟨37, _⟩ => ⟨S_, .i32⟩
  | .hbm, ⟨38, _⟩ => ⟨S_, .f32⟩
  | .hbm, ⟨39, _⟩ => ⟨S512x6x128, .f32⟩
  | .hbm, ⟨40, _⟩ => ⟨S512x768, .f32⟩
  | .hbm, ⟨41, _⟩ => ⟨S512x768, .bf16⟩
  | .hbm, ⟨42, _⟩ => ⟨S512x1536, .f32⟩
  | .hbm, ⟨43, _⟩ => ⟨S512x8x32, .f32⟩
  | .hbm, ⟨44, _⟩ => ⟨S_, .i32⟩
  | .hbm, ⟨45, _⟩ => ⟨S_, .f32⟩
  | .hbm, ⟨46, _⟩ => ⟨S512x8x128, .f32⟩
  | .hbm, ⟨47, _⟩ => ⟨S512x1024, .f32⟩
  | .hbm, ⟨48, _⟩ => ⟨S512x1024, .bf16⟩
  | .hbm, ⟨49, _⟩ => ⟨S512x128, .bf16⟩
  | .hbm, ⟨50, _⟩ => ⟨S512x128, .bf16⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_c : Ref sig .tc := ⟨.hbm, 29, rfl⟩
abbrev main_call0_v0 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_c_0 : Ref sig .tc := ⟨.hbm, 37, rfl⟩
abbrev main_call1_v0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_1 : Ref sig .tc := ⟨.hbm, 44, rfl⟩
abbrev main_call2_v0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel6.lean ====
abbrev S32x16x256 : Shape := ⟨3, ![32, 16, 256]⟩
abbrev S256 : Shape := ⟨1, ![256]⟩
abbrev S4x128x128 : Shape := ⟨3, ![4, 128, 128]⟩
abbrev S4x128 : Shape := ⟨2, ![4, 128]⟩
abbrev S512x256 : Shape := ⟨2, ![512, 256]⟩
abbrev S512x512 : Shape := ⟨2, ![512, 512]⟩
abbrev S_ : Shape := ⟨0, ![]⟩
abbrev S16x16 : Shape := ⟨2, ![16, 16]⟩
abbrev S4x16x16 : Shape := ⟨3, ![4, 16, 16]⟩
abbrev S1x16x16 : Shape := ⟨3, ![1, 16, 16]⟩
abbrev S16x64 : Shape := ⟨2, ![16, 64]⟩
abbrev S4x16 : Shape := ⟨2, ![4, 16]⟩
abbrev S16x4 : Shape := ⟨2, ![16, 4]⟩
abbrev S16x4x64 : Shape := ⟨3, ![16, 4, 64]⟩
abbrev S16x256 : Shape := ⟨2, ![16, 256]⟩
abbrev S1x256 : Shape := ⟨2, ![1, 256]⟩
abbrev S256x1 : Shape := ⟨2, ![256, 1]⟩
abbrev S256x256 : Shape := ⟨2, ![256, 256]⟩
abbrev S64x256 : Shape := ⟨2, ![64, 256]⟩

abbrev nBuf : Space → Nat
  | .hbm => 56
  | .vmem => 8
  | .smem => 0
  | _ => 0

abbrev bufTy : (tb : Table) → Fin (tcTables nBuf tb) → BufTy
  | .hbm, ⟨0, _⟩ => ⟨S32x16x256, .f32⟩
  | .hbm, ⟨1, _⟩ => ⟨S32x16x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S512x256, .f32⟩
  | .hbm, ⟨7, _⟩ => ⟨S512x256, .f32⟩
  | .hbm, ⟨8, _⟩ => ⟨S512x512, .f32⟩
  | .hbm, ⟨9, _⟩ => ⟨S_, .f32⟩
  | .hbm, ⟨10, _⟩ => ⟨S16x16, .f32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S_, .f32⟩
  | .hbm, ⟨18, _⟩ => ⟨S16x16, .f32⟩
  | .hbm, ⟨19, _⟩ => ⟨S16x16, .f32⟩
  | .hbm, ⟨20, _⟩ => ⟨S4x16x16, .f32⟩
  | .hbm, ⟨21, _⟩ => ⟨S1x16x16, .f32⟩
  | .hbm, ⟨22, _⟩ => ⟨S4x16x16, .f32⟩
  | .hbm, ⟨23, _⟩ => ⟨S4x16x16, .f32⟩
  | .hbm, ⟨24, _⟩ => ⟨S1x16x16, .f32⟩
  | .hbm, ⟨25, _⟩ => ⟨S16x16, .f32⟩
  | .hbm, ⟨26, _⟩ => ⟨S1x16x16, .f32⟩
  | .hbm, ⟨27, _⟩ => ⟨S16x16, .f32⟩
  | .hbm, ⟨28, _⟩ => ⟨S1x16x16, .f32⟩
  | .hbm, ⟨29, _⟩ => ⟨S16x16, .f32⟩
  | .hbm, ⟨30, _⟩ => ⟨S1x16x16, .f32⟩
  | .hbm, ⟨31, _⟩ => ⟨S16x16, .f32⟩
  | .hbm, ⟨32, _⟩ => ⟨S16x64, .f32⟩
  | .hbm, ⟨33, _⟩ => ⟨S16x64, .bf16⟩
  | .hbm, ⟨34, _⟩ => ⟨S4x16, .f32⟩
  | .hbm, ⟨35, _⟩ => ⟨S16x4, .f32⟩
  | .hbm, ⟨36, _⟩ => ⟨S16x4x64, .f32⟩
  | .hbm, ⟨37, _⟩ => ⟨S16x256, .f32⟩
  | .hbm, ⟨38, _⟩ => ⟨S1x256, .f32⟩
  | .hbm, ⟨39, _⟩ => ⟨S1x256, .f32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .bf16⟩
  | .hbm, ⟨54, _⟩ => ⟨S512x256, .f32⟩
  | .hbm, ⟨55, _⟩ => ⟨S512x256, .f32⟩
  | .local _ .vmem, ⟨0, _⟩ => ⟨S512x512, .f32⟩
  | .local _ .vmem, ⟨1, _⟩ => ⟨S16x64, .bf16⟩
  | .local _ .vmem, ⟨2, _⟩ => ⟨S16x256, .f32⟩
  | .local _ .vmem, ⟨3, _⟩ => ⟨S1x256, .f32⟩
  | .local _ .vmem, ⟨4, _⟩ => ⟨S1x256, .f32⟩
  | .local _ .vmem, ⟨5, _⟩ => ⟨S256x256, .bf16⟩
  | .local _ .vmem, ⟨6, _⟩ => ⟨S512x256, .f32⟩
  | .local _ .vmem, ⟨7, _⟩ => ⟨S512x256, .f32⟩
  | _, _ => ⟨S32x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_0 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37_0 : Ref sig .tc := ⟨.hbm, 54, rfl⟩
abbrev main_v37_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference6Ideal.lean ====
abbrev S32x16x256 : Shape := ⟨3, ![32, 16, 256]⟩
abbrev S256 : Shape := ⟨1, ![256]⟩
abbrev S4x128x128 : Shape := ⟨3, ![4, 128, 128]⟩
abbrev S4x128 : Shape := ⟨2, ![4, 128]⟩
abbrev S_ : Shape := ⟨0, ![]⟩
abbrev S32x16x4x64 : Shape := ⟨4, ![32, 16, 4, 64]⟩
abbrev S4x64 : Shape := ⟨2, ![4, 64]⟩
abbrev S32x16x4 : Shape := ⟨3, ![32, 16, 4]⟩
abbrev S32x16x4x1 : Shape := ⟨4, ![32, 16, 4, 1]⟩
abbrev S1x1x4x64 : Shape := ⟨4, ![1, 1, 4, 64]⟩
abbrev S4x16x16 : Shape := ⟨3, ![4, 16, 16]⟩
abbrev S16x16 : Shape := ⟨2, ![16, 16]⟩
abbrev S1x16x16 : Shape := ⟨3, ![1, 16, 16]⟩
abbrev S4x32x64x16 : Shape := ⟨4, ![4, 32, 64, 16]⟩
abbrev S4x16 : Shape := ⟨2, ![4, 16]⟩
abbrev S16x4 : Shape := ⟨2, ![16, 4]⟩
abbrev S1x16x4x1 : Shape := ⟨4, ![1, 16, 4, 1]⟩
abbrev S512x256 : Shape := ⟨2, ![512, 256]⟩

abbrev nBuf : Space → Nat
  | .hbm => 98
  | .vmem => 0
  | .smem => 0
  | _ => 0

abbrev bufTy : (tb : Table) → Fin (tcTables nBuf tb) → BufTy
  | .hbm, ⟨0, _⟩ => ⟨S32x16x256, .f32⟩
  | .hbm, ⟨1, _⟩ => ⟨S32x16x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S32x16x256, .f32⟩
  | .hbm, ⟨7, _⟩ => ⟨S32x16x256, .f32⟩
  | .hbm, ⟨8, _⟩ => ⟨S_, .f32⟩
  | .hbm, ⟨9, _⟩ => ⟨S32x16x256, .f32⟩
  | .hbm, ⟨10, _⟩ => ⟨S32x16x256, .f32⟩
  | .hbm, ⟨11, _⟩ => ⟨S32x16x256, .f32⟩
  | .hbm, ⟨12, _⟩ => ⟨S_, .f32⟩
  | .hbm, ⟨13, _⟩ => ⟨S32x16x256, .f32⟩
  | .hbm, ⟨14, _⟩ => ⟨S32x16x256, .f32⟩
  | .hbm, ⟨15, _⟩ => ⟨S32x16x256, .f32⟩
  | .hbm, ⟨16, _⟩ => ⟨S_, .f32⟩
  | .hbm, ⟨17, _⟩ => ⟨S32x16x256, .f32⟩
  | .hbm, ⟨18, _⟩ => ⟨S32x16x256, .f32⟩
  | .hbm, ⟨19, _⟩ => ⟨S_, .f32⟩
  | .hbm, ⟨20, _⟩ => ⟨S32x16x256, .f32⟩
  | .hbm, ⟨21, _⟩ => ⟨S32x16x256, .f32⟩
  | .hbm, ⟨22, _⟩ => ⟨S32x16x256, .f32⟩
  | .hbm, ⟨23, _⟩ => ⟨S32x16x256, .f32⟩
  | .hbm, ⟨24, _⟩ => ⟨S32x16x256, .f32⟩
  | .hbm, ⟨25, _⟩ => ⟨S_, .f32⟩
  | .hbm, ⟨26, _⟩ => ⟨S32x16x256, .f32⟩
  | .hbm, ⟨27, _⟩ => ⟨S32x16x256, .f32⟩
  | .hbm, ⟨28, _⟩ => ⟨S32x16x256, .f32⟩
  | .hbm, ⟨29, _⟩ => ⟨S_, .f32⟩
  | .hbm, ⟨30, _⟩ => ⟨S32x16x256, .f32⟩
  | .hbm, ⟨31, _⟩ => ⟨S32x16x256, .f32⟩
  | .hbm, ⟨32, _⟩ => ⟨S32x16x256, .f32⟩
  | .hbm, ⟨33, _⟩ => ⟨S_, .f32⟩
  | .hbm, ⟨34, _⟩ => ⟨S32x16x256, .f32⟩
  | .hbm, ⟨35, _⟩ => ⟨S32x16x256, .f32⟩
  | .hbm, ⟨36, _⟩ => ⟨S_, .f32⟩
  | .hbm, ⟨37, _⟩ => ⟨S32x16x256, .f32⟩
  | .hbm, ⟨38, _⟩ => ⟨S32x16x256, .f32⟩
  | .hbm, ⟨39, _⟩ => ⟨S32x16x256, .f32⟩
  | .hbm, ⟨40, _⟩ => ⟨S32x16x4x64, .f32⟩
  | .hbm, ⟨41, _⟩ => ⟨S4x64, .f32⟩
  | .hbm, ⟨42, _⟩ => ⟨S4x64, .f32⟩
  | .hbm, ⟨43, _⟩ => ⟨S_, .f32⟩
  | .hbm, ⟨44, _⟩ => ⟨S32x16x4, .f32⟩
  | .hbm, ⟨45, _⟩ => ⟨S32x16x4x1, .f32⟩
  | .hbm, ⟨46, _⟩ => ⟨S_, .f32⟩
  | .hbm, ⟨47, _⟩ => ⟨S32x16x4x1, .f32⟩
  | .hbm, ⟨48, _⟩ => ⟨S32x16x4x1, .f32⟩
  | .hbm, ⟨49, _⟩ => ⟨S32x16x4x64, .f32⟩
  | .hbm, ⟨50, _⟩ => ⟨S32x16x4x64, .f32⟩
  | .hbm, ⟨51, _⟩ => ⟨S32x16x4x64, .f32⟩
  | .hbm, ⟨52, _⟩ => ⟨S_, .f32⟩
  | .hbm, ⟨53, _⟩ => ⟨S32x16x4, .f32⟩
  | .hbm, ⟨54, _⟩ => ⟨S32x16x4x1, .f32⟩
  | .hbm, ⟨55, _⟩ => ⟨S_, .f32⟩
  | .hbm, ⟨56, _⟩ => ⟨S32x16x4x1, .f32⟩
  | .hbm, ⟨57, _⟩ => ⟨S32x16x4x1, .f32⟩
  | .hbm, ⟨58, _⟩ => ⟨S32x16x4x64, .f32⟩
  | .hbm, ⟨59, _⟩ => ⟨S32x16x4x64, .f32⟩
  | .hbm, ⟨60, _⟩ => ⟨S_, .f32⟩
  | .hbm, ⟨61, _⟩ => ⟨S32x16x4x1, .f32⟩
  | .hbm, ⟨62, _⟩ => ⟨S32x16x4x1, .f32⟩
  | .hbm, ⟨63, _⟩ => ⟨S32x16x4x1, .f32⟩
  | .hbm, ⟨64, _⟩ => ⟨S32x16x4x64, .f32⟩
  | .hbm, ⟨65, _⟩ => ⟨S32x16x4x64, .f32⟩
  | .hbm, ⟨66, _⟩ => ⟨S1x1x4x64, .f32⟩
  | .hbm, ⟨67, _⟩ => ⟨S32x16x4x64, .f32⟩
  | .hbm, ⟨68, _⟩ => ⟨S32x16x4x64, .f32⟩
  | .hbm, ⟨69, _⟩ => ⟨S1x1x4x64, .f32⟩
  | .hbm, ⟨70, _⟩ => ⟨S32x16x4x64, .f32⟩
  | .hbm, ⟨71, _⟩ => ⟨S32x16x4x64, .f32⟩
  | .hbm, ⟨72, _⟩ => ⟨S4x16x16, .f32⟩
  | .hbm, ⟨73, _⟩ => ⟨S_, .f32⟩
  | .hbm, ⟨74, _⟩ => ⟨S16x16, .f32⟩
  | .hbm, ⟨75, _⟩ => ⟨S16x16, .i32⟩
  | .hbm, ⟨76, _⟩ => ⟨S_, .i32⟩
  | .hbm, ⟨77, _⟩ => ⟨S16x16, .i32⟩
  | .hbm, ⟨78, _⟩ => ⟨S16x16, .i32⟩
  | .hbm, ⟨79, _⟩ => ⟨S16x16, .i32⟩
  | .hbm, ⟨80, _⟩ => ⟨S16x16, .i1⟩
  | .hbm, ⟨81, _⟩ => ⟨S_, .f32⟩
  | .hbm, ⟨82, _⟩ => ⟨S16x16, .f32⟩
  | .hbm, ⟨83, _⟩ => ⟨S16x16, .f32⟩
  | .hbm, ⟨84, _⟩ => ⟨S1x16x16, .f32⟩
  | .hbm, ⟨85, _⟩ => ⟨S4x16x16, .f32⟩
  | .hbm, ⟨86, _⟩ => ⟨S4x16x16, .f32⟩
  | .hbm, ⟨87, _⟩ => ⟨S4x32x64x16, .f32⟩
  | .hbm, ⟨88, _⟩ => ⟨S32x16x4x64, .f32⟩
  | .hbm, ⟨89, _⟩ => ⟨S4x16, .f32⟩
  | .hbm, ⟨90, _⟩ => ⟨S16x4, .f32⟩
  | .hbm, ⟨91, _⟩ => ⟨S1x16x4x1, .f32⟩
  | .hbm, ⟨92, _⟩ => ⟨S32x16x4x64, .f32⟩
  | .hbm, ⟨93, _⟩ => ⟨S32x16x4x64, .f32⟩
  | .hbm, ⟨94, _⟩ => ⟨S32x16x256, .f32⟩
  | .hbm, ⟨95, _⟩ => ⟨S32x16x256, .f32⟩
  | .hbm, ⟨96, _⟩ => ⟨S512x256, .f32⟩
  | .hbm, ⟨97, _⟩ => ⟨S512x256, .f32⟩
  | _, _ => ⟨S32x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_cst : Ref sig .tc := ⟨.hbm, 81, rfl⟩
abbrev main_call0_v5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== Proof.Ffn.Cases4.lean ====
/-
  What the sample step's grid points leave in the output blocks and in the scratch buffers, by the point's place in the sweep
  over the column blocks: the first point computes the normalised rows and starts the accumulator, every point adds its
  block, the last writes the output block.
-/
module

public import proofs.«01_k».proof.Proof.Gen.Kernel4Ideal.Frame
public import Idealize.ShloMosaic.Lib.Pipeline.Value
public import Idealize.ShloMosaic.Lib.Tactic

@[expose] public section

set_option maxRecDepth 16384

noncomputable section

namespace Cert.Kernel4Ideal.Val

open Cert.Kernel4Ideal Cert.Kernel4Ideal.Gen Idealize.ShloMosaic Idealize.ShloMosaic.TcCoe Idealize.SL.Sem

variable {F : FTy → Type} [FloatOps F]
variable (m : (ℓ : Loc nD τ sig) → Buf (Elt F) ℓ) (c : Dev nD)

theorem hz : (![0, 0] : Fin 2 → Nat) = fun _ => 0 := funext fun a => by fin_cases a <;> rfl

/-- Scratch buffer 0 reads back what it holds. -/
theorem rd0 (h : (scM0_0).IsWhole) (v : Vec F S512x1024 .f32) :
    View.read (Elt F) (View.whole cc0_scratch0) (h.unread v) = v := h.read_unread v

/-- Scratch buffer 1 reads back what it holds. -/
theorem rd1 (h : (scM0_1).IsWhole) (v : Vec F S512x1024 .bf16) :
    View.read (Elt F) (View.whole cc0_scratch1) (h.unread v) = v := h.read_unread v

/-- Scratch buffer 2 reads back what it holds. -/
theorem rd2 (h : (scM0_2).IsWhole) (v : Vec F S512x1024 .f32) :
    View.read (Elt F) (View.whole cc0_scratch2) (h.unread v) = v := h.read_unread v

/-- The normalised rows, before any format change, from the blocks the first point reads. -/
def X1 (x : Vec F S512x1024 .f32) (oa : Vec F S512x256 .f32) (ob oc : Vec F S512x384 .f32) (wo : Vec F S1024x1024 .bf16)
    (g b : Vec F S1x1024 .f32) : Vec F S512x1024 .f32 :=
  let wa : Vec F S256x1024 .bf16 := View.ld wo (Rect.unit (s := S1024x1024) ![0, 0] S256x1024.size inb_S1024x1024_S256x1024_0_0)
  let wb : Vec F S384x1024 .bf16 := View.ld wo (Rect.unit (s := S1024x1024) ![256, 0] S384x1024.size inb_S1024x1024_S384x1024_256_0)
  let wc : Vec F S384x1024 .bf16 := View.ld wo (Rect.unit (s := S1024x1024) ![640, 0] S384x1024.size inb_S1024x1024_S384x1024_640_0)
  k0_pay7 (k0_pay3 g) (k0_pay4 b) (k0_pay5 oa wa ob wb oc wc x) (k0_pay6 oa wa ob wb oc wc x)

/-- One point's step of the accumulator, from the normalised rows and the point's blocks. -/
def Acc (xb : Vec F S512x1024 .bf16) (wg wu : Vec F S1024x256 .bf16) (cw : Vec F S3x256 .f32) (cb : Vec F S1x256 .f32)
    (wd : Vec F S256x1024 .bf16) (p1 p2 : Vec F S512x256 .f32) (acc : Vec F S512x1024 .f32) : Vec F S512x1024 .f32 :=
  k0_pay17 (k0_pay11 xb wg) (k0_pay12 xb wu) (k0_pay13 xb wg) k0_pay14 (k0_pay15 xb wg p1) k0_pay16 p2 cw cb acc wd

/-- The first point leaves the normalised rows in the f32 scratch. -/
theorem A_x1 (t : Fin cfg0.N) (h0 : t.val % 11 = 0) (h1 : ¬t.val % 11 = 10) :
    (outsAt0 m c t.val t.isLt).2.2.1
      = X1 (iblk m c 0 t) (iblk m c 1 t) (iblk m c 2 t) (iblk m c 3 t) (iblk m c 4 t) (iblk m c 5 t) (iblk m c 6 t) := by
  rw [outsAt0_A m c t h0 h1]
  dsimp only
  unfold sout0_A_0
  rw [View.read_writes_eq_canon _ _ _ (fun y => scover0_A_0 ..)]
  unfold kernelRun0_A
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay8 X1
  simp only [shapeCast_self]

/-- The first point leaves the normalised rows, cast, in the bf16 scratch. -/
theorem A_x1b (t : Fin cfg0.N) (h0 : t.val % 11 = 0) (h1 : ¬t.val % 11 = 10) :
    (outsAt0 m c t.val t.isLt).2.2.2.1
      = (truncf .bf16 (X1 (iblk m c 0 t) (iblk m c 1 t) (iblk m c 2 t) (iblk m c 3 t) (iblk m c 4 t) (iblk m c 5 t) (iblk m c 6 t)) bitsLt_bf16_f32) := by
  rw [outsAt0_A m c t h0 h1]
  dsimp only
  unfold sout0_A_1
  rw [View.read_writes_eq_canon _ _ _ (fun y => scover0_A_1 ..)]
  unfold kernelRun0_A
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay9 X1
  simp only [shapeCast_self]

/-- The first point leaves its own block's sum in the accumulator, over a zero. -/
theorem A_acc (t : Fin cfg0.N) (h0 : t.val % 11 = 0) (h1 : ¬t.val % 11 = 10) :
    (outsAt0 m c t.val t.isLt).2.2.2.2
      = Acc (truncf .bf16 (X1 (iblk m c 0 t) (iblk m c 1 t) (iblk m c 2 t) (iblk m c 3 t) (iblk m c 4 t) (iblk m c 5 t) (iblk m c 6 t)) bitsLt_bf16_f32) (iblk m c 7 t) (iblk m c 8 t) (iblk m c 9 t) (iblk m c 10 t) (iblk m c 11 t) (iblk m c 14 t) (iblk m c 15 t) k0_pay10 := by
  rw [outsAt0_A m c t h0 h1]
  dsimp only
  unfold sout0_A_2
  rw [View.read_writes_eq_canon _ _ _ (fun y => scover0_A_2 ..)]
  unfold kernelRun0_A
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay1 k0_pay9 Acc X1
  simp only [shapeCast_self]

/-- The first point leaves its block of the gate. -/
theorem A_hg (t : Fin cfg0.N) (h0 : t.val % 11 = 0) (h1 : ¬t.val % 11 = 10) :
    (outsAt0 m c t.val t.isLt).2.1
      = k0_pay11 (truncf .bf16 (X1 (iblk m c 0 t) (iblk m c 1 t) (iblk m c 2 t) (iblk m c 3 t) (iblk m c 4 t) (iblk m c 5 t) (iblk m c 6 t)) bitsLt_bf16_f32) (iblk m c 7 t) := by
  rw [outsAt0_A m c t h0 h1]
  dsimp only
  unfold out0_A_17
  rw [View.read_writes_eq_canon _ _ _ (fun y => cover0_A_17 ..)]
  unfold kernelRun0_A
  dsimp only
  sl_unfold_words
  simp only [View.canon_unit_zero (S := S512x256) hz, View.canon_cons_unit_zero (S := S512x256) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay9 X1
  simp only [shapeCast_self]

/-- A later point keeps the normalised rows. -/
theorem B_x1 (t : Fin cfg0.N) (h0 : ¬t.val % 11 = 0) (h1 : ¬t.val % 11 = 10) (n : ℕ) (hn : n < cfg0.N) (e : t.val = n + 1) :
    (outsAt0 m c t.val t.isLt).2.2.1 = (outsAt0 m c n hn).2.2.1 := by
  obtain ⟨tv, ht⟩ := t
  dsimp only at e h0 h1
  subst e
  rw [outsAt0_B m c ⟨n + 1, ht⟩ h0 h1]
  rfl

/-- A later point keeps the cast rows. -/
theorem B_x1b (t : Fin cfg0.N) (h0 : ¬t.val % 11 = 0) (h1 : ¬t.val % 11 = 10) (n : ℕ) (hn : n < cfg0.N) (e : t.val = n + 1) :
    (outsAt0 m c t.val t.isLt).2.2.2.1 = (outsAt0 m c n hn).2.2.2.1 := by
  obtain ⟨tv, ht⟩ := t
  dsimp only at e h0 h1
  subst e
  rw [outsAt0_B m c ⟨n + 1, ht⟩ h0 h1]
  rfl

/-- A later point keeps the normalised rows. -/
theorem C_x1 (t : Fin cfg0.N) (h0 : ¬t.val % 11 = 0) (h1 : t.val % 11 = 10) (n : ℕ) (hn : n < cfg0.N) (e : t.val = n + 1) :
    (outsAt0 m c t.val t.isLt).2.2.1 = (outsAt0 m c n hn).2.2.1 := by
  obtain ⟨tv, ht⟩ := t
  dsimp only at e h0 h1
  subst e
  rw [outsAt0_C m c ⟨n + 1, ht⟩ h0 h1]
  rfl

/-- A later point keeps the cast rows. -/
theorem C_x1b (t : Fin cfg0.N) (h0 : ¬t.val % 11 = 0) (h1 : t.val % 11 = 10) (n : ℕ) (hn : n < cfg0.N) (e : t.val = n + 1) :
    (outsAt0 m c t.val t.isLt).2.2.2.1 = (outsAt0 m c n hn).2.2.2.1 := by
  obtain ⟨tv, ht⟩ := t
  dsimp only at e h0 h1
  subst e
  rw [outsAt0_C m c ⟨n + 1, ht⟩ h0 h1]
  rfl

/-- A later point adds its block's sum to the accumulator. -/
theorem B_acc (t : Fin cfg0.N) (h0 : ¬t.val % 11 = 0) (h1 : ¬t.val % 11 = 10) (n : ℕ) (hn : n < cfg0.N) (e : t.val = n + 1) :
    (outsAt0 m c t.val t.isLt).2.2.2.2
      = Acc (outsAt0 m c n hn).2.2.2.1 (iblk m c 7 t) (iblk m c 8 t) (iblk m c 9 t) (iblk m c 10 t) (iblk m c 11 t) (iblk m c 14 t) (iblk m c 15 t) (outsAt0 m c n hn).2.2.2.2 := by
  obtain ⟨tv, ht⟩ := t
  dsimp only at e h0 h1
  subst e
  rw [outsAt0_B m c ⟨n + 1, ht⟩ h0 h1]
  dsimp only
  unfold sout0_B_2
  rw [View.read_writes_eq_canon _ _ _ (fun y => scover0_B_2 ..)]
  unfold kernelRun0_B
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay1 Acc
  simp only [shapeCast_self]
  rfl

/-- A later point leaves its block of the gate. -/
theorem B_hg (t : Fin cfg0.N) (h0 : ¬t.val % 11 = 0) (h1 : ¬t.val % 11 = 10) (n : ℕ) (hn : n < cfg0.N) (e : t.val = n + 1) :
    (outsAt0 m c t.val t.isLt).2.1
      = k0_pay11 (outsAt0 m c n hn).2.2.2.1 (iblk m c 7 t) := by
  obtain ⟨tv, ht⟩ := t
  dsimp only at e h0 h1
  subst e
  rw [outsAt0_B m c ⟨n + 1, ht⟩ h0 h1]
  dsimp only
  unfold out0_B_17
  rw [View.read_writes_eq_canon _ _ _ (fun y => cover0_B_17 ..)]
  unfold kernelRun0_B
  dsimp only
  sl_unfold_words
  simp only [View.canon_unit_zero (S := S512x256) hz, View.canon_cons_unit_zero (S := S512x256) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay11
  simp only [shapeCast_self]
  rfl

/-- A later point adds its block's sum to the accumulator. -/
theorem C_acc (t : Fin cfg0.N) (h0 : ¬t.val % 11 = 0) (h1 : t.val % 11 = 10) (n : ℕ) (hn : n < cfg0.N) (e : t.val = n + 1) :
    (outsAt0 m c t.val t.isLt).2.2.2.2
      = Acc (outsAt0 m c n hn).2.2.2.1 (iblk m c 7 t) (iblk m c 8 t) (iblk m c 9 t) (iblk m c 10 t) (iblk m c 11 t) (iblk m c 14 t) (iblk m c 15 t) (outsAt0 m c n hn).2.2.2.2 := by
  obtain ⟨tv, ht⟩ := t
  dsimp only at e h0 h1
  subst e
  rw [outsAt0_C m c ⟨n + 1, ht⟩ h0 h1]
  dsimp only
  unfold sout0_C_2
  rw [View.read_writes_eq_canon _ _ _ (fun y => scover0_C_2 ..)]
  unfold kernelRun0_C
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay1 Acc
  simp only [shapeCast_self]
  rfl

/-- A later point leaves its block of the gate. -/
theorem C_hg (t : Fin cfg0.N) (h0 : ¬t.val % 11 = 0) (h1 : t.val % 11 = 10) (n : ℕ) (hn : n < cfg0.N) (e : t.val = n + 1) :
    (outsAt0 m c t.val t.isLt).2.1
      = k0_pay11 (outsAt0 m c n hn).2.2.2.1 (iblk m c 7 t) := by
  obtain ⟨tv, ht⟩ := t
  dsimp only at e h0 h1
  subst e
  rw [outsAt0_C m c ⟨n + 1, ht⟩ h0 h1]
  dsimp only
  unfold out0_C_17
  rw [View.read_writes_eq_canon _ _ _ (fun y => cover0_C_17 ..)]
  unfold kernelRun0_C
  dsimp only
  sl_unfold_words
  simp only [View.canon_unit_zero (S := S512x256) hz, View.canon_cons_unit_zero (S := S512x256) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay11
  simp only [shapeCast_self]
  rfl

/-- The last point leaves the output block: the norm of the rows plus the accumulator it has just completed. -/
theorem C_y (t : Fin cfg0.N) (h0 : ¬t.val % 11 = 0) (h1 : t.val % 11 = 10) (n : ℕ) (hn : n < cfg0.N) (e : t.val = n + 1) :
    (outsAt0 m c t.val t.isLt).1
      = k0_pay2 (outsAt0 m c n hn).2.2.1 (Acc (outsAt0 m c n hn).2.2.2.1 (iblk m c 7 t) (iblk m c 8 t) (iblk m c 9 t) (iblk m c 10 t) (iblk m c 11 t) (iblk m c 14 t) (iblk m c 15 t) (outsAt0 m c n hn).2.2.2.2) (iblk m c 12 t) (iblk m c 13 t) := by
  obtain ⟨tv, ht⟩ := t
  dsimp only at e h0 h1
  subst e
  rw [outsAt0_C m c ⟨n + 1, ht⟩ h0 h1]
  dsimp only
  unfold out0_C_16
  rw [View.read_writes_eq_canon _ _ _ (fun y => cover0_C_16 ..)]
  unfold kernelRun0_C
  dsimp only
  sl_unfold_words
  simp only [View.canon_unit_zero (S := S512x1024) hz, View.canon_cons_unit_zero (S := S512x1024) hz, View.readCov_unit_zero (S := S512x1024) _ hz, View.readAt_eq_ld,
    Memref.IsWhole.read_unread, rd0, rd1, rd2, View.ld_unit_zero (S := S512x1024) hz, View.ld_unit_zero (S := S512x256) hz,
    View.ld_unit_zero (S := S512x384) hz, View.ld_unit_zero (S := S1x1024) hz, View.ld_unit_zero (S := S1024x256) hz,
    View.ld_unit_zero (S := S3x256) hz, View.ld_unit_zero (S := S1x256) hz, View.ld_unit_zero (S := S256x1024) hz]
  unfold k0_pay1 Acc
  simp only [shapeCast_self]
  rfl

end Cert.Kernel4Ideal.Val

end
-- ==== Proof.Ffn.Spec.lean ====
/-
  The feed-forward half of the layer written on rows, at the ideal instance: the vocabulary in which the kernel's blocks
  and the reference's arrays are compared. A row is named by its number in the flattened batch (`r = T·b + t` for
  sequence `b`, position `t` of `T`), a column by a natural number; arrays read outside their extents give zero, which
  no statement uses.
-/
module

public import Idealize.ShloMosaic.Lib.Pointwise

@[expose] public section

noncomputable section

namespace Cert.Ffn

open Idealize.ShloMosaic

/-- A rank-1 array of extended reals read at a natural number. -/
def at1 {a : ℕ} (A : (⟨1, ![a]⟩ : Shape).Idx → EReal) (i : ℕ) : EReal :=
  if h : i < a then A (ix1 ⟨i, h⟩) else 0

/-- A rank-2 array of extended reals read at natural numbers. -/
def at2 {a b : ℕ} (A : (⟨2, ![a, b]⟩ : Shape).Idx → EReal) (i j : ℕ) : EReal :=
  if h : i < a ∧ j < b then A (ix2 ⟨i, h.1⟩ ⟨j, h.2⟩) else 0

/-- A rank-3 array of extended reals read at natural numbers. -/
def at3 {a b d : ℕ} (A : (⟨3, ![a, b, d]⟩ : Shape).Idx → EReal) (i j k : ℕ) : EReal :=
  if h : i < a ∧ j < b ∧ k < d then A (ix3 ⟨i, h.1⟩ ⟨j, h.2.1⟩ ⟨k, h.2.2⟩) else 0

theorem at1_fin {a : ℕ} (A : (⟨1, ![a]⟩ : Shape).Idx → EReal) (i : Fin a) : A (ix1 i) = at1 A i.val := by
  unfold at1; rw [dif_pos i.isLt]

theorem at2_fin {a b : ℕ} (A : (⟨2, ![a, b]⟩ : Shape).Idx → EReal) (i : Fin a) (j : Fin b) :
    A (ix2 i j) = at2 A i.val j.val := by
  unfold at2; rw [dif_pos ⟨i.isLt, j.isLt⟩]

theorem at3_fin {a b d : ℕ} (A : (⟨3, ![a, b, d]⟩ : Shape).Idx → EReal) (i : Fin a) (j : Fin b) (k : Fin d) :
    A (ix3 i j k) = at3 A i.val j.val k.val := by
  unfold at3; rw [dif_pos ⟨i.isLt, j.isLt, k.isLt⟩]

/-- The mean of a row of 1024 entries. -/
def mean (v : Fin 1024 → EReal) : EReal := Ideal.div (∑ k, v k) (Ideal.ofBits .f32 0x44800000#32)

/-- Layer normalisation of a row, at column `c`. -/
def lnRow (v : Fin 1024 → EReal) (g b : ℕ → EReal) (c : Fin 1024) : EReal :=
  (v c - mean v) * Ideal.rsqrt (mean (fun k => (v k - mean v) * (v k - mean v)) + Ideal.ofBits .f32 0x3727C5AC#32)
    * g c.val + b c.val

/-- Layer normalisation depends on its row, and on the scale and the shift at the column alone. -/
theorem lnRow_congr {v v' : Fin 1024 → EReal} {g g' b b' : ℕ → EReal} {c : Fin 1024} (hv : ∀ j, v j = v' j)
    (hg : g c.val = g' c.val) (hb : b c.val = b' c.val) : lnRow v g b c = lnRow v' g' b' c := by
  obtain rfl : v = v' := funext hv
  unfold lnRow
  rw [hg, hb]

/-- The tanh form of the GELU. -/
def gelu (x : EReal) : EReal :=
  x * (Ideal.ofBits .f32 0x3F000000#32 *
    (1 + Ideal.tanh (Ideal.ofBits .f32 0x3F4C422A#32 * (x + Ideal.ofBits .f32 0x3D372713#32 * (x * (x * x))))))

/-- The three mixer outputs of a row times `w_out`, each against its own rows of the weight. -/
def mixRow (oa ob oc : ℕ → EReal) (w : ℕ → ℕ → EReal) (c : ℕ) : EReal :=
  ∑ k : Fin 256, oa k.val * w k.val c + ∑ k : Fin 384, ob k.val * w (256 + k.val) c
    + ∑ k : Fin 384, oc k.val * w (640 + k.val) c

/-- A sum over the joined axis, part by part. -/
theorem sum_split3 (f : ℕ → EReal) :
    ∑ k : Fin 1024, f k.val = ∑ k : Fin 256, f k.val + ∑ k : Fin 384, f (256 + k.val) + ∑ k : Fin 384, f (640 + k.val) := by
  rw [← Finset.sum_range (fun k => f k), show (1024 : ℕ) = 256 + 384 + 384 from rfl, Finset.sum_range_add, Finset.sum_range_add,
    Finset.sum_range, Finset.sum_range (fun k => f (256 + k)), Finset.sum_range (fun k => f (256 + 384 + k))]

/-- The three mixer outputs of a row, joined. -/
def mixed (oa ob oc : ℕ → EReal) (n : ℕ) : EReal :=
  if n < 256 then oa n else if n < 640 then ob (n - 256) else oc (n - 640)

/-- The joined row times `w_out` is the sum of its parts' products. -/
theorem mixed_sum (oa ob oc : ℕ → EReal) (w : ℕ → ℕ → EReal) (c : ℕ) :
    ∑ n : Fin 1024, mixed oa ob oc n.val * w n.val c = mixRow oa ob oc w c := by
  rw [sum_split3 (fun n => mixed oa ob oc n * w n c)]
  unfold mixRow
  refine congrArg₂ (· + ·) (congrArg₂ (· + ·) ?_ ?_) ?_
  · refine Finset.sum_congr rfl fun n _ => ?_
    unfold mixed
    rw [if_pos n.isLt]
  · refine Finset.sum_congr rfl fun n _ => ?_
    have hn := n.isLt
    unfold mixed
    rw [if_neg (by omega), if_pos (by omega), Nat.add_sub_cancel_left]
  · refine Finset.sum_congr rfl fun n _ => ?_
    unfold mixed
    rw [if_neg (by omega), if_neg (by omega), Nat.add_sub_cancel_left]

/-- What the feed-forward block reads, as functions of natural numbers: the rows of the layer input and of the three mixer
    outputs, the weights, and the two rows that precede each sequence. -/
structure Args where
  x : ℕ → ℕ → EReal
  oa : ℕ → ℕ → EReal
  ob : ℕ → ℕ → EReal
  oc : ℕ → ℕ → EReal
  prev : ℕ → ℕ → ℕ → EReal
  wo : ℕ → ℕ → EReal
  g1 : ℕ → EReal
  b1 : ℕ → EReal
  wg : ℕ → ℕ → EReal
  wu : ℕ → ℕ → EReal
  cw : ℕ → ℕ → EReal
  cb : ℕ → EReal
  wd : ℕ → ℕ → EReal
  g2 : ℕ → EReal
  b2 : ℕ → EReal

variable (A : Args) (T : ℕ)

/-- `√2·x + mix·w_out`, normalised: row `r` of the feed-forward block's input. -/
def x1 (r : ℕ) (c : Fin 1024) : EReal :=
  lnRow (fun c => Ideal.ofBits .f32 0x3FB504F3#32 * A.x r c.val + mixRow (A.oa r) (A.ob r) (A.oc r) A.wo c.val) A.g1 A.b1 c

/-- The gate projection. -/
def hg (r f : ℕ) : EReal := ∑ k : Fin 1024, x1 A r k * A.wg k.val f

/-- The up projection. -/
def hu (r f : ℕ) : EReal := ∑ k : Fin 1024, x1 A r k * A.wu k.val f

/-- The gate's row one position earlier in its sequence of `T` rows. -/
def back1 (r f : ℕ) : EReal := if r % T = 0 then A.prev (r / T) 1 f else hg A (r - 1) f

/-- The gate's row two positions earlier in its sequence of `T` rows. -/
def back2 (r f : ℕ) : EReal := if r % T < 2 then A.prev (r / T) (r % T) f else hg A (r - 2) f

/-- The causal convolution over three rows. -/
def conv (r f : ℕ) : EReal :=
  A.cb f + A.cw 0 f * back2 A T r f + A.cw 1 f * back1 A T r f + A.cw 2 f * hg A r f

/-- The gated activation. -/
def act (r f : ℕ) : EReal := gelu (conv A T r f) * hu A r f

/-- The down projection's sum over the columns `< n`. -/
def down (n r : ℕ) (c : Fin 1024) : EReal := ∑ f ∈ Finset.range n, act A T r f * A.wd f c.val

/-- The block's output row. -/
def y (r : ℕ) (c : Fin 1024) : EReal :=
  lnRow (fun c => Ideal.ofBits .f32 0x3FB504F3#32 * x1 A r c + down A T 2816 r c) A.g2 A.b2 c

/-- The down projection, one block of `w` columns further. -/
theorem down_add (n w r : ℕ) (c : Fin 1024) :
    down A T (n + w) r c = down A T n r c + ∑ k : Fin w, act A T r (n + k.val) * A.wd (n + k.val) c.val := by
  unfold down
  rw [Finset.sum_range_add, Finset.sum_range]
  congr 1
  exact Finset.sum_range (fun k => act A T r (n + k) * A.wd (n + k) c.val)

end Cert.Ffn

end
-- ==== Proof.Ffn.Host4.lean ====
/- What the sample step's kernel call finds in its operand arrays, over the extended reals, in terms of the arguments. -/
module

public import proofs.«01_k».proof.Proof.Gen.Kernel4Ideal.Frame.Runs
public import Idealize.ShloMosaic.Lib.StableHlo.ReadAt
public import proofs.«01_k».proof.Proof.Ffn.Spec

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Idealize.ShloMosaic.StableHlo Cert.Ffn

variable (m : (ℓ : Loc nD τ sig) → Buf (Elt Ideal) ℓ) (c : Dev nD)

/-- The arguments of the call, as functions of natural numbers. -/
def args : Args where
  x r k := at3 (m ((c : Thread nD τ).loc main_arg0)) (r / 16) (r % 16) k
  oa r k := at3 (m ((c : Thread nD τ).loc main_arg1)) (r / 16) (r % 16) k
  ob r k := at3 (m ((c : Thread nD τ).loc main_arg2)) (r / 16) (r % 16) k
  oc r k := at3 (m ((c : Thread nD τ).loc main_arg3)) (r / 16) (r % 16) k
  prev b i f := at3 (m ((c : Thread nD τ).loc main_arg4)) b i f
  wo k n := at2 (m ((c : Thread nD τ).loc main_arg5)) k n
  g1 k := at1 (m ((c : Thread nD τ).loc main_arg6)) k
  b1 k := at1 (m ((c : Thread nD τ).loc main_arg7)) k
  wg k n := at2 (m ((c : Thread nD τ).loc main_arg8)) k n
  wu k n := at2 (m ((c : Thread nD τ).loc main_arg9)) k n
  cw k n := at2 (m ((c : Thread nD τ).loc main_arg10)) k n
  cb k := at1 (m ((c : Thread nD τ).loc main_arg11)) k
  wd k n := at2 (m ((c : Thread nD τ).loc main_arg12)) k n
  g2 k := at1 (m ((c : Thread nD τ).loc main_arg13)) k
  b2 k := at1 (m ((c : Thread nD τ).loc main_arg14)) k

/-- The rows of the layer input. -/
theorem V36_apply (r : Fin 512) (k : Fin 1024) : (V m c main_v36 : S512x1024.Idx → EReal) (ix2 r k) = (args m c).x r k := by
  show _ = at3 (m ((c : Thread nD τ).loc main_arg0)) (r / 16) (r % 16) k
  unfold V
  after_reads_at
  exact at3_fin _ _ _ _

/-- The rows of the first mixer output. -/
theorem V37_apply (r : Fin 512) (k : Fin 256) : (V m c main_v37 : S512x256.Idx → EReal) (ix2 r k) = (args m c).oa r k := by
  show _ = at3 (m ((c : Thread nD τ).loc main_arg1)) (r / 16) (r % 16) k
  unfold V
  after_reads_at
  exact at3_fin _ _ _ _

/-- The rows of the second mixer output. -/
theorem V38_apply (r : Fin 512) (k : Fin 384) : (V m c main_v38 : S512x384.Idx → EReal) (ix2 r k) = (args m c).ob r k := by
  show _ = at3 (m ((c : Thread nD τ).loc main_arg2)) (r / 16) (r % 16) k
  unfold V
  after_reads_at
  exact at3_fin _ _ _ _

/-- The rows of the third mixer output. -/
theorem V39_apply (r : Fin 512) (k : Fin 384) : (V m c main_v39 : S512x384.Idx → EReal) (ix2 r k) = (args m c).oc r k := by
  show _ = at3 (m ((c : Thread nD τ).loc main_arg3)) (r / 16) (r % 16) k
  unfold V
  after_reads_at
  exact at3_fin _ _ _ _

/-- The output projection. -/
theorem V11_apply (r : Fin 1024) (k : Fin 1024) : (V m c main_v11 : S1024x1024.Idx → EReal) (ix2 r k) = (args m c).wo r k := by
  show _ = at2 (m ((c : Thread nD τ).loc main_arg5)) r k
  unfold V
  after_reads_at
  exact at2_fin _ _ _

/-- The first norm's scale. -/
theorem V13_apply (k : Fin 1024) : (V m c main_v13 : S1x1024.Idx → EReal) (ix2 0 k) = (args m c).g1 k := by
  show _ = at1 (m ((c : Thread nD τ).loc main_arg6)) k
  unfold V
  after_reads_at
  exact at1_fin _ _

/-- The first norm's shift. -/
theorem V15_apply (k : Fin 1024) : (V m c main_v15 : S1x1024.Idx → EReal) (ix2 0 k) = (args m c).b1 k := by
  show _ = at1 (m ((c : Thread nD τ).loc main_arg7)) k
  unfold V
  after_reads_at
  exact at1_fin _ _

/-- The gate weight. -/
theorem V17_apply (r : Fin 1024) (k : Fin 2816) : (V m c main_v17 : S1024x2816.Idx → EReal) (ix2 r k) = (args m c).wg r k := by
  show _ = at2 (m ((c : Thread nD τ).loc main_arg8)) r k
  unfold V
  after_reads_at
  exact at2_fin _ _ _

/-- The up weight. -/
theorem V19_apply (r : Fin 1024) (k : Fin 2816) : (V m c main_v19 : S1024x2816.Idx → EReal) (ix2 r k) = (args m c).wu r k := by
  show _ = at2 (m ((c : Thread nD τ).loc main_arg9)) r k
  unfold V
  after_reads_at
  exact at2_fin _ _ _

/-- The convolution weight. -/
theorem V20_apply (r : Fin 3) (k : Fin 2816) : (V m c main_v20 : S3x2816.Idx → EReal) (ix2 r k) = (args m c).cw r k := by
  show _ = at2 (m ((c : Thread nD τ).loc main_arg10)) r k
  unfold V
  after_reads_at
  exact at2_fin _ _ _

/-- The convolution bias. -/
theorem V22_apply (k : Fin 2816) : (V m c main_v22 : S1x2816.Idx → EReal) (ix2 0 k) = (args m c).cb k := by
  show _ = at1 (m ((c : Thread nD τ).loc main_arg11)) k
  unfold V
  after_reads_at
  exact at1_fin _ _

/-- The down weight. -/
theorem V24_apply (r : Fin 2816) (k : Fin 1024) : (V m c main_v24 : S2816x1024.Idx → EReal) (ix2 r k) = (args m c).wd r k := by
  show _ = at2 (m ((c : Thread nD τ).loc main_arg12)) r k
  unfold V
  after_reads_at
  exact at2_fin _ _ _

/-- The second norm's scale. -/
theorem V26_apply (k : Fin 1024) : (V m c main_v26 : S1x1024.Idx → EReal) (ix2 0 k) = (args m c).g2 k := by
  show _ = at1 (m ((c : Thread nD τ).loc main_arg13)) k
  unfold V
  after_reads_at
  exact at1_fin _ _

/-- The second norm's shift. -/
theorem V28_apply (k : Fin 1024) : (V m c main_v28 : S1x1024.Idx → EReal) (ix2 0 k) = (args m c).b2 k := by
  show _ = at1 (m ((c : Thread nD τ).loc main_arg14)) k
  unfold V
  after_reads_at
  exact at1_fin _ _

/-- The row before each sequence, at the sequence's first row. -/
theorem V33_apply (r : Fin 512) (k : Fin 2816) (h : r.val % 16 = 0) :
    (V m c main_v33 : S512x2816.Idx → EReal) (ix2 r k) = (args m c).prev (r / 16) 1 k := by
  show _ = at3 (m ((c : Thread nD τ).loc main_arg4)) (r / 16) 1 k
  unfold V
  after_reads_at
  rw [dif_pos (by omega)]
  after_reads_at
  refine (at3_fin _ _ _ _).trans ?_
  show at3 _ (r.val / 16) (1 + r.val % 16) k.val = _
  rw [h]

/-- The two rows before each sequence, at the sequence's first two rows. -/
theorem V35_apply (r : Fin 512) (k : Fin 2816) (h : r.val % 16 < 2) :
    (V m c main_v35 : S512x2816.Idx → EReal) (ix2 r k) = (args m c).prev (r / 16) (r % 16) k := by
  show _ = at3 (m ((c : Thread nD τ).loc main_arg4)) (r / 16) (r % 16) k
  unfold V
  after_reads_at
  rw [dif_pos h]
  exact at3_fin _ _ _ _

end Cert.Kernel4Ideal.Val

end
-- ==== Proof.Ffn.Blocks4.lean ====
/- The sample step's input blocks at a grid point, over the extended reals, in terms of the arguments. -/
module

public import proofs.«01_k».proof.Proof.Ffn.Host4

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Cert.Ffn

variable (m : (ℓ : Loc nD τ sig) → Buf (Elt Ideal) ℓ) (c : Dev nD)

/-- Window 0's block index. -/
theorem idx0 : ∀ t : Fin cfg0.N, win0_0.index t (0 : Fin 2) = 0 ∧ win0_0.index t (1 : Fin 2) = 0 :=
  (by decide +kernel : ∀ t : Fin grid0.N, _)

/-- Window 0's block at point `t`. -/
theorem blk0 (t : Fin cfg0.N) (r : Fin 512) (k : Fin 1024) :
    (iblk m c 0 t : S512x1024.Idx → EReal) (ix2 r k) = (args m c).x (r.val) (k.val) := by
  have hN : t.val < 11 := lt_of_lt_of_eq t.isLt (show cfg0.N = 11 from N_0)
  obtain ⟨e0, e1⟩ := idx0 t
  unfold iblk
  rw [View.read_apply]
  have e : (((cfg0.win 0).blk t).view.emb (ix2 r k) : S512x1024.Idx) = ix2 ⟨r.val, by omega⟩ ⟨k.val, by omega⟩ := by
    funext a; apply Fin.ext
    match a with
    | ⟨0, _⟩ => show win0_0.index t 0 * 512 + 1 * r.val = r.val; omega
    | ⟨1, _⟩ => show win0_0.index t 1 * 1024 + 1 * k.val = k.val; omega
  show (V m c main_v36 : S512x1024.Idx → EReal) (((cfg0.win 0).blk t).view.emb (ix2 r k)) = _
  rw [e]
  exact V36_apply m c ⟨r.val, by omega⟩ ⟨k.val, by omega⟩

/-- Window 1's block index. -/
theorem idx1 : ∀ t : Fin cfg0.N, win0_1.index t (0 : Fin 2) = 0 ∧ win0_1.index t (1 : Fin 2) = 0 :=
  (by decide +kernel : ∀ t : Fin grid0.N, _)

/-- Window 1's block at point `t`. -/
theorem blk1 (t : Fin cfg0.N) (r : Fin 512) (k : Fin 256) :
    (iblk m c 1 t : S512x256.Idx → EReal) (ix2 r k) = (args m c).oa (r.val) (k.val) := by
  have hN : t.val < 11 := lt_of_lt_of_eq t.isLt (show cfg0.N = 11 from N_0)
  obtain ⟨e0, e1⟩ := idx1 t
  unfold iblk
  rw [View.read_apply]
  have e : (((cfg0.win 1).blk t).view.emb (ix2 r k) : S512x256.Idx) = ix2 ⟨r.val, by omega⟩ ⟨k.val, by omega⟩ := by
    funext a; apply Fin.ext
    match a with
    | ⟨0, _⟩ => show win0_1.index t 0 * 512 + 1 * r.val = r.val; omega
    | ⟨1, _⟩ => show win0_1.index t 1 * 256 + 1 * k.val = k.val; omega
  show (V m c main_v37 : S512x256.Idx → EReal) (((cfg0.win 1).blk t).view.emb (ix2 r k)) = _
  rw [e]
  exact V37_apply m c ⟨r.val, by omega⟩ ⟨k.val, by omega⟩

/-- Window 2's block index. -/
theorem idx2 : ∀ t : Fin cfg0.N, win0_2.index t (0 : Fin 2) = 0 ∧ win0_2.index t (1 : Fin 2) = 0 :=
  (by decide +kernel : ∀ t : Fin grid0.N, _)

/-- Window 2's block at point `t`. -/
theorem blk2 (t : Fin cfg0.N) (r : Fin 512) (k : Fin 384) :
    (iblk m c 2 t : S512x384.Idx → EReal) (ix2 r k) = (args m c).ob (r.val) (k.val) := by
  have hN : t.val < 11 := lt_of_lt_of_eq t.isLt (show cfg0.N = 11 from N_0)
  obtain ⟨e0, e1⟩ := idx2 t
  unfold iblk
  rw [View.read_apply]
  have e : (((cfg0.win 2).blk t).view.emb (ix2 r k) : S512x384.Idx) = ix2 ⟨r.val, by omega⟩ ⟨k.val, by omega⟩ := by
    funext a; apply Fin.ext
    match a with
    | ⟨0, _⟩ => show win0_2.index t 0 * 512 + 1 * r.val = r.val; omega
    | ⟨1, _⟩ => show win0_2.index t 1 * 384 + 1 * k.val = k.val; omega
  show (V m c main_v38 : S512x384.Idx → EReal) (((cfg0.win 2).blk t).view.emb (ix2 r k)) = _
  rw [e]
  exact V38_apply m c ⟨r.val, by omega⟩ ⟨k.val, by omega⟩

/-- Window 3's block index. -/
theorem idx3 : ∀ t : Fin cfg0.N, win0_3.index t (0 : Fin 2) = 0 ∧ win0_3.index t (1 : Fin 2) = 0 :=
  (by decide +kernel : ∀ t : Fin grid0.N, _)

/-- Window 3's block at point `t`. -/
theorem blk3 (t : Fin cfg0.N) (r : Fin 512) (k : Fin 384) :
    (iblk m c 3 t : S512x384.Idx → EReal) (ix2 r k) = (args m c).oc (r.val) (k.val) := by
  have hN : t.val < 11 := lt_of_lt_of_eq t.isLt (show cfg0.N = 11 from N_0)
  obtain ⟨e0, e1⟩ := idx3 t
  unfold iblk
  rw [View.read_apply]
  have e : (((cfg0.win 3).blk t).view.emb (ix2 r k) : S512x384.Idx) = ix2 ⟨r.val, by omega⟩ ⟨k.val, by omega⟩ := by
    funext a; apply Fin.ext
    match a with
    | ⟨0, _⟩ => show win0_3.index t 0 * 512 + 1 * r.val = r.val; omega
    | ⟨1, _⟩ => show win0_3.index t 1 * 384 + 1 * k.val = k.val; omega
  show (V m c main_v39 : S512x384.Idx → EReal) (((cfg0.win 3).blk t).view.emb (ix2 r k)) = _
  rw [e]
  exact V39_apply m c ⟨r.val, by omega⟩ ⟨k.val, by omega⟩

/-- Window 4's block index. -/
theorem idx4 : ∀ t : Fin cfg0.N, win0_4.index t (0 : Fin 2) = 0 ∧ win0_4.index t (1 : Fin 2) = 0 :=
  (by decide +kernel : ∀ t : Fin grid0.N, _)

/-- Window 4's block at point `t`. -/
theorem blk4 (t : Fin cfg0.N) (r : Fin 1024) (k : Fin 1024) :
    (iblk m c 4 t : S1024x1024.Idx → EReal) (ix2 r k) = (args m c).wo (r.val) (k.val) := by
  have hN : t.val < 11 := lt_of_lt_of_eq t.isLt (show cfg0.N = 11 from N_0)
  obtain ⟨e0, e1⟩ := idx4 t
  unfold iblk
  rw [View.read_apply]
  have e : (((cfg0.win 4).blk t).view.emb (ix2 r k) : S1024x1024.Idx) = ix2 ⟨r.val, by omega⟩ ⟨k.val, by omega⟩ := by
    funext a; apply Fin.ext
    match a with
    | ⟨0, _⟩ => show win0_4.index t 0 * 1024 + 1 * r.val = r.val; omega
    | ⟨1, _⟩ => show win0_4.index t 1 * 1024 + 1 * k.val = k.val; omega
  show (V m c main_v11 : S1024x1024.Idx → EReal) (((cfg0.win 4).blk t).view.emb (ix2 r k)) = _
  rw [e]
  exact V11_apply m c ⟨r.val, by omega⟩ ⟨k.val, by omega⟩

/-- Window 5's block index. -/
theorem idx5 : ∀ t : Fin cfg0.N, win0_5.index t (0 : Fin 2) = 0 ∧ win0_5.index t (1 : Fin 2) = 0 :=
  (by decide +kernel : ∀ t : Fin grid0.N, _)

/-- Window 5's block at point `t`. -/
theorem blk5 (t : Fin cfg0.N) (k : Fin 1024) :
    (iblk m c 5 t : S1x1024.Idx → EReal) (ix2 0 k) = (args m c).g1 (k.val) := by
  have hN : t.val < 11 := lt_of_lt_of_eq t.isLt (show cfg0.N = 11 from N_0)
  obtain ⟨e0, e1⟩ := idx5 t
  unfold iblk
  rw [View.read_apply]
  have e : (((cfg0.win 5).blk t).view.emb (ix2 0 k) : S1x1024.Idx) = ix2 0 ⟨k.val, by omega⟩ := by
    funext a; apply Fin.ext
    match a with
    | ⟨0, _⟩ => show win0_5.index t 0 * 1 + 1 * 0 = 0; omega
    | ⟨1, _⟩ => show win0_5.index t 1 * 1024 + 1 * k.val = k.val; omega
  show (V m c main_v13 : S1x1024.Idx → EReal) (((cfg0.win 5).blk t).view.emb (ix2 0 k)) = _
  rw [e]
  exact V13_apply m c ⟨k.val, by omega⟩

/-- Window 6's block index. -/
theorem idx6 : ∀ t : Fin cfg0.N, win0_6.index t (0 : Fin 2) = 0 ∧ win0_6.index t (1 : Fin 2) = 0 :=
  (by decide +kernel : ∀ t : Fin grid0.N, _)

/-- Window 6's block at point `t`. -/
theorem blk6 (t : Fin cfg0.N) (k : Fin 1024) :
    (iblk m c 6 t : S1x1024.Idx → EReal) (ix2 0 k) = (args m c).b1 (k.val) := by
  have hN : t.val < 11 := lt_of_lt_of_eq t.isLt (show cfg0.N = 11 from N_0)
  obtain ⟨e0, e1⟩ := idx6 t
  unfold iblk
  rw [View.read_apply]
  have e : (((cfg0.win 6).blk t).view.emb (ix2 0 k) : S1x1024.Idx) = ix2 0 ⟨k.val, by omega⟩ := by
    funext a; apply Fin.ext
    match a with
    | ⟨0, _⟩ => show win0_6.index t 0 * 1 + 1 * 0 = 0; omega
    | ⟨1, _⟩ => show win0_6.index t 1 * 1024 + 1 * k.val = k.val; omega
  show (V m c main_v15 : S1x1024.Idx → EReal) (((cfg0.win 6).blk t).view.emb (ix2 0 k)) = _
  rw [e]
  exact V15_apply m c ⟨k.val, by omega⟩

/-- Window 7's block index. -/
theorem idx7 : ∀ t : Fin cfg0.N, win0_7.index t (0 : Fin 2) = 0 ∧ win0_7.index t (1 : Fin 2) = t.val :=
  (by decide +kernel : ∀ t : Fin grid0.N, _)

/-- Window 7's block at point `t`. -/
theorem blk7 (t : Fin cfg0.N) (r : Fin 1024) (k : Fin 256) :
    (iblk m c 7 t : S1024x256.Idx → EReal) (ix2 r k) = (args m c).wg (r.val) (256 * (t.val) + k.val) := by
  have hN : t.val < 11 := lt_of_lt_of_eq t.isLt (show cfg0.N = 11 from N_0)
  obtain ⟨e0, e1⟩ := idx7 t
  unfold iblk
  rw [View.read_apply]
  have e : (((cfg0.win 7).blk t).view.emb (ix2 r k) : S1024x2816.Idx) = ix2 ⟨r.val, by omega⟩ ⟨256 * (t.val) + k.val, by omega⟩ := by
    funext a; apply Fin.ext
    match a with
    | ⟨0, _⟩ => show win0_7.index t 0 * 1024 + 1 * r.val = r.val; omega
    | ⟨1, _⟩ => show win0_7.index t 1 * 256 + 1 * k.val = 256 * (t.val) + k.val; omega
  show (V m c main_v17 : S1024x2816.Idx → EReal) (((cfg0.win 7).blk t).view.emb (ix2 r k)) = _
  rw [e]
  exact V17_apply m c ⟨r.val, by omega⟩ ⟨256 * (t.val) + k.val, by omega⟩

/-- Window 8's block index. -/
theorem idx8 : ∀ t : Fin cfg0.N, win0_8.index t (0 : Fin 2) = 0 ∧ win0_8.index t (1 : Fin 2) = t.val :=
  (by decide +kernel : ∀ t : Fin grid0.N, _)

/-- Window 8's block at point `t`. -/
theorem blk8 (t : Fin cfg0.N) (r : Fin 1024) (k : Fin 256) :
    (iblk m c 8 t : S1024x256.Idx → EReal) (ix2 r k) = (args m c).wu (r.val) (256 * (t.val) + k.val) := by
  have hN : t.val < 11 := lt_of_lt_of_eq t.isLt (show cfg0.N = 11 from N_0)
  obtain ⟨e0, e1⟩ := idx8 t
  unfold iblk
  rw [View.read_apply]
  have e : (((cfg0.win 8).blk t).view.emb (ix2 r k) : S1024x2816.Idx) = ix2 ⟨r.val, by omega⟩ ⟨256 * (t.val) + k.val, by omega⟩ := by
    funext a; apply Fin.ext
    match a with
    | ⟨0, _⟩ => show win0_8.index t 0 * 1024 + 1 * r.val = r.val; omega
    | ⟨1, _⟩ => show win0_8.index t 1 * 256 + 1 * k.val = 256 * (t.val) + k.val; omega
  show (V m c main_v19 : S1024x2816.Idx → EReal) (((cfg0.win 8).blk t).view.emb (ix2 r k)) = _
  rw [e]
  exact V19_apply m c ⟨r.val, by omega⟩ ⟨256 * (t.val) + k.val, by omega⟩

/-- Window 9's block index. -/
theorem idx9 : ∀ t : Fin cfg0.N, win0_9.index t (0 : Fin 2) = 0 ∧ win0_9.index t (1 : Fin 2) = t.val :=
  (by decide +kernel : ∀ t : Fin grid0.N, _)

/-- Window 9's block at point `t`. -/
theorem blk9 (t : Fin cfg0.N) (r : Fin 3) (k : Fin 256) :
    (iblk m c 9 t : S3x256.Idx → EReal) (ix2 r k) = (args m c).cw (r.val) (256 * (t.val) + k.val) := by
  have hN : t.val < 11 := lt_of_lt_of_eq t.isLt (show cfg0.N = 11 from N_0)
  obtain ⟨e0, e1⟩ := idx9 t
  unfold iblk
  rw [View.read_apply]
  have e : (((cfg0.win 9).blk t).view.emb (ix2 r k) : S3x2816.Idx) = ix2 ⟨r.val, by omega⟩ ⟨256 * (t.val) + k.val, by omega⟩ := by
    funext a; apply Fin.ext
    match a with
    | ⟨0, _⟩ => show win0_9.index t 0 * 3 + 1 * r.val = r.val; omega
    | ⟨1, _⟩ => show win0_9.index t 1 * 256 + 1 * k.val = 256 * (t.val) + k.val; omega
  show (V m c main_v20 : S3x2816.Idx → EReal) (((cfg0.win 9).blk t).view.emb (ix2 r k)) = _
  rw [e]
  exact V20_apply m c ⟨r.val, by omega⟩ ⟨256 * (t.val) + k.val, by omega⟩

/-- Window 10's block index. -/
theorem idx10 : ∀ t : Fin cfg0.N, win0_10.index t (0 : Fin 2) = 0 ∧ win0_10.index t (1 : Fin 2) = t.val :=
  (by decide +kernel : ∀ t : Fin grid0.N, _)

/-- Window 10's block at point `t`. -/
theorem blk10 (t : Fin cfg0.N) (k : Fin 256) :
    (iblk m c 10 t : S1x256.Idx → EReal) (ix2 0 k) = (args m c).cb (256 * (t.val) + k.val) := by
  have hN : t.val < 11 := lt_of_lt_of_eq t.isLt (show cfg0.N = 11 from N_0)
  obtain ⟨e0, e1⟩ := idx10 t
  unfold iblk
  rw [View.read_apply]
  have e : (((cfg0.win 10).blk t).view.emb (ix2 0 k) : S1x2816.Idx) = ix2 0 ⟨256 * (t.val) + k.val, by omega⟩ := by
    funext a; apply Fin.ext
    match a with
    | ⟨0, _⟩ => show win0_10.index t 0 * 1 + 1 * 0 = 0; omega
    | ⟨1, _⟩ => show win0_10.index t 1 * 256 + 1 * k.val = 256 * (t.val) + k.val; omega
  show (V m c main_v22 : S1x2816.Idx → EReal) (((cfg0.win 10).blk t).view.emb (ix2 0 k)) = _
  rw [e]
  exact V22_apply m c ⟨256 * (t.val) + k.val, by omega⟩

/-- Window 11's block index. -/
theorem idx11 : ∀ t : Fin cfg0.N, win0_11.index t (0 : Fin 2) = t.val ∧ win0_11.index t (1 : Fin 2) = 0 :=
  (by decide +kernel : ∀ t : Fin grid0.N, _)

/-- Window 11's block at point `t`. -/
theorem blk11 (t : Fin cfg0.N) (r : Fin 256) (k : Fin 1024) :
    (iblk m c 11 t : S256x1024.Idx → EReal) (ix2 r k) = (args m c).wd (256 * (t.val) + r.val) (k.val) := by
  have hN : t.val < 11 := lt_of_lt_of_eq t.isLt (show cfg0.N = 11 from N_0)
  obtain ⟨e0, e1⟩ := idx11 t
  unfold iblk
  rw [View.read_apply]
  have e : (((cfg0.win 11).blk t).view.emb (ix2 r k) : S2816x1024.Idx) = ix2 ⟨256 * (t.val) + r.val, by omega⟩ ⟨k.val, by omega⟩ := by
    funext a; apply Fin.ext
    match a with
    | ⟨0, _⟩ => show win0_11.index t 0 * 256 + 1 * r.val = 256 * (t.val) + r.val; omega
    | ⟨1, _⟩ => show win0_11.index t 1 * 1024 + 1 * k.val = k.val; omega
  show (V m c main_v24 : S2816x1024.Idx → EReal) (((cfg0.win 11).blk t).view.emb (ix2 r k)) = _
  rw [e]
  exact V24_apply m c ⟨256 * (t.val) + r.val, by omega⟩ ⟨k.val, by omega⟩

/-- Window 12's block index. -/
theorem idx12 : ∀ t : Fin cfg0.N, win0_12.index t (0 : Fin 2) = 0 ∧ win0_12.index t (1 : Fin 2) = 0 :=
  (by decide +kernel : ∀ t : Fin grid0.N, _)

/-- Window 12's block at point `t`. -/
theorem blk12 (t : Fin cfg0.N) (k : Fin 1024) :
    (iblk m c 12 t : S1x1024.Idx → EReal) (ix2 0 k) = (args m c).g2 (k.val) := by
  have hN : t.val < 11 := lt_of_lt_of_eq t.isLt (show cfg0.N = 11 from N_0)
  obtain ⟨e0, e1⟩ := idx12 t
  unfold iblk
  rw [View.read_apply]
  have e : (((cfg0.win 12).blk t).view.emb (ix2 0 k) : S1x1024.Idx) = ix2 0 ⟨k.val, by omega⟩ := by
    funext a; apply Fin.ext
    match a with
    | ⟨0, _⟩ => show win0_12.index t 0 * 1 + 1 * 0 = 0; omega
    | ⟨1, _⟩ => show win0_12.index t 1 * 1024 + 1 * k.val = k.val; omega
  show (V m c main_v26 : S1x1024.Idx → EReal) (((cfg0.win 12).blk t).view.emb (ix2 0 k)) = _
  rw [e]
  exact V26_apply m c ⟨k.val, by omega⟩

/-- Window 13's block index. -/
theorem idx13 : ∀ t : Fin cfg0.N, win0_13.index t (0 : Fin 2) = 0 ∧ win0_13.index t (1 : Fin 2) = 0 :=
  (by decide +kernel : ∀ t : Fin grid0.N, _)

/-- Window 13's block at point `t`. -/
theorem blk13 (t : Fin cfg0.N) (k : Fin 1024) :
    (iblk m c 13 t : S1x1024.Idx → EReal) (ix2 0 k) = (args m c).b2 (k.val) := by
  have hN : t.val < 11 := lt_of_lt_of_eq t.isLt (show cfg0.N = 11 from N_0)
  obtain ⟨e0, e1⟩ := idx13 t
  unfold iblk
  rw [View.read_apply]
  have e : (((cfg0.win 13).blk t).view.emb (ix2 0 k) : S1x1024.Idx) = ix2 0 ⟨k.val, by omega⟩ := by
    funext a; apply Fin.ext
    match a with
    | ⟨0, _⟩ => show win0_13.index t 0 * 1 + 1 * 0 = 0; omega
    | ⟨1, _⟩ => show win0_13.index t 1 * 1024 + 1 * k.val = k.val; omega
  show (V m c main_v28 : S1x1024.Idx → EReal) (((cfg0.win 13).blk t).view.emb (ix2 0 k)) = _
  rw [e]
  exact V28_apply m c ⟨k.val, by omega⟩

/-- Window 14's block index. -/
theorem idx14 : ∀ t : Fin cfg0.N, win0_14.index t (0 : Fin 2) = 0 ∧ win0_14.index t (1 : Fin 2) = t.val :=
  (by decide +kernel : ∀ t : Fin grid0.N, _)

/-- Window 14's block at point `t`. -/
theorem blk14 (t : Fin cfg0.N) (r : Fin 512) (k : Fin 256) (h : r.val % 16 = 0) :
    (iblk m c 14 t : S512x256.Idx → EReal) (ix2 r k) = (args m c).prev ((r.val) / 16) 1 (256 * (t.val) + k.val) := by
  have hN : t.val < 11 := lt_of_lt_of_eq t.isLt (show cfg0.N = 11 from N_0)
  obtain ⟨e0, e1⟩ := idx14 t
  unfold iblk
  rw [View.read_apply]
  have e : (((cfg0.win 14).blk t).view.emb (ix2 r k) : S512x2816.Idx) = ix2 ⟨r.val, by omega⟩ ⟨256 * (t.val) + k.val, by omega⟩ := by
    funext a; apply Fin.ext
    match a with
    | ⟨0, _⟩ => show win0_14.index t 0 * 512 + 1 * r.val = r.val; omega
    | ⟨1, _⟩ => show win0_14.index t 1 * 256 + 1 * k.val = 256 * (t.val) + k.val; omega
  show (V m c main_v33 : S512x2816.Idx → EReal) (((cfg0.win 14).blk t).view.emb (ix2 r k)) = _
  rw [e]
  exact V33_apply m c ⟨r.val, by omega⟩ ⟨256 * (t.val) + k.val, by omega⟩ (by dsimp only; omega)

/-- Window 15's block index. -/
theorem idx15 : ∀ t : Fin cfg0.N, win0_15.index t (0 : Fin 2) = 0 ∧ win0_15.index t (1 : Fin 2) = t.val :=
  (by decide +kernel : ∀ t : Fin grid0.N, _)

/-- Window 15's block at point `t`. -/
theorem blk15 (t : Fin cfg0.N) (r : Fin 512) (k : Fin 256) (h : r.val % 16 < 2) :
    (iblk m c 15 t : S512x256.Idx → EReal) (ix2 r k) = (args m c).prev ((r.val) / 16) ((r.val) % 16) (256 * (t.val) + k.val) := by
  have hN : t.val < 11 := lt_of_lt_of_eq t.isLt (show cfg0.N = 11 from N_0)
  obtain ⟨e0, e1⟩ := idx15 t
  unfold iblk
  rw [View.read_apply]
  have e : (((cfg0.win 15).blk t).view.emb (ix2 r k) : S512x2816.Idx) = ix2 ⟨r.val, by omega⟩ ⟨256 * (t.val) + k.val, by omega⟩ := by
    funext a; apply Fin.ext
    match a with
    | ⟨0, _⟩ => show win0_15.index t 0 * 512 + 1 * r.val = r.val; omega
    | ⟨1, _⟩ => show win0_15.index t 1 * 256 + 1 * k.val = 256 * (t.val) + k.val; omega
  show (V m c main_v35 : S512x2816.Idx → EReal) (((cfg0.win 15).blk t).view.emb (ix2 r k)) = _
  rw [e]
  exact V35_apply m c ⟨r.val, by omega⟩ ⟨256 * (t.val) + k.val, by omega⟩ (by dsimp only; omega)

end Cert.Kernel4Ideal.Val

end
-- ==== Proof.Ffn.Pay4.lean ====
/- The sample step's payloads of the feed-forward kernel, read at an index over the extended reals. -/
module

public import proofs.«01_k».proof.Proof.Gen.Kernel4Ideal.Skeleton
public import proofs.«01_k».proof.Proof.Ffn.Spec

@[expose] public section

set_option maxRecDepth 16384

noncomputable section

namespace Cert.Kernel4Ideal.Val

open Cert.Kernel4Ideal Cert.Kernel4Ideal.Gen Idealize.ShloMosaic Cert.Ffn

/-- The last payload: the layer norm of `√2·x1 + acc`. -/
theorem pay2_apply (x a : Vec Ideal S512x1024 .f32) (g b : Vec Ideal S1x1024 .f32) (r : Fin 512) (c : Fin 1024) :
    k0_pay2 (F := Ideal) x a g b (ix2 r c)
      = lnRow (fun c => Ideal.ofBits .f32 0x3FB504F3#32 * x (ix2 r c) + a (ix2 r c)) (fun c => at2 g 0 c)
          (fun c => at2 b 0 c) c := by
  pointwise [k0_pay2]
  unfold lnRow mean
  rw [at2_fin g, at2_fin b]
  rfl

/-- The first payloads: the layer norm of `√2·x + mix`. -/
theorem pay7_apply (a : Vec Ideal S512x256 .f32) (wa : Vec Ideal S256x1024 .bf16) (b : Vec Ideal S512x384 .f32)
    (wb : Vec Ideal S384x1024 .bf16) (d : Vec Ideal S512x384 .f32) (wd : Vec Ideal S384x1024 .bf16)
    (x : Vec Ideal S512x1024 .f32) (g be : Vec Ideal S1x1024 .f32) (r : Fin 512) (c : Fin 1024) :
    k0_pay7 (F := Ideal) (k0_pay3 g) (k0_pay4 be) (k0_pay5 a wa b wb d wd x) (k0_pay6 a wa b wb d wd x) (ix2 r c)
      = lnRow (fun c => Ideal.ofBits .f32 0x3FB504F3#32 * x (ix2 r c)
            + (∑ k : Fin 256, a (ix2 r k) * wa (ix2 k c) + ∑ k : Fin 384, b (ix2 r k) * wb (ix2 k c)
              + ∑ k : Fin 384, d (ix2 r k) * wd (ix2 k c))) (fun c => at2 g 0 c) (fun c => at2 be 0 c) c := by
  pointwise [k0_pay7, k0_pay3, k0_pay4, k0_pay5, k0_pay6]
  unfold lnRow mean
  rw [at2_fin g, at2_fin be]
  rfl

/-- The word `r mod 16` the body forms from the row number, for each of the tile's rows. -/
theorem pay14_apply (r : Fin 512) (c : Fin 256) : k0_pay14 (ix2 r c) = BitVec.ofNat 32 (r.val % 16) := by
  pointwise [k0_pay14]
  revert r
  decide +kernel

/-- The gate block. -/
theorem pay11_apply (x : Vec Ideal S512x1024 .bf16) (w : Vec Ideal S1024x256 .bf16) (r : Fin 512) (c : Fin 256) :
    k0_pay11 (F := Ideal) x w (ix2 r c) = ∑ k : Fin 1024, x (ix2 r k) * w (ix2 k c) := by
  pointwise [k0_pay11]

/-- The up block. -/
theorem pay12_apply (x : Vec Ideal S512x1024 .bf16) (w : Vec Ideal S1024x256 .bf16) (r : Fin 512) (c : Fin 256) :
    k0_pay12 (F := Ideal) x w (ix2 r c) = ∑ k : Fin 1024, x (ix2 r k) * w (ix2 k c) := by
  pointwise [k0_pay12]

/-- The gate block rolled down two rows. -/
theorem pay13_apply (x : Vec Ideal S512x1024 .bf16) (w : Vec Ideal S1024x256 .bf16) (r : Fin 512) (c : Fin 256) :
    k0_pay13 (F := Ideal) x w (ix2 r c)
      = k0_pay11 (F := Ideal) x w (ix2 ⟨(r.val + 512 - 2) % 512, Nat.mod_lt _ (by decide)⟩ c) := by
  rw [pay11_apply]
  pointwise [k0_pay13, k0_pay11]

/-- The gate block rolled down one row, with the preceding row at the sequences' first rows. -/
theorem pay15_apply (x : Vec Ideal S512x1024 .bf16) (w : Vec Ideal S1024x256 .bf16) (p : Vec Ideal S512x256 .f32)
    (r : Fin 512) (c : Fin 256) :
    k0_pay15 (F := Ideal) x w p (ix2 r c)
      = if r.val % 16 = 0 then p (ix2 r c)
        else k0_pay11 (F := Ideal) x w (ix2 ⟨(r.val + 512 - 1) % 512, Nat.mod_lt _ (by decide)⟩ c) := by
  have e : IntOp.cmpi .eq (k0_pay14 (ix2 r c)) 0#32 = if r.val % 16 = 0 then 1#1 else 0#1 := by
    rw [pay14_apply]; clear p x w; revert r; decide +kernel
  rw [pay11_apply]
  pointwise [k0_pay15, k0_pay11]
  rw [e]
  split <;> rfl

/-- Whether a row is one of its sequence's first two. -/
theorem lt2_apply (r : Fin 512) (c : Fin 256) :
    IntOp.cmpi .slt (k0_pay14 (ix2 r c)) (k0_pay16 (ix2 r c)) = if r.val % 16 < 2 then 1#1 else 0#1 := by
  rw [pay14_apply]
  pointwise [k0_pay16]
  revert r; decide +kernel

/-- The accumulator's payload: the old contents plus the activation block times its rows of `w_down`. -/
theorem pay17_apply (v6 v9 v11 h1 p2 : Vec Ideal S512x256 .f32) (cw : Vec Ideal S3x256 .f32) (cb : Vec Ideal S1x256 .f32)
    (acc : Vec Ideal S512x1024 .f32) (wd : Vec Ideal S256x1024 .bf16) (r : Fin 512) (c : Fin 1024) :
    k0_pay17 (F := Ideal) v6 v9 v11 k0_pay14 h1 k0_pay16 p2 cw cb acc wd (ix2 r c)
      = acc (ix2 r c) + ∑ k : Fin 256,
          gelu (cb (ix2 0 k) + cw (ix2 0 k) * (if r.val % 16 < 2 then p2 (ix2 r k) else v11 (ix2 r k))
            + cw (ix2 1 k) * h1 (ix2 r k) + cw (ix2 2 k) * v6 (ix2 r k)) * v9 (ix2 r k) * wd (ix2 k c) := by
  have e : ∀ k : Fin 256, Scalar.select (IntOp.cmpi .slt (k0_pay14 (ix2 r k)) (k0_pay16 (ix2 r k))) (p2 (ix2 r k)) (v11 (ix2 r k))
      = if r.val % 16 < 2 then p2 (ix2 r k) else v11 (ix2 r k) := by
    intro k; rw [lt2_apply]; split <;> rfl
  pointwise [k0_pay17]
  simp only [e]
  rfl

end Cert.Kernel4Ideal.Val

end
-- ==== Proof.Ffn.Sweep4.lean ====
/-
  The sample step's sweep over the column blocks at the ideal instance: after each point the scratch buffers hold the
  normalised rows and the down projection's sum over the columns seen, the gate's block is written at each point, and the
  output block at the last.
-/
module

public import proofs.«01_k».proof.Proof.Gen.Kernel4Ideal.Value
public import proofs.«01_k».proof.Proof.Ffn.Cases4
public import proofs.«01_k».proof.Proof.Ffn.Blocks4
public import proofs.«01_k».proof.Proof.Ffn.Pay4

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Cert.Ffn

/-- The normalised rows, of any blocks that hold the specification's arguments. -/
theorem X1_of (A : Args) (x : S512x1024.Idx → EReal) (oa : S512x256.Idx → EReal) (ob oc : S512x384.Idx → EReal)
    (wo : S1024x1024.Idx → EReal) (g b : S1x1024.Idx → EReal)
    (hx : ∀ r k, x (ix2 r k) = A.x r.val k.val) (hoa : ∀ r k, oa (ix2 r k) = A.oa r.val k.val)
    (hob : ∀ r k, ob (ix2 r k) = A.ob r.val k.val) (hoc : ∀ r k, oc (ix2 r k) = A.oc r.val k.val)
    (hwo : ∀ i j, wo (ix2 i j) = A.wo i.val j.val)
    (hg : ∀ k : Fin 1024, at2 g 0 k.val = A.g1 k.val) (hb : ∀ k : Fin 1024, at2 b 0 k.val = A.b1 k.val)
    (r : Fin 512) (k : Fin 1024) : X1 (F := Ideal) x oa ob oc wo g b (ix2 r k) = x1 A r.val k := by
  unfold X1
  dsimp only
  rw [pay7_apply]
  refine lnRow_congr (fun j => ?_) (hg k) (hb k)
  unfold mixRow
  pointwise
  simp only [hx, hoa, hob, hoc, hwo]

/-- One point's step of the accumulator, of any blocks that hold the specification's columns from `n` on. -/
theorem Acc_of (A : Args) (n : ℕ) (xb : S512x1024.Idx → EReal) (wg wu : S1024x256.Idx → EReal) (cw : S3x256.Idx → EReal)
    (cb : S1x256.Idx → EReal) (wd : S256x1024.Idx → EReal) (p1 p2 : S512x256.Idx → EReal) (acc : S512x1024.Idx → EReal)
    (hcw : ∀ i j, cw (ix2 i j) = A.cw i.val (n + j.val)) (hcb : ∀ j, cb (ix2 0 j) = A.cb (n + j.val))
    (hwd : ∀ j k, wd (ix2 j k) = A.wd (n + j.val) k.val)
    (h0 : ∀ r j, k0_pay11 (F := Ideal) xb wg (ix2 r j) = hg A r.val (n + j.val))
    (hu' : ∀ r j, k0_pay12 (F := Ideal) xb wu (ix2 r j) = hu A r.val (n + j.val))
    (h1 : ∀ r j, k0_pay15 (F := Ideal) xb wg p1 (ix2 r j) = back1 A 16 r.val (n + j.val))
    (h2 : ∀ (r : Fin 512) (j : Fin 256), (if r.val % 16 < 2 then p2 (ix2 r j) else k0_pay13 (F := Ideal) xb wg (ix2 r j)) = back2 A 16 r.val (n + j.val))
    (r : Fin 512) (k : Fin 1024) (ha : acc (ix2 r k) = down A 16 n r.val k) :
    Acc (F := Ideal) xb wg wu cw cb wd p1 p2 acc (ix2 r k) = down A 16 (n + 256) r.val k := by
  unfold Acc
  rw [pay17_apply, down_add, ha]
  refine congrArg₂ (· + ·) rfl (Finset.sum_congr rfl fun j _ => ?_)
  rw [h2, h1, h0, hu', hcb, hcw, hcw, hcw, hwd]
  rfl

variable (m : (ℓ : Loc nD τ sig) → Buf (Elt Ideal) ℓ) (c : Dev nD)

/-- The first point's normalised rows are the specification's. -/
theorem X1_apply (t : Fin cfg0.N) (r : Fin 512) (k : Fin 1024) :
    X1 (F := Ideal) (iblk m c 0 t) (iblk m c 1 t) (iblk m c 2 t) (iblk m c 3 t) (iblk m c 4 t) (iblk m c 5 t) (iblk m c 6 t) (ix2 r k)
      = x1 (args m c) r.val k :=
  X1_of (args m c) _ _ _ _ _ _ _ (blk0 m c t) (blk1 m c t) (blk2 m c t) (blk3 m c t) (blk4 m c t)
    (fun k => (at2_fin _ (0 : Fin 1) k).symm.trans (blk5 m c t k)) (fun k => (at2_fin _ (0 : Fin 1) k).symm.trans (blk6 m c t k)) r k

section step

variable (t : Fin cfg0.N) (xb : S512x1024.Idx → EReal) (hx : ∀ r k, xb (ix2 r k) = x1 (args m c) r.val k)
include hx

/-- The point's block of the gate. -/
theorem hg_apply (r : Fin 512) (j : Fin 256) :
    k0_pay11 (F := Ideal) xb (iblk m c 7 t) (ix2 r j) = hg (args m c) r.val (256 * t.val + j.val) := by
  rw [pay11_apply]
  exact Finset.sum_congr rfl fun k _ => congrArg₂ (· * ·) (hx r k) (blk7 m c t k j)

/-- The point's block of the up projection. -/
theorem hu_apply (r : Fin 512) (j : Fin 256) :
    k0_pay12 (F := Ideal) xb (iblk m c 8 t) (ix2 r j) = hu (args m c) r.val (256 * t.val + j.val) := by
  rw [pay12_apply]
  exact Finset.sum_congr rfl fun k _ => congrArg₂ (· * ·) (hx r k) (blk8 m c t k j)

/-- The gate one row back. -/
theorem back1_apply (r : Fin 512) (j : Fin 256) :
    k0_pay15 (F := Ideal) xb (iblk m c 7 t) (iblk m c 14 t) (ix2 r j) = back1 (args m c) 16 r.val (256 * t.val + j.val) := by
  rw [pay15_apply]
  unfold back1
  by_cases h : r.val % 16 = 0
  · rw [if_pos h, if_pos h]; exact blk14 m c t r j h
  · rw [if_neg h, if_neg h, hg_apply m c t xb hx]
    congr 1
    dsimp only
    have := r.isLt
    omega

/-- The gate two rows back. -/
theorem back2_apply (r : Fin 512) (j : Fin 256) :
    (if r.val % 16 < 2 then (iblk m c 15 t : S512x256.Idx → EReal) (ix2 r j) else k0_pay13 (F := Ideal) xb (iblk m c 7 t) (ix2 r j))
      = back2 (args m c) 16 r.val (256 * t.val + j.val) := by
  unfold back2
  by_cases h : r.val % 16 < 2
  · rw [if_pos h, if_pos h]; exact blk15 m c t r j h
  · rw [if_neg h, if_neg h, pay13_apply, hg_apply m c t xb hx]
    congr 1
    dsimp only
    have := r.isLt
    omega

/-- One point's step of the accumulator. -/
theorem Acc_apply (acc : S512x1024.Idx → EReal) (r : Fin 512) (k : Fin 1024)
    (ha : acc (ix2 r k) = down (args m c) 16 (256 * t.val) r.val k) :
    Acc (F := Ideal) xb (iblk m c 7 t) (iblk m c 8 t) (iblk m c 9 t) (iblk m c 10 t) (iblk m c 11 t) (iblk m c 14 t) (iblk m c 15 t) acc (ix2 r k)
      = down (args m c) 16 (256 * t.val + 256) r.val k :=
  Acc_of (args m c) (256 * t.val) xb _ _ _ _ _ _ _ acc (blk9 m c t) (blk10 m c t) (blk11 m c t) (hg_apply m c t xb hx)
    (hu_apply m c t xb hx) (back1_apply m c t xb hx) (back2_apply m c t xb hx) r k ha

end step

/-- After point `n` the scratch buffers hold the normalised rows, twice, and the sum over the first `256·(n+1)` columns. -/
theorem sweep : ∀ (n : ℕ) (hn : n < cfg0.N),
    (∀ r k, ((outsAt0 m c n hn).2.2.1 : S512x1024.Idx → EReal) (ix2 r k) = x1 (args m c) r.val k)
    ∧ (∀ r k, ((outsAt0 m c n hn).2.2.2.1 : S512x1024.Idx → EReal) (ix2 r k) = x1 (args m c) r.val k)
    ∧ (∀ r k, ((outsAt0 m c n hn).2.2.2.2 : S512x1024.Idx → EReal) (ix2 r k) = down (args m c) 16 (256 * n + 256) r.val k)
  | 0, hn => by
    refine ⟨fun r k => ?_, fun r k => ?_, fun r k => ?_⟩
    · rw [A_x1 m c ⟨0, hn⟩ rfl (by dsimp only; decide)]; exact X1_apply m c ⟨0, hn⟩ r k
    · rw [A_x1b m c ⟨0, hn⟩ rfl (by dsimp only; decide)]; exact X1_apply m c ⟨0, hn⟩ r k
    · rw [A_acc m c ⟨0, hn⟩ rfl (by dsimp only; decide)]
      refine Acc_apply m c ⟨0, hn⟩ _ (fun r k => X1_apply m c ⟨0, hn⟩ r k) _ r k ?_
      unfold down k0_pay10
      pointwise
      rfl
  | n + 1, hn => by
    obtain ⟨i1, i2, i3⟩ := sweep n (Nat.lt_of_succ_lt hn)
    have hN : n + 1 < 11 := lt_of_lt_of_eq hn (show cfg0.N = 11 from N_0)
    have h0 : ¬(⟨n + 1, hn⟩ : Fin cfg0.N).val % 11 = 0 := by dsimp only; omega
    by_cases h1 : (⟨n + 1, hn⟩ : Fin cfg0.N).val % 11 = 10
    · refine ⟨fun r k => ?_, fun r k => ?_, fun r k => ?_⟩
      · rw [C_x1 m c ⟨n + 1, hn⟩ h0 h1 n (Nat.lt_of_succ_lt hn) rfl]; exact i1 r k
      · rw [C_x1b m c ⟨n + 1, hn⟩ h0 h1 n (Nat.lt_of_succ_lt hn) rfl]; exact i2 r k
      · rw [C_acc m c ⟨n + 1, hn⟩ h0 h1 n (Nat.lt_of_succ_lt hn) rfl]
        exact Acc_apply m c ⟨n + 1, hn⟩ _ i2 _ r k (i3 r k)
    · refine ⟨fun r k => ?_, fun r k => ?_, fun r k => ?_⟩
      · rw [B_x1 m c ⟨n + 1, hn⟩ h0 h1 n (Nat.lt_of_succ_lt hn) rfl]; exact i1 r k
      · rw [B_x1b m c ⟨n + 1, hn⟩ h0 h1 n (Nat.lt_of_succ_lt hn) rfl]; exact i2 r k
      · rw [B_acc m c ⟨n + 1, hn⟩ h0 h1 n (Nat.lt_of_succ_lt hn) rfl]
        exact Acc_apply m c ⟨n + 1, hn⟩ _ i2 _ r k (i3 r k)

/-- The gate's block after point `n`. -/
theorem gate (n : ℕ) (hn : n < cfg0.N) (r : Fin 512) (j : Fin 256) :
    ((outsAt0 m c n hn).2.1 : S512x256.Idx → EReal) (ix2 r j) = hg (args m c) r.val (256 * n + j.val) := by
  have hN : n < 11 := lt_of_lt_of_eq hn (show cfg0.N = 11 from N_0)
  match n, hn with
  | 0, hn =>
    rw [A_hg m c ⟨0, hn⟩ rfl (by dsimp only; decide)]
    exact hg_apply m c ⟨0, hn⟩ _ (fun r k => X1_apply m c ⟨0, hn⟩ r k) r j
  | n + 1, hn =>
    obtain ⟨i1, i2, i3⟩ := sweep m c n (Nat.lt_of_succ_lt hn)
    have h0 : ¬(⟨n + 1, hn⟩ : Fin cfg0.N).val % 11 = 0 := by dsimp only; omega
    by_cases h1 : (⟨n + 1, hn⟩ : Fin cfg0.N).val % 11 = 10
    · rw [C_hg m c ⟨n + 1, hn⟩ h0 h1 n (Nat.lt_of_succ_lt hn) rfl]
      exact hg_apply m c ⟨n + 1, hn⟩ _ i2 r j
    · rw [B_hg m c ⟨n + 1, hn⟩ h0 h1 n (Nat.lt_of_succ_lt hn) rfl]
      exact hg_apply m c ⟨n + 1, hn⟩ _ i2 r j

/-- The output block after the last point. -/
theorem outY (hn : 10 < cfg0.N) (r : Fin 512) (k : Fin 1024) :
    ((outsAt0 m c 10 hn).1 : S512x1024.Idx → EReal) (ix2 r k) = y (args m c) 16 r.val k := by
  obtain ⟨i1, i2, i3⟩ := sweep m c 9 (Nat.lt_of_succ_lt hn)
  rw [C_y m c ⟨10, hn⟩ (by dsimp only; decide) rfl 9 (Nat.lt_of_succ_lt hn) rfl, pay2_apply]
  refine lnRow_congr (fun j => ?_) ((at2_fin _ (0 : Fin 1) k).symm.trans (blk12 m c ⟨10, hn⟩ k))
    ((at2_fin _ (0 : Fin 1) k).symm.trans (blk13 m c ⟨10, hn⟩ k))
  exact congrArg₂ (· + ·) (congrArg (_ * ·) (i1 r j)) (Acc_apply m c ⟨10, hn⟩ _ i2 _ r j (i3 r j))

end Cert.Kernel4Ideal.Val

end
-- ==== Proof.Ffn.Ref4.lean ====
/-
  The reference of the sample step read at an index, at the ideal instance: its two results are the specification's
  output rows and gate rows. Row `16·b + t` is position `t` of sequence `b`.
-/
module

public import proofs.«01_k».proof.Proof.Gen.Reference4Ideal.Read
public import proofs.«01_k».proof.Proof.Ffn.Spec

@[expose] public section

set_option maxRecDepth 16384

noncomputable section

namespace Cert.Reference4Ideal.Val

open Cert.Reference4Ideal Cert.Reference4Ideal.Gen Cert.Reference4Ideal.Read
open Idealize.ShloMosaic Idealize.ShloMosaic.TcCoe Idealize.SL.Sem
open Cert.Ffn

variable (x0 : (⟨S32x16x1024, .f32⟩ : BufTy).Contents (Elt Ideal)) (x1' : (⟨S32x16x256, .f32⟩ : BufTy).Contents (Elt Ideal))
  (x2 x3 : (⟨S32x16x384, .f32⟩ : BufTy).Contents (Elt Ideal)) (x4 : (⟨S32x2x2816, .f32⟩ : BufTy).Contents (Elt Ideal))
  (x5 : (⟨S1024x1024, .f32⟩ : BufTy).Contents (Elt Ideal)) (x6 x7 : (⟨S1024, .f32⟩ : BufTy).Contents (Elt Ideal))
  (x8 x9 : (⟨S1024x2816, .f32⟩ : BufTy).Contents (Elt Ideal)) (x10 : (⟨S3x2816, .f32⟩ : BufTy).Contents (Elt Ideal))
  (x11 : (⟨S2816, .f32⟩ : BufTy).Contents (Elt Ideal)) (x12 : (⟨S2816x1024, .f32⟩ : BufTy).Contents (Elt Ideal))
  (x13 x14 : (⟨S1024, .f32⟩ : BufTy).Contents (Elt Ideal))

/-- The arguments as functions of natural numbers. -/
def rargs : Args where
  x r k := at3 x0 (r / 16) (r % 16) k
  oa r k := at3 x1' (r / 16) (r % 16) k
  ob r k := at3 x2 (r / 16) (r % 16) k
  oc r k := at3 x3 (r / 16) (r % 16) k
  prev b i f := at3 x4 b i f
  wo k n := at2 x5 k n
  g1 k := at1 x6 k
  b1 k := at1 x7 k
  wg k n := at2 x8 k n
  wu k n := at2 x9 k n
  cw k n := at2 x10 k n
  cb k := at1 x11 k
  wd k n := at2 x12 k n
  g2 k := at1 x13 k
  b2 k := at1 x14 k

local notation "RA" => rargs x0 x1' x2 x3 x4 x5 x6 x7 x8 x9 x10 x11 x12 x13 x14

/-- A rank-3 array at row `16·b + t` of its flattening. -/
theorem at_row {d : ℕ} (A : (⟨3, ![32, 16, d]⟩ : Shape).Idx → EReal) (b : Fin 32) (t : Fin 16) (k : Fin d) :
    A (ix3 b t k) = at3 A ((16 * b.val + t.val) / 16) ((16 * b.val + t.val) % 16) k.val := by
  rw [at3_fin (a := 32) (b := 16) (d := d) A, show (16 * b.val + t.val) / 16 = b.val by omega, show (16 * b.val + t.val) % 16 = t.val by omega]

/-- The concatenated mixer outputs. -/
theorem v0_apply (b : Fin 32) (t : Fin 16) (n : Fin 1024) : val_main_v0 (F := Ideal) x1' x2 x3 (ix3 b t n)
      = mixed (at3 x1' ((16 * b.val + t.val) / 16) ((16 * b.val + t.val) % 16)) (at3 x2 ((16 * b.val + t.val) / 16) ((16 * b.val + t.val) % 16))
          (at3 x3 ((16 * b.val + t.val) / 16) ((16 * b.val + t.val) % 16)) n.val := by
  have hn := n.isLt
  pointwise [val_main_v0]
  unfold mixed
  by_cases h1 : n.val < 256
  · rw [dif_pos h1, if_pos h1]
    exact at_row x1' b t ⟨n.val, h1⟩
  · rw [dif_neg h1, if_neg h1]
    by_cases h2 : n.val < 640
    · rw [dif_pos (by omega), if_pos h2]
      exact at_row x2 b t ⟨n.val - 256, by omega⟩
    · rw [dif_neg (by omega), if_neg h2]
      exact (at_row x3 b t ⟨n.val - 256 - 384, by omega⟩).trans (congrArg (at3 x3 _ _) (Nat.sub_sub n.val 256 384))

/-- The concatenated mixer outputs times `w_out`. -/
theorem v3_apply (b : Fin 32) (t : Fin 16) (k : Fin 1024) :
    ∑ n : Fin 1024, val_main_v0 (F := Ideal) x1' x2 x3 (ix3 b t n) * x5 (ix2 n k)
      = mixRow (at3 x1' ((16 * b.val + t.val) / 16) ((16 * b.val + t.val) % 16)) (at3 x2 ((16 * b.val + t.val) / 16) ((16 * b.val + t.val) % 16))
          (at3 x3 ((16 * b.val + t.val) / 16) ((16 * b.val + t.val) % 16)) (at2 x5) k.val := by
  rw [← mixed_sum]
  exact Finset.sum_congr rfl fun n _ => congrArg₂ (· * ·) (v0_apply x1' x2 x3 b t n) (at2_fin _ _ _)

/-- The rows before the first normalisation. -/
theorem v4_apply (b : Fin 32) (t : Fin 16) (k : Fin 1024) : val_main_v4 (F := Ideal) x0 x1' x2 x3 x5 (ix3 b t k)
      = Ideal.ofBits .f32 0x3FB504F3#32 * (RA).x (16 * b.val + t.val) k.val
        + mixRow ((RA).oa (16 * b.val + t.val)) ((RA).ob (16 * b.val + t.val)) ((RA).oc (16 * b.val + t.val)) (RA).wo k.val := by
  pointwise [val_main_v4, val_main_v3, val_main_v2, val_main_v1, val_main_cst]
  exact congrArg₂ (· + ·) (congrArg (_ * ·) (at_row x0 b t k)) (v3_apply x1' x2 x3 x5 b t k)

/-- The normalised rows. -/
theorem v28_apply (b : Fin 32) (t : Fin 16) (k : Fin 1024) : val_main_v28 (F := Ideal) x0 x1' x2 x3 x5 x6 x7 (ix3 b t k)
      = x1 RA (16 * b.val + t.val) k := by
  refine Eq.trans (b := lnRow (fun j => val_main_v4 (F := Ideal) x0 x1' x2 x3 x5 (ix3 b t j)) (at1 (a := 1024) x6) (at1 (a := 1024) x7) k) ?_ ?_
  · pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4]
    rw [at1_fin (a := 1024) x6, at1_fin (a := 1024) x7]
    rfl
  · exact lnRow_congr (fun j => v4_apply x0 x1' x2 x3 x4 x5 x6 x7 x8 x9 x10 x11 x12 x13 x14 b t j) rfl rfl

/-- The gate projection. -/
theorem v29_apply (b : Fin 32) (t : Fin 16) (f : Fin 2816) : val_main_v29 (F := Ideal) x0 x1' x2 x3 x5 x6 x7 x8 (ix3 b t f)
      = hg RA (16 * b.val + t.val) f.val := by
  pointwise [val_main_v29]
  exact Finset.sum_congr rfl fun k _ => congrArg₂ (· * ·) (v28_apply x0 x1' x2 x3 x4 x5 x6 x7 x8 x9 x10 x11 x12 x13 x14 b t k) (at2_fin _ _ _)

/-- The up projection. -/
theorem v30_apply (b : Fin 32) (t : Fin 16) (f : Fin 2816) : val_main_v30 (F := Ideal) x0 x1' x2 x3 x5 x6 x7 x9 (ix3 b t f)
      = hu RA (16 * b.val + t.val) f.val := by
  pointwise [val_main_v30]
  exact Finset.sum_congr rfl fun k _ => congrArg₂ (· * ·) (v28_apply x0 x1' x2 x3 x4 x5 x6 x7 x8 x9 x10 x11 x12 x13 x14 b t k) (at2_fin _ _ _)

/-- The gate with the two rows that precede its sequence. -/
theorem v31_apply (b : Fin 32) (t : Fin 18) (f : Fin 2816) : val_main_v31 (F := Ideal) x0 x1' x2 x3 x4 x5 x6 x7 x8 (ix3 b t f)
      = if t.val < 2 then (RA).prev b.val t.val f.val else hg RA (16 * b.val + (t.val - 2)) f.val := by
  pointwise [val_main_v31]
  by_cases h : t.val < 2
  · rw [dif_pos h, if_pos h]
    exact at3_fin _ _ _ _
  · rw [dif_neg h, if_neg h]
    exact v29_apply x0 x1' x2 x3 x4 x5 x6 x7 x8 x9 x10 x11 x12 x13 x14 b ⟨t.val - 2, by omega⟩ f

/-- The causal convolution. -/
theorem v56_apply (b : Fin 32) (t : Fin 16) (f : Fin 2816) : val_main_v56 (F := Ideal) x0 x1' x2 x3 x4 x5 x6 x7 x8 x10 x11 (ix3 b t f)
      = conv RA 16 (16 * b.val + t.val) f.val := by
  have ht := t.isLt
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_cst_5]
  simp only [v31_apply x0 x1' x2 x3 x4 x5 x6 x7 x8 x9 x10 x11 x12 x13 x14]
  have hb : (16 * b.val + t.val) / 16 = b.val := by omega
  have hm : (16 * b.val + t.val) % 16 = t.val := by omega
  have e2 : (if t.val < 2 then (RA).prev b.val t.val f.val else hg RA (16 * b.val + (t.val - 2)) f.val)
      = back2 RA 16 (16 * b.val + t.val) f.val := by
    unfold back2
    rw [hb, hm]
    by_cases h : t.val < 2
    · rw [if_pos h, if_pos h]
    · rw [if_neg h, if_neg h, Nat.add_sub_assoc (by omega)]
  have e1 : (if 1 + t.val < 2 then (RA).prev b.val (1 + t.val) f.val else hg RA (16 * b.val + (1 + t.val - 2)) f.val)
      = back1 RA 16 (16 * b.val + t.val) f.val := by
    unfold back1
    rw [hb, hm]
    by_cases h : t.val = 0
    · rw [if_pos (by omega), if_pos h, h]
    · rw [if_neg (by omega), if_neg h, show 16 * b.val + (1 + t.val - 2) = 16 * b.val + t.val - 1 by omega]
  have e0 : (if 2 + t.val < 2 then (RA).prev b.val (2 + t.val) f.val else hg RA (16 * b.val + (2 + t.val - 2)) f.val)
      = hg RA (16 * b.val + t.val) f.val := by
    rw [if_neg (by omega), show 2 + t.val - 2 = t.val by omega]
  rw [e2, e1, e0, at1_fin (a := 2816) x11, at2_fin (a := 3) (b := 2816) x10, at2_fin (a := 3) (b := 2816) x10 1, at2_fin (a := 3) (b := 2816) x10 2, ← add_assoc, ← add_assoc]
  rfl

/-- The down projection. -/
theorem v71_apply (b : Fin 32) (t : Fin 16) (k : Fin 1024) : val_main_v71 (F := Ideal) x0 x1' x2 x3 x4 x5 x6 x7 x8 x9 x10 x11 x12 (ix3 b t k)
      = down RA 16 2816 (16 * b.val + t.val) k := by
  pointwise [val_main_v71]
  unfold down
  rw [Finset.sum_range]
  refine Finset.sum_congr rfl fun f _ => congrArg₂ (· * ·) ?_ (at2_fin _ _ _)
  pointwise [val_main_v70, val_main_v69, val_main_v68, val_main_v67, val_main_v66, val_main_v65, val_main_v64, val_main_v63, val_main_v62, val_main_v61, val_main_v60, val_main_v59, val_main_v58, val_main_v57, val_main_cst_6, val_main_cst_7, val_main_cst_8, val_main_cst_9]
  rw [v56_apply x0 x1' x2 x3 x4 x5 x6 x7 x8 x9 x10 x11 x12 x13 x14, v30_apply x0 x1' x2 x3 x4 x5 x6 x7 x8 x9 x10 x11 x12 x13 x14]
  unfold act gelu
  simp only [mul_assoc]

/-- The output rows. -/
theorem v98_apply (b : Fin 32) (t : Fin 16) (k : Fin 1024) : val_main_v98 (F := Ideal) x0 x1' x2 x3 x4 x5 x6 x7 x8 x9 x10 x11 x12 x13 x14 (ix3 b t k)
      = y RA 16 (16 * b.val + t.val) k := by
  refine Eq.trans (b := lnRow (fun j => val_main_v74 (F := Ideal) x0 x1' x2 x3 x4 x5 x6 x7 x8 x9 x10 x11 x12 (ix3 b t j)) (at1 (a := 1024) x13) (at1 (a := 1024) x14) k) ?_ ?_
  · pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_cst_11, val_main_cst_12, val_main_cst_13, val_main_cst_14, val_main_cst_15]
    rw [at1_fin (a := 1024) x13, at1_fin (a := 1024) x14]
    rfl
  · refine lnRow_congr (fun j => ?_) rfl rfl
    pointwise [val_main_v74, val_main_v73, val_main_v72, val_main_cst_10]
    rw [v28_apply x0 x1' x2 x3 x4 x5 x6 x7 x8 x9 x10 x11 x12 x13 x14, v71_apply x0 x1' x2 x3 x4 x5 x6 x7 x8 x9 x10 x11 x12 x13 x14]

/-- The first result. -/
theorem v99_apply (r : Fin 512) (k : Fin 1024) : val_main_v99 (F := Ideal) x0 x1' x2 x3 x4 x5 x6 x7 x8 x9 x10 x11 x12 x13 x14 (ix2 r k)
      = y RA 16 r.val k := by
  have hr := r.isLt
  pointwise [val_main_v99]
  refine (v98_apply x0 x1' x2 x3 x4 x5 x6 x7 x8 x9 x10 x11 x12 x13 x14 _ _ _).trans ?_
  dsimp only
  rw [Nat.div_add_mod]

/-- The second result. -/
theorem v100_apply (r : Fin 512) (f : Fin 2816) : val_main_v100 (F := Ideal) x0 x1' x2 x3 x5 x6 x7 x8 (ix2 r f)
      = hg RA r.val f.val := by
  have hr := r.isLt
  pointwise [val_main_v100]
  refine (v29_apply x0 x1' x2 x3 x4 x5 x6 x7 x8 x9 x10 x11 x12 x13 x14 _ _ _).trans ?_
  dsimp only
  rw [Nat.div_add_mod]

end Cert.Reference4Ideal.Val

end
-- ==== Proof.Ffn.Claim4.lean ====
/-
  The sample step's claims: the launches' frames, and the equality of the kernel's two results with the reference's.
-/
module

public import proofs.«01_k».proof.Defs
public import proofs.«01_k».proof.Proof.Gen.Kernel4.Frame
public import proofs.«01_k».proof.Proof.Ffn.Sweep4
public import proofs.«01_k».proof.Proof.Ffn.Ref4

@[expose] public section

set_option maxRecDepth 16384

noncomputable section

namespace Cert.Ffn.Claim4

open Idealize.ShloMosaic Idealize.ShloMosaic.TcCoe Idealize.SL.Sem Idealize.ShloMosaic.StableHlo

section kernel

open Cert.Kernel4Ideal Cert.Kernel4Ideal.Gen Cert.Kernel4Ideal.Value Cert.Kernel4Ideal.Val

variable (m : (ℓ : Loc nD τ sig) → Buf (Elt Ideal) ℓ) (c : Dev nD)

/-- The kernel's first result, read at an index. -/
theorem out_apply (r : Fin 512) (k : Fin 1024) : (G16 m c : S512x1024.Idx → EReal) (ix2 r k) = y (args m c) 16 r.val k := by
  rw [G16_last, ← outsAt0_sweep m c 10 (lt_of_lt_of_eq (by decide) N_0.symm)]
  exact outY m c _ r k

/-- The kernel's second result, read at an index. -/
theorem gate_apply (r : Fin 512) (f : Fin 2816) : (G17 m c : S512x2816.Idx → EReal) (ix2 r f) = hg (args m c) r.val f.val := by
  have hr := r.isLt
  have hf := f.isLt
  have hp : pt17Of (ix2 r f) = f.val / 256 := by
    show 11 * (r.val / 512 - 0) + 1 * (f.val / 256 - 0) = _
    omega
  have hlt : pt17Of (ix2 r f) < cfg0.N := by rw [hp]; exact lt_of_lt_of_eq (by omega) N_0.symm
  unfold G17
  rw [dif_pos hlt, ← outsAt0_sweep m c _ hlt]
  have hl : loc17Of (ix2 r f) = ix2 (⟨r.val, hr⟩ : Fin 512) (⟨f.val % 256, by omega⟩ : Fin 256) := by
    funext a
    match a with
    | ⟨0, _⟩ => exact Fin.ext (Nat.mod_eq_of_lt hr)
    | ⟨1, _⟩ => rfl
  rw [hl]
  refine (gate m c _ hlt _ _).trans ?_
  dsimp only
  rw [hp, Nat.div_add_mod]

end kernel

/-- The kernel's frame on the machine's words. -/
theorem frame_kernel : Cert.quiescent_Kernel4 := fun m ρ _ => Cert.Kernel4.Gen.frame m ρ

/-- The kernel's frame at the ideal instance. -/
theorem frame_kernelIdeal : Cert.quiescent_Kernel4Ideal := fun m ρ _ => Cert.Kernel4Ideal.Gen.frame m ρ

/-- The reference's frame at the ideal instance. -/
theorem frame_referenceIdeal : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- No operation was rewritten. -/
theorem preserves : Cert.preserves_Kernel4_Kernel4Ideal := trivial

/-- At the ideal instance the kernel's output rows and gate rows are the reference's. -/
theorem algebraic : Cert.algebraic_Kernel4Ideal_Reference4Ideal := by
  intro m ρ m' ρ' _ hag
  refine ⟨fun c => Cert.Kernel4Ideal.Value.G16 m c, fun c => Cert.Kernel4Ideal.Value.G17 m c,
    Cert.Kernel4Ideal.Value.run m ρ, ?_⟩
  have ha (c : Dev Cert.Kernel4Ideal.nD) : Cert.Reference4Ideal.Val.rargs
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
      (m' ((c.tc : Thread Cert.Reference4Ideal.nD Cert.Reference4Ideal.τ).loc Cert.Reference4Ideal.main_arg11))
      (m' ((c.tc : Thread Cert.Reference4Ideal.nD Cert.Reference4Ideal.τ).loc Cert.Reference4Ideal.main_arg12))
      (m' ((c.tc : Thread Cert.Reference4Ideal.nD Cert.Reference4Ideal.τ).loc Cert.Reference4Ideal.main_arg13))
      (m' ((c.tc : Thread Cert.Reference4Ideal.nD Cert.Reference4Ideal.τ).loc Cert.Reference4Ideal.main_arg14))
      = Cert.Kernel4Ideal.Val.args m c := by
    obtain ⟨a0, a1, a2, a3, a4, a5, a6, a7, a8, a9, a10, a11, a12, a13, a14⟩ := hag c
    rw [a0, a1, a2, a3, a4, a5, a6, a7, a8, a9, a10, a11, a12, a13, a14]
    rfl
  refine (θ_run Cert.Reference4Ideal.defs _ _).mono (fun r h c => ⟨(h c).1.trans ?_, (h c).2.1.trans ?_, (h c).2.2⟩)
    (Cert.Reference4Ideal.Value.run (F := Ideal) m' ρ')
  · refine (Cert.Reference4Ideal.Read.val_main_v99_eq (launchContents m' c)).trans ?_
    funext i
    idx_vars i
    refine (Cert.Reference4Ideal.Val.v99_apply _ _ _ _ _ _ _ _ _ _ _ _ _ _ _ _ _).trans ?_
    refine Eq.trans ?_ (out_apply m c _ _).symm
    exact congrArg (fun A => y A 16 _ _) (ha c)
  · refine (Cert.Reference4Ideal.Read.val_main_v100_eq (launchContents m' c)).trans ?_
    funext i
    idx_vars i
    refine (Cert.Reference4Ideal.Val.v100_apply _ _ _ _
      (m' ((c.tc : Thread Cert.Reference4Ideal.nD Cert.Reference4Ideal.τ).loc Cert.Reference4Ideal.main_arg4)) _ _ _ _
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10))
      (m' ((c.tc : Thread Cert.Reference4Ideal.nD Cert.Reference4Ideal.τ).loc Cert.Reference4Ideal.main_arg11))
      (m' ((c.tc : Thread Cert.Reference4Ideal.nD Cert.Reference4Ideal.τ).loc Cert.Reference4Ideal.main_arg12))
      (m' ((c.tc : Thread Cert.Reference4Ideal.nD Cert.Reference4Ideal.τ).loc Cert.Reference4Ideal.main_arg13))
      (m' ((c.tc : Thread Cert.Reference4Ideal.nD Cert.Reference4Ideal.τ).loc Cert.Reference4Ideal.main_arg14)) _ _).trans ?_
    refine Eq.trans ?_ (gate_apply m c _ _).symm
    exact congrArg (fun A => hg A _ _) (ha c)

end Cert.Ffn.Claim4

end
-- ==== Proof.Proj.Spec.lean ====
/- The projection of the layer input, over the extended reals. -/
module

public import proofs.«01_k».proof.Proof.Ffn.Spec

@[expose] public section

set_option maxRecDepth 16384

noncomputable section

namespace Cert.Proj

open Idealize.ShloMosaic Cert.Ffn

/-- The word of `64 ^ (-1/2)`, the scale of the attention's queries. -/
abbrev scale : EReal := Ideal.ofBits .f32 0x3E000000#32

/-- The scale is one eighth. -/
theorem scale_eq : scale = (((1 : ℝ) / 8 : ℝ) : EReal) := by
  simp [scale, Ideal.ofBits, Ideal.ieee, -EReal.coe_mul]
  norm_num

/-- The scale can be taken out of a sum. -/
theorem sum_scale {ι : Type} (s : Finset ι) (f g : ι → EReal) :
    ∑ k ∈ s, f k * (g k * scale) = (∑ k ∈ s, f k * g k) * scale := by
  classical
  have h0 : 0 ≤ scale := by rw [scale_eq]; exact EReal.coe_nonneg.2 (by norm_num)
  have h1 : scale ≠ ⊤ := by rw [scale_eq]; exact EReal.coe_ne_top _
  induction s using Finset.induction_on with
  | empty => simp
  | insert a s ha ih =>
    rw [Finset.sum_insert ha, Finset.sum_insert ha, ih, EReal.right_distrib_of_nonneg_of_ne_top h0 h1, mul_assoc]

/-- Entry `n` of row `r` of the product of the 2·8192 input rows with the weight. -/
def prj (x : (⟨3, ![2, 8192, 1024]⟩ : Shape).Idx → EReal) (w : (⟨2, ![1024, 2856]⟩ : Shape).Idx → EReal) (r n : ℕ) : EReal :=
  ∑ k : Fin 1024, at3 x (r / 8192) (r % 8192) k.val * at2 w k.val n

end Cert.Proj

end
-- ==== Proof.Proj.Host.lean ====
/- The packed weight of the projection, read at an index in terms of the weight. -/
module

public import proofs.«01_k».proof.Proof.Gen.Kernel3Ideal.Frame
public import Idealize.ShloMosaic.Lib.StableHlo.ReadAt
public import Idealize.ShloMosaic.Lib.Pipeline.Value
public import proofs.«01_k».proof.Proof.Proj.Spec

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.StableHlo Cert.Ffn Cert.Proj

/-- Operations in two runs, one after the other. -/
theorem after_two {Val : EltTy → Type} (k l : List (HloOp τ sig Val)) (W : Valuation τ sig Val) :
    after (k ++ l) W = after l (after k W) := by
  induction k generalizing W with
  | nil => rfl
  | cons op k ih => exact ih _

/-- The padding value. -/
theorem zero_word : (FloatOps.sitofp (F := Ideal) .f32 0#32 : EReal) = 0 := by
  show (((0#32 : BitVec 32).toInt : ℝ) : EReal) = 0
  simp

variable (m : (ℓ : Loc nD τ sig) → Buf (Elt Ideal) ℓ) (c : Dev nD)

/-- The buffers when the weight's pieces are made and not yet put together. -/
def before : Valuation τ sig (Elt Ideal) :=
  after [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29].flatten (fun b => m (c, b))

/-- Entry `n` of row `k` of the weight. -/
def wIn (k n : ℕ) : EReal := at2 (m ((c : Thread nD τ).loc main_arg1) : S1024x2856.Idx → EReal) k n

/-- The first sixteen pieces of the packed weight, side by side. -/
def leftPieces (B : Valuation τ sig (Elt Ideal)) : S1024x3328.Idx → EReal :=
  concatenate S1024x3328 1 [
    ⟨S1024x256, (B main_v1 : S1024x256.Idx → EReal)⟩,
    ⟨S1024x256, (B main_v2 : S1024x256.Idx → EReal)⟩,
    ⟨S1024x128, (B main_v16 : S1024x128.Idx → EReal)⟩,
    ⟨S1024x128, (B main_v18 : S1024x128.Idx → EReal)⟩,
    ⟨S1024x128, (B main_v20 : S1024x128.Idx → EReal)⟩,
    ⟨S1024x128, (B main_v22 : S1024x128.Idx → EReal)⟩,
    ⟨S1024x128, (B main_v24 : S1024x128.Idx → EReal)⟩,
    ⟨S1024x128, (B main_v26 : S1024x128.Idx → EReal)⟩,
    ⟨S1024x384, (B main_v9 : S1024x384.Idx → EReal)⟩,
    ⟨S1024x384, (B main_v10 : S1024x384.Idx → EReal)⟩,
    ⟨S1024x384, (B main_v11 : S1024x384.Idx → EReal)⟩,
    ⟨S1024x384, (B main_v12 : S1024x384.Idx → EReal)⟩,
    ⟨S1024x128, (B main_v28 : S1024x128.Idx → EReal)⟩,
    ⟨S1024x128, (B main_v30 : S1024x128.Idx → EReal)⟩,
    ⟨S1024x128, (B main_v32 : S1024x128.Idx → EReal)⟩,
    ⟨S1024x128, (B main_v34 : S1024x128.Idx → EReal)⟩]
    concatenates_S1024x256_S1024x256_S1024x128_S1024x128_S1024x128_S1024x128_S1024x128_S1024x128_S1024x384_S1024x384_S1024x384_S1024x384_S1024x128_S1024x128_S1024x128_S1024x128_S1024x3328_d1

/-- The last seven pieces of the packed weight, side by side. -/
def rightPieces (B : Valuation τ sig (Elt Ideal)) : S1024x768.Idx → EReal :=
  concatenate S1024x768 1 [
    ⟨S1024x128, (B main_v36 : S1024x128.Idx → EReal)⟩,
    ⟨S1024x128, (B main_v38 : S1024x128.Idx → EReal)⟩,
    ⟨S1024x128, (B main_v40 : S1024x128.Idx → EReal)⟩,
    ⟨S1024x128, (B main_v42 : S1024x128.Idx → EReal)⟩,
    ⟨S1024x64, (B main_v4 : S1024x64.Idx → EReal)⟩,
    ⟨S1024x64, (B main_v5 : S1024x64.Idx → EReal)⟩,
    ⟨S1024x128, (B main_v44 : S1024x128.Idx → EReal)⟩]
    concatenates_S1024x128_S1024x128_S1024x128_S1024x128_S1024x64_S1024x64_S1024x128_S1024x768_d1

/-- The packed weight, put together. -/
theorem packed_eq : V m c main_v48 = (concatenate S1024x4096 1
    [⟨S1024x3328, leftPieces (before m c)⟩, ⟨S1024x768, rightPieces (before m c)⟩]
    concatenates_S1024x3328_S1024x768_S1024x4096_d1 : S1024x4096.Idx → EReal) := by
  have e (b : Ref sig .tc) : V m c b = after hostOps0_30 (before m c) b := by
    unfold before
    rw [← after_two]
    rfl
  rw [e]
  generalize before m c = B
  rfl

/-- The packed weight's first 3328 columns. -/
theorem packed_left (r : Fin 1024) (k : Fin 3328) : (V m c main_v48 : S1024x4096.Idx → EReal) (ix2 r ⟨k.val, by omega⟩)
    = leftPieces (before m c) (ix2 r k) := by
  rw [packed_eq]
  refine concatenate_apply_piece (t := S1024x4096) 1 _ _ _ 0 ?_ S1024x3328 (leftPieces (before m c)) rfl rfl 0 rfl (ix2 r k) ?_ ?_
  · simp
  · intro b hb
    match b with
    | ⟨0, _⟩ => rfl
    | ⟨1, _⟩ => exact absurd rfl hb
  · exact Nat.zero_add _

/-- The packed weight's last 768 columns. -/
theorem packed_right (r : Fin 1024) (k : Fin 768) : (V m c main_v48 : S1024x4096.Idx → EReal) (ix2 r ⟨3328 + k.val, by omega⟩)
    = rightPieces (before m c) (ix2 r k) := by
  rw [packed_eq]
  refine concatenate_apply_piece (t := S1024x4096) 1 _ _ _ 1 ?_ S1024x768 (rightPieces (before m c)) rfl rfl 3328 rfl (ix2 r k) ?_ rfl
  · simp
  · intro b hb
    match b with
    | ⟨0, _⟩ => rfl
    | ⟨1, _⟩ => exact absurd rfl hb

/-- The packed weight's columns 0 to 255. -/
theorem packed_v1 (r : Fin 1024) (k : Fin 256) : (V m c main_v48 : S1024x4096.Idx → EReal) (ix2 r ⟨0 + k.val, by omega⟩)
    = (before m c main_v1 : S1024x256.Idx → EReal) (ix2 r k) := by
  refine Eq.trans ?_ ((packed_left m c r ⟨0 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 0 ?_ S1024x256 (before m c main_v1) ?_ rfl 0 ?_ (ix2 r k) ?_ ?_
    · simp
    · rfl
    · rfl
    · intro b hb
      match b with
      | ⟨0, _⟩ => rfl
      | ⟨1, _⟩ => exact absurd rfl hb
    · rfl

/-- The packed weight's columns 256 to 511. -/
theorem packed_v2 (r : Fin 1024) (k : Fin 256) : (V m c main_v48 : S1024x4096.Idx → EReal) (ix2 r ⟨256 + k.val, by omega⟩)
    = (before m c main_v2 : S1024x256.Idx → EReal) (ix2 r k) := by
  refine Eq.trans ?_ ((packed_left m c r ⟨256 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 1 ?_ S1024x256 (before m c main_v2) ?_ rfl 256 ?_ (ix2 r k) ?_ ?_
    · simp
    · rfl
    · rfl
    · intro b hb
      match b with
      | ⟨0, _⟩ => rfl
      | ⟨1, _⟩ => exact absurd rfl hb
    · rfl

/-- The packed weight's columns 512 to 639. -/
theorem packed_v16 (r : Fin 1024) (k : Fin 128) : (V m c main_v48 : S1024x4096.Idx → EReal) (ix2 r ⟨512 + k.val, by omega⟩)
    = (before m c main_v16 : S1024x128.Idx → EReal) (ix2 r k) := by
  refine Eq.trans ?_ ((packed_left m c r ⟨512 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 2 ?_ S1024x128 (before m c main_v16) ?_ rfl 512 ?_ (ix2 r k) ?_ ?_
    · simp
    · rfl
    · rfl
    · intro b hb
      match b with
      | ⟨0, _⟩ => rfl
      | ⟨1, _⟩ => exact absurd rfl hb
    · rfl

/-- The packed weight's columns 640 to 767. -/
theorem packed_v18 (r : Fin 1024) (k : Fin 128) : (V m c main_v48 : S1024x4096.Idx → EReal) (ix2 r ⟨640 + k.val, by omega⟩)
    = (before m c main_v18 : S1024x128.Idx → EReal) (ix2 r k) := by
  refine Eq.trans ?_ ((packed_left m c r ⟨640 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 3 ?_ S1024x128 (before m c main_v18) ?_ rfl 640 ?_ (ix2 r k) ?_ ?_
    · simp
    · rfl
    · rfl
    · intro b hb
      match b with
      | ⟨0, _⟩ => rfl
      | ⟨1, _⟩ => exact absurd rfl hb
    · rfl

/-- The packed weight's columns 768 to 895. -/
theorem packed_v20 (r : Fin 1024) (k : Fin 128) : (V m c main_v48 : S1024x4096.Idx → EReal) (ix2 r ⟨768 + k.val, by omega⟩)
    = (before m c main_v20 : S1024x128.Idx → EReal) (ix2 r k) := by
  refine Eq.trans ?_ ((packed_left m c r ⟨768 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 4 ?_ S1024x128 (before m c main_v20) ?_ rfl 768 ?_ (ix2 r k) ?_ ?_
    · simp
    · rfl
    · rfl
    · intro b hb
      match b with
      | ⟨0, _⟩ => rfl
      | ⟨1, _⟩ => exact absurd rfl hb
    · rfl

/-- The packed weight's columns 896 to 1023. -/
theorem packed_v22 (r : Fin 1024) (k : Fin 128) : (V m c main_v48 : S1024x4096.Idx → EReal) (ix2 r ⟨896 + k.val, by omega⟩)
    = (before m c main_v22 : S1024x128.Idx → EReal) (ix2 r k) := by
  refine Eq.trans ?_ ((packed_left m c r ⟨896 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 5 ?_ S1024x128 (before m c main_v22) ?_ rfl 896 ?_ (ix2 r k) ?_ ?_
    · simp
    · rfl
    · rfl
    · intro b hb
      match b with
      | ⟨0, _⟩ => rfl
      | ⟨1, _⟩ => exact absurd rfl hb
    · rfl

/-- The packed weight's columns 1024 to 1151. -/
theorem packed_v24 (r : Fin 1024) (k : Fin 128) : (V m c main_v48 : S1024x4096.Idx → EReal) (ix2 r ⟨1024 + k.val, by omega⟩)
    = (before m c main_v24 : S1024x128.Idx → EReal) (ix2 r k) := by
  refine Eq.trans ?_ ((packed_left m c r ⟨1024 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 6 ?_ S1024x128 (before m c main_v24) ?_ rfl 1024 ?_ (ix2 r k) ?_ ?_
    · simp
    · rfl
    · rfl
    · intro b hb
      match b with
      | ⟨0, _⟩ => rfl
      | ⟨1, _⟩ => exact absurd rfl hb
    · rfl

/-- The packed weight's columns 1152 to 1279. -/
theorem packed_v26 (r : Fin 1024) (k : Fin 128) : (V m c main_v48 : S1024x4096.Idx → EReal) (ix2 r ⟨1152 + k.val, by omega⟩)
    = (before m c main_v26 : S1024x128.Idx → EReal) (ix2 r k) := by
  refine Eq.trans ?_ ((packed_left m c r ⟨1152 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 7 ?_ S1024x128 (before m c main_v26) ?_ rfl 1152 ?_ (ix2 r k) ?_ ?_
    · simp
    · rfl
    · rfl
    · intro b hb
      match b with
      | ⟨0, _⟩ => rfl
      | ⟨1, _⟩ => exact absurd rfl hb
    · rfl

/-- The packed weight's columns 1280 to 1663. -/
theorem packed_v9 (r : Fin 1024) (k : Fin 384) : (V m c main_v48 : S1024x4096.Idx → EReal) (ix2 r ⟨1280 + k.val, by omega⟩)
    = (before m c main_v9 : S1024x384.Idx → EReal) (ix2 r k) := by
  refine Eq.trans ?_ ((packed_left m c r ⟨1280 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 8 ?_ S1024x384 (before m c main_v9) ?_ rfl 1280 ?_ (ix2 r k) ?_ ?_
    · simp
    · rfl
    · rfl
    · intro b hb
      match b with
      | ⟨0, _⟩ => rfl
      | ⟨1, _⟩ => exact absurd rfl hb
    · rfl

/-- The packed weight's columns 1664 to 2047. -/
theorem packed_v10 (r : Fin 1024) (k : Fin 384) : (V m c main_v48 : S1024x4096.Idx → EReal) (ix2 r ⟨1664 + k.val, by omega⟩)
    = (before m c main_v10 : S1024x384.Idx → EReal) (ix2 r k) := by
  refine Eq.trans ?_ ((packed_left m c r ⟨1664 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 9 ?_ S1024x384 (before m c main_v10) ?_ rfl 1664 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2048 to 2431. -/
theorem packed_v11 (r : Fin 1024) (k : Fin 384) : (V m c main_v48 : S1024x4096.Idx → EReal) (ix2 r ⟨2048 + k.val, by omega⟩)
    = (before m c main_v11 : S1024x384.Idx → EReal) (ix2 r k) := by
  refine Eq.trans ?_ ((packed_left m c r ⟨2048 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 10 ?_ S1024x384 (before m c main_v11) ?_ rfl 2048 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2432 to 2815. -/
theorem packed_v12 (r : Fin 1024) (k : Fin 384) : (V m c main_v48 : S1024x4096.Idx → EReal) (ix2 r ⟨2432 + k.val, by omega⟩)
    = (before m c main_v12 : S1024x384.Idx → EReal) (ix2 r k) := by
  refine Eq.trans ?_ ((packed_left m c r ⟨2432 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 11 ?_ S1024x384 (before m c main_v12) ?_ rfl 2432 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2816 to 2943. -/
theorem packed_v28 (r : Fin 1024) (k : Fin 128) : (V m c main_v48 : S1024x4096.Idx → EReal) (ix2 r ⟨2816 + k.val, by omega⟩)
    = (before m c main_v28 : S1024x128.Idx → EReal) (ix2 r k) := by
  refine Eq.trans ?_ ((packed_left m c r ⟨2816 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 12 ?_ S1024x128 (before m c main_v28) ?_ rfl 2816 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2944 to 3071. -/
theorem packed_v30 (r : Fin 1024) (k : Fin 128) : (V m c main_v48 : S1024x4096.Idx → EReal) (ix2 r ⟨2944 + k.val, by omega⟩)
    = (before m c main_v30 : S1024x128.Idx → EReal) (ix2 r k) := by
  refine Eq.trans ?_ ((packed_left m c r ⟨2944 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 13 ?_ S1024x128 (before m c main_v30) ?_ rfl 2944 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 3072 to 3199. -/
theorem packed_v32 (r : Fin 1024) (k : Fin 128) : (V m c main_v48 : S1024x4096.Idx → EReal) (ix2 r ⟨3072 + k.val, by omega⟩)
    = (before m c main_v32 : S1024x128.Idx → EReal) (ix2 r k) := by
  refine Eq.trans ?_ ((packed_left m c r ⟨3072 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 14 ?_ S1024x128 (before m c main_v32) ?_ rfl 3072 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 3200 to 3327. -/
theorem packed_v34 (r : Fin 1024) (k : Fin 128) : (V m c main_v48 : S1024x4096.Idx → EReal) (ix2 r ⟨3200 + k.val, by omega⟩)
    = (before m c main_v34 : S1024x128.Idx → EReal) (ix2 r k) := by
  refine Eq.trans ?_ ((packed_left m c r ⟨3200 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 15 ?_ S1024x128 (before m c main_v34) ?_ rfl 3200 ?_ (ix2 r k) ?_ ?_
    · simp
    · rfl
    · rfl
    · intro b hb
      match b with
      | ⟨0, _⟩ => rfl
      | ⟨1, _⟩ => exact absurd rfl hb
    · rfl

/-- The packed weight's columns 3328 to 3455. -/
theorem packed_v36 (r : Fin 1024) (k : Fin 128) : (V m c main_v48 : S1024x4096.Idx → EReal) (ix2 r ⟨3328 + k.val, by omega⟩)
    = (before m c main_v36 : S1024x128.Idx → EReal) (ix2 r k) := by
  refine Eq.trans ?_ ((packed_right m c r ⟨0 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 0 ?_ S1024x128 (before m c main_v36) ?_ rfl 0 ?_ (ix2 r k) ?_ ?_
    · simp
    · rfl
    · rfl
    · intro b hb
      match b with
      | ⟨0, _⟩ => rfl
      | ⟨1, _⟩ => exact absurd rfl hb
    · rfl

/-- The packed weight's columns 3456 to 3583. -/
theorem packed_v38 (r : Fin 1024) (k : Fin 128) : (V m c main_v48 : S1024x4096.Idx → EReal) (ix2 r ⟨3456 + k.val, by omega⟩)
    = (before m c main_v38 : S1024x128.Idx → EReal) (ix2 r k) := by
  refine Eq.trans ?_ ((packed_right m c r ⟨128 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 1 ?_ S1024x128 (before m c main_v38) ?_ rfl 128 ?_ (ix2 r k) ?_ ?_
    · simp
    · rfl
    · rfl
    · intro b hb
      match b with
      | ⟨0, _⟩ => rfl
      | ⟨1, _⟩ => exact absurd rfl hb
    · rfl

/-- The packed weight's columns 3584 to 3711. -/
theorem packed_v40 (r : Fin 1024) (k : Fin 128) : (V m c main_v48 : S1024x4096.Idx → EReal) (ix2 r ⟨3584 + k.val, by omega⟩)
    = (before m c main_v40 : S1024x128.Idx → EReal) (ix2 r k) := by
  refine Eq.trans ?_ ((packed_right m c r ⟨256 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 2 ?_ S1024x128 (before m c main_v40) ?_ rfl 256 ?_ (ix2 r k) ?_ ?_
    · simp
    · rfl
    · rfl
    · intro b hb
      match b with
      | ⟨0, _⟩ => rfl
      | ⟨1, _⟩ => exact absurd rfl hb
    · rfl

/-- The packed weight's columns 3712 to 3839. -/
theorem packed_v42 (r : Fin 1024) (k : Fin 128) : (V m c main_v48 : S1024x4096.Idx → EReal) (ix2 r ⟨3712 + k.val, by omega⟩)
    = (before m c main_v42 : S1024x128.Idx → EReal) (ix2 r k) := by
  refine Eq.trans ?_ ((packed_right m c r ⟨384 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 3 ?_ S1024x128 (before m c main_v42) ?_ rfl 384 ?_ (ix2 r k) ?_ ?_
    · simp
    · rfl
    · rfl
    · intro b hb
      match b with
      | ⟨0, _⟩ => rfl
      | ⟨1, _⟩ => exact absurd rfl hb
    · rfl

/-- The packed weight's columns 3840 to 3903. -/
theorem packed_v4 (r : Fin 1024) (k : Fin 64) : (V m c main_v48 : S1024x4096.Idx → EReal) (ix2 r ⟨3840 + k.val, by omega⟩)
    = (before m c main_v4 : S1024x64.Idx → EReal) (ix2 r k) := by
  refine Eq.trans ?_ ((packed_right m c r ⟨512 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 4 ?_ S1024x64 (before m c main_v4) ?_ rfl 512 ?_ (ix2 r k) ?_ ?_
    · simp
    · rfl
    · rfl
    · intro b hb
      match b with
      | ⟨0, _⟩ => rfl
      | ⟨1, _⟩ => exact absurd rfl hb
    · rfl

/-- The packed weight's columns 3904 to 3967. -/
theorem packed_v5 (r : Fin 1024) (k : Fin 64) : (V m c main_v48 : S1024x4096.Idx → EReal) (ix2 r ⟨3904 + k.val, by omega⟩)
    = (before m c main_v5 : S1024x64.Idx → EReal) (ix2 r k) := by
  refine Eq.trans ?_ ((packed_right m c r ⟨576 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 5 ?_ S1024x64 (before m c main_v5) ?_ rfl 576 ?_ (ix2 r k) ?_ ?_
    · simp
    · rfl
    · rfl
    · intro b hb
      match b with
      | ⟨0, _⟩ => rfl
      | ⟨1, _⟩ => exact absurd rfl hb
    · rfl

/-- The packed weight's columns 3968 to 4095. -/
theorem packed_v44 (r : Fin 1024) (k : Fin 128) : (V m c main_v48 : S1024x4096.Idx → EReal) (ix2 r ⟨3968 + k.val, by omega⟩)
    = (before m c main_v44 : S1024x128.Idx → EReal) (ix2 r k) := by
  refine Eq.trans ?_ ((packed_right m c r ⟨640 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 6 ?_ S1024x128 (before m c main_v44) ?_ rfl 640 ?_ (ix2 r k) ?_ ?_
    · simp
    · rfl
    · rfl
    · intro b hb
      match b with
      | ⟨0, _⟩ => rfl
      | ⟨1, _⟩ => exact absurd rfl hb
    · rfl

/-- A plain piece: the weight's columns 0 to 255. -/
theorem before_v1 (r : Fin 1024) (k : Fin 256) : (before m c main_v1 : S1024x256.Idx → EReal) (ix2 r k) = wIn m c r (0 + k.val) := by
  unfold before wIn
  after_reads_at
  first | exact at2_fin _ _ _ | exact (at2_fin _ _ _).trans (congrArg (at2 _ r.val) (by first | (dsimp only; done) | (dsimp only; omega)))

/-- A plain piece: the weight's columns 256 to 511. -/
theorem before_v2 (r : Fin 1024) (k : Fin 256) : (before m c main_v2 : S1024x256.Idx → EReal) (ix2 r k) = wIn m c r (256 + k.val) := by
  unfold before wIn
  after_reads_at
  first | exact at2_fin _ _ _ | exact (at2_fin _ _ _).trans (congrArg (at2 _ r.val) (by first | (dsimp only; done) | (dsimp only; omega)))

/-- A plain piece: the weight's columns 1320 to 1703. -/
theorem before_v9 (r : Fin 1024) (k : Fin 384) : (before m c main_v9 : S1024x384.Idx → EReal) (ix2 r k) = wIn m c r (1320 + k.val) := by
  unfold before wIn
  after_reads_at
  first | exact at2_fin _ _ _ | exact (at2_fin _ _ _).trans (congrArg (at2 _ r.val) (by first | (dsimp only; done) | (dsimp only; omega)))

/-- A plain piece: the weight's columns 1704 to 2087. -/
theorem before_v10 (r : Fin 1024) (k : Fin 384) : (before m c main_v10 : S1024x384.Idx → EReal) (ix2 r k) = wIn m c r (1704 + k.val) := by
  unfold before wIn
  after_reads_at
  first | exact at2_fin _ _ _ | exact (at2_fin _ _ _).trans (congrArg (at2 _ r.val) (by first | (dsimp only; done) | (dsimp only; omega)))

/-- A plain piece: the weight's columns 2088 to 2471. -/
theorem before_v11 (r : Fin 1024) (k : Fin 384) : (before m c main_v11 : S1024x384.Idx → EReal) (ix2 r k) = wIn m c r (2088 + k.val) := by
  unfold before wIn
  after_reads_at
  first | exact at2_fin _ _ _ | exact (at2_fin _ _ _).trans (congrArg (at2 _ r.val) (by first | (dsimp only; done) | (dsimp only; omega)))

/-- A plain piece: the weight's columns 2472 to 2855. -/
theorem before_v12 (r : Fin 1024) (k : Fin 384) : (before m c main_v12 : S1024x384.Idx → EReal) (ix2 r k) = wIn m c r (2472 + k.val) := by
  unfold before wIn
  after_reads_at
  first | exact at2_fin _ _ _ | exact (at2_fin _ _ _).trans (congrArg (at2 _ r.val) (by first | (dsimp only; done) | (dsimp only; omega)))

/-- A plain piece: the weight's columns 896 to 959. -/
theorem before_v4 (r : Fin 1024) (k : Fin 64) : (before m c main_v4 : S1024x64.Idx → EReal) (ix2 r k) = wIn m c r (896 + k.val) := by
  unfold before wIn
  after_reads_at
  first | exact at2_fin _ _ _ | exact (at2_fin _ _ _).trans (congrArg (at2 _ r.val) (by first | (dsimp only; done) | (dsimp only; omega)))

/-- A plain piece: the weight's columns 960 to 1023. -/
theorem before_v5 (r : Fin 1024) (k : Fin 64) : (before m c main_v5 : S1024x64.Idx → EReal) (ix2 r k) = wIn m c r (960 + k.val) := by
  unfold before wIn
  after_reads_at
  first | exact at2_fin _ _ _ | exact (at2_fin _ _ _).trans (congrArg (at2 _ r.val) (by first | (dsimp only; done) | (dsimp only; omega)))

/-- Head 0 of the attention's queries, scaled and padded. -/
theorem before_v16 (r : Fin 1024) (k : Fin 128) : (before m c main_v16 : S1024x128.Idx → EReal) (ix2 r k)
    = if k.val < 64 then wIn m c r (512 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 1 of the attention's queries, scaled and padded. -/
theorem before_v18 (r : Fin 1024) (k : Fin 128) : (before m c main_v18 : S1024x128.Idx → EReal) (ix2 r k)
    = if k.val < 64 then wIn m c r (576 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 2 of the attention's queries, scaled and padded. -/
theorem before_v20 (r : Fin 1024) (k : Fin 128) : (before m c main_v20 : S1024x128.Idx → EReal) (ix2 r k)
    = if k.val < 64 then wIn m c r (640 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 3 of the attention's queries, scaled and padded. -/
theorem before_v22 (r : Fin 1024) (k : Fin 128) : (before m c main_v22 : S1024x128.Idx → EReal) (ix2 r k)
    = if k.val < 64 then wIn m c r (704 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 4 of the attention's queries, scaled and padded. -/
theorem before_v24 (r : Fin 1024) (k : Fin 128) : (before m c main_v24 : S1024x128.Idx → EReal) (ix2 r k)
    = if k.val < 64 then wIn m c r (768 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 5 of the attention's queries, scaled and padded. -/
theorem before_v26 (r : Fin 1024) (k : Fin 128) : (before m c main_v26 : S1024x128.Idx → EReal) (ix2 r k)
    = if k.val < 64 then wIn m c r (832 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 0 of the indexer's queries, padded. -/
theorem before_v28 (r : Fin 1024) (k : Fin 128) : (before m c main_v28 : S1024x128.Idx → EReal) (ix2 r k)
    = if k.val < 32 then wIn m c r (1024 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 1 of the indexer's queries, padded. -/
theorem before_v30 (r : Fin 1024) (k : Fin 128) : (before m c main_v30 : S1024x128.Idx → EReal) (ix2 r k)
    = if k.val < 32 then wIn m c r (1056 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 2 of the indexer's queries, padded. -/
theorem before_v32 (r : Fin 1024) (k : Fin 128) : (before m c main_v32 : S1024x128.Idx → EReal) (ix2 r k)
    = if k.val < 32 then wIn m c r (1088 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 3 of the indexer's queries, padded. -/
theorem before_v34 (r : Fin 1024) (k : Fin 128) : (before m c main_v34 : S1024x128.Idx → EReal) (ix2 r k)
    = if k.val < 32 then wIn m c r (1120 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 4 of the indexer's queries, padded. -/
theorem before_v36 (r : Fin 1024) (k : Fin 128) : (before m c main_v36 : S1024x128.Idx → EReal) (ix2 r k)
    = if k.val < 32 then wIn m c r (1152 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 5 of the indexer's queries, padded. -/
theorem before_v38 (r : Fin 1024) (k : Fin 128) : (before m c main_v38 : S1024x128.Idx → EReal) (ix2 r k)
    = if k.val < 32 then wIn m c r (1184 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 6 of the indexer's queries, padded. -/
theorem before_v40 (r : Fin 1024) (k : Fin 128) : (before m c main_v40 : S1024x128.Idx → EReal) (ix2 r k)
    = if k.val < 32 then wIn m c r (1216 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 7 of the indexer's queries, padded. -/
theorem before_v42 (r : Fin 1024) (k : Fin 128) : (before m c main_v42 : S1024x128.Idx → EReal) (ix2 r k)
    = if k.val < 32 then wIn m c r (1248 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- The indexer's keys and weights, padded. -/
theorem before_v44 (r : Fin 1024) (k : Fin 128) : (before m c main_v44 : S1024x128.Idx → EReal) (ix2 r k)
    = if k.val < 40 then wIn m c r (1280 + k.val) else 0 := by
  unfold before wIn
  after_reads_at
  by_cases h : k.val < 40
  · rw [dif_pos h, if_pos h]
    by_cases h' : k.val < 32
    · rw [dif_pos h']
      after_reads_at
      exact (at2_fin _ _ _).trans (congrArg (at2 _ r.val) (by first | (dsimp only; done) | (dsimp only; omega)))
    · rw [dif_neg h']
      after_reads_at
      exact (at2_fin _ _ _).trans (congrArg (at2 _ r.val) (by first | (dsimp only; done) | (dsimp only; omega)))
  · rw [dif_neg h, if_neg h]
    exact zero_word

/-- Row `r` of the layer input. -/
theorem V0_apply (r : Fin 16384) (k : Fin 1024) : (V m c main_v0 : S16384x1024.Idx → EReal) (ix2 r k)
    = at3 (m ((c : Thread nD τ).loc main_arg0) : S2x8192x1024.Idx → EReal) (r.val / 8192) (r.val % 8192) k.val := by
  unfold V
  after_reads_at
  exact at3_fin _ _ _ _

end Cert.Kernel3Ideal.Val

end
-- ==== Proof.Proj.Kernel.lean ====
/- What the projection kernel leaves in its eight arrays, over the extended reals, in terms of the arguments. -/
module

public import proofs.«01_k».proof.Proof.Gen.Kernel3Ideal.Value
public import proofs.«01_k».proof.Proof.Proj.Host

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.StableHlo Cert.Ffn Cert.Proj

variable (m : (ℓ : Loc nD τ sig) → Buf (Elt Ideal) ℓ) (c : Dev nD)

/-- Entry `n` of row `r` of the input's product with the weight. -/
def pr (r n : ℕ) : EReal :=
  prj (m ((c : Thread nD τ).loc main_arg0) : S2x8192x1024.Idx → EReal) (m ((c : Thread nD τ).loc main_arg1) : S1024x2856.Idx → EReal) r n

/-- Entry `k` of row `r` of the input. -/
def xIn (r k : ℕ) : EReal := at3 (m ((c : Thread nD τ).loc main_arg0) : S2x8192x1024.Idx → EReal) (r / 8192) (r % 8192) k

/-- The packed weight's entry `n` of row `k`. -/
abbrev packedAt (k : Fin 1024) (n : Fin 4096) : EReal := (V m c main_v48 : S1024x4096.Idx → EReal) (ix2 k n)

/-- A column of the packed weight under another name of its number. -/
theorem packedAt_congr (k : Fin 1024) {n n' : Fin 4096} (h : n.val = n'.val) : packedAt m c k n = packedAt m c k n' :=
  congrArg (packedAt m c k) (Fin.ext h)

/-- The first mixer's columns. -/
theorem cols_a (k : Fin 1024) (j : Fin 512) : packedAt m c k ⟨0 + j.val, by omega⟩ = wIn m c k j.val := by
  by_cases h : j.val < 256
  · refine (packedAt_congr m c k ?_).trans ((packed_v1 m c k ⟨j.val, h⟩).trans ((before_v1 m c k ⟨j.val, h⟩).trans ?_))
    · rfl
    · exact congrArg (wIn m c k) (by first | (dsimp only; done) | (dsimp only; omega))
  · refine (packedAt_congr m c k ?_).trans ((packed_v2 m c k ⟨j.val - 256, by omega⟩).trans ((before_v2 m c k ⟨j.val - 256, by omega⟩).trans ?_))
    · dsimp only; omega
    · exact congrArg (wIn m c k) (by first | (dsimp only; done) | (dsimp only; omega))

/-- The attention's queries' columns: each head's at the front of 128 lanes. -/
theorem cols_q (k : Fin 1024) (j : Fin 768) : packedAt m c k ⟨512 + j.val, by omega⟩
    = if j.val % 128 < 64 then wIn m c k (512 + 64 * (j.val / 128) + j.val % 128) * scale else 0 := by
  have hj := j.isLt
  rcases (by omega : j.val / 128 = 0 ∨ j.val / 128 = 1 ∨ j.val / 128 = 2 ∨ j.val / 128 = 3 ∨ j.val / 128 = 4 ∨ j.val / 128 = 5) with h | h | h | h | h | h
  · refine (packedAt_congr m c k ?_).trans ((packed_v16 m c k ⟨j.val % 128, by omega⟩).trans ((before_v16 m c k ⟨j.val % 128, by omega⟩).trans ?_))
    · dsimp only; omega
    · rw [h]
  · refine (packedAt_congr m c k ?_).trans ((packed_v18 m c k ⟨j.val % 128, by omega⟩).trans ((before_v18 m c k ⟨j.val % 128, by omega⟩).trans ?_))
    · dsimp only; omega
    · rw [h]
  · refine (packedAt_congr m c k ?_).trans ((packed_v20 m c k ⟨j.val % 128, by omega⟩).trans ((before_v20 m c k ⟨j.val % 128, by omega⟩).trans ?_))
    · dsimp only; omega
    · rw [h]
  · refine (packedAt_congr m c k ?_).trans ((packed_v22 m c k ⟨j.val % 128, by omega⟩).trans ((before_v22 m c k ⟨j.val % 128, by omega⟩).trans ?_))
    · dsimp only; omega
    · rw [h]
  · refine (packedAt_congr m c k ?_).trans ((packed_v24 m c k ⟨j.val % 128, by omega⟩).trans ((before_v24 m c k ⟨j.val % 128, by omega⟩).trans ?_))
    · dsimp only; omega
    · rw [h]
  · refine (packedAt_congr m c k ?_).trans ((packed_v26 m c k ⟨j.val % 128, by omega⟩).trans ((before_v26 m c k ⟨j.val % 128, by omega⟩).trans ?_))
    · dsimp only; omega
    · rw [h]

/-- The indexer's queries' columns: each head's at the front of 128 lanes. -/
theorem cols_i (k : Fin 1024) (j : Fin 1024) : packedAt m c k ⟨2816 + j.val, by omega⟩
    = if j.val % 128 < 32 then wIn m c k (1024 + 32 * (j.val / 128) + j.val % 128) else 0 := by
  have hj := j.isLt
  rcases (by omega : j.val / 128 = 0 ∨ j.val / 128 = 1 ∨ j.val / 128 = 2 ∨ j.val / 128 = 3 ∨ j.val / 128 = 4 ∨ j.val / 128 = 5 ∨ j.val / 128 = 6 ∨ j.val / 128 = 7) with h | h | h | h | h | h | h | h
  · refine (packedAt_congr m c k ?_).trans ((packed_v28 m c k ⟨j.val % 128, by omega⟩).trans ((before_v28 m c k ⟨j.val % 128, by omega⟩).trans ?_))
    · dsimp only; omega
    · rw [h]
  · refine (packedAt_congr m c k ?_).trans ((packed_v30 m c k ⟨j.val % 128, by omega⟩).trans ((before_v30 m c k ⟨j.val % 128, by omega⟩).trans ?_))
    · dsimp only; omega
    · rw [h]
  · refine (packedAt_congr m c k ?_).trans ((packed_v32 m c k ⟨j.val % 128, by omega⟩).trans ((before_v32 m c k ⟨j.val % 128, by omega⟩).trans ?_))
    · dsimp only; omega
    · rw [h]
  · refine (packedAt_congr m c k ?_).trans ((packed_v34 m c k ⟨j.val % 128, by omega⟩).trans ((before_v34 m c k ⟨j.val % 128, by omega⟩).trans ?_))
    · dsimp only; omega
    · rw [h]
  · refine (packedAt_congr m c k ?_).trans ((packed_v36 m c k ⟨j.val % 128, by omega⟩).trans ((before_v36 m c k ⟨j.val % 128, by omega⟩).trans ?_))
    · dsimp only; omega
    · rw [h]
  · refine (packedAt_congr m c k ?_).trans ((packed_v38 m c k ⟨j.val % 128, by omega⟩).trans ((before_v38 m c k ⟨j.val % 128, by omega⟩).trans ?_))
    · dsimp only; omega
    · rw [h]
  · refine (packedAt_congr m c k ?_).trans ((packed_v40 m c k ⟨j.val % 128, by omega⟩).trans ((before_v40 m c k ⟨j.val % 128, by omega⟩).trans ?_))
    · dsimp only; omega
    · rw [h]
  · refine (packedAt_congr m c k ?_).trans ((packed_v42 m c k ⟨j.val % 128, by omega⟩).trans ((before_v42 m c k ⟨j.val % 128, by omega⟩).trans ?_))
    · dsimp only; omega
    · rw [h]

/-- The retention's columns. -/
theorem cols_r (k : Fin 1024) (j : Fin 1536) : packedAt m c k ⟨1280 + j.val, by omega⟩ = wIn m c k (1320 + j.val) := by
  have hj := j.isLt
  rcases (by omega : j.val / 384 = 0 ∨ j.val / 384 = 1 ∨ j.val / 384 = 2 ∨ j.val / 384 = 3) with h | h | h | h
  · refine (packedAt_congr m c k ?_).trans ((packed_v9 m c k ⟨j.val - 0, by omega⟩).trans ((before_v9 m c k ⟨j.val - 0, by omega⟩).trans ?_))
    · dsimp only; omega
    · exact congrArg (wIn m c k) (by first | (dsimp only; done) | (dsimp only; omega))
  · refine (packedAt_congr m c k ?_).trans ((packed_v10 m c k ⟨j.val - 384, by omega⟩).trans ((before_v10 m c k ⟨j.val - 384, by omega⟩).trans ?_))
    · dsimp only; omega
    · exact congrArg (wIn m c k) (by first | (dsimp only; done) | (dsimp only; omega))
  · refine (packedAt_congr m c k ?_).trans ((packed_v11 m c k ⟨j.val - 768, by omega⟩).trans ((before_v11 m c k ⟨j.val - 768, by omega⟩).trans ?_))
    · dsimp only; omega
    · exact congrArg (wIn m c k) (by first | (dsimp only; done) | (dsimp only; omega))
  · refine (packedAt_congr m c k ?_).trans ((packed_v12 m c k ⟨j.val - 1152, by omega⟩).trans ((before_v12 m c k ⟨j.val - 1152, by omega⟩).trans ?_))
    · dsimp only; omega
    · exact congrArg (wIn m c k) (by first | (dsimp only; done) | (dsimp only; omega))

/-- The attention's keys' and values' columns. -/
theorem cols_kv (k : Fin 1024) (j : Fin 128) : packedAt m c k ⟨3840 + j.val, by omega⟩ = wIn m c k (896 + j.val) := by
  by_cases h : j.val < 64
  · refine (packedAt_congr m c k ?_).trans ((packed_v4 m c k ⟨j.val, h⟩).trans ((before_v4 m c k ⟨j.val, h⟩).trans ?_))
    · rfl
    · rfl
  · refine (packedAt_congr m c k ?_).trans ((packed_v5 m c k ⟨j.val - 64, by omega⟩).trans ((before_v5 m c k ⟨j.val - 64, by omega⟩).trans ?_))
    · dsimp only; omega
    · exact congrArg (wIn m c k) (by dsimp only; omega)

/-- The indexer's keys' and weights' columns, padded. -/
theorem cols_kw (k : Fin 1024) (j : Fin 128) : packedAt m c k ⟨3968 + j.val, by omega⟩
    = if j.val < 40 then wIn m c k (1280 + j.val) else 0 :=
  (packed_v44 m c k j).trans (before_v44 m c k j)

/-- The input's rows against columns that carry the scale or are zero. -/
theorem sum_lanes (r : ℕ) (p : Prop) [Decidable p] (n : ℕ) :
    ∑ k : Fin 1024, xIn m c r k.val * (if p then wIn m c k.val n * scale else 0) = if p then pr m c r n * scale else 0 := by
  by_cases h : p
  · simp only [if_pos h]
    exact sum_scale _ _ _
  · simp only [if_neg h, mul_zero, Finset.sum_const_zero]

/-- The input's rows against columns some of which are zero. -/
theorem sum_pad (r : ℕ) (p : Prop) [Decidable p] (n : ℕ) :
    ∑ k : Fin 1024, xIn m c r k.val * (if p then wIn m c k.val n else 0) = if p then pr m c r n else 0 := by
  by_cases h : p
  · simp only [if_pos h]
    rfl
  · simp only [if_neg h, mul_zero, Finset.sum_const_zero]

/-- The two input windows' block indices. -/
theorem idxIn : ∀ t : Fin cfg0.N, (win0_0.index t (0 : Fin 2) = t.val ∧ win0_0.index t (1 : Fin 2) = 0)
    ∧ win0_1.index t (0 : Fin 2) = 0 ∧ win0_1.index t (1 : Fin 2) = 0 :=
  (by decide +kernel : ∀ t : Fin grid0.N, _)

/-- The input rows at point `t`. -/
theorem blk0 (t : Fin cfg0.N) (r : Fin 512) (k : Fin 1024) :
    (iblk m c 0 t : S512x1024.Idx → EReal) (ix2 r k) = xIn m c (512 * t.val + r.val) k.val := by
  have hN : t.val < 32 := lt_of_lt_of_eq t.isLt (show cfg0.N = 32 from N_0)
  obtain ⟨⟨e0, e1⟩, -⟩ := idxIn t
  unfold iblk
  rw [View.read_apply]
  have e : (((cfg0.win 0).blk t).view.emb (ix2 r k) : S16384x1024.Idx) = ix2 ⟨512 * t.val + r.val, by omega⟩ k := by
    funext a; apply Fin.ext
    match a with
    | ⟨0, _⟩ => show win0_0.index t 0 * 512 + 1 * r.val = 512 * t.val + r.val; omega
    | ⟨1, _⟩ => show win0_0.index t 1 * 1024 + 1 * k.val = k.val; omega
  show (V m c main_v0 : S16384x1024.Idx → EReal) (((cfg0.win 0).blk t).view.emb (ix2 r k)) = _
  rw [e]
  exact V0_apply m c ⟨512 * t.val + r.val, by omega⟩ k

/-- The packed weight at point `t`. -/
theorem blk1 (t : Fin cfg0.N) (k : Fin 1024) (n : Fin 4096) :
    (iblk m c 1 t : S1024x4096.Idx → EReal) (ix2 k n) = packedAt m c k n := by
  obtain ⟨-, e0, e1⟩ := idxIn t
  unfold iblk
  rw [View.read_apply]
  have e : (((cfg0.win 1).blk t).view.emb (ix2 k n) : S1024x4096.Idx) = ix2 k n := by
    funext a; apply Fin.ext
    match a with
    | ⟨0, _⟩ => show win0_1.index t 0 * 1024 + 1 * k.val = k.val; omega
    | ⟨1, _⟩ => show win0_1.index t 1 * 4096 + 1 * n.val = n.val; omega
  show (V m c main_v48 : S1024x4096.Idx → EReal) (((cfg0.win 1).blk t).view.emb (ix2 k n)) = _
  rw [e]

theorem hz : (![0, 0] : Fin 2 → Nat) = fun _ => 0 := funext fun a => by fin_cases a <;> rfl

/-- The value of row `r`, entry `n` of result 1. -/
def val2 (r n : ℕ) : EReal := pr m c r n

/-- The product payload of result 1 at point `t`. -/
theorem pay_2 (t : Fin cfg0.N) (r : Fin 512) (j : Fin 512) :
    (k0_pay4 (F := Ideal) (iblk m c 0 t) (View.ld (iblk m c 1 t) r0_1) : S512x512.Idx → EReal) (ix2 r j)
      = val2 m c (512 * t.val + r.val) j.val := by
  have e (x : Vec Ideal S512x1024 .f32) (y : Vec Ideal S1024x512 .bf16) :
      k0_pay4 (F := Ideal) x y (ix2 r j) = ∑ k : Fin 1024, x (ix2 r k) * y (ix2 k j) := by
    pointwise [k0_pay4, k0_pay3]
  refine (e _ _).trans ?_
  have l (k : Fin 1024) : (View.ld (iblk m c 1 t) r0_1 : S1024x512.Idx → EReal) (ix2 k j) = packedAt m c k ⟨0 + j.val, by omega⟩ := by
    refine Eq.trans ?_ (blk1 m c t k ⟨0 + j.val, by omega⟩)
    refine congrArg (iblk m c 1 t : S1024x4096.Idx → EReal) ?_
    funext a; apply Fin.ext
    match a with
    | ⟨0, _⟩ => show 0 + 1 * k.val = k.val; omega
    | ⟨1, _⟩ => show 0 + 1 * j.val = 0 + j.val; omega
  refine Eq.trans (Finset.sum_congr rfl fun k _ => congrArg₂ (· * ·) (blk0 m c t r k) ((l k).trans (cols_a m c k j))) ?_
  unfold val2
  rfl

/-- The value of row `r`, entry `n` of result 2. -/
def val3 (r n : ℕ) : EReal := if n % 128 < 64 then pr m c r (512 + 64 * (n / 128) + n % 128) * scale else 0

/-- The product payload of result 2 at point `t`. -/
theorem pay_3 (t : Fin cfg0.N) (r : Fin 512) (j : Fin 768) :
    (k0_pay5 (F := Ideal) (iblk m c 0 t) (View.ld (iblk m c 1 t) r0_3) : S512x768.Idx → EReal) (ix2 r j)
      = val3 m c (512 * t.val + r.val) j.val := by
  have e (x : Vec Ideal S512x1024 .f32) (y : Vec Ideal S1024x768 .bf16) :
      k0_pay5 (F := Ideal) x y (ix2 r j) = ∑ k : Fin 1024, x (ix2 r k) * y (ix2 k j) := by
    pointwise [k0_pay5, k0_pay3]
  refine (e _ _).trans ?_
  have l (k : Fin 1024) : (View.ld (iblk m c 1 t) r0_3 : S1024x768.Idx → EReal) (ix2 k j) = packedAt m c k ⟨512 + j.val, by omega⟩ := by
    refine Eq.trans ?_ (blk1 m c t k ⟨512 + j.val, by omega⟩)
    refine congrArg (iblk m c 1 t : S1024x4096.Idx → EReal) ?_
    funext a; apply Fin.ext
    match a with
    | ⟨0, _⟩ => show 0 + 1 * k.val = k.val; omega
    | ⟨1, _⟩ => show 512 + 1 * j.val = 512 + j.val; omega
  refine Eq.trans (Finset.sum_congr rfl fun k _ => congrArg₂ (· * ·) (blk0 m c t r k) ((l k).trans (cols_q m c k j))) ?_
  unfold val3
  exact sum_lanes m c _ _ _

/-- The value of row `r`, entry `n` of result 3. -/
def val4 (r n : ℕ) : EReal := pr m c r (1320 + n)

/-- The product payload of result 3 at point `t`. -/
theorem pay_4 (t : Fin cfg0.N) (r : Fin 512) (j : Fin 1536) :
    (k0_pay6 (F := Ideal) (iblk m c 0 t) (View.ld (iblk m c 1 t) r0_5) : S512x1536.Idx → EReal) (ix2 r j)
      = val4 m c (512 * t.val + r.val) j.val := by
  have e (x : Vec Ideal S512x1024 .f32) (y : Vec Ideal S1024x1536 .bf16) :
      k0_pay6 (F := Ideal) x y (ix2 r j) = ∑ k : Fin 1024, x (ix2 r k) * y (ix2 k j) := by
    pointwise [k0_pay6, k0_pay3]
  refine (e _ _).trans ?_
  have l (k : Fin 1024) : (View.ld (iblk m c 1 t) r0_5 : S1024x1536.Idx → EReal) (ix2 k j) = packedAt m c k ⟨1280 + j.val, by omega⟩ := by
    refine Eq.trans ?_ (blk1 m c t k ⟨1280 + j.val, by omega⟩)
    refine congrArg (iblk m c 1 t : S1024x4096.Idx → EReal) ?_
    funext a; apply Fin.ext
    match a with
    | ⟨0, _⟩ => show 0 + 1 * k.val = k.val; omega
    | ⟨1, _⟩ => show 1280 + 1 * j.val = 1280 + j.val; omega
  refine Eq.trans (Finset.sum_congr rfl fun k _ => congrArg₂ (· * ·) (blk0 m c t r k) ((l k).trans (cols_r m c k j))) ?_
  unfold val4
  rfl

/-- The value of row `r`, entry `n` of result 4. -/
def val5 (r n : ℕ) : EReal := if n % 128 < 32 then pr m c r (1024 + 32 * (n / 128) + n % 128) else 0

/-- The product payload of result 4 at point `t`. -/
theorem pay_5 (t : Fin cfg0.N) (r : Fin 512) (j : Fin 1024) :
    (k0_pay7 (F := Ideal) (iblk m c 0 t) (View.ld (iblk m c 1 t) r0_7) : S512x1024.Idx → EReal) (ix2 r j)
      = val5 m c (512 * t.val + r.val) j.val := by
  have e (x : Vec Ideal S512x1024 .f32) (y : Vec Ideal S1024x1024 .bf16) :
      k0_pay7 (F := Ideal) x y (ix2 r j) = ∑ k : Fin 1024, x (ix2 r k) * y (ix2 k j) := by
    pointwise [k0_pay7, k0_pay3]
  refine (e _ _).trans ?_
  have l (k : Fin 1024) : (View.ld (iblk m c 1 t) r0_7 : S1024x1024.Idx → EReal) (ix2 k j) = packedAt m c k ⟨2816 + j.val, by omega⟩ := by
    refine Eq.trans ?_ (blk1 m c t k ⟨2816 + j.val, by omega⟩)
    refine congrArg (iblk m c 1 t : S1024x4096.Idx → EReal) ?_
    funext a; apply Fin.ext
    match a with
    | ⟨0, _⟩ => show 0 + 1 * k.val = k.val; omega
    | ⟨1, _⟩ => show 2816 + 1 * j.val = 2816 + j.val; omega
  refine Eq.trans (Finset.sum_congr rfl fun k _ => congrArg₂ (· * ·) (blk0 m c t r k) ((l k).trans (cols_i m c k j))) ?_
  unfold val5
  exact sum_pad m c _ _ _

/-- The value of row `r`, entry `n` of result 5. -/
def val6 (r n : ℕ) : EReal := pr m c r (896 + n)

/-- The product payload of result 5 at point `t`. -/
theorem pay_6 (t : Fin cfg0.N) (r : Fin 512) (j : Fin 128) :
    (k0_pay8 (F := Ideal) (iblk m c 0 t) (View.ld (iblk m c 1 t) r0_8) : S512x128.Idx → EReal) (ix2 r j)
      = val6 m c (512 * t.val + r.val) j.val := by
  have e (x : Vec Ideal S512x1024 .f32) (y : Vec Ideal S1024x128 .bf16) :
      k0_pay8 (F := Ideal) x y (ix2 r j) = ∑ k : Fin 1024, x (ix2 r k) * y (ix2 k j) := by
    pointwise [k0_pay8, k0_pay3]
  refine (e _ _).trans ?_
  have l (k : Fin 1024) : (View.ld (iblk m c 1 t) r0_8 : S1024x128.Idx → EReal) (ix2 k j) = packedAt m c k ⟨3840 + j.val, by omega⟩ := by
    refine Eq.trans ?_ (blk1 m c t k ⟨3840 + j.val, by omega⟩)
    refine congrArg (iblk m c 1 t : S1024x4096.Idx → EReal) ?_
    funext a; apply Fin.ext
    match a with
    | ⟨0, _⟩ => show 0 + 1 * k.val = k.val; omega
    | ⟨1, _⟩ => show 3840 + 1 * j.val = 3840 + j.val; omega
  refine Eq.trans (Finset.sum_congr rfl fun k _ => congrArg₂ (· * ·) (blk0 m c t r k) ((l k).trans (cols_kv m c k j))) ?_
  unfold val6
  rfl

/-- The value of row `r`, entry `n` of result 6. -/
def val7 (r n : ℕ) : EReal := if n < 40 then pr m c r (1280 + n) else 0

/-- The product payload of result 6 at point `t`. -/
theorem pay_7 (t : Fin cfg0.N) (r : Fin 512) (j : Fin 128) :
    (k0_pay9 (F := Ideal) (iblk m c 0 t) (View.ld (iblk m c 1 t) r0_9) : S512x128.Idx → EReal) (ix2 r j)
      = val7 m c (512 * t.val + r.val) j.val := by
  have e (x : Vec Ideal S512x1024 .f32) (y : Vec Ideal S1024x128 .bf16) :
      k0_pay9 (F := Ideal) x y (ix2 r j) = ∑ k : Fin 1024, x (ix2 r k) * y (ix2 k j) := by
    pointwise [k0_pay9, k0_pay3]
  refine (e _ _).trans ?_
  have l (k : Fin 1024) : (View.ld (iblk m c 1 t) r0_9 : S1024x128.Idx → EReal) (ix2 k j) = packedAt m c k ⟨3968 + j.val, by omega⟩ := by
    refine Eq.trans ?_ (blk1 m c t k ⟨3968 + j.val, by omega⟩)
    refine congrArg (iblk m c 1 t : S1024x4096.Idx → EReal) ?_
    funext a; apply Fin.ext
    match a with
    | ⟨0, _⟩ => show 0 + 1 * k.val = k.val; omega
    | ⟨1, _⟩ => show 3968 + 1 * j.val = 3968 + j.val; omega
  refine Eq.trans (Finset.sum_congr rfl fun k _ => congrArg₂ (· * ·) (blk0 m c t r k) ((l k).trans (cols_kw m c k j))) ?_
  unfold val7
  exact sum_pad m c _ _ _

/-- The contents of result 1. -/
def G2 : S16384x512.Idx → EReal := fun i => val2 m c (i 0).val (i 1).val

theorem idx2 : ∀ t : Fin cfg0.N, win0_2.index t (0 : Fin 2) = t.val ∧ win0_2.index t (1 : Fin 2) = 0 :=
  (by decide +kernel : ∀ t : Fin grid0.N, _)

/-- What point `t` writes back to result 1 is its block of the contents. -/
theorem flushed2_eq (t : Fin cfg0.N) :
    (dats m 0 c).flushed 2 t = ((cfg0.win 2).blk t).view.read (Elt Ideal) (G2 m c) := by
  rw [Value.flushed2]
  unfold out0_2
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx2 t
  have key (r : Fin 512) (j : Fin 512) : (k0_pay4 (F := Ideal) (iblk m c 0 t) (View.ld (iblk m c 1 t) r0_1) : S512x512.Idx → EReal) (ix2 r j)
      = G2 m c (((cfg0.win 2).blk t).view.emb (ix2 r j)) := by
    have e : (((cfg0.win 2).blk t).view.emb (ix2 r j) : S16384x512.Idx) = ix2 ⟨512 * t.val + r.val, by omega⟩ j := by
      funext a; apply Fin.ext
      match a with
      | ⟨0, _⟩ => show win0_2.index t 0 * 512 + 1 * r.val = 512 * t.val + r.val; omega
      | ⟨1, _⟩ => show win0_2.index t 1 * 512 + 1 * j.val = j.val; omega
    rw [e]
    exact pay_2 m c t r j
  refine funext (α := S512x512.Idx) fun y => ?_
  idx_vars y
  exact key _ _

/-- The blocks of result 1 tile it, so it ends at its contents. -/
theorem final2 : (dats m 0 c).arrAt 2 cfg0.N = G2 m c :=
  (dats m 0 c).arrAt_eq_of_cover 2 (G2 m c) (fun t _ => flushed2_eq m c t) fun i => by
    revert i
    show ∀ i : S16384x512.Idx, _
    intro i
    have h0 : (i 0).val < 16384 := (i 0).isLt
    have h1 : (i 1).val < 512 := (i 1).isLt
    have hlt : (i 0).val / 512 < cfg0.N := lt_of_lt_of_eq (by omega) N_0.symm
    obtain ⟨e0, e1⟩ := idx2 ⟨(i 0).val / 512, hlt⟩
    refine ⟨⟨(i 0).val / 512, hlt⟩, flush0_2 _, ?_⟩
    show i ∈ ((View.whole main_v49_0).slice (win0_2.rect ⟨(i 0).val / 512, hlt⟩)).set
    rw [View.set_slice_whole, Rect.mem_set_unit]
    intro a
    match a with
    | ⟨0, _⟩ => show win0_2.index ⟨(i 0).val / 512, hlt⟩ (0 : Fin 2) * 512 ≤ (i 0).val ∧ (i 0).val < win0_2.index ⟨(i 0).val / 512, hlt⟩ (0 : Fin 2) * 512 + 512; dsimp only at e0; omega
    | ⟨1, _⟩ => show win0_2.index ⟨(i 0).val / 512, hlt⟩ (1 : Fin 2) * 512 ≤ (i 1).val ∧ (i 1).val < win0_2.index ⟨(i 0).val / 512, hlt⟩ (1 : Fin 2) * 512 + 512; omega

/-- The contents of result 2. -/
def G3 : S16384x768.Idx → EReal := fun i => val3 m c (i 0).val (i 1).val

theorem idx3 : ∀ t : Fin cfg0.N, win0_3.index t (0 : Fin 2) = t.val ∧ win0_3.index t (1 : Fin 2) = 0 :=
  (by decide +kernel : ∀ t : Fin grid0.N, _)

/-- What point `t` writes back to result 2 is its block of the contents. -/
theorem flushed3_eq (t : Fin cfg0.N) :
    (dats m 0 c).flushed 3 t = ((cfg0.win 3).blk t).view.read (Elt Ideal) (G3 m c) := by
  rw [Value.flushed3]
  unfold out0_3
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx3 t
  have key (r : Fin 512) (j : Fin 768) : (k0_pay5 (F := Ideal) (iblk m c 0 t) (View.ld (iblk m c 1 t) r0_3) : S512x768.Idx → EReal) (ix2 r j)
      = G3 m c (((cfg0.win 3).blk t).view.emb (ix2 r j)) := by
    have e : (((cfg0.win 3).blk t).view.emb (ix2 r j) : S16384x768.Idx) = ix2 ⟨512 * t.val + r.val, by omega⟩ j := by
      funext a; apply Fin.ext
      match a with
      | ⟨0, _⟩ => show win0_3.index t 0 * 512 + 1 * r.val = 512 * t.val + r.val; omega
      | ⟨1, _⟩ => show win0_3.index t 1 * 768 + 1 * j.val = j.val; omega
    rw [e]
    exact pay_3 m c t r j
  refine funext (α := S512x768.Idx) fun y => ?_
  idx_vars y
  exact key _ _

/-- The blocks of result 2 tile it, so it ends at its contents. -/
theorem final3 : (dats m 0 c).arrAt 3 cfg0.N = G3 m c :=
  (dats m 0 c).arrAt_eq_of_cover 3 (G3 m c) (fun t _ => flushed3_eq m c t) fun i => by
    revert i
    show ∀ i : S16384x768.Idx, _
    intro i
    have h0 : (i 0).val < 16384 := (i 0).isLt
    have h1 : (i 1).val < 768 := (i 1).isLt
    have hlt : (i 0).val / 512 < cfg0.N := lt_of_lt_of_eq (by omega) N_0.symm
    obtain ⟨e0, e1⟩ := idx3 ⟨(i 0).val / 512, hlt⟩
    refine ⟨⟨(i 0).val / 512, hlt⟩, flush0_3 _, ?_⟩
    show i ∈ ((View.whole main_v49_1).slice (win0_3.rect ⟨(i 0).val / 512, hlt⟩)).set
    rw [View.set_slice_whole, Rect.mem_set_unit]
    intro a
    match a with
    | ⟨0, _⟩ => show win0_3.index ⟨(i 0).val / 512, hlt⟩ (0 : Fin 2) * 512 ≤ (i 0).val ∧ (i 0).val < win0_3.index ⟨(i 0).val / 512, hlt⟩ (0 : Fin 2) * 512 + 512; dsimp only at e0; omega
    | ⟨1, _⟩ => show win0_3.index ⟨(i 0).val / 512, hlt⟩ (1 : Fin 2) * 768 ≤ (i 1).val ∧ (i 1).val < win0_3.index ⟨(i 0).val / 512, hlt⟩ (1 : Fin 2) * 768 + 768; omega

/-- The contents of result 3. -/
def G4 : S16384x1536.Idx → EReal := fun i => val4 m c (i 0).val (i 1).val

theorem idx4 : ∀ t : Fin cfg0.N, win0_4.index t (0 : Fin 2) = t.val ∧ win0_4.index t (1 : Fin 2) = 0 :=
  (by decide +kernel : ∀ t : Fin grid0.N, _)

/-- What point `t` writes back to result 3 is its block of the contents. -/
theorem flushed4_eq (t : Fin cfg0.N) :
    (dats m 0 c).flushed 4 t = ((cfg0.win 4).blk t).view.read (Elt Ideal) (G4 m c) := by
  rw [Value.flushed4]
  unfold out0_4
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx4 t
  have key (r : Fin 512) (j : Fin 1536) : (k0_pay6 (F := Ideal) (iblk m c 0 t) (View.ld (iblk m c 1 t) r0_5) : S512x1536.Idx → EReal) (ix2 r j)
      = G4 m c (((cfg0.win 4).blk t).view.emb (ix2 r j)) := by
    have e : (((cfg0.win 4).blk t).view.emb (ix2 r j) : S16384x1536.Idx) = ix2 ⟨512 * t.val + r.val, by omega⟩ j := by
      funext a; apply Fin.ext
      match a with
      | ⟨0, _⟩ => show win0_4.index t 0 * 512 + 1 * r.val = 512 * t.val + r.val; omega
      | ⟨1, _⟩ => show win0_4.index t 1 * 1536 + 1 * j.val = j.val; omega
    rw [e]
    exact pay_4 m c t r j
  refine funext (α := S512x1536.Idx) fun y => ?_
  idx_vars y
  exact key _ _

/-- The blocks of result 3 tile it, so it ends at its contents. -/
theorem final4 : (dats m 0 c).arrAt 4 cfg0.N = G4 m c :=
  (dats m 0 c).arrAt_eq_of_cover 4 (G4 m c) (fun t _ => flushed4_eq m c t) fun i => by
    revert i
    show ∀ i : S16384x1536.Idx, _
    intro i
    have h0 : (i 0).val < 16384 := (i 0).isLt
    have h1 : (i 1).val < 1536 := (i 1).isLt
    have hlt : (i 0).val / 512 < cfg0.N := lt_of_lt_of_eq (by omega) N_0.symm
    obtain ⟨e0, e1⟩ := idx4 ⟨(i 0).val / 512, hlt⟩
    refine ⟨⟨(i 0).val / 512, hlt⟩, flush0_4 _, ?_⟩
    show i ∈ ((View.whole main_v49_2).slice (win0_4.rect ⟨(i 0).val / 512, hlt⟩)).set
    rw [View.set_slice_whole, Rect.mem_set_unit]
    intro a
    match a with
    | ⟨0, _⟩ => show win0_4.index ⟨(i 0).val / 512, hlt⟩ (0 : Fin 2) * 512 ≤ (i 0).val ∧ (i 0).val < win0_4.index ⟨(i 0).val / 512, hlt⟩ (0 : Fin 2) * 512 + 512; dsimp only at e0; omega
    | ⟨1, _⟩ => show win0_4.index ⟨(i 0).val / 512, hlt⟩ (1 : Fin 2) * 1536 ≤ (i 1).val ∧ (i 1).val < win0_4.index ⟨(i 0).val / 512, hlt⟩ (1 : Fin 2) * 1536 + 1536; omega

/-- The contents of result 4. -/
def G5 : S16384x1024.Idx → EReal := fun i => val5 m c (i 0).val (i 1).val

theorem idx5 : ∀ t : Fin cfg0.N, win0_5.index t (0 : Fin 2) = t.val ∧ win0_5.index t (1 : Fin 2) = 0 :=
  (by decide +kernel : ∀ t : Fin grid0.N, _)

/-- What point `t` writes back to result 4 is its block of the contents. -/
theorem flushed5_eq (t : Fin cfg0.N) :
    (dats m 0 c).flushed 5 t = ((cfg0.win 5).blk t).view.read (Elt Ideal) (G5 m c) := by
  rw [Value.flushed5]
  unfold out0_5
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx5 t
  have key (r : Fin 512) (j : Fin 1024) : (k0_pay7 (F := Ideal) (iblk m c 0 t) (View.ld (iblk m c 1 t) r0_7) : S512x1024.Idx → EReal) (ix2 r j)
      = G5 m c (((cfg0.win 5).blk t).view.emb (ix2 r j)) := by
    have e : (((cfg0.win 5).blk t).view.emb (ix2 r j) : S16384x1024.Idx) = ix2 ⟨512 * t.val + r.val, by omega⟩ j := by
      funext a; apply Fin.ext
      match a with
      | ⟨0, _⟩ => show win0_5.index t 0 * 512 + 1 * r.val = 512 * t.val + r.val; omega
      | ⟨1, _⟩ => show win0_5.index t 1 * 1024 + 1 * j.val = j.val; omega
    rw [e]
    exact pay_5 m c t r j
  refine funext (α := S512x1024.Idx) fun y => ?_
  idx_vars y
  exact key _ _

/-- The blocks of result 4 tile it, so it ends at its contents. -/
theorem final5 : (dats m 0 c).arrAt 5 cfg0.N = G5 m c :=
  (dats m 0 c).arrAt_eq_of_cover 5 (G5 m c) (fun t _ => flushed5_eq m c t) fun i => by
    revert i
    show ∀ i : S16384x1024.Idx, _
    intro i
    have h0 : (i 0).val < 16384 := (i 0).isLt
    have h1 : (i 1).val < 1024 := (i 1).isLt
    have hlt : (i 0).val / 512 < cfg0.N := lt_of_lt_of_eq (by omega) N_0.symm
    obtain ⟨e0, e1⟩ := idx5 ⟨(i 0).val / 512, hlt⟩
    refine ⟨⟨(i 0).val / 512, hlt⟩, flush0_5 _, ?_⟩
    show i ∈ ((View.whole main_v49_3).slice (win0_5.rect ⟨(i 0).val / 512, hlt⟩)).set
    rw [View.set_slice_whole, Rect.mem_set_unit]
    intro a
    match a with
    | ⟨0, _⟩ => show win0_5.index ⟨(i 0).val / 512, hlt⟩ (0 : Fin 2) * 512 ≤ (i 0).val ∧ (i 0).val < win0_5.index ⟨(i 0).val / 512, hlt⟩ (0 : Fin 2) * 512 + 512; dsimp only at e0; omega
    | ⟨1, _⟩ => show win0_5.index ⟨(i 0).val / 512, hlt⟩ (1 : Fin 2) * 1024 ≤ (i 1).val ∧ (i 1).val < win0_5.index ⟨(i 0).val / 512, hlt⟩ (1 : Fin 2) * 1024 + 1024; omega

/-- The contents of result 5. -/
def G6 : S16384x128.Idx → EReal := fun i => val6 m c (i 0).val (i 1).val

theorem idx6 : ∀ t : Fin cfg0.N, win0_6.index t (0 : Fin 2) = t.val ∧ win0_6.index t (1 : Fin 2) = 0 :=
  (by decide +kernel : ∀ t : Fin grid0.N, _)

/-- What point `t` writes back to result 5 is its block of the contents. -/
theorem flushed6_eq (t : Fin cfg0.N) :
    (dats m 0 c).flushed 6 t = ((cfg0.win 6).blk t).view.read (Elt Ideal) (G6 m c) := by
  rw [Value.flushed6]
  unfold out0_6
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx6 t
  have key (r : Fin 512) (j : Fin 128) : (k0_pay8 (F := Ideal) (iblk m c 0 t) (View.ld (iblk m c 1 t) r0_8) : S512x128.Idx → EReal) (ix2 r j)
      = G6 m c (((cfg0.win 6).blk t).view.emb (ix2 r j)) := by
    have e : (((cfg0.win 6).blk t).view.emb (ix2 r j) : S16384x128.Idx) = ix2 ⟨512 * t.val + r.val, by omega⟩ j := by
      funext a; apply Fin.ext
      match a with
      | ⟨0, _⟩ => show win0_6.index t 0 * 512 + 1 * r.val = 512 * t.val + r.val; omega
      | ⟨1, _⟩ => show win0_6.index t 1 * 128 + 1 * j.val = j.val; omega
    rw [e]
    exact pay_6 m c t r j
  refine funext (α := S512x128.Idx) fun y => ?_
  idx_vars y
  exact key _ _

/-- The blocks of result 5 tile it, so it ends at its contents. -/
theorem final6 : (dats m 0 c).arrAt 6 cfg0.N = G6 m c :=
  (dats m 0 c).arrAt_eq_of_cover 6 (G6 m c) (fun t _ => flushed6_eq m c t) fun i => by
    revert i
    show ∀ i : S16384x128.Idx, _
    intro i
    have h0 : (i 0).val < 16384 := (i 0).isLt
    have h1 : (i 1).val < 128 := (i 1).isLt
    have hlt : (i 0).val / 512 < cfg0.N := lt_of_lt_of_eq (by omega) N_0.symm
    obtain ⟨e0, e1⟩ := idx6 ⟨(i 0).val / 512, hlt⟩
    refine ⟨⟨(i 0).val / 512, hlt⟩, flush0_6 _, ?_⟩
    show i ∈ ((View.whole main_v49_4).slice (win0_6.rect ⟨(i 0).val / 512, hlt⟩)).set
    rw [View.set_slice_whole, Rect.mem_set_unit]
    intro a
    match a with
    | ⟨0, _⟩ => show win0_6.index ⟨(i 0).val / 512, hlt⟩ (0 : Fin 2) * 512 ≤ (i 0).val ∧ (i 0).val < win0_6.index ⟨(i 0).val / 512, hlt⟩ (0 : Fin 2) * 512 + 512; dsimp only at e0; omega
    | ⟨1, _⟩ => show win0_6.index ⟨(i 0).val / 512, hlt⟩ (1 : Fin 2) * 128 ≤ (i 1).val ∧ (i 1).val < win0_6.index ⟨(i 0).val / 512, hlt⟩ (1 : Fin 2) * 128 + 128; omega

/-- The contents of result 6. -/
def G7 : S16384x128.Idx → EReal := fun i => val7 m c (i 0).val (i 1).val

theorem idx7 : ∀ t : Fin cfg0.N, win0_7.index t (0 : Fin 2) = t.val ∧ win0_7.index t (1 : Fin 2) = 0 :=
  (by decide +kernel : ∀ t : Fin grid0.N, _)

/-- What point `t` writes back to result 6 is its block of the contents. -/
theorem flushed7_eq (t : Fin cfg0.N) :
    (dats m 0 c).flushed 7 t = ((cfg0.win 7).blk t).view.read (Elt Ideal) (G7 m c) := by
  rw [Value.flushed7]
  unfold out0_7
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx7 t
  have key (r : Fin 512) (j : Fin 128) : (k0_pay9 (F := Ideal) (iblk m c 0 t) (View.ld (iblk m c 1 t) r0_9) : S512x128.Idx → EReal) (ix2 r j)
      = G7 m c (((cfg0.win 7).blk t).view.emb (ix2 r j)) := by
    have e : (((cfg0.win 7).blk t).view.emb (ix2 r j) : S16384x128.Idx) = ix2 ⟨512 * t.val + r.val, by omega⟩ j := by
      funext a; apply Fin.ext
      match a with
      | ⟨0, _⟩ => show win0_7.index t 0 * 512 + 1 * r.val = 512 * t.val + r.val; omega
      | ⟨1, _⟩ => show win0_7.index t 1 * 128 + 1 * j.val = j.val; omega
    rw [e]
    exact pay_7 m c t r j
  refine funext (α := S512x128.Idx) fun y => ?_
  idx_vars y
  exact key _ _

/-- The blocks of result 6 tile it, so it ends at its contents. -/
theorem final7 : (dats m 0 c).arrAt 7 cfg0.N = G7 m c :=
  (dats m 0 c).arrAt_eq_of_cover 7 (G7 m c) (fun t _ => flushed7_eq m c t) fun i => by
    revert i
    show ∀ i : S16384x128.Idx, _
    intro i
    have h0 : (i 0).val < 16384 := (i 0).isLt
    have h1 : (i 1).val < 128 := (i 1).isLt
    have hlt : (i 0).val / 512 < cfg0.N := lt_of_lt_of_eq (by omega) N_0.symm
    obtain ⟨e0, e1⟩ := idx7 ⟨(i 0).val / 512, hlt⟩
    refine ⟨⟨(i 0).val / 512, hlt⟩, flush0_7 _, ?_⟩
    show i ∈ ((View.whole main_v49_5).slice (win0_7.rect ⟨(i 0).val / 512, hlt⟩)).set
    rw [View.set_slice_whole, Rect.mem_set_unit]
    intro a
    match a with
    | ⟨0, _⟩ => show win0_7.index ⟨(i 0).val / 512, hlt⟩ (0 : Fin 2) * 512 ≤ (i 0).val ∧ (i 0).val < win0_7.index ⟨(i 0).val / 512, hlt⟩ (0 : Fin 2) * 512 + 512; dsimp only at e0; omega
    | ⟨1, _⟩ => show win0_7.index ⟨(i 0).val / 512, hlt⟩ (1 : Fin 2) * 128 ≤ (i 1).val ∧ (i 1).val < win0_7.index ⟨(i 0).val / 512, hlt⟩ (1 : Fin 2) * 128 + 128; omega

/-- The contents of result 7. -/
def G8 : S16384x128.Idx → EReal := fun i => val6 m c (i 0).val (i 1).val

theorem idx8 : ∀ t : Fin cfg0.N, win0_8.index t (0 : Fin 2) = t.val ∧ win0_8.index t (1 : Fin 2) = 0 :=
  (by decide +kernel : ∀ t : Fin grid0.N, _)

/-- What point `t` writes back to result 7 is its block of the contents. -/
theorem flushed8_eq (t : Fin cfg0.N) :
    (dats m 0 c).flushed 8 t = ((cfg0.win 8).blk t).view.read (Elt Ideal) (G8 m c) := by
  rw [Value.flushed8]
  unfold out0_8
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx8 t
  have key (r : Fin 512) (j : Fin 128) : (k0_pay1 (k0_pay8 (F := Ideal) (iblk m c 0 t) (View.ld (iblk m c 1 t) r0_8)) : S512x128.Idx → EReal) (ix2 r j)
      = G8 m c (((cfg0.win 8).blk t).view.emb (ix2 r j)) := by
    have e : (((cfg0.win 8).blk t).view.emb (ix2 r j) : S16384x128.Idx) = ix2 ⟨512 * t.val + r.val, by omega⟩ j := by
      funext a; apply Fin.ext
      match a with
      | ⟨0, _⟩ => show win0_8.index t 0 * 512 + 1 * r.val = 512 * t.val + r.val; omega
      | ⟨1, _⟩ => show win0_8.index t 1 * 128 + 1 * j.val = j.val; omega
    rw [e]
    exact pay_6 m c t r j
  refine funext (α := S512x128.Idx) fun y => ?_
  idx_vars y
  exact key _ _

/-- The blocks of result 7 tile it, so it ends at its contents. -/
theorem final8 : (dats m 0 c).arrAt 8 cfg0.N = G8 m c :=
  (dats m 0 c).arrAt_eq_of_cover 8 (G8 m c) (fun t _ => flushed8_eq m c t) fun i => by
    revert i
    show ∀ i : S16384x128.Idx, _
    intro i
    have h0 : (i 0).val < 16384 := (i 0).isLt
    have h1 : (i 1).val < 128 := (i 1).isLt
    have hlt : (i 0).val / 512 < cfg0.N := lt_of_lt_of_eq (by omega) N_0.symm
    obtain ⟨e0, e1⟩ := idx8 ⟨(i 0).val / 512, hlt⟩
    refine ⟨⟨(i 0).val / 512, hlt⟩, flush0_8 _, ?_⟩
    show i ∈ ((View.whole main_v49_6).slice (win0_8.rect ⟨(i 0).val / 512, hlt⟩)).set
    rw [View.set_slice_whole, Rect.mem_set_unit]
    intro a
    match a with
    | ⟨0, _⟩ => show win0_8.index ⟨(i 0).val / 512, hlt⟩ (0 : Fin 2) * 512 ≤ (i 0).val ∧ (i 0).val < win0_8.index ⟨(i 0).val / 512, hlt⟩ (0 : Fin 2) * 512 + 512; dsimp only at e0; omega
    | ⟨1, _⟩ => show win0_8.index ⟨(i 0).val / 512, hlt⟩ (1 : Fin 2) * 128 ≤ (i 1).val ∧ (i 1).val < win0_8.index ⟨(i 0).val / 512, hlt⟩ (1 : Fin 2) * 128 + 128; omega

/-- The contents of result 8. -/
def G9 : S16384x128.Idx → EReal := fun i => val7 m c (i 0).val (i 1).val

theorem idx9 : ∀ t : Fin cfg0.N, win0_9.index t (0 : Fin 2) = t.val ∧ win0_9.index t (1 : Fin 2) = 0 :=
  (by decide +kernel : ∀ t : Fin grid0.N, _)

/-- What point `t` writes back to result 8 is its block of the contents. -/
theorem flushed9_eq (t : Fin cfg0.N) :
    (dats m 0 c).flushed 9 t = ((cfg0.win 9).blk t).view.read (Elt Ideal) (G9 m c) := by
  rw [Value.flushed9]
  unfold out0_9
  rw [View.canon_unit_zero hz]
  try unfold k0_pay10
  try unfold k0_pay11
  rw [View.ld_unit_zero hz]
  have hN : t.val < 32 := lt_of_lt_of_eq t.isLt (show cfg0.N = 32 from N_0)
  obtain ⟨e0, e1⟩ := idx9 t
  have key (r : Fin 512) (j : Fin 128) : (k0_pay2 (k0_pay9 (F := Ideal) (iblk m c 0 t) (View.ld (iblk m c 1 t) r0_9)) : S512x128.Idx → EReal) (ix2 r j)
      = G9 m c (((cfg0.win 9).blk t).view.emb (ix2 r j)) := by
    have e : (((cfg0.win 9).blk t).view.emb (ix2 r j) : S16384x128.Idx) = ix2 ⟨512 * t.val + r.val, by omega⟩ j := by
      funext a; apply Fin.ext
      match a with
      | ⟨0, _⟩ => show win0_9.index t 0 * 512 + 1 * r.val = 512 * t.val + r.val; omega
      | ⟨1, _⟩ => show win0_9.index t 1 * 128 + 1 * j.val = j.val; omega
    rw [e]
    exact pay_7 m c t r j
  refine funext (α := S512x128.Idx) fun y => ?_
  idx_vars y
  exact key _ _

/-- The blocks of result 8 tile it, so it ends at its contents. -/
theorem final9 : (dats m 0 c).arrAt 9 cfg0.N = G9 m c :=
  (dats m 0 c).arrAt_eq_of_cover 9 (G9 m c) (fun t _ => flushed9_eq m c t) fun i => by
    revert i
    show ∀ i : S16384x128.Idx, _
    intro i
    have h0 : (i 0).val < 16384 := (i 0).isLt
    have h1 : (i 1).val < 128 := (i 1).isLt
    have hlt : (i 0).val / 512 < cfg0.N := lt_of_lt_of_eq (by omega) N_0.symm
    obtain ⟨e0, e1⟩ := idx9 ⟨(i 0).val / 512, hlt⟩
    refine ⟨⟨(i 0).val / 512, hlt⟩, flush0_9 _, ?_⟩
    show i ∈ ((View.whole main_v49_7).slice (win0_9.rect ⟨(i 0).val / 512, hlt⟩)).set
    rw [View.set_slice_whole, Rect.mem_set_unit]
    intro a
    match a with
    | ⟨0, _⟩ => show win0_9.index ⟨(i 0).val / 512, hlt⟩ (0 : Fin 2) * 512 ≤ (i 0).val ∧ (i 0).val < win0_9.index ⟨(i 0).val / 512, hlt⟩ (0 : Fin 2) * 512 + 512; dsimp only at e0; omega
    | ⟨1, _⟩ => show win0_9.index ⟨(i 0).val / 512, hlt⟩ (1 : Fin 2) * 128 ≤ (i 1).val ∧ (i 1).val < win0_9.index ⟨(i 0).val / 512, hlt⟩ (1 : Fin 2) * 128 + 128; omega

end Cert.Kernel3Ideal.Val

end
-- ==== Proof.Proj.Ref.lean ====
/- The projection's reference read at an index, over the extended reals: its eight arrays in terms of the input's product with the weight. -/
module

public import proofs.«01_k».proof.Proof.Gen.Reference3Ideal.Read
public import proofs.«01_k».proof.Proof.Proj.Spec

@[expose] public section

set_option maxRecDepth 16384

noncomputable section

namespace Cert.Reference3Ideal.Val

open Cert.Reference3Ideal Cert.Reference3Ideal.Gen Cert.Reference3Ideal.Read
open Idealize.ShloMosaic Idealize.ShloMosaic.TcCoe Idealize.SL.Sem
open Cert.Ffn Cert.Proj

variable (x0 : (⟨S2x8192x1024, .f32⟩ : BufTy).Contents (Elt Ideal)) (x1 : (⟨S1024x2856, .f32⟩ : BufTy).Contents (Elt Ideal))

/-- Row `8192·b + t` of the product is position `t` of sequence `b`. -/
theorem v0_apply (b : Fin 2) (t : Fin 8192) (n : Fin 2856) :
    val_main_v0 (F := Ideal) x0 x1 (ix3 b t n) = prj x0 x1 (8192 * b.val + t.val) n.val := by
  pointwise [val_main_v0]
  unfold prj
  refine Finset.sum_congr rfl fun k _ => congrArg₂ (· * ·) ?_ (at2_fin _ _ _)
  rw [at3_fin (a := 2) (b := 8192) (d := 1024) x0, show (8192 * b.val + t.val) / 8192 = b.val by omega, show (8192 * b.val + t.val) % 8192 = t.val by omega]

/-- Columns 0 to 255 of the product, its rows flattened. -/
theorem v13_apply (r : Fin 16384) (j : Fin 256) : val_main_v13 (F := Ideal) x0 x1 (ix2 r j) = prj x0 x1 r.val (0 + j.val) := by
  have hr := r.isLt
  have hj := j.isLt
  pointwise [val_main_v13, val_main_v1]
  refine (v0_apply x0 x1 _ _ _).trans ?_
  exact congrArg₂ (prj x0 x1) (by first | (dsimp only <;> omega) | omega) (by first | (dsimp only <;> omega) | omega)

/-- Columns 256 to 511 of the product, its rows flattened. -/
theorem v14_apply (r : Fin 16384) (j : Fin 256) : val_main_v14 (F := Ideal) x0 x1 (ix2 r j) = prj x0 x1 r.val (256 + j.val) := by
  have hr := r.isLt
  have hj := j.isLt
  pointwise [val_main_v14, val_main_v2]
  refine (v0_apply x0 x1 _ _ _).trans ?_
  exact congrArg₂ (prj x0 x1) (by first | (dsimp only <;> omega) | omega) (by first | (dsimp only <;> omega) | omega)

/-- Columns 512 to 895 of the product, its rows flattened. -/
theorem v15_apply (r : Fin 16384) (j : Fin 384) : val_main_v15 (F := Ideal) x0 x1 (ix2 r j) = prj x0 x1 r.val (512 + j.val) := by
  have hr := r.isLt
  have hj := j.isLt
  pointwise [val_main_v15, val_main_v3]
  refine (v0_apply x0 x1 _ _ _).trans ?_
  exact congrArg₂ (prj x0 x1) (by first | (dsimp only <;> omega) | omega) (by first | (dsimp only <;> omega) | omega)

/-- Columns 896 to 959 of the product, its rows flattened. -/
theorem v16_apply (r : Fin 16384) (j : Fin 64) : val_main_v16 (F := Ideal) x0 x1 (ix2 r j) = prj x0 x1 r.val (896 + j.val) := by
  have hr := r.isLt
  have hj := j.isLt
  pointwise [val_main_v16, val_main_v4]
  refine (v0_apply x0 x1 _ _ _).trans ?_
  exact congrArg₂ (prj x0 x1) (by first | (dsimp only <;> omega) | omega) (by first | (dsimp only <;> omega) | omega)

/-- Columns 960 to 1023 of the product, its rows flattened. -/
theorem v17_apply (r : Fin 16384) (j : Fin 64) : val_main_v17 (F := Ideal) x0 x1 (ix2 r j) = prj x0 x1 r.val (960 + j.val) := by
  have hr := r.isLt
  have hj := j.isLt
  pointwise [val_main_v17, val_main_v5]
  refine (v0_apply x0 x1 _ _ _).trans ?_
  exact congrArg₂ (prj x0 x1) (by first | (dsimp only <;> omega) | omega) (by first | (dsimp only <;> omega) | omega)

/-- Columns 1024 to 1279 of the product, its rows flattened. -/
theorem v18_apply (r : Fin 16384) (j : Fin 256) : val_main_v18 (F := Ideal) x0 x1 (ix2 r j) = prj x0 x1 r.val (1024 + j.val) := by
  have hr := r.isLt
  have hj := j.isLt
  pointwise [val_main_v18, val_main_v6]
  refine (v0_apply x0 x1 _ _ _).trans ?_
  exact congrArg₂ (prj x0 x1) (by first | (dsimp only <;> omega) | omega) (by first | (dsimp only <;> omega) | omega)

/-- Columns 1280 to 1311 of the product, its rows flattened. -/
theorem v19_apply (r : Fin 16384) (j : Fin 32) : val_main_v19 (F := Ideal) x0 x1 (ix2 r j) = prj x0 x1 r.val (1280 + j.val) := by
  have hr := r.isLt
  have hj := j.isLt
  pointwise [val_main_v19, val_main_v7]
  refine (v0_apply x0 x1 _ _ _).trans ?_
  exact congrArg₂ (prj x0 x1) (by first | (dsimp only <;> omega) | omega) (by first | (dsimp only <;> omega) | omega)

/-- Columns 1312 to 1319 of the product, its rows flattened. -/
theorem v20_apply (r : Fin 16384) (j : Fin 8) : val_main_v20 (F := Ideal) x0 x1 (ix2 r j) = prj x0 x1 r.val (1312 + j.val) := by
  have hr := r.isLt
  have hj := j.isLt
  pointwise [val_main_v20, val_main_v8]
  refine (v0_apply x0 x1 _ _ _).trans ?_
  exact congrArg₂ (prj x0 x1) (by first | (dsimp only <;> omega) | omega) (by first | (dsimp only <;> omega) | omega)

/-- Columns 1320 to 1703 of the product, its rows flattened. -/
theorem v21_apply (r : Fin 16384) (j : Fin 384) : val_main_v21 (F := Ideal) x0 x1 (ix2 r j) = prj x0 x1 r.val (1320 + j.val) := by
  have hr := r.isLt
  have hj := j.isLt
  pointwise [val_main_v21, val_main_v9]
  refine (v0_apply x0 x1 _ _ _).trans ?_
  exact congrArg₂ (prj x0 x1) (by first | (dsimp only <;> omega) | omega) (by first | (dsimp only <;> omega) | omega)

/-- Columns 1704 to 2087 of the product, its rows flattened. -/
theorem v22_apply (r : Fin 16384) (j : Fin 384) : val_main_v22 (F := Ideal) x0 x1 (ix2 r j) = prj x0 x1 r.val (1704 + j.val) := by
  have hr := r.isLt
  have hj := j.isLt
  pointwise [val_main_v22, val_main_v10]
  refine (v0_apply x0 x1 _ _ _).trans ?_
  exact congrArg₂ (prj x0 x1) (by first | (dsimp only <;> omega) | omega) (by first | (dsimp only <;> omega) | omega)

/-- Columns 2088 to 2471 of the product, its rows flattened. -/
theorem v23_apply (r : Fin 16384) (j : Fin 384) : val_main_v23 (F := Ideal) x0 x1 (ix2 r j) = prj x0 x1 r.val (2088 + j.val) := by
  have hr := r.isLt
  have hj := j.isLt
  pointwise [val_main_v23, val_main_v11]
  refine (v0_apply x0 x1 _ _ _).trans ?_
  exact congrArg₂ (prj x0 x1) (by first | (dsimp only <;> omega) | omega) (by first | (dsimp only <;> omega) | omega)

/-- Columns 2472 to 2855 of the product, its rows flattened. -/
theorem v24_apply (r : Fin 16384) (j : Fin 384) : val_main_v24 (F := Ideal) x0 x1 (ix2 r j) = prj x0 x1 r.val (2472 + j.val) := by
  have hr := r.isLt
  have hj := j.isLt
  pointwise [val_main_v24, val_main_v12]
  refine (v0_apply x0 x1 _ _ _).trans ?_
  exact congrArg₂ (prj x0 x1) (by first | (dsimp only <;> omega) | omega) (by first | (dsimp only <;> omega) | omega)

/-- The word of the integer zero is zero. -/
theorem zero_word : (FloatOps.sitofp (F := Ideal) .f32 (0#32 : BitVec 32) : EReal) = 0 := by
  show (((0#32 : BitVec 32).toInt : ℝ) : EReal) = 0
  simp

/-- The first mixer's columns. -/
theorem v28_apply (r : Fin 16384) (j : Fin 512) : val_main_v28 (F := Ideal) x0 x1 (ix2 r j) = prj x0 x1 r.val j.val := by
  have hj := j.isLt
  pointwise [val_main_v28]
  by_cases h : j.val < 256
  · rw [dif_pos h]
    exact (v13_apply x0 x1 r ⟨j.val, h⟩).trans (congrArg (prj x0 x1 _) (by first | (dsimp only <;> omega) | omega))
  · rw [dif_neg h]
    exact (v14_apply x0 x1 r ⟨j.val - 256, by omega⟩).trans (congrArg (prj x0 x1 _) (by first | (dsimp only <;> omega) | omega))

/-- The attention's keys and values. -/
theorem v25_apply (r : Fin 16384) (j : Fin 128) : val_main_v25 (F := Ideal) x0 x1 (ix2 r j) = prj x0 x1 r.val (896 + j.val) := by
  have hj := j.isLt
  pointwise [val_main_v25]
  by_cases h : j.val < 64
  · rw [dif_pos h]
    exact v16_apply x0 x1 r ⟨j.val, h⟩
  · rw [dif_neg h]
    exact (v17_apply x0 x1 r ⟨j.val - 64, by omega⟩).trans (congrArg (prj x0 x1 _) (by first | (dsimp only <;> omega) | omega))

/-- The indexer's keys and weights. -/
theorem v26_apply (r : Fin 16384) (j : Fin 40) : val_main_v26 (F := Ideal) x0 x1 (ix2 r j) = prj x0 x1 r.val (1280 + j.val) := by
  have hj := j.isLt
  pointwise [val_main_v26]
  by_cases h : j.val < 32
  · rw [dif_pos h]
    exact v19_apply x0 x1 r ⟨j.val, h⟩
  · rw [dif_neg h]
    exact (v20_apply x0 x1 r ⟨j.val - 32, by omega⟩).trans (congrArg (prj x0 x1 _) (by first | (dsimp only <;> omega) | omega))

/-- The indexer's keys and weights, padded. -/
theorem v27_apply (r : Fin 16384) (j : Fin 128) : val_main_v27 (F := Ideal) x0 x1 (ix2 r j)
    = if j.val < 40 then prj x0 x1 r.val (1280 + j.val) else 0 := by
  have hj := j.isLt
  pointwise [val_main_v27, val_main_call0_v0, val_main_c]
  by_cases h : j.val < 40
  · rw [if_pos h, dif_pos (by omega)]
    exact v26_apply x0 x1 r ⟨j.val, h⟩
  · rw [if_neg h, dif_neg (by omega)]
    exact zero_word

/-- The recurrence's queries, keys, values and gates. -/
theorem v35_apply (r : Fin 16384) (j : Fin 1536) : val_main_v35 (F := Ideal) x0 x1 (ix2 r j) = prj x0 x1 r.val (1320 + j.val) := by
  have hj := j.isLt
  pointwise [val_main_v35]
  by_cases h : j.val < 384
  · rw [dif_pos h]
    exact v21_apply x0 x1 r ⟨j.val, h⟩
  · rw [dif_neg h]
    by_cases h2 : j.val < 768
    · rw [dif_pos (by omega)]
      exact (v22_apply x0 x1 r ⟨j.val - 384, by omega⟩).trans (congrArg (prj x0 x1 _) (by first | (dsimp only <;> omega) | omega))
    · rw [dif_neg (by omega)]
      by_cases h3 : j.val < 1152
      · rw [dif_pos (by omega)]
        exact (v23_apply x0 x1 r ⟨j.val - 384 - 384, by omega⟩).trans (congrArg (prj x0 x1 _) (by first | (dsimp only <;> omega) | omega))
      · rw [dif_neg (by omega)]
        exact (v24_apply x0 x1 r ⟨j.val - 384 - 384 - 384, by omega⟩).trans (congrArg (prj x0 x1 _) (by first | (dsimp only <;> omega) | omega))

/-- The attention's queries, scaled and laid out by heads. -/
theorem v31_apply (r : Fin 16384) (h : Fin 6) (j : Fin 64) : val_main_v31 (F := Ideal) x0 x1 (ix3 r h j)
    = prj x0 x1 r.val (512 + (64 * h.val + j.val)) * scale := by
  have hr := r.isLt
  have hh := h.isLt
  have hj := j.isLt
  pointwise [val_main_v31, val_main_v30, val_main_v29, val_main_cst]
  refine congrArg (· * scale) ((v15_apply x0 x1 _ _).trans ?_)
  exact congrArg₂ (prj x0 x1) (by first | (dsimp only <;> omega) | omega) (by first | (dsimp only <;> omega) | omega)

/-- The attention's queries, each head padded to 128 lanes. -/
theorem v34_apply (r : Fin 16384) (j : Fin 768) : val_main_v34 (F := Ideal) x0 x1 (ix2 r j)
    = if j.val % 128 < 64 then prj x0 x1 r.val (512 + 64 * (j.val / 128) + j.val % 128) * scale else 0 := by
  have hr := r.isLt
  have hj := j.isLt
  pointwise [val_main_v34, val_main_v33, val_main_v32, val_main_call1_v0, val_main_c_0]
  by_cases h : j.val % 128 < 64
  · rw [if_pos h, dif_pos (by omega)]
    refine (v31_apply x0 x1 _ _ _).trans (congrArg (· * scale) (congrArg₂ (prj x0 x1) (by first | (dsimp only <;> omega) | omega) (by first | (dsimp only <;> omega) | omega)))
  · rw [if_neg h, dif_neg (by omega)]
    exact zero_word

/-- The indexer's queries laid out by heads. -/
theorem v36_apply (r : Fin 16384) (h : Fin 8) (j : Fin 32) : val_main_v36 (F := Ideal) x0 x1 (ix3 r h j)
    = prj x0 x1 r.val (1024 + (32 * h.val + j.val)) := by
  have hr := r.isLt
  have hh := h.isLt
  have hj := j.isLt
  pointwise [val_main_v36]
  refine (v18_apply x0 x1 _ _).trans ?_
  exact congrArg₂ (prj x0 x1) (by first | (dsimp only <;> omega) | omega) (by first | (dsimp only <;> omega) | omega)

/-- The indexer's queries, each head padded to 128 lanes. -/
theorem v39_apply (r : Fin 16384) (j : Fin 1024) : val_main_v39 (F := Ideal) x0 x1 (ix2 r j)
    = if j.val % 128 < 32 then prj x0 x1 r.val (1024 + 32 * (j.val / 128) + j.val % 128) else 0 := by
  have hr := r.isLt
  have hj := j.isLt
  pointwise [val_main_v39, val_main_v38, val_main_v37, val_main_call2_v0, val_main_c_1]
  by_cases h : j.val % 128 < 32
  · rw [if_pos h, dif_pos (by omega)]
    refine (v36_apply x0 x1 _ _ _).trans (congrArg₂ (prj x0 x1) (by first | (dsimp only <;> omega) | omega) (by first | (dsimp only <;> omega) | omega))
  · rw [if_neg h, dif_neg (by omega)]
    exact zero_word

/-- The rounded keys and values are the keys and values. -/
theorem v40_apply (r : Fin 16384) (j : Fin 128) : val_main_v40 (F := Ideal) x0 x1 (ix2 r j) = prj x0 x1 r.val (896 + j.val) :=
  v25_apply x0 x1 r j

/-- The rounded indexer's keys and weights are the indexer's keys and weights. -/
theorem v41_apply (r : Fin 16384) (j : Fin 128) : val_main_v41 (F := Ideal) x0 x1 (ix2 r j)
    = if j.val < 40 then prj x0 x1 r.val (1280 + j.val) else 0 :=
  v27_apply x0 x1 r j

end Cert.Reference3Ideal.Val

end
-- ==== Proof.Proj.Claim.lean ====
/- The projection's claims: the launches' frames, and the equality of the kernel's eight arrays with the reference's. -/
module

public import proofs.«01_k».proof.Defs
public import proofs.«01_k».proof.Proof.Gen.Kernel3.Frame
public import proofs.«01_k».proof.Proof.Gen.Reference3Ideal.Run
public import proofs.«01_k».proof.Proof.Proj.Kernel
public import proofs.«01_k».proof.Proof.Proj.Ref

@[expose] public section

set_option maxRecDepth 16384

noncomputable section

namespace Cert.Proj.Claim

open Idealize.ShloMosaic Idealize.ShloMosaic.TcCoe Idealize.SL.Sem Idealize.ShloMosaic.StableHlo

/-- The kernel's frame on the machine's words. -/
theorem frame_kernel : Cert.quiescent_Kernel3 := fun m ρ _ => Cert.Kernel3.Gen.frame m ρ

/-- The kernel's frame at the ideal instance. -/
theorem frame_kernelIdeal : Cert.quiescent_Kernel3Ideal := fun m ρ _ => Cert.Kernel3Ideal.Gen.frame m ρ

/-- The reference's frame at the ideal instance. -/
theorem frame_referenceIdeal : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- No operation was rewritten. -/
theorem preserves : Cert.preserves_Kernel3_Kernel3Ideal := trivial

/-- At the ideal instance the kernel's eight arrays are the reference's. -/
theorem algebraic : Cert.algebraic_Kernel3Ideal_Reference3Ideal := by
  intro m ρ m' ρ' _ hag
  refine ⟨fun c => Cert.Kernel3Ideal.Val.G2 m c, fun c => Cert.Kernel3Ideal.Val.G3 m c, fun c => Cert.Kernel3Ideal.Val.G4 m c, fun c => Cert.Kernel3Ideal.Val.G5 m c, fun c => Cert.Kernel3Ideal.Val.G6 m c, fun c => Cert.Kernel3Ideal.Val.G7 m c, fun c => Cert.Kernel3Ideal.Val.G8 m c, fun c => Cert.Kernel3Ideal.Val.G9 m c, ?_, ?_⟩
  · refine (θ_run Cert.Kernel3Ideal.defs _ _).mono (fun r h c => ?_) (Cert.Kernel3Ideal.Value.run_blocks (F := Ideal) m ρ)
    obtain ⟨h2, h3, h4, h5, h6, h7, h8, h9, h10⟩ := h c
    exact ⟨h2.trans (Cert.Kernel3Ideal.Val.final2 m c), h3.trans (Cert.Kernel3Ideal.Val.final3 m c), h4.trans (Cert.Kernel3Ideal.Val.final4 m c), h5.trans (Cert.Kernel3Ideal.Val.final5 m c), h6.trans (Cert.Kernel3Ideal.Val.final6 m c), h7.trans (Cert.Kernel3Ideal.Val.final7 m c), h8.trans (Cert.Kernel3Ideal.Val.final8 m c), h9.trans (Cert.Kernel3Ideal.Val.final9 m c), h10⟩
  · refine (θ_run Cert.Reference3Ideal.defs _ _).mono (fun r h c => ?_) (Cert.Reference3Ideal.Value.run (F := Ideal) m' ρ')
    obtain ⟨h2, h3, h4, h5, h6, h7, h8, h9, h10⟩ := h c
    obtain ⟨a0, a1⟩ := hag c
    refine ⟨h2.trans ?_, h3.trans ?_, h4.trans ?_, h5.trans ?_, h6.trans ?_, h7.trans ?_, h8.trans ?_, h9.trans ?_, h10⟩
    · refine (Cert.Reference3Ideal.Read.val_main_v28_eq _ _).trans ?_
      rw [a0, a1]
      funext i
      idx_vars i
      exact Cert.Reference3Ideal.Val.v28_apply _ _ _ _
    · refine (Cert.Reference3Ideal.Read.val_main_v34_eq _ _).trans ?_
      rw [a0, a1]
      funext i
      idx_vars i
      exact Cert.Reference3Ideal.Val.v34_apply _ _ _ _
    · refine (Cert.Reference3Ideal.Read.val_main_v35_eq _ _).trans ?_
      rw [a0, a1]
      funext i
      idx_vars i
      exact Cert.Reference3Ideal.Val.v35_apply _ _ _ _
    · refine (Cert.Reference3Ideal.Read.val_main_v39_eq _ _).trans ?_
      rw [a0, a1]
      funext i
      idx_vars i
      exact Cert.Reference3Ideal.Val.v39_apply _ _ _ _
    · refine (Cert.Reference3Ideal.Read.val_main_v25_eq _ _).trans ?_
      rw [a0, a1]
      funext i
      idx_vars i
      exact Cert.Reference3Ideal.Val.v25_apply _ _ _ _
    · refine (Cert.Reference3Ideal.Read.val_main_v27_eq _ _).trans ?_
      rw [a0, a1]
      funext i
      idx_vars i
      exact Cert.Reference3Ideal.Val.v27_apply _ _ _ _
    · refine (Cert.Reference3Ideal.Read.val_main_v40_eq _ _).trans ?_
      rw [a0, a1]
      funext i
      idx_vars i
      exact Cert.Reference3Ideal.Val.v40_apply _ _ _ _
    · refine (Cert.Reference3Ideal.Read.val_main_v41_eq _ _).trans ?_
      rw [a0, a1]
      funext i
      idx_vars i
      exact Cert.Reference3Ideal.Val.v41_apply _ _ _ _

end Cert.Proj.Claim

end
-- ==== Proof.Ffn.Kit2.lean ====
/-
  What a grid point of the prompt's feed-forward kernel computes, as functions of the blocks it reads and of what the scratch
  buffers hold; and where the body's three conditions hold.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.VecWindow
public import Idealize.ShloMosaic.Lib.Pipeline.Value
public import Idealize.ShloMosaic.Lib.Tactic
public import Idealize.ShloMosaic.Lib.WordCmp

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a point computes -/

/-- The normalised rows before they are stored, from the rows' blocks, the output weights and the scale and shift. -/
def X1 (x : Vec F S512x1024 .f32) (oa : Vec F S512x256 .f32) (ob oc : Vec F S512x384 .f32) (wo : Vec F S1024x1024 .bf16)
    (g b : Vec F S1x1024 .f32) : Vec F S512x1024 .f32 :=
  let wa : Vec F S256x1024 .bf16 := View.ld wo (Rect.unit (s := S1024x1024) ![0, 0] S256x1024.size inb_S1024x1024_S256x1024_0_0)
  let wb : Vec F S384x1024 .bf16 := View.ld wo (Rect.unit (s := S1024x1024) ![256, 0] S384x1024.size inb_S1024x1024_S384x1024_256_0)
  let wc : Vec F S384x1024 .bf16 := View.ld wo (Rect.unit (s := S1024x1024) ![640, 0] S384x1024.size inb_S1024x1024_S384x1024_640_0)
  k0_pay8 (k0_pay3 g) (k0_pay4 b) (k0_pay5 oa wa ob wb oc wc x) (k0_pay6 oa wa ob wb oc wc x)

/-- The same rows in the narrow format. -/
def XB (x : Vec F S512x1024 .f32) (oa : Vec F S512x256 .f32) (ob oc : Vec F S512x384 .f32) (wo : Vec F S1024x1024 .bf16)
    (g b : Vec F S1x1024 .f32) : Vec F S512x1024 .bf16 :=
  let wa : Vec F S256x1024 .bf16 := View.ld wo (Rect.unit (s := S1024x1024) ![0, 0] S256x1024.size inb_S1024x1024_S256x1024_0_0)
  let wb : Vec F S384x1024 .bf16 := View.ld wo (Rect.unit (s := S1024x1024) ![256, 0] S384x1024.size inb_S1024x1024_S384x1024_256_0)
  let wc : Vec F S384x1024 .bf16 := View.ld wo (Rect.unit (s := S1024x1024) ![640, 0] S384x1024.size inb_S1024x1024_S384x1024_640_0)
  k0_pay9 (k0_pay3 g) (k0_pay4 b) (k0_pay5 oa wa ob wb oc wc x) (k0_pay6 oa wa ob wb oc wc x)

/-- One point's step of the accumulator: from the narrow rows, the point's weight blocks and the eight rows before it. -/
def Acc (xb : Vec F S512x1024 .bf16) (wg wu : Vec F S1024x1408 .bf16) (cw : Vec F S3x1408 .f32) (cb : Vec F S1x1408 .f32)
    (wd : Vec F S1408x1024 .bf16) (prev : Vec F S1x8x1408 .f32) (acc : Vec F S512x1024 .f32) : Vec F S512x1024 .f32 :=
  k0_pay1 (k0_pay12 xb wu) (k0_pay21 (k0_pay11 xb wg) (k0_pay13 xb wg) (k0_pay14 xb wg) (k0_pay17 prev) (k0_pay18 prev)
    (iota .tc S8x1408 32 [0] iota_S8x1408_d0_w32) 0#32 cw cb) acc wd

/-- The last eight rows of a point's gate, as the carry keeps them. -/
def Tail (xb : Vec F S512x1024 .bf16) (wg : Vec F S1024x1408 .bf16) : Vec F S1x8x1408 .f32 := k0_pay19 (k0_pay11 xb wg)

/-! ## Where the carry's slots lie -/

theorem slot_inb (k : Fin 2) : ∀ a, (![k.val, 0, 0] : Fin 3 → ℕ) a + S1x8x1408.size a ≤ S2x8x1408.size a := by
  fin_cases k <;> intro a <;> fin_cases a <;> decide

/-- Slot `k` of a carry. -/
def slot (x : Vec F S2x8x1408 .f32) (k : Fin 2) : Vec F S1x8x1408 .f32 :=
  VecWindow.window x ![k.val, 0, 0] S1x8x1408.size (slot_inb k)

/-- A carry with slot `k` replaced. -/
def setSlot (x : Vec F S2x8x1408 .f32) (k : Fin 2) (v : Vec F S1x8x1408 .f32) : Vec F S2x8x1408 .f32 :=
  VecWindow.put x ![k.val, 0, 0] S1x8x1408.size v

theorem slot_setSlot (x : Vec F S2x8x1408 .f32) (k : Fin 2) (v : Vec F S1x8x1408 .f32) : slot (setSlot x k v) k = v :=
  VecWindow.window_put_same x _ _ _ v

theorem slot_setSlot_ne (x : Vec F S2x8x1408 .f32) (k l : Fin 2) (h : l ≠ k) (v : Vec F S1x8x1408 .f32) :
    slot (setSlot x k v) l = slot x l :=
  VecWindow.window_put_of_disjoint x _ _ _ _ _ v (0 : Fin 3) (by
    show l.val + 1 ≤ k.val ∨ k.val + 1 ≤ l.val
    have : l.val ≠ k.val := fun e => h (Fin.ext e)
    omega)

theorem setSlot_setSlot (x : Vec F S2x8x1408 .f32) (k : Fin 2) (v w : Vec F S1x8x1408 .f32) :
    setSlot (setSlot x k v) k w = setSlot x k w := VecWindow.put_put_same x _ _ v w

theorem off2_eq (i : grid0.Coords) : k0_off2 i = ![(i 1).val, 0, 0] := by
  have h : (i 1).val < 2 := (i 1).isLt
  have e : (BitVec.ofNat 32 (i 1).val).toNat = (i 1).val := by
    rw [BitVec.toNat_ofNat]; exact Nat.mod_eq_of_lt (by omega)
  unfold k0_off2 Scalar.indexCast
  simp [h]
  omega

theorem off_eq (i : grid0.Coords) :
    (![BitVec.toNat (Scalar.indexCast (BitVec.ofNat 32 (i 1).val)), 0, 0] : Fin 3 → ℕ) = ![(i 1).val, 0, 0] := off2_eq i

/-- A load of the carry at the point's slot. -/
theorem ld_slot (x : Vec F S2x8x1408 .f32) (i : grid0.Coords)
    (inb : ∀ a, (![BitVec.toNat (Scalar.indexCast (BitVec.ofNat 32 (i 1).val)), 0, 0] : Fin 3 → ℕ) a + S1x8x1408.size a ≤ S2x8x1408.size a) :
    View.ld (Val := Elt F) (e' := .f32) x (Rect.unit (s := S2x8x1408) ![BitVec.toNat (Scalar.indexCast (BitVec.ofNat 32 (i 1).val)), 0, 0] S1x8x1408.size inb)
      = slot x (i 1) := by
  have h : ∀ (off : Fin 3 → ℕ) (inb : ∀ a, off a + S1x8x1408.size a ≤ S2x8x1408.size a), off = ![(i 1).val, 0, 0] →
      View.ld (Val := Elt F) (e' := .f32) x (Rect.unit (s := S2x8x1408) off S1x8x1408.size inb) = slot x (i 1) := by
    intro off inb h; subst h; rfl
  exact h _ inb (off_eq i)

/-- A load of the box just stored reads what was stored. -/
theorem cov_same {sp : Space} (v : View sig .tc sp S2x8x1408 .f32) {off : Fin 3 → ℕ}
    (inb inb' : ∀ a, off a + S1x8x1408.size a ≤ S2x8x1408.size a) (w : Vec F S1x8x1408 .f32) (L : List (View.Piece (Elt F) S2x8x1408 .f32)) :
    v.readCov ((⟨Rect.unit off S1x8x1408.size inb, w⟩ : View.Piece (Elt F) S2x8x1408 .f32) :: L) (Rect.unit (s := S2x8x1408) off S1x8x1408.size inb').toLoadRect = w := by
  unfold View.readCov
  rw [View.readAt_unit v _ inb' rfl inb', View.read_writes_cons_put v _ inb w L rfl]
  exact VecWindow.window_put_same (s := S2x8x1408) _ _ _ inb' w

theorem hz : (![0, 0] : Fin 2 → Nat) = fun _ => 0 := funext fun a => by fin_cases a <;> rfl

theorem off1_eq (i : grid0.Coords) : k0_off1 i = ![(i 1).val, 0, 0] := off2_eq i

/-- The carry after zeros are stored in the point's slot. -/
theorem first_store {sp : Space} (a : Memref sig .tc sp S2x8x1408 .f32) (ha : a.IsWhole) (xc : Vec F S2x8x1408 .f32) (i : grid0.Coords)
    (h : k0_cond2 i = 1#1) :
    View.read (Elt F) a.view (a.view.writes (Elt F) (ha.unread xc) [(⟨Rect.unit (k0_off1 i) S1x8x1408.size (k0_off1_inb i h), k0_pay15⟩ : View.Piece (Elt F) S2x8x1408 .f32)])
      = setSlot xc (i 1) k0_pay15 := by
  rw [View.read_writes_cons_put _ _ _ _ _ (off1_eq i), View.writes_nil, ha.read_unread]
  rfl

theorem put_of_eq {a b : Vec F S2x8x1408 .f32} (h : a = b) (k : Fin 2) (v : Vec F S1x8x1408 .f32) :
    VecWindow.put a ![k.val, 0, 0] S1x8x1408.size v = setSlot b k v := by
  rw [h]; rfl

/-! ## The body's conditions over the points -/

/-- The first column block of a row block. -/
abbrev first (i : grid0.Coords) : Prop := (Scalar.cmpi .ne (Scalar.extui (Scalar.cmpi .eq (BitVec.ofNat 32 (i 1).val) 0#32)) 0#32) = 1#1
/-- The first row block of a sequence. -/
abbrev start (i : grid0.Coords) : Prop := k0_cond2 i = 1#1
/-- The last column block of a row block. -/
abbrev last (i : grid0.Coords) : Prop := k0_cond3 i = 1#1

theorem first_iff : ∀ t : Fin cfg0.N, first (grid0.coords t) ↔ t.val % 2 = 0 := by decide +kernel
theorem start_iff : ∀ t : Fin cfg0.N, start (grid0.coords t) ↔ t.val / 2 % 16 = 0 := by decide +kernel
theorem last_iff : ∀ t : Fin cfg0.N, last (grid0.coords t) ↔ t.val % 2 = 1 := by decide +kernel
theorem idle14 : ∀ t : Fin cfg0.N, t.val % 2 = 0 → cfg0.idle 14 (grid0.coords t) = true := by decide +kernel
theorem noFlush14 : ∀ t : Fin cfg0.N, t.val % 2 = 0 → (cfg0.win 14).flush t = false := by decide +kernel
theorem live14 : ∀ t : Fin cfg0.N, t.val % 2 = 1 → cfg0.idle 14 (grid0.coords t) = false := by decide +kernel
theorem slot_of (t : Fin cfg0.N) : (grid0.coords t 1).val = t.val % 2 := by
  have h : (grid0.coords t 1).val = t.val / 1 % 2 := Pipeline.Grid.coords_val t 1 (by decide) rfl
  rw [h, Nat.div_one]

end Cert.Kernel2Ideal.Hand

end
-- ==== Proof.Ffn.Run2A.lean ====
/-
  The body run on any staging buffers at a point that is the first column block of its row block, at the start of a
  sequence: what every buffer holds afterwards.
-/
module

public import proofs.«01_k».proof.Proof.Ffn.Kit2

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case: from the inputs' blocks, the scratch at anything and a carry `xc`, to the contents named. -/
theorem run_A (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1408 .bf16) (harg9 : arg9.IsWhole) (arg10 : Memref sig .tc .vmem S1024x1408 .bf16) (harg10 : arg10.IsWhole) (arg11 : Memref sig .tc .vmem S3x1408 .f32) (harg11 : arg11.IsWhole) (arg12 : Memref sig .tc .vmem S1x1408 .f32) (harg12 : arg12.IsWhole) (arg13 : Memref sig .tc .vmem S1408x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x8x1408 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S2x8x1408 .f32) (harg21 : arg21.IsWhole)
    (hc0 : first i) (hc1 : start i) (hc2 : ¬last i)
    (x0 : Vec F S512x1024 .f32) (x1 : Vec F S512x256 .f32) (x2 : Vec F S512x384 .f32) (x3 : Vec F S512x384 .f32) (x4 : Vec F S1024x1024 .bf16) (x5 : Vec F S1x1024 .f32) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S1x1024 .f32) (xi14 : Vec F S512x1024 .f32) (xc : Vec F S2x8x1408 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare (k0_pay20 (k0_pay11 (XB x0 x1 x2 x3 x4 x5 x6) x7)) ∗ owns (c : Thread nD τ) arg18 fullShare (X1 x0 x1 x2 x3 x4 x5 x6) ∗ owns (c : Thread nD τ) arg19 fullShare (XB x0 x1 x2 x3 x4 x5 x6) ∗ owns (c : Thread nD τ) arg20 fullShare (Acc (XB x0 x1 x2 x3 x4 x5 x6) x7 x8 x9 x10 x11 k0_pay15 k0_pay10) ∗ owns (c : Thread nD τ) arg21 fullShare (setSlot xc (i 1) (Tail (XB x0 x1 x2 x3 x4 x5 x6) x7))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hfs3
  sl_exec (disch := first | sl_exact hc0 | sl_exact hc1 | sl_exact hc2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H15]
  · iexists _; isplitr
    swap; · iexact H15
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS0]
  · iexists _; isplitr
    swap; · iexact HS0
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS1]
  · iexists _; isplitr
    swap; · iexact HS1
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS2]
  · iexists _; isplitr
    swap; · iexact HS2
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => (Acc (XB x0 x1 x2 x3 x4 x5 x6) x7 x8 x9 x10 x11 z k0_pay10)) (cov_same arg21.view (k0_off1_inb i hc1) (k0_off2_inb i) k0_pay15 [])
  iexists _; isplitr
  swap; · iexact HS3
  ipureintro; rw [View.read_writes_cons_put _ _ _ _ _ (off2_eq i)]
  refine (put_of_eq (first_store arg21 harg21 xc i hc1) (i 1) _).trans ?_
  sl_unfold_words
  simp only [View.readCov_unit_zero (S := S512x1024) _ hz, View.canon_unit_zero (S := S512x1024) hz, View.readAt_eq_ld, Memref.IsWhole.read_unread,
    View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
  exact setSlot_setSlot xc (i 1) _ _

end Cert.Kernel2Ideal.Hand

end
-- ==== Proof.Ffn.Run2B.lean ====
/-
  The body run on any staging buffers at a point that is the first column block of its row block, not at the start of a
  sequence: what every buffer holds afterwards.
-/
module

public import proofs.«01_k».proof.Proof.Ffn.Run2A

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case: from the inputs' blocks, the scratch at anything and a carry `xc`, to the contents named. -/
theorem run_B (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1408 .bf16) (harg9 : arg9.IsWhole) (arg10 : Memref sig .tc .vmem S1024x1408 .bf16) (harg10 : arg10.IsWhole) (arg11 : Memref sig .tc .vmem S3x1408 .f32) (harg11 : arg11.IsWhole) (arg12 : Memref sig .tc .vmem S1x1408 .f32) (harg12 : arg12.IsWhole) (arg13 : Memref sig .tc .vmem S1408x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x8x1408 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S2x8x1408 .f32) (harg21 : arg21.IsWhole)
    (hc0 : first i) (hc1 : ¬start i) (hc2 : ¬last i)
    (x0 : Vec F S512x1024 .f32) (x1 : Vec F S512x256 .f32) (x2 : Vec F S512x384 .f32) (x3 : Vec F S512x384 .f32) (x4 : Vec F S1024x1024 .bf16) (x5 : Vec F S1x1024 .f32) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S1x1024 .f32) (xi14 : Vec F S512x1024 .f32) (xc : Vec F S2x8x1408 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare (k0_pay20 (k0_pay11 (XB x0 x1 x2 x3 x4 x5 x6) x7)) ∗ owns (c : Thread nD τ) arg18 fullShare (X1 x0 x1 x2 x3 x4 x5 x6) ∗ owns (c : Thread nD τ) arg19 fullShare (XB x0 x1 x2 x3 x4 x5 x6) ∗ owns (c : Thread nD τ) arg20 fullShare (Acc (XB x0 x1 x2 x3 x4 x5 x6) x7 x8 x9 x10 x11 (slot xc (i 1)) k0_pay10) ∗ owns (c : Thread nD τ) arg21 fullShare (setSlot xc (i 1) (Tail (XB x0 x1 x2 x3 x4 x5 x6) x7))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, ⟨%ds1, %fs1, -, HS1⟩, ⟨%ds2, %fs2, -, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hfs3
  sl_exec (disch := first | sl_exact hc0 | sl_exact hc1 | sl_exact hc2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; exact harg16.read_unread _
  isplitl [H15]
  · iexists _; isplitr
    swap; · iexact H15
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS0]
  · iexists _; isplitr
    swap; · iexact HS0
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS1]
  · iexists _; isplitr
    swap; · iexact HS1
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    rfl
  isplitl [HS2]
  · iexists _; isplitr
    swap; · iexact HS2
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => (Acc (XB x0 x1 x2 x3 x4 x5 x6) x7 x8 x9 x10 x11 z k0_pay10)) (ld_slot xc i _)
  iexists _; isplitr
  swap; · iexact HS3
  ipureintro; rw [View.read_writes_cons_put _ _ _ _ _ (off2_eq i)]
  rw [View.writes_nil, harg21.read_unread]
  sl_unfold_words
  simp only [View.readCov_unit_zero (S := S512x1024) _ hz, View.canon_unit_zero (S := S512x1024) hz, View.readAt_eq_ld, Memref.IsWhole.read_unread,
    View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
  rfl

end Cert.Kernel2Ideal.Hand

end
-- ==== Proof.Ffn.Run2C.lean ====
/-
  The body run on any staging buffers at a point that is the last column block of its row block, at the start of a
  sequence: what every buffer holds afterwards.
-/
module

public import proofs.«01_k».proof.Proof.Ffn.Run2B

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case: from the inputs' blocks, the scratch as the point before left it and a carry `xc`, to the contents named. -/
theorem run_C (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1408 .bf16) (harg9 : arg9.IsWhole) (arg10 : Memref sig .tc .vmem S1024x1408 .bf16) (harg10 : arg10.IsWhole) (arg11 : Memref sig .tc .vmem S3x1408 .f32) (harg11 : arg11.IsWhole) (arg12 : Memref sig .tc .vmem S1x1408 .f32) (harg12 : arg12.IsWhole) (arg13 : Memref sig .tc .vmem S1408x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x8x1408 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S2x8x1408 .f32) (harg21 : arg21.IsWhole)
    (hc0 : ¬first i) (hc1 : start i) (hc2 : last i)
    (x0 : Vec F S512x1024 .f32) (x1 : Vec F S512x256 .f32) (x2 : Vec F S512x384 .f32) (x3 : Vec F S512x384 .f32) (x4 : Vec F S1024x1024 .bf16) (x5 : Vec F S1x1024 .f32) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S1x1024 .f32) (xs0 : Vec F S512x1024 .f32) (xs1 : Vec F S512x1024 .bf16) (xs2 : Vec F S512x1024 .f32) (xc : Vec F S2x8x1408 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay2 xs0 (Acc xs1 x7 x8 x9 x10 x11 k0_pay15 xs2) x12 x13) ∗ owns (c : Thread nD τ) arg17 fullShare (k0_pay20 (k0_pay11 xs1 x7)) ∗ owns (c : Thread nD τ) arg18 fullShare xs0 ∗ owns (c : Thread nD τ) arg19 fullShare xs1 ∗ owns (c : Thread nD τ) arg20 fullShare (Acc xs1 x7 x8 x9 x10 x11 k0_pay15 xs2) ∗ owns (c : Thread nD τ) arg21 fullShare (setSlot xc (i 1) (Tail xs1 x7))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1; obtain rfl := harg20.eq_unread hfs2; obtain rfl := harg21.eq_unread hfs3
  sl_exec (disch := first | sl_exact hc0 | sl_exact hc1 | sl_exact hc2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => k0_pay2 xs0 (Acc xs1 x7 x8 x9 x10 x11 z xs2) x12 x13) (cov_same arg21.view (k0_off1_inb i hc1) (k0_off2_inb i) k0_pay15 [])
  isplitl [H15]
  · iexists _; isplitr
    swap; · iexact H15
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    try rfl
  isplitl [HS0]
  · iexists _; isplitr
    swap; · iexact HS0
    ipureintro; exact harg18.read_unread _
  isplitl [HS1]
  · iexists _; isplitr
    swap; · iexact HS1
    ipureintro; exact harg19.read_unread _
  isplitl [HS2]
  · iexists _; isplitr
    swap; · iexact HS2
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => (Acc xs1 x7 x8 x9 x10 x11 z xs2)) (cov_same arg21.view (k0_off1_inb i hc1) (k0_off2_inb i) k0_pay15 [])
  iexists _; isplitr
  swap; · iexact HS3
  ipureintro; rw [View.read_writes_cons_put _ _ _ _ _ (off2_eq i)]
  refine (put_of_eq (first_store arg21 harg21 xc i hc1) (i 1) _).trans ?_
  sl_unfold_words
  simp only [View.readCov_unit_zero (S := S512x1024) _ hz, View.canon_unit_zero (S := S512x1024) hz, View.readAt_eq_ld, Memref.IsWhole.read_unread,
    View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
  exact setSlot_setSlot xc (i 1) _ _

end Cert.Kernel2Ideal.Hand

end
-- ==== Proof.Ffn.Run2D.lean ====
/-
  The body run on any staging buffers at a point that is the last column block of its row block, not at the start of a
  sequence: what every buffer holds afterwards.
-/
module

public import proofs.«01_k».proof.Proof.Ffn.Run2C

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case: from the inputs' blocks, the scratch as the point before left it and a carry `xc`, to the contents named. -/
theorem run_D (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x384 .f32) (harg4 : arg4.IsWhole) (arg5 : Memref sig .tc .vmem S512x384 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1408 .bf16) (harg9 : arg9.IsWhole) (arg10 : Memref sig .tc .vmem S1024x1408 .bf16) (harg10 : arg10.IsWhole) (arg11 : Memref sig .tc .vmem S3x1408 .f32) (harg11 : arg11.IsWhole) (arg12 : Memref sig .tc .vmem S1x1408 .f32) (harg12 : arg12.IsWhole) (arg13 : Memref sig .tc .vmem S1408x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S512x1024 .f32) (harg16 : arg16.IsWhole) (arg17 : Memref sig .tc .vmem S1x8x1408 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S2x8x1408 .f32) (harg21 : arg21.IsWhole)
    (hc0 : ¬first i) (hc1 : ¬start i) (hc2 : last i)
    (x0 : Vec F S512x1024 .f32) (x1 : Vec F S512x256 .f32) (x2 : Vec F S512x384 .f32) (x3 : Vec F S512x384 .f32) (x4 : Vec F S1024x1024 .bf16) (x5 : Vec F S1x1024 .f32) (x6 : Vec F S1x1024 .f32) (x7 : Vec F S1024x1408 .bf16) (x8 : Vec F S1024x1408 .bf16) (x9 : Vec F S3x1408 .f32) (x10 : Vec F S1x1408 .f32) (x11 : Vec F S1408x1024 .bf16) (x12 : Vec F S1x1024 .f32) (x13 : Vec F S1x1024 .f32) (xs0 : Vec F S512x1024 .f32) (xs1 : Vec F S512x1024 .bf16) (xs2 : Vec F S512x1024 .f32) (xc : Vec F S2x8x1408 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1 ∗ owns (c : Thread nD τ) arg20 fullShare xs2 ∗ owns (c : Thread nD τ) arg21 fullShare xc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay2 xs0 (Acc xs1 x7 x8 x9 x10 x11 (slot xc (i 1)) xs2) x12 x13) ∗ owns (c : Thread nD τ) arg17 fullShare (k0_pay20 (k0_pay11 xs1 x7)) ∗ owns (c : Thread nD τ) arg18 fullShare xs0 ∗ owns (c : Thread nD τ) arg19 fullShare xs1 ∗ owns (c : Thread nD τ) arg20 fullShare (Acc xs1 x7 x8 x9 x10 x11 (slot xc (i 1)) xs2) ∗ owns (c : Thread nD τ) arg21 fullShare (setSlot xc (i 1) (Tail xs1 x7))) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_ffn_eq_skeleton]; unfold cc0_ffn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, ⟨%fs2, %hfs2, HS2⟩, ⟨%fs3, %hfs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1; obtain rfl := harg20.eq_unread hfs2; obtain rfl := harg21.eq_unread hfs3
  sl_exec (disch := first | sl_exact hc0 | sl_exact hc1 | sl_exact hc2)
  sl_step
  iapply Hk
  isplitl [H0]
  · iexists _; isplitr
    swap; · iexact H0
    ipureintro; exact harg2.read_unread _
  isplitl [H1]
  · iexists _; isplitr
    swap; · iexact H1
    ipureintro; exact harg3.read_unread _
  isplitl [H2]
  · iexists _; isplitr
    swap; · iexact H2
    ipureintro; exact harg4.read_unread _
  isplitl [H3]
  · iexists _; isplitr
    swap; · iexact H3
    ipureintro; exact harg5.read_unread _
  isplitl [H4]
  · iexists _; isplitr
    swap; · iexact H4
    ipureintro; exact harg6.read_unread _
  isplitl [H5]
  · iexists _; isplitr
    swap; · iexact H5
    ipureintro; exact harg7.read_unread _
  isplitl [H6]
  · iexists _; isplitr
    swap; · iexact H6
    ipureintro; exact harg8.read_unread _
  isplitl [H7]
  · iexists _; isplitr
    swap; · iexact H7
    ipureintro; exact harg9.read_unread _
  isplitl [H8]
  · iexists _; isplitr
    swap; · iexact H8
    ipureintro; exact harg10.read_unread _
  isplitl [H9]
  · iexists _; isplitr
    swap; · iexact H9
    ipureintro; exact harg11.read_unread _
  isplitl [H10]
  · iexists _; isplitr
    swap; · iexact H10
    ipureintro; exact harg12.read_unread _
  isplitl [H11]
  · iexists _; isplitr
    swap; · iexact H11
    ipureintro; exact harg13.read_unread _
  isplitl [H12]
  · iexists _; isplitr
    swap; · iexact H12
    ipureintro; exact harg14.read_unread _
  isplitl [H13]
  · iexists _; isplitr
    swap; · iexact H13
    ipureintro; exact harg15.read_unread _
  isplitl [H14]
  · iexists _; isplitr
    swap; · iexact H14
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => k0_pay2 xs0 (Acc xs1 x7 x8 x9 x10 x11 z xs2) x12 x13) (ld_slot xc i _)
  isplitl [H15]
  · iexists _; isplitr
    swap; · iexact H15
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    try rfl
  isplitl [HS0]
  · iexists _; isplitr
    swap; · iexact HS0
    ipureintro; exact harg18.read_unread _
  isplitl [HS1]
  · iexists _; isplitr
    swap; · iexact HS1
    ipureintro; exact harg19.read_unread _
  isplitl [HS2]
  · iexists _; isplitr
    swap; · iexact HS2
    ipureintro; sl_unfold_words
    rw [View.read_writes_full]
    simp only [View.readCov_unit_zero (S := S512x1024) _ hz, View.canon_unit_zero (S := S512x1024) hz, View.readAt_eq_ld, Memref.IsWhole.read_unread,
      View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
    exact congrArg (fun z => (Acc xs1 x7 x8 x9 x10 x11 z xs2)) (ld_slot xc i _)
  iexists _; isplitr
  swap; · iexact HS3
  ipureintro; rw [View.read_writes_cons_put _ _ _ _ _ (off2_eq i)]
  rw [View.writes_nil, harg21.read_unread]
  sl_unfold_words
  simp only [View.readCov_unit_zero (S := S512x1024) _ hz, View.canon_unit_zero (S := S512x1024) hz, View.readAt_eq_ld, Memref.IsWhole.read_unread,
    View.ld_unit_zero (S := S512x1024) hz, View.ld_unit_zero (S := S512x256) hz, View.ld_unit_zero (S := S512x384) hz, View.ld_unit_zero (S := S1x1024) hz, View.ld_unit_zero (S := S1024x1408) hz, View.ld_unit_zero (S := S3x1408) hz, View.ld_unit_zero (S := S1x1408) hz, View.ld_unit_zero (S := S1408x1024) hz]
  try rfl

end Cert.Kernel2Ideal.Hand

end
-- ==== Proof.Ffn.Frame2.lean ====
/-
  The run of the prompt's feed-forward program, for any values: what the windows and the scratch hold between the grid's points,
  the body's obligation at every point, and the frame.
-/
module

public import proofs.«01_k».proof.Proof.Ffn.Run2D
public import Idealize.ShloMosaic.Lib.Ring
public import Idealize.ShloMosaic.Lib.Claim

@[expose] public section

set_option maxRecDepth 16384

noncomputable section

namespace Cert.Kernel2Ideal.Hand

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- The buffers as the kernel finds them: after the host's operations. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

set_option maxHeartbeats 800000 in
/-- The program is its host's operations, then the kernel. -/
theorem host_then_kernel (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh0 main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 1080000 in
/-- The frame's post from the run's, for any proof data over the buffers as the kernel finds them. -/
theorem frame_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_arg0 m c),
      ((h c).2 main_arg1 (Pipeline.mem_restRefs_of main_arg1 (by decide) (by decide))).trans (V_arg1 m c),
      ((h c).2 main_arg2 (Pipeline.mem_restRefs_of main_arg2 (by decide) (by decide))).trans (V_arg2 m c),
      ((h c).2 main_arg3 (Pipeline.mem_restRefs_of main_arg3 (by decide) (by decide))).trans (V_arg3 m c),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c),
      ((h c).2 main_arg8 (Pipeline.mem_restRefs_of main_arg8 (by decide) (by decide))).trans (V_arg8 m c),
      ((h c).2 main_arg9 (Pipeline.mem_restRefs_of main_arg9 (by decide) (by decide))).trans (V_arg9 m c),
      ((h c).2 main_arg10 (Pipeline.mem_restRefs_of main_arg10 (by decide) (by decide))).trans (V_arg10 m c),
      ((h c).2 main_arg11 (Pipeline.mem_restRefs_of main_arg11 (by decide) (by decide))).trans (V_arg11 m c),
      ((h c).2 main_arg12 (Pipeline.mem_restRefs_of main_arg12 (by decide) (by decide))).trans (V_arg12 m c),
      ((h c).2 main_arg13 (Pipeline.mem_restRefs_of main_arg13 (by decide) (by decide))).trans (V_arg13 m c)⟩) h

/-! ## What the buffers hold, point by point -/

theorem lt64 (t : Fin cfg0.N) : t.val < 64 := lt_of_lt_of_eq t.isLt (show cfg0.N = 64 from N_0)

/-- The first point of the point's row block. -/
def ev (t : Fin cfg0.N) : Fin cfg0.N := ⟨2 * (t.val / 2), lt_of_le_of_lt (by omega) t.isLt⟩
/-- The point `k` before. -/
def back (t : Fin cfg0.N) (k : ℕ) : Fin cfg0.N := ⟨t.val - k, lt_of_le_of_lt (by omega) t.isLt⟩
/-- The point's column block. -/
def par (t : Fin cfg0.N) : Fin 2 := ⟨t.val % 2, by omega⟩

/-- The normalised rows of the point's row block. -/
def x1At (c : Dev nD) (t : Fin cfg0.N) : Vec F S512x1024 .f32 :=
  X1 (iblk m c 0 (ev t)) (iblk m c 1 (ev t)) (iblk m c 2 (ev t)) (iblk m c 3 (ev t)) (iblk m c 4 (ev t)) (iblk m c 5 (ev t)) (iblk m c 6 (ev t))
/-- The same in the narrow format. -/
def xbAt (c : Dev nD) (t : Fin cfg0.N) : Vec F S512x1024 .bf16 :=
  XB (iblk m c 0 (ev t)) (iblk m c 1 (ev t)) (iblk m c 2 (ev t)) (iblk m c 3 (ev t)) (iblk m c 4 (ev t)) (iblk m c 5 (ev t)) (iblk m c 6 (ev t))
/-- The last eight gate rows of a point. -/
def tailAt (c : Dev nD) (t : Fin cfg0.N) : Vec F S1x8x1408 .f32 := Tail (xbAt m c t) (iblk m c 7 t)
/-- The eight gate rows before a point's rows: zeros at the start of a sequence, else the row block before's last. -/
def prevAt (c : Dev nD) (t : Fin cfg0.N) : Vec F S1x8x1408 .f32 := if t.val / 2 % 16 = 0 then k0_pay15 else tailAt m c (back t 2)
/-- One point's step of the accumulator. -/
def accOf (c : Dev nD) (t : Fin cfg0.N) (a : Vec F S512x1024 .f32) : Vec F S512x1024 .f32 :=
  Acc (xbAt m c t) (iblk m c 7 t) (iblk m c 8 t) (iblk m c 9 t) (iblk m c 10 t) (iblk m c 11 t) (prevAt m c t) a
/-- The accumulator after a point. -/
def accAt (c : Dev nD) (t : Fin cfg0.N) : Vec F S512x1024 .f32 :=
  if t.val % 2 = 0 then accOf m c t k0_pay10 else accOf m c t (accOf m c (back t 1) k0_pay10)
/-- The output block, as the last column block stores it. -/
def yAt (c : Dev nD) (t : Fin cfg0.N) : Vec F S512x1024 .f32 := k0_pay2 (x1At m c t) (accAt m c t) (iblk m c 12 t) (iblk m c 13 t)
/-- The gate's kept rows, as every point stores them. -/
def csAt (c : Dev nD) (t : Fin cfg0.N) : Vec F S1x8x1408 .f32 := k0_pay20 (k0_pay11 (xbAt m c t) (iblk m c 7 t))

theorem ev_even (t : Fin cfg0.N) (h : t.val % 2 = 0) : ev t = t := Fin.ext (by show 2 * (t.val / 2) = t.val; omega)
theorem ev_odd (t : Fin cfg0.N) (h : t.val % 2 = 1) : ev t = ev (back t 1) :=
  Fin.ext (by show 2 * (t.val / 2) = 2 * ((t.val - 1) / 2); omega)
theorem x1At_even (c : Dev nD) (t : Fin cfg0.N) (h : t.val % 2 = 0) : x1At m c t
    = X1 (iblk m c 0 t) (iblk m c 1 t) (iblk m c 2 t) (iblk m c 3 t) (iblk m c 4 t) (iblk m c 5 t) (iblk m c 6 t) := by
  unfold x1At; rw [ev_even t h]
theorem xbAt_even (c : Dev nD) (t : Fin cfg0.N) (h : t.val % 2 = 0) : xbAt m c t
    = XB (iblk m c 0 t) (iblk m c 1 t) (iblk m c 2 t) (iblk m c 3 t) (iblk m c 4 t) (iblk m c 5 t) (iblk m c 6 t) := by
  unfold xbAt; rw [ev_even t h]
theorem x1At_odd (c : Dev nD) (t : Fin cfg0.N) (h : t.val % 2 = 1) : x1At m c t = x1At m c (back t 1) := by
  unfold x1At; rw [ev_odd t h]
theorem xbAt_odd (c : Dev nD) (t : Fin cfg0.N) (h : t.val % 2 = 1) : xbAt m c t = xbAt m c (back t 1) := by
  unfold xbAt; rw [ev_odd t h]
theorem accAt_even (c : Dev nD) (t : Fin cfg0.N) (h : t.val % 2 = 0) : accAt m c t = accOf m c t k0_pay10 := by
  unfold accAt; rw [if_pos h]
theorem accAt_odd (c : Dev nD) (t : Fin cfg0.N) (h : t.val % 2 = 1) : accAt m c t = accOf m c t (accAt m c (back t 1)) := by
  rw [accAt_even m c (back t 1) (by show (t.val - 1) % 2 = 0; omega)]
  unfold accAt; rw [if_neg (by omega)]
theorem prevAt_start (c : Dev nD) (t : Fin cfg0.N) (h : t.val / 2 % 16 = 0) : prevAt m c t = k0_pay15 := by
  unfold prevAt; rw [if_pos h]
theorem prevAt_later (c : Dev nD) (t : Fin cfg0.N) (h : ¬t.val / 2 % 16 = 0) : prevAt m c t = tailAt m c (back t 2) := by
  unfold prevAt; rw [if_neg h]

/-- The carry after point `t`: its own slot at its last gate rows, the other slot at the point before's. -/
def CarryOK (c : Dev nD) (t : Fin cfg0.N) (cy : Vec F S2x8x1408 .f32) : Prop :=
  slot cy (par t) = tailAt m c t ∧ (1 ≤ t.val → slot cy (par (back t 1)) = tailAt m c (back t 1))
/-- The carry before point `n`. -/
def CarryIn (c : Dev nD) (n : ℕ) (cy : Vec F S2x8x1408 .f32) : Prop := ∀ t : Fin cfg0.N, t.val + 1 = n → CarryOK m c t cy

theorem par_of (t : Fin cfg0.N) : (grid0.coords t 1 : Fin 2) = par t := Fin.ext (slot_of t)

theorem carry_step (c : Dev nD) (t : Fin cfg0.N) (xc : Vec F S2x8x1408 .f32) (h : CarryIn m c t.val xc) :
    CarryOK m c t (setSlot xc (grid0.coords t 1) (tailAt m c t)) := by
  rw [par_of t]
  refine ⟨slot_setSlot _ _ _, fun h1 => ?_⟩
  have hb : (back t 1).val = t.val - 1 := rfl
  rw [slot_setSlot_ne _ _ _ (fun e => by have := congrArg Fin.val e; simp only [par, back] at this; omega)]
  exact (h (back t 1) (by omega)).1

theorem carry_prev (c : Dev nD) (t : Fin cfg0.N) (hs : ¬t.val / 2 % 16 = 0) (xc : Vec F S2x8x1408 .f32) (h : CarryIn m c t.val xc) :
    slot xc (grid0.coords t 1) = prevAt m c t := by
  have hb : (back t 1).val = t.val - 1 := rfl
  have h2 := (h (back t 1) (by omega)).2 (by omega)
  have e : back (back t 1) 1 = back t 2 := Fin.ext (by show t.val - 1 - 1 = t.val - 2; omega)
  rw [e] at h2
  rw [par_of t, prevAt_later m c t hs, ← h2]
  congr 1
  exact Fin.ext (by show t.val % 2 = (t.val - 2) % 2; omega)

/-! ## The scratch between points -/

abbrev scM0 : Memref sig .tc .vmem S512x1024 .f32 := Memref.whole cc0_scratch0
abbrev scM1 : Memref sig .tc .vmem S512x1024 .bf16 := Memref.whole cc0_scratch1
abbrev scM2 : Memref sig .tc .vmem S512x1024 .f32 := Memref.whole cc0_scratch2
abbrev scM3 : Memref sig .tc .vmem S2x8x1408 .f32 := Memref.whole cc0_scratch3

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The scratch after point `t`. -/
def after1 (c : Dev nD) (t : Fin cfg0.N) : sProp 𝕄 :=
  iprop(iprop(owns (c : Thread nD τ) scM0 fullShare (x1At m c t) ∗ owns (c : Thread nD τ) scM1 fullShare (xbAt m c t) ∗ owns (c : Thread nD τ) scM2 fullShare (accAt m c t) ∗ (∃ cy, ⌜CarryOK m c t cy⌝ ∗ owns (c : Thread nD τ) scM3 fullShare cy)) ∗ (∃ r, prngReg c r))

/-- The scratch before point `n`: at anything before the first point. -/
def Phi (c : Dev nD) : (n : ℕ) → n ≤ cfg0.N → sProp 𝕄
  | 0, _ => Pipeline.ΦA spec0 c
  | n + 1, hn => after1 m c ⟨n, hn⟩

theorem Phi_back (c : Dev nD) (t : Fin cfg0.N) (h : t.val ≠ 0) (hn : t.val ≤ cfg0.N) : Phi m c t.val hn = after1 m c (back t 1) := by
  obtain ⟨v, hv⟩ := t
  cases v with
  | zero => exact absurd rfl h
  | succ n => rfl

/-- Before any point: the three working buffers at something, the carry as the point before left it. -/
theorem Phi_any (c : Dev nD) (n : ℕ) (hn : n ≤ cfg0.N) :
    Phi m c n hn ⊢ iprop(iprop((∃ d, owns (c : Thread nD τ) scM0 fullShare d) ∗ (∃ d, owns (c : Thread nD τ) scM1 fullShare d) ∗ (∃ d, owns (c : Thread nD τ) scM2 fullShare d) ∗ (∃ cy, ⌜CarryIn m c n cy⌝ ∗ owns (c : Thread nD τ) scM3 fullShare cy)) ∗ (∃ r, prngReg c r)) := by
  cases n with
  | zero =>
    show Pipeline.ΦA spec0 c ⊢ _
    rw [PhiA_eq]
    iintro ⟨⟨H0, H1, H2, ⟨%cy, H3⟩⟩, Hg⟩
    isplitl [H0 H1 H2 H3]
    · isplitl [H0]; · iexact H0
      isplitl [H1]; · iexact H1
      isplitl [H2]; · iexact H2
      iexists cy; isplitr
      swap; · iexact H3
      ipureintro; exact fun t h => absurd h (Nat.succ_ne_zero _)
    iexact Hg
  | succ n =>
    show after1 m c ⟨n, hn⟩ ⊢ _
    unfold after1
    iintro ⟨⟨H0, H1, H2, ⟨%cy, %hcy, H3⟩⟩, Hg⟩
    isplitl [H0 H1 H2 H3]
    · isplitl [H0]; · iexists _; iexact H0
      isplitl [H1]; · iexists _; iexact H1
      isplitl [H2]; · iexists _; iexact H2
      iexists cy; isplitr
      swap; · iexact H3
      ipureintro
      intro t h
      obtain rfl : t = ⟨n, hn⟩ := Fin.ext (by simpa using h)
      exact hcy
    iexact Hg

/-! ## The proof data -/

/-- The arrays as the kernel finds them; after a point each input's buffer at its block, the outputs' at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => yAt m c t
    | ⟨15, _⟩ => csAt m c t
    | ⟨_ + 16, h⟩ => absurd h (Nat.not_lt.2 (Nat.le_add_left _ _))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = yAt m c t := by dsimp only [dats]
theorem after_15 (c : Dev nD) (t : Fin cfg0.N) : (dats m 0 c).after 15 t = csAt m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)
theorem before_13 (c : Dev nD) (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]; try rfl) t d).trans
    (by unfold Dat.fetched Dat.blockOf iblk; rw [A_eq]; try rfl)
abbrev st0 (t : Fin cfg0.N) : Memref sig .tc .vmem S512x1024 .f32 := win0_0.stage (cfg0.slots t 0)
abbrev st1 (t : Fin cfg0.N) : Memref sig .tc .vmem S512x256 .f32 := win0_1.stage (cfg0.slots t 1)
abbrev st2 (t : Fin cfg0.N) : Memref sig .tc .vmem S512x384 .f32 := win0_2.stage (cfg0.slots t 2)
abbrev st3 (t : Fin cfg0.N) : Memref sig .tc .vmem S512x384 .f32 := win0_3.stage (cfg0.slots t 3)
abbrev st4 (t : Fin cfg0.N) : Memref sig .tc .vmem S1024x1024 .bf16 := win0_4.stage (cfg0.slots t 4)
abbrev st5 (t : Fin cfg0.N) : Memref sig .tc .vmem S1x1024 .f32 := win0_5.stage (cfg0.slots t 5)
abbrev st6 (t : Fin cfg0.N) : Memref sig .tc .vmem S1x1024 .f32 := win0_6.stage (cfg0.slots t 6)
abbrev st7 (t : Fin cfg0.N) : Memref sig .tc .vmem S1024x1408 .bf16 := win0_7.stage (cfg0.slots t 7)
abbrev st8 (t : Fin cfg0.N) : Memref sig .tc .vmem S1024x1408 .bf16 := win0_8.stage (cfg0.slots t 8)
abbrev st9 (t : Fin cfg0.N) : Memref sig .tc .vmem S3x1408 .f32 := win0_9.stage (cfg0.slots t 9)
abbrev st10 (t : Fin cfg0.N) : Memref sig .tc .vmem S1x1408 .f32 := win0_10.stage (cfg0.slots t 10)
abbrev st11 (t : Fin cfg0.N) : Memref sig .tc .vmem S1408x1024 .bf16 := win0_11.stage (cfg0.slots t 11)
abbrev st12 (t : Fin cfg0.N) : Memref sig .tc .vmem S1x1024 .f32 := win0_12.stage (cfg0.slots t 12)
abbrev st13 (t : Fin cfg0.N) : Memref sig .tc .vmem S1x1024 .f32 := win0_13.stage (cfg0.slots t 13)
abbrev st14 (t : Fin cfg0.N) : Memref sig .tc .vmem S512x1024 .f32 := win0_14.stage (cfg0.slots t 14)
abbrev st15 (t : Fin cfg0.N) : Memref sig .tc .vmem S1x8x1408 .f32 := win0_15.stage (cfg0.slots t 15)
theorem leaves_0 (c : Dev nD) (t : Fin cfg0.N) : (dats m 0 c).leavesExact 0 t = owns (c : Thread nD τ) (st0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (st6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (st7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (st8 t) fullShare (iblk m c 8 t) := by
  unfold Dat.leavesExact; rw [show cfg0.idle 8 (grid0.coords t) = false from rfl, after_8]
theorem leaves_9 (c : Dev nD) (t : Fin cfg0.N) : (dats m 0 c).leavesExact 9 t = owns (c : Thread nD τ) (st9 t) fullShare (iblk m c 9 t) := by
  unfold Dat.leavesExact; rw [show cfg0.idle 9 (grid0.coords t) = false from rfl, after_9]
theorem leaves_10 (c : Dev nD) (t : Fin cfg0.N) : (dats m 0 c).leavesExact 10 t = owns (c : Thread nD τ) (st10 t) fullShare (iblk m c 10 t) := by
  unfold Dat.leavesExact; rw [show cfg0.idle 10 (grid0.coords t) = false from rfl, after_10]
theorem leaves_11 (c : Dev nD) (t : Fin cfg0.N) : (dats m 0 c).leavesExact 11 t = owns (c : Thread nD τ) (st11 t) fullShare (iblk m c 11 t) := by
  unfold Dat.leavesExact; rw [show cfg0.idle 11 (grid0.coords t) = false from rfl, after_11]
theorem leaves_12 (c : Dev nD) (t : Fin cfg0.N) : (dats m 0 c).leavesExact 12 t = owns (c : Thread nD τ) (st12 t) fullShare (iblk m c 12 t) := by
  unfold Dat.leavesExact; rw [show cfg0.idle 12 (grid0.coords t) = false from rfl, after_12]
theorem leaves_13 (c : Dev nD) (t : Fin cfg0.N) : (dats m 0 c).leavesExact 13 t = owns (c : Thread nD τ) (st13 t) fullShare (iblk m c 13 t) := by
  unfold Dat.leavesExact; rw [show cfg0.idle 13 (grid0.coords t) = false from rfl, after_13]
theorem leaves_15 (c : Dev nD) (t : Fin cfg0.N) : (dats m 0 c).leavesExact 15 t = owns (c : Thread nD τ) (st15 t) fullShare (csAt m c t) := by
  unfold Dat.leavesExact; rw [show cfg0.idle 15 (grid0.coords t) = false from rfl, after_15]
theorem leaves_14_odd (c : Dev nD) (t : Fin cfg0.N) (h : t.val % 2 = 1) : (dats m 0 c).leavesExact 14 t = owns (c : Thread nD τ) (st14 t) fullShare (yAt m c t) := by
  unfold Dat.leavesExact; rw [live14 t h, after_14]

/-! ## The body at every point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
/-- The body at a point that is the first column block of its row block, at the start of a sequence. -/
theorem body_A (c : Dev nD) (t : Fin cfg0.N) (h0 : t.val % 2 = 0) (h1 : t.val / 2 % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = after1 m c t from rfl, Phi_castSucc]
  have hN := lt64 t
  rw [leaves_0, leaves_1, leaves_2, leaves_3, leaves_4, leaves_5, leaves_6, leaves_7, leaves_8, leaves_9, leaves_10, leaves_11, leaves_12, leaves_13, leaves_15]
  rw [Dat.leavesExact_idle (dats m 0 c) 14 t (idle14 t h0) (noFlush14 t h0)]
  have ex1 := x1At_even m c t h0
  have exb := xbAt_even m c t h0
  have eacc := accAt_even m c t h0
  unfold after1
  unfold csAt
  rw [eacc, ex1]
  unfold accOf
  rw [exb]
  rw [prevAt_start m c t h1]
  refine (sep_mono (Phi_any m c t.val _) .rfl).trans ?_
  iintro ⟨⟨⟨HS0, HS1, HS2, ⟨%cy, %hcy, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hcy' := hcy
  have hnext := carry_step m c t cy hcy'
  unfold tailAt at hnext
  rw [exb] at hnext
  iapply (run_A c (grid0.coords t) _ _ _ _ _ _ _ _ _ _ _ _ _ _ _ _ _ _ _ _ _ _ _ _ _ _ _ _ _ _ _ _ _ _ _ _ _ _ _ _ ((first_iff t).mpr h0) ((start_iff t).mpr h1) (fun h => by have := (last_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ cy Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists _; isplitr
      swap; · iexact HS3
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexact H15

set_option maxHeartbeats 4000000 in
/-- The body at a point that is the first column block of its row block, not at the start of a sequence. -/
theorem body_B (c : Dev nD) (t : Fin cfg0.N) (h0 : t.val % 2 = 0) (h1 : ¬t.val / 2 % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = after1 m c t from rfl, Phi_castSucc]
  have hN := lt64 t
  rw [leaves_0, leaves_1, leaves_2, leaves_3, leaves_4, leaves_5, leaves_6, leaves_7, leaves_8, leaves_9, leaves_10, leaves_11, leaves_12, leaves_13, leaves_15]
  rw [Dat.leavesExact_idle (dats m 0 c) 14 t (idle14 t h0) (noFlush14 t h0)]
  have ex1 := x1At_even m c t h0
  have exb := xbAt_even m c t h0
  have eacc := accAt_even m c t h0
  unfold after1
  unfold csAt
  rw [eacc, ex1]
  unfold accOf
  rw [exb]
  refine (sep_mono (Phi_any m c t.val _) .rfl).trans ?_
  iintro ⟨⟨⟨HS0, HS1, HS2, ⟨%cy, %hcy, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hcy' := hcy
  have hnext := carry_step m c t cy hcy'
  unfold tailAt at hnext
  rw [exb] at hnext
  rw [← carry_prev m c t h1 cy hcy']
  iapply (run_B c (grid0.coords t) _ _ _ _ _ _ _ _ _ _ _ _ _ _ _ _ _ _ _ _ _ _ _ _ _ _ _ _ _ _ _ _ _ _ _ _ _ _ _ _ ((first_iff t).mpr h0) (fun h => h1 ((start_iff t).mp h)) (fun h => by have := (last_iff t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ cy Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists _; isplitr
      swap; · iexact HS3
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexact H15

set_option maxHeartbeats 4000000 in
/-- The body at a point that is the last column block of its row block, at the start of a sequence. -/
theorem body_C (c : Dev nD) (t : Fin cfg0.N) (h0 : t.val % 2 = 1) (h1 : t.val / 2 % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = after1 m c t from rfl, Phi_castSucc]
  have hN := lt64 t
  rw [leaves_0, leaves_1, leaves_2, leaves_3, leaves_4, leaves_5, leaves_6, leaves_7, leaves_8, leaves_9, leaves_10, leaves_11, leaves_12, leaves_13, leaves_15]
  rw [leaves_14_odd m c t h0, Phi_back m c t (by omega)]
  have ex1 := x1At_odd m c t h0
  have exb := xbAt_odd m c t h0
  have eacc := accAt_odd m c t h0
  unfold after1 yAt csAt
  rw [eacc, ex1]
  unfold accOf
  rw [exb]
  rw [prevAt_start m c t h1]
  iintro ⟨⟨⟨HS0, HS1, HS2, ⟨%cy, %hcy, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hcy' : CarryIn m c t.val cy := fun s hs => by
    obtain rfl : s = back t 1 := Fin.ext (by show s.val = t.val - 1; omega)
    exact hcy
  have hnext := carry_step m c t cy hcy'
  unfold tailAt at hnext
  rw [exb] at hnext
  iapply (run_C c (grid0.coords t) _ _ _ _ _ _ _ _ _ _ _ _ _ _ _ _ _ _ _ _ _ _ _ _ _ _ _ _ _ _ _ _ _ _ _ _ _ _ _ _ (fun h => by have := (first_iff t).mp h; omega) ((start_iff t).mpr h1) ((last_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (x1At m c (back t 1)) (xbAt m c (back t 1)) (accAt m c (back t 1)) cy Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists _; isplitr
      swap; · iexact HS3
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 4000000 in
/-- The body at a point that is the last column block of its row block, not at the start of a sequence. -/
theorem body_D (c : Dev nD) (t : Fin cfg0.N) (h0 : t.val % 2 = 1) (h1 : ¬t.val / 2 % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl]
  rw [show (dats m 0 c).Φ t.succ = after1 m c t from rfl, Phi_castSucc]
  have hN := lt64 t
  rw [leaves_0, leaves_1, leaves_2, leaves_3, leaves_4, leaves_5, leaves_6, leaves_7, leaves_8, leaves_9, leaves_10, leaves_11, leaves_12, leaves_13, leaves_15]
  rw [leaves_14_odd m c t h0, Phi_back m c t (by omega)]
  have ex1 := x1At_odd m c t h0
  have exb := xbAt_odd m c t h0
  have eacc := accAt_odd m c t h0
  unfold after1 yAt csAt
  rw [eacc, ex1]
  unfold accOf
  rw [exb]
  iintro ⟨⟨⟨HS0, HS1, HS2, ⟨%cy, %hcy, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have hcy' : CarryIn m c t.val cy := fun s hs => by
    obtain rfl : s = back t 1 := Fin.ext (by show s.val = t.val - 1; omega)
    exact hcy
  have hnext := carry_step m c t cy hcy'
  unfold tailAt at hnext
  rw [exb] at hnext
  rw [← carry_prev m c t h1 cy hcy']
  iapply (run_D c (grid0.coords t) _ _ _ _ _ _ _ _ _ _ _ _ _ _ _ _ _ _ _ _ _ _ _ _ _ _ _ _ _ _ _ _ _ _ _ _ _ _ _ _ (fun h => by have := (first_iff t).mp h; omega) (fun h => h1 ((start_iff t).mp h)) ((last_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (x1At m c (back t 1)) (xbAt m c (back t 1)) (accAt m c (back t 1)) cy Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexists _; isplitr
      swap; · iexact HS3
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : t.val % 2 = 0
  · by_cases h1 : t.val / 2 % 16 = 0
    · exact body_A m c t h0 h1
    · exact body_B m c t h0 h1
  · have h0' : t.val % 2 = 1 := by omega
    by_cases h1 : t.val / 2 % 16 = 0
    · exact body_C m c t h0' h1
    · exact body_D m c t h0' h1

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body_any m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Phi m c cfg0.N (le_refl _) from rfl]
  refine (Phi_any m c cfg0.N _).trans ?_
  rw [PhiA_eq]
  iintro ⟨⟨H0, H1, H2, ⟨%cy, %hcy, H3⟩⟩, Hg⟩
  isplitl [H0 H1 H2 H3]
  · isplitl [H0]; · iexact H0
    isplitl [H1]; · iexact H1
    isplitl [H2]; · iexact H2
    iexists cy; iexact H3
  iexact Hg

/-! ## The run and the frame -/

set_option backward.isDefEq.respectTransparency.types false in
/-- The program runs, ends with every array at what the proof data say, and with every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := host_then_kernel m Variants.none) (hA := A_eq m) (hin := hin m) (hout := hout m)

/-- The run alone. -/
theorem run_main : θ_run defs (onTc (τ := τ) (main (F := F))) (s₀ m ρ) (Pipeline.FramePost cfgs (dats m) 0 (V m)) :=
  (θ_run defs _ _).mono (fun _ h => h.1) (run_quiet m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of_run m ρ (dats m) (run_main m ρ)) ((θ_run defs _ _).mono (fun _ h => h.2) (run_quiet m ρ))

end Cert.Kernel2Ideal.Hand

end
-- ==== Proof.Ffn.Host2.lean ====
/- What the prompt's kernel call finds in its operand arrays, over the extended reals, in terms of the arguments. -/
module

public import proofs.«01_k».proof.Proof.Ffn.Frame2
public import Idealize.ShloMosaic.Lib.StableHlo.ReadAt
public import proofs.«01_k».proof.Proof.Ffn.Spec

@[expose] public section

set_option maxRecDepth 16384

noncomputable section

namespace Cert.Kernel2Ideal.Val

open Cert.Kernel2Ideal Cert.Kernel2Ideal.Gen Cert.Kernel2Ideal.Hand Idealize.ShloMosaic Idealize.ShloMosaic.TcCoe Idealize.SL.Sem
open Idealize.ShloMosaic.StableHlo Cert.Ffn

variable (m : (ℓ : Loc nD τ sig) → Buf (Elt Ideal) ℓ) (c : Dev nD)

/-- The arguments of the call, as functions of natural numbers. -/
def args : Args where
  x r k := at3 (m ((c : Thread nD τ).loc main_arg0)) (r / 8192) (r % 8192) k
  oa r k := at3 (m ((c : Thread nD τ).loc main_arg1)) (r / 8192) (r % 8192) k
  ob r k := at3 (m ((c : Thread nD τ).loc main_arg2)) (r / 8192) (r % 8192) k
  oc r k := at3 (m ((c : Thread nD τ).loc main_arg3)) (r / 8192) (r % 8192) k
  prev _ _ _ := 0
  wo k n := at2 (m ((c : Thread nD τ).loc main_arg4)) k n
  g1 k := at1 (m ((c : Thread nD τ).loc main_arg5)) k
  b1 k := at1 (m ((c : Thread nD τ).loc main_arg6)) k
  wg k n := at2 (m ((c : Thread nD τ).loc main_arg7)) k n
  wu k n := at2 (m ((c : Thread nD τ).loc main_arg8)) k n
  cw k n := at2 (m ((c : Thread nD τ).loc main_arg9)) k n
  cb k := at1 (m ((c : Thread nD τ).loc main_arg10)) k
  wd k n := at2 (m ((c : Thread nD τ).loc main_arg11)) k n
  g2 k := at1 (m ((c : Thread nD τ).loc main_arg12)) k
  b2 k := at1 (m ((c : Thread nD τ).loc main_arg13)) k

/-- The rows of the layer input. -/
theorem V29_apply (r : Fin 16384) (k : Fin 1024) : (V m c main_v29 : S16384x1024.Idx → EReal) (ix2 r k) = (args m c).x r k := by
  show _ = at3 (m ((c : Thread nD τ).loc main_arg0)) (r / 8192) (r % 8192) k
  unfold V
  after_reads_at
  exact at3_fin _ _ _ _

/-- The rows of the first mixer output. -/
theorem V30_apply (r : Fin 16384) (k : Fin 256) : (V m c main_v30 : S16384x256.Idx → EReal) (ix2 r k) = (args m c).oa r k := by
  show _ = at3 (m ((c : Thread nD τ).loc main_arg1)) (r / 8192) (r % 8192) k
  unfold V
  after_reads_at
  exact at3_fin _ _ _ _

/-- The rows of the second mixer output. -/
theorem V31_apply (r : Fin 16384) (k : Fin 384) : (V m c main_v31 : S16384x384.Idx → EReal) (ix2 r k) = (args m c).ob r k := by
  show _ = at3 (m ((c : Thread nD τ).loc main_arg2)) (r / 8192) (r % 8192) k
  unfold V
  after_reads_at
  exact at3_fin _ _ _ _

/-- The rows of the third mixer output. -/
theorem V32_apply (r : Fin 16384) (k : Fin 384) : (V m c main_v32 : S16384x384.Idx → EReal) (ix2 r k) = (args m c).oc r k := by
  show _ = at3 (m ((c : Thread nD τ).loc main_arg3)) (r / 8192) (r % 8192) k
  unfold V
  after_reads_at
  exact at3_fin _ _ _ _

/-- The output projection. -/
theorem V11_apply (r : Fin 1024) (k : Fin 1024) : (V m c main_v11 : S1024x1024.Idx → EReal) (ix2 r k) = (args m c).wo r k := by
  show _ = at2 (m ((c : Thread nD τ).loc main_arg4)) r k
  unfold V
  after_reads_at
  exact at2_fin _ _ _

/-- The first norm's scale. -/
theorem V13_apply (k : Fin 1024) : (V m c main_v13 : S1x1024.Idx → EReal) (ix2 0 k) = (args m c).g1 k := by
  show _ = at1 (m ((c : Thread nD τ).loc main_arg5)) k
  unfold V
  after_reads_at
  exact at1_fin _ _

/-- The first norm's shift. -/
theorem V15_apply (k : Fin 1024) : (V m c main_v15 : S1x1024.Idx → EReal) (ix2 0 k) = (args m c).b1 k := by
  show _ = at1 (m ((c : Thread nD τ).loc main_arg6)) k
  unfold V
  after_reads_at
  exact at1_fin _ _

/-- The gate weight. -/
theorem V17_apply (r : Fin 1024) (k : Fin 2816) : (V m c main_v17 : S1024x2816.Idx → EReal) (ix2 r k) = (args m c).wg r k := by
  show _ = at2 (m ((c : Thread nD τ).loc main_arg7)) r k
  unfold V
  after_reads_at
  exact at2_fin _ _ _

/-- The up weight. -/
theorem V19_apply (r : Fin 1024) (k : Fin 2816) : (V m c main_v19 : S1024x2816.Idx → EReal) (ix2 r k) = (args m c).wu r k := by
  show _ = at2 (m ((c : Thread nD τ).loc main_arg8)) r k
  unfold V
  after_reads_at
  exact at2_fin _ _ _

/-- The convolution weight. -/
theorem V20_apply (r : Fin 3) (k : Fin 2816) : (V m c main_v20 : S3x2816.Idx → EReal) (ix2 r k) = (args m c).cw r k := by
  show _ = at2 (m ((c : Thread nD τ).loc main_arg9)) r k
  unfold V
  after_reads_at
  exact at2_fin _ _ _

/-- The convolution bias. -/
theorem V22_apply (k : Fin 2816) : (V m c main_v22 : S1x2816.Idx → EReal) (ix2 0 k) = (args m c).cb k := by
  show _ = at1 (m ((c : Thread nD τ).loc main_arg10)) k
  unfold V
  after_reads_at
  exact at1_fin _ _

/-- The down weight. -/
theorem V24_apply (r : Fin 2816) (k : Fin 1024) : (V m c main_v24 : S2816x1024.Idx → EReal) (ix2 r k) = (args m c).wd r k := by
  show _ = at2 (m ((c : Thread nD τ).loc main_arg11)) r k
  unfold V
  after_reads_at
  exact at2_fin _ _ _

/-- The second norm's scale. -/
theorem V26_apply (k : Fin 1024) : (V m c main_v26 : S1x1024.Idx → EReal) (ix2 0 k) = (args m c).g2 k := by
  show _ = at1 (m ((c : Thread nD τ).loc main_arg12)) k
  unfold V
  after_reads_at
  exact at1_fin _ _

/-- The second norm's shift. -/
theorem V28_apply (k : Fin 1024) : (V m c main_v28 : S1x1024.Idx → EReal) (ix2 0 k) = (args m c).b2 k := by
  show _ = at1 (m ((c : Thread nD τ).loc main_arg13)) k
  unfold V
  after_reads_at
  exact at1_fin _ _

end Cert.Kernel2Ideal.Val

end
-- ==== Proof.Ffn.Blocks2.lean ====
/- The prompt's input blocks at a grid point, over the extended reals, in terms of the arguments. -/
module

public import proofs.«01_k».proof.Proof.Ffn.Host2

@[expose] public section

set_option maxRecDepth 16384

noncomputable section

namespace Cert.Kernel2Ideal.Val

open Cert.Kernel2Ideal Cert.Kernel2Ideal.Gen Cert.Kernel2Ideal.Hand Idealize.ShloMosaic Idealize.ShloMosaic.TcCoe Idealize.SL.Sem
open Cert.Ffn

variable (m : (ℓ : Loc nD τ sig) → Buf (Elt Ideal) ℓ) (c : Dev nD)

/-- Window 0's block index. -/
theorem idx0 : ∀ t : Fin cfg0.N, win0_0.index t (0 : Fin 2) = t.val / 2 ∧ win0_0.index t (1 : Fin 2) = 0 :=
  (by decide +kernel : ∀ t : Fin grid0.N, _)

/-- Window 0's block at point `t`. -/
theorem blk0 (t : Fin cfg0.N) (r : Fin 512) (k : Fin 1024) :
    (iblk m c 0 t : S512x1024.Idx → EReal) (ix2 r k) = (args m c).x (512 * (t.val / 2) + r.val) (k.val) := by
  have hN : t.val < 64 := lt64 t
  obtain ⟨e0, e1⟩ := idx0 t
  unfold iblk
  rw [View.read_apply]
  have e : (((cfg0.win 0).blk t).view.emb (ix2 r k) : S16384x1024.Idx) = ix2 ⟨512 * (t.val / 2) + r.val, by omega⟩ ⟨k.val, by omega⟩ := by
    funext a; apply Fin.ext
    match a with
    | ⟨0, _⟩ => show win0_0.index t 0 * 512 + 1 * r.val = 512 * (t.val / 2) + r.val; omega
    | ⟨1, _⟩ => show win0_0.index t 1 * 1024 + 1 * k.val = k.val; omega
  show (V m c main_v29 : S16384x1024.Idx → EReal) (((cfg0.win 0).blk t).view.emb (ix2 r k)) = _
  rw [e]
  exact V29_apply m c ⟨512 * (t.val / 2) + r.val, by omega⟩ ⟨k.val, by omega⟩

/-- Window 1's block index. -/
theorem idx1 : ∀ t : Fin cfg0.N, win0_1.index t (0 : Fin 2) = t.val / 2 ∧ win0_1.index t (1 : Fin 2) = 0 :=
  (by decide +kernel : ∀ t : Fin grid0.N, _)

/-- Window 1's block at point `t`. -/
theorem blk1 (t : Fin cfg0.N) (r : Fin 512) (k : Fin 256) :
    (iblk m c 1 t : S512x256.Idx → EReal) (ix2 r k) = (args m c).oa (512 * (t.val / 2) + r.val) (k.val) := by
  have hN : t.val < 64 := lt64 t
  obtain ⟨e0, e1⟩ := idx1 t
  unfold iblk
  rw [View.read_apply]
  have e : (((cfg0.win 1).blk t).view.emb (ix2 r k) : S16384x256.Idx) = ix2 ⟨512 * (t.val / 2) + r.val, by omega⟩ ⟨k.val, by omega⟩ := by
    funext a; apply Fin.ext
    match a with
    | ⟨0, _⟩ => show win0_1.index t 0 * 512 + 1 * r.val = 512 * (t.val / 2) + r.val; omega
    | ⟨1, _⟩ => show win0_1.index t 1 * 256 + 1 * k.val = k.val; omega
  show (V m c main_v30 : S16384x256.Idx → EReal) (((cfg0.win 1).blk t).view.emb (ix2 r k)) = _
  rw [e]
  exact V30_apply m c ⟨512 * (t.val / 2) + r.val, by omega⟩ ⟨k.val, by omega⟩

/-- Window 2's block index. -/
theorem idx2 : ∀ t : Fin cfg0.N, win0_2.index t (0 : Fin 2) = t.val / 2 ∧ win0_2.index t (1 : Fin 2) = 0 :=
  (by decide +kernel : ∀ t : Fin grid0.N, _)

/-- Window 2's block at point `t`. -/
theorem blk2 (t : Fin cfg0.N) (r : Fin 512) (k : Fin 384) :
    (iblk m c 2 t : S512x384.Idx → EReal) (ix2 r k) = (args m c).ob (512 * (t.val / 2) + r.val) (k.val) := by
  have hN : t.val < 64 := lt64 t
  obtain ⟨e0, e1⟩ := idx2 t
  unfold iblk
  rw [View.read_apply]
  have e : (((cfg0.win 2).blk t).view.emb (ix2 r k) : S16384x384.Idx) = ix2 ⟨512 * (t.val / 2) + r.val, by omega⟩ ⟨k.val, by omega⟩ := by
    funext a; apply Fin.ext
    match a with
    | ⟨0, _⟩ => show win0_2.index t 0 * 512 + 1 * r.val = 512 * (t.val / 2) + r.val; omega
    | ⟨1, _⟩ => show win0_2.index t 1 * 384 + 1 * k.val = k.val; omega
  show (V m c main_v31 : S16384x384.Idx → EReal) (((cfg0.win 2).blk t).view.emb (ix2 r k)) = _
  rw [e]
  exact V31_apply m c ⟨512 * (t.val / 2) + r.val, by omega⟩ ⟨k.val, by omega⟩

/-- Window 3's block index. -/
theorem idx3 : ∀ t : Fin cfg0.N, win0_3.index t (0 : Fin 2) = t.val / 2 ∧ win0_3.index t (1 : Fin 2) = 0 :=
  (by decide +kernel : ∀ t : Fin grid0.N, _)

/-- Window 3's block at point `t`. -/
theorem blk3 (t : Fin cfg0.N) (r : Fin 512) (k : Fin 384) :
    (iblk m c 3 t : S512x384.Idx → EReal) (ix2 r k) = (args m c).oc (512 * (t.val / 2) + r.val) (k.val) := by
  have hN : t.val < 64 := lt64 t
  obtain ⟨e0, e1⟩ := idx3 t
  unfold iblk
  rw [View.read_apply]
  have e : (((cfg0.win 3).blk t).view.emb (ix2 r k) : S16384x384.Idx) = ix2 ⟨512 * (t.val / 2) + r.val, by omega⟩ ⟨k.val, by omega⟩ := by
    funext a; apply Fin.ext
    match a with
    | ⟨0, _⟩ => show win0_3.index t 0 * 512 + 1 * r.val = 512 * (t.val / 2) + r.val; omega
    | ⟨1, _⟩ => show win0_3.index t 1 * 384 + 1 * k.val = k.val; omega
  show (V m c main_v32 : S16384x384.Idx → EReal) (((cfg0.win 3).blk t).view.emb (ix2 r k)) = _
  rw [e]
  exact V32_apply m c ⟨512 * (t.val / 2) + r.val, by omega⟩ ⟨k.val, by omega⟩

/-- Window 4's block index. -/
theorem idx4 : ∀ t : Fin cfg0.N, win0_4.index t (0 : Fin 2) = 0 ∧ win0_4.index t (1 : Fin 2) = 0 :=
  (by decide +kernel : ∀ t : Fin grid0.N, _)

/-- Window 4's block at point `t`. -/
theorem blk4 (t : Fin cfg0.N) (r : Fin 1024) (k : Fin 1024) :
    (iblk m c 4 t : S1024x1024.Idx → EReal) (ix2 r k) = (args m c).wo (r.val) (k.val) := by
  have hN : t.val < 64 := lt64 t
  obtain ⟨e0, e1⟩ := idx4 t
  unfold iblk
  rw [View.read_apply]
  have e : (((cfg0.win 4).blk t).view.emb (ix2 r k) : S1024x1024.Idx) = ix2 ⟨r.val, by omega⟩ ⟨k.val, by omega⟩ := by
    funext a; apply Fin.ext
    match a with
    | ⟨0, _⟩ => show win0_4.index t 0 * 1024 + 1 * r.val = r.val; omega
    | ⟨1, _⟩ => show win0_4.index t 1 * 1024 + 1 * k.val = k.val; omega
  show (V m c main_v11 : S1024x1024.Idx → EReal) (((cfg0.win 4).blk t).view.emb (ix2 r k)) = _
  rw [e]
  exact V11_apply m c ⟨r.val, by omega⟩ ⟨k.val, by omega⟩

/-- Window 5's block index. -/
theorem idx5 : ∀ t : Fin cfg0.N, win0_5.index t (0 : Fin 2) = 0 ∧ win0_5.index t (1 : Fin 2) = 0 :=
  (by decide +kernel : ∀ t : Fin grid0.N, _)

/-- Window 5's block at point `t`. -/
theorem blk5 (t : Fin cfg0.N) (k : Fin 1024) :
    (iblk m c 5 t : S1x1024.Idx → EReal) (ix2 0 k) = (args m c).g1 (k.val) := by
  have hN : t.val < 64 := lt64 t
  obtain ⟨e0, e1⟩ := idx5 t
  unfold iblk
  rw [View.read_apply]
  have e : (((cfg0.win 5).blk t).view.emb (ix2 0 k) : S1x1024.Idx) = ix2 0 ⟨k.val, by omega⟩ := by
    funext a; apply Fin.ext
    match a with
    | ⟨0, _⟩ => show win0_5.index t 0 * 1 + 1 * 0 = 0; omega
    | ⟨1, _⟩ => show win0_5.index t 1 * 1024 + 1 * k.val = k.val; omega
  show (V m c main_v13 : S1x1024.Idx → EReal) (((cfg0.win 5).blk t).view.emb (ix2 0 k)) = _
  rw [e]
  exact V13_apply m c ⟨k.val, by omega⟩

/-- Window 6's block index. -/
theorem idx6 : ∀ t : Fin cfg0.N, win0_6.index t (0 : Fin 2) = 0 ∧ win0_6.index t (1 : Fin 2) = 0 :=
  (by decide +kernel : ∀ t : Fin grid0.N, _)

/-- Window 6's block at point `t`. -/
theorem blk6 (t : Fin cfg0.N) (k : Fin 1024) :
    (iblk m c 6 t : S1x1024.Idx → EReal) (ix2 0 k) = (args m c).b1 (k.val) := by
  have hN : t.val < 64 := lt64 t
  obtain ⟨e0, e1⟩ := idx6 t
  unfold iblk
  rw [View.read_apply]
  have e : (((cfg0.win 6).blk t).view.emb (ix2 0 k) : S1x1024.Idx) = ix2 0 ⟨k.val, by omega⟩ := by
    funext a; apply Fin.ext
    match a with
    | ⟨0, _⟩ => show win0_6.index t 0 * 1 + 1 * 0 = 0; omega
    | ⟨1, _⟩ => show win0_6.index t 1 * 1024 + 1 * k.val = k.val; omega
  show (V m c main_v15 : S1x1024.Idx → EReal) (((cfg0.win 6).blk t).view.emb (ix2 0 k)) = _
  rw [e]
  exact V15_apply m c ⟨k.val, by omega⟩

/-- Window 7's block index. -/
theorem idx7 : ∀ t : Fin cfg0.N, win0_7.index t (0 : Fin 2) = 0 ∧ win0_7.index t (1 : Fin 2) = t.val % 2 :=
  (by decide +kernel : ∀ t : Fin grid0.N, _)

/-- Window 7's block at point `t`. -/
theorem blk7 (t : Fin cfg0.N) (r : Fin 1024) (k : Fin 1408) :
    (iblk m c 7 t : S1024x1408.Idx → EReal) (ix2 r k) = (args m c).wg (r.val) (1408 * (t.val % 2) + k.val) := by
  have hN : t.val < 64 := lt64 t
  obtain ⟨e0, e1⟩ := idx7 t
  unfold iblk
  rw [View.read_apply]
  have e : (((cfg0.win 7).blk t).view.emb (ix2 r k) : S1024x2816.Idx) = ix2 ⟨r.val, by omega⟩ ⟨1408 * (t.val % 2) + k.val, by omega⟩ := by
    funext a; apply Fin.ext
    match a with
    | ⟨0, _⟩ => show win0_7.index t 0 * 1024 + 1 * r.val = r.val; omega
    | ⟨1, _⟩ => show win0_7.index t 1 * 1408 + 1 * k.val = 1408 * (t.val % 2) + k.val; omega
  show (V m c main_v17 : S1024x2816.Idx → EReal) (((cfg0.win 7).blk t).view.emb (ix2 r k)) = _
  rw [e]
  exact V17_apply m c ⟨r.val, by omega⟩ ⟨1408 * (t.val % 2) + k.val, by omega⟩

/-- Window 8's block index. -/
theorem idx8 : ∀ t : Fin cfg0.N, win0_8.index t (0 : Fin 2) = 0 ∧ win0_8.index t (1 : Fin 2) = t.val % 2 :=
  (by decide +kernel : ∀ t : Fin grid0.N, _)

/-- Window 8's block at point `t`. -/
theorem blk8 (t : Fin cfg0.N) (r : Fin 1024) (k : Fin 1408) :
    (iblk m c 8 t : S1024x1408.Idx → EReal) (ix2 r k) = (args m c).wu (r.val) (1408 * (t.val % 2) + k.val) := by
  have hN : t.val < 64 := lt64 t
  obtain ⟨e0, e1⟩ := idx8 t
  unfold iblk
  rw [View.read_apply]
  have e : (((cfg0.win 8).blk t).view.emb (ix2 r k) : S1024x2816.Idx) = ix2 ⟨r.val, by omega⟩ ⟨1408 * (t.val % 2) + k.val, by omega⟩ := by
    funext a; apply Fin.ext
    match a with
    | ⟨0, _⟩ => show win0_8.index t 0 * 1024 + 1 * r.val = r.val; omega
    | ⟨1, _⟩ => show win0_8.index t 1 * 1408 + 1 * k.val = 1408 * (t.val % 2) + k.val; omega
  show (V m c main_v19 : S1024x2816.Idx → EReal) (((cfg0.win 8).blk t).view.emb (ix2 r k)) = _
  rw [e]
  exact V19_apply m c ⟨r.val, by omega⟩ ⟨1408 * (t.val % 2) + k.val, by omega⟩

/-- Window 9's block index. -/
theorem idx9 : ∀ t : Fin cfg0.N, win0_9.index t (0 : Fin 2) = 0 ∧ win0_9.index t (1 : Fin 2) = t.val % 2 :=
  (by decide +kernel : ∀ t : Fin grid0.N, _)

/-- Window 9's block at point `t`. -/
theorem blk9 (t : Fin cfg0.N) (r : Fin 3) (k : Fin 1408) :
    (iblk m c 9 t : S3x1408.Idx → EReal) (ix2 r k) = (args m c).cw (r.val) (1408 * (t.val % 2) + k.val) := by
  have hN : t.val < 64 := lt64 t
  obtain ⟨e0, e1⟩ := idx9 t
  unfold iblk
  rw [View.read_apply]
  have e : (((cfg0.win 9).blk t).view.emb (ix2 r k) : S3x2816.Idx) = ix2 ⟨r.val, by omega⟩ ⟨1408 * (t.val % 2) + k.val, by omega⟩ := by
    funext a; apply Fin.ext
    match a with
    | ⟨0, _⟩ => show win0_9.index t 0 * 3 + 1 * r.val = r.val; omega
    | ⟨1, _⟩ => show win0_9.index t 1 * 1408 + 1 * k.val = 1408 * (t.val % 2) + k.val; omega
  show (V m c main_v20 : S3x2816.Idx → EReal) (((cfg0.win 9).blk t).view.emb (ix2 r k)) = _
  rw [e]
  exact V20_apply m c ⟨r.val, by omega⟩ ⟨1408 * (t.val % 2) + k.val, by omega⟩

/-- Window 10's block index. -/
theorem idx10 : ∀ t : Fin cfg0.N, win0_10.index t (0 : Fin 2) = 0 ∧ win0_10.index t (1 : Fin 2) = t.val % 2 :=
  (by decide +kernel : ∀ t : Fin grid0.N, _)

/-- Window 10's block at point `t`. -/
theorem blk10 (t : Fin cfg0.N) (k : Fin 1408) :
    (iblk m c 10 t : S1x1408.Idx → EReal) (ix2 0 k) = (args m c).cb (1408 * (t.val % 2) + k.val) := by
  have hN : t.val < 64 := lt64 t
  obtain ⟨e0, e1⟩ := idx10 t
  unfold iblk
  rw [View.read_apply]
  have e : (((cfg0.win 10).blk t).view.emb (ix2 0 k) : S1x2816.Idx) = ix2 0 ⟨1408 * (t.val % 2) + k.val, by omega⟩ := by
    funext a; apply Fin.ext
    match a with
    | ⟨0, _⟩ => show win0_10.index t 0 * 1 + 1 * 0 = 0; omega
    | ⟨1, _⟩ => show win0_10.index t 1 * 1408 + 1 * k.val = 1408 * (t.val % 2) + k.val; omega
  show (V m c main_v22 : S1x2816.Idx → EReal) (((cfg0.win 10).blk t).view.emb (ix2 0 k)) = _
  rw [e]
  exact V22_apply m c ⟨1408 * (t.val % 2) + k.val, by omega⟩

/-- Window 11's block index. -/
theorem idx11 : ∀ t : Fin cfg0.N, win0_11.index t (0 : Fin 2) = t.val % 2 ∧ win0_11.index t (1 : Fin 2) = 0 :=
  (by decide +kernel : ∀ t : Fin grid0.N, _)

/-- Window 11's block at point `t`. -/
theorem blk11 (t : Fin cfg0.N) (r : Fin 1408) (k : Fin 1024) :
    (iblk m c 11 t : S1408x1024.Idx → EReal) (ix2 r k) = (args m c).wd (1408 * (t.val % 2) + r.val) (k.val) := by
  have hN : t.val < 64 := lt64 t
  obtain ⟨e0, e1⟩ := idx11 t
  unfold iblk
  rw [View.read_apply]
  have e : (((cfg0.win 11).blk t).view.emb (ix2 r k) : S2816x1024.Idx) = ix2 ⟨1408 * (t.val % 2) + r.val, by omega⟩ ⟨k.val, by omega⟩ := by
    funext a; apply Fin.ext
    match a with
    | ⟨0, _⟩ => show win0_11.index t 0 * 1408 + 1 * r.val = 1408 * (t.val % 2) + r.val; omega
    | ⟨1, _⟩ => show win0_11.index t 1 * 1024 + 1 * k.val = k.val; omega
  show (V m c main_v24 : S2816x1024.Idx → EReal) (((cfg0.win 11).blk t).view.emb (ix2 r k)) = _
  rw [e]
  exact V24_apply m c ⟨1408 * (t.val % 2) + r.val, by omega⟩ ⟨k.val, by omega⟩

/-- Window 12's block index. -/
theorem idx12 : ∀ t : Fin cfg0.N, win0_12.index t (0 : Fin 2) = 0 ∧ win0_12.index t (1 : Fin 2) = 0 :=
  (by decide +kernel : ∀ t : Fin grid0.N, _)

/-- Window 12's block at point `t`. -/
theorem blk12 (t : Fin cfg0.N) (k : Fin 1024) :
    (iblk m c 12 t : S1x1024.Idx → EReal) (ix2 0 k) = (args m c).g2 (k.val) := by
  have hN : t.val < 64 := lt64 t
  obtain ⟨e0, e1⟩ := idx12 t
  unfold iblk
  rw [View.read_apply]
  have e : (((cfg0.win 12).blk t).view.emb (ix2 0 k) : S1x1024.Idx) = ix2 0 ⟨k.val, by omega⟩ := by
    funext a; apply Fin.ext
    match a with
    | ⟨0, _⟩ => show win0_12.index t 0 * 1 + 1 * 0 = 0; omega
    | ⟨1, _⟩ => show win0_12.index t 1 * 1024 + 1 * k.val = k.val; omega
  show (V m c main_v26 : S1x1024.Idx → EReal) (((cfg0.win 12).blk t).view.emb (ix2 0 k)) = _
  rw [e]
  exact V26_apply m c ⟨k.val, by omega⟩

/-- Window 13's block index. -/
theorem idx13 : ∀ t : Fin cfg0.N, win0_13.index t (0 : Fin 2) = 0 ∧ win0_13.index t (1 : Fin 2) = 0 :=
  (by decide +kernel : ∀ t : Fin grid0.N, _)

/-- Window 13's block at point `t`. -/
theorem blk13 (t : Fin cfg0.N) (k : Fin 1024) :
    (iblk m c 13 t : S1x1024.Idx → EReal) (ix2 0 k) = (args m c).b2 (k.val) := by
  have hN : t.val < 64 := lt64 t
  obtain ⟨e0, e1⟩ := idx13 t
  unfold iblk
  rw [View.read_apply]
  have e : (((cfg0.win 13).blk t).view.emb (ix2 0 k) : S1x1024.Idx) = ix2 0 ⟨k.val, by omega⟩ := by
    funext a; apply Fin.ext
    match a with
    | ⟨0, _⟩ => show win0_13.index t 0 * 1 + 1 * 0 = 0; omega
    | ⟨1, _⟩ => show win0_13.index t 1 * 1024 + 1 * k.val = k.val; omega
  show (V m c main_v28 : S1x1024.Idx → EReal) (((cfg0.win 13).blk t).view.emb (ix2 0 k)) = _
  rw [e]
  exact V28_apply m c ⟨k.val, by omega⟩

end Cert.Kernel2Ideal.Val

end
-- ==== Proof.Ffn.Pay2.lean ====
/- The prompt's payloads of the feed-forward kernel, read at an index over the extended reals. -/
module

public import proofs.«01_k».proof.Proof.Gen.Kernel2Ideal.Skeleton
public import proofs.«01_k».proof.Proof.Ffn.Spec

@[expose] public section

set_option maxRecDepth 16384

noncomputable section

namespace Cert.Kernel2Ideal.Val

open Cert.Kernel2Ideal Cert.Kernel2Ideal.Gen Idealize.ShloMosaic Cert.Ffn

/-- The last payload: the layer norm of `√2·x1 + acc`. -/
theorem pay2_apply (x a : Vec Ideal S512x1024 .f32) (g b : Vec Ideal S1x1024 .f32) (r : Fin 512) (c : Fin 1024) :
    k0_pay2 (F := Ideal) x a g b (ix2 r c)
      = lnRow (fun c => Ideal.ofBits .f32 0x3FB504F3#32 * x (ix2 r c) + a (ix2 r c)) (fun c => at2 g 0 c)
          (fun c => at2 b 0 c) c := by
  pointwise [k0_pay2]
  unfold lnRow mean
  rw [at2_fin g, at2_fin b]
  rfl

/-- The first payloads: the layer norm of `√2·x + mix`. -/
theorem pay8_apply (a : Vec Ideal S512x256 .f32) (wa : Vec Ideal S256x1024 .bf16) (b : Vec Ideal S512x384 .f32)
    (wb : Vec Ideal S384x1024 .bf16) (d : Vec Ideal S512x384 .f32) (wd : Vec Ideal S384x1024 .bf16)
    (x : Vec Ideal S512x1024 .f32) (g be : Vec Ideal S1x1024 .f32) (r : Fin 512) (c : Fin 1024) :
    k0_pay8 (F := Ideal) (k0_pay3 g) (k0_pay4 be) (k0_pay5 a wa b wb d wd x) (k0_pay6 a wa b wb d wd x) (ix2 r c)
      = lnRow (fun c => Ideal.ofBits .f32 0x3FB504F3#32 * x (ix2 r c)
            + (∑ k : Fin 256, a (ix2 r k) * wa (ix2 k c) + ∑ k : Fin 384, b (ix2 r k) * wb (ix2 k c)
              + ∑ k : Fin 384, d (ix2 r k) * wd (ix2 k c))) (fun c => at2 g 0 c) (fun c => at2 be 0 c) c := by
  pointwise [k0_pay8, k0_pay7, k0_pay3, k0_pay4, k0_pay5, k0_pay6]
  unfold lnRow mean
  rw [at2_fin g, at2_fin be]
  rfl

/-- The gate block. -/
theorem pay11_apply (x : Vec Ideal S512x1024 .bf16) (w : Vec Ideal S1024x1408 .bf16) (r : Fin 512) (c : Fin 1408) :
    k0_pay11 (F := Ideal) x w (ix2 r c) = ∑ k : Fin 1024, x (ix2 r k) * w (ix2 k c) := by
  pointwise [k0_pay11]

/-- The up block. -/
theorem pay12_apply (x : Vec Ideal S512x1024 .bf16) (w : Vec Ideal S1024x1408 .bf16) (r : Fin 512) (c : Fin 1408) :
    k0_pay12 (F := Ideal) x w (ix2 r c) = ∑ k : Fin 1024, x (ix2 r k) * w (ix2 k c) := by
  pointwise [k0_pay12]

/-- The gate block rolled down one row. -/
theorem pay13_apply (x : Vec Ideal S512x1024 .bf16) (w : Vec Ideal S1024x1408 .bf16) (r : Fin 512) (c : Fin 1408) :
    k0_pay13 (F := Ideal) x w (ix2 r c)
      = k0_pay11 (F := Ideal) x w (ix2 ⟨(r.val + 512 - 1) % 512, Nat.mod_lt _ (by decide)⟩ c) := by
  rw [pay11_apply]
  pointwise [k0_pay13, k0_pay11]

/-- The gate block rolled down two rows. -/
theorem pay14_apply (x : Vec Ideal S512x1024 .bf16) (w : Vec Ideal S1024x1408 .bf16) (r : Fin 512) (c : Fin 1408) :
    k0_pay14 (F := Ideal) x w (ix2 r c)
      = k0_pay11 (F := Ideal) x w (ix2 ⟨(r.val + 512 - 2) % 512, Nat.mod_lt _ (by decide)⟩ c) := by
  rw [pay11_apply]
  pointwise [k0_pay14, k0_pay11]

/-- The seventh of the eight rows before. -/
theorem pay17_apply (p : Vec Ideal S1x8x1408 .f32) (c : Fin 1408) : k0_pay17 (F := Ideal) p (ix2 0 c) = p (ix3 0 6 c) := by
  pointwise [k0_pay17, k0_pay16]

/-- The eighth of the eight rows before. -/
theorem pay18_apply (p : Vec Ideal S1x8x1408 .f32) (c : Fin 1408) : k0_pay18 (F := Ideal) p (ix2 0 c) = p (ix3 0 7 c) := by
  pointwise [k0_pay18, k0_pay16]

/-- The last eight rows of the gate block, as the carry keeps them. -/
theorem pay19_apply (x : Vec Ideal S512x1408 .f32) (s : Fin 8) (c : Fin 1408) :
    k0_pay19 (F := Ideal) x (ix3 0 s c) = x (ix2 ⟨504 + s.val, by omega⟩ c) := by
  pointwise [k0_pay19]

/-- The last eight rows of the gate block, as the result takes them. -/
theorem pay20_apply (x : Vec Ideal S512x1408 .f32) (s : Fin 8) (c : Fin 1408) :
    k0_pay20 (F := Ideal) x (ix3 0 s c) = x (ix2 ⟨504 + s.val, by omega⟩ c) := by
  pointwise [k0_pay20]

/-- The eight rows before a sequence. -/
theorem pay15_apply (s : Fin 8) (c : Fin 1408) : k0_pay15 (F := Ideal) (ix3 0 s c) = 0 := by
  pointwise [k0_pay15]

/-- A row number below eight compared with another. -/
theorem row_eq : ∀ r n : Fin 8, IntOp.cmpi .eq (BitVec.ofNat 32 r.val) (BitVec.ofNat 32 n.val) = if r.val = n.val then 1#1 else 0#1 := by
  decide +kernel

/-- The convolution block: the rows before come from the eight kept rows at the block's first two rows. -/
theorem pay21_apply (v6 v10 v11 : Vec Ideal S512x1408 .f32) (p1 p0 : Vec Ideal S1x1408 .f32) (cw : Vec Ideal S3x1408 .f32)
    (cb : Vec Ideal S1x1408 .f32) (r : Fin 512) (c : Fin 1408) :
    k0_pay21 (F := Ideal) v6 v10 v11 p1 p0 (iota .tc S8x1408 32 [0] iota_S8x1408_d0_w32) 0#32 cw cb (ix2 r c)
      = cb (ix2 0 c) + cw (ix2 0 c) * (if r.val = 0 then p1 (ix2 0 c) else if r.val = 1 then p0 (ix2 0 c) else v11 (ix2 r c))
        + cw (ix2 1 c) * (if r.val = 0 then p0 (ix2 0 c) else v10 (ix2 r c)) + cw (ix2 2 c) * v6 (ix2 r c) := by
  pointwise [k0_pay21]
  by_cases h : r.val < 8
  · simp only [dif_pos h]
    have e0 : IntOp.cmpi .eq (BitVec.ofNat 32 r.val) 0#32 = if r.val = 0 then 1#1 else 0#1 := row_eq ⟨r.val, h⟩ 0
    have e1 : IntOp.cmpi .eq (BitVec.ofNat 32 r.val) 1#32 = if r.val = 1 then 1#1 else 0#1 := row_eq ⟨r.val, h⟩ 1
    rw [e0, e1]
    by_cases h0 : r.val = 0
    · simp only [if_pos h0]
      rfl
    · simp only [if_neg h0]
      by_cases h1 : r.val = 1
      · simp only [if_pos h1]
        rfl
      · simp only [if_neg h1]
        rfl
  · have h0 : ¬ r.val = 0 := by omega
    have h1 : ¬ r.val = 1 := by omega
    have ev : ∀ (v : Vec Ideal S512x1408 .f32) (hb : 8 + (r.val - 8) < 512), v (ix2 ⟨8 + (r.val - 8), hb⟩ c) = v (ix2 r c) :=
      fun v hb => congrArg (fun i => v (ix2 i c)) (Fin.ext (show 8 + (r.val - 8) = r.val by omega))
    simp only [dif_neg h, if_neg h0, if_neg h1, ev]

/-- The accumulator's payload: the old contents plus the activation block times its rows of `w_down`. -/
theorem pay1_apply (v9 v78 : Vec Ideal S512x1408 .f32) (acc : Vec Ideal S512x1024 .f32) (wd : Vec Ideal S1408x1024 .bf16)
    (r : Fin 512) (c : Fin 1024) :
    k0_pay1 (F := Ideal) v9 v78 acc wd (ix2 r c)
      = acc (ix2 r c) + ∑ k : Fin 1408, gelu (v78 (ix2 r k)) * v9 (ix2 r k) * wd (ix2 k c) := by
  pointwise [k0_pay1]
  rfl

end Cert.Kernel2Ideal.Val

end
-- ==== Proof.Ffn.Sweep2.lean ====
/-
  The prompt's points at the ideal instance: what every point's blocks are in the specification's terms — the normalised rows, the
  gate, the rows kept for the block after, the down projection's sum and the output rows — and from them the two results.
-/
module

public import proofs.«01_k».proof.Proof.Ffn.Blocks2
public import proofs.«01_k».proof.Proof.Ffn.Pay2

@[expose] public section

set_option maxRecDepth 16384

noncomputable section

namespace Cert.Kernel2Ideal.Val

open Cert.Kernel2Ideal Cert.Kernel2Ideal.Gen Cert.Kernel2Ideal.Hand Idealize.ShloMosaic Idealize.ShloMosaic.TcCoe Idealize.SL.Sem
open Cert.Ffn

/-- The normalised rows, of any blocks that hold the specification's rows from `R` on. -/
theorem X1_of (A : Args) (R : ℕ) (x : S512x1024.Idx → EReal) (oa : S512x256.Idx → EReal) (ob oc : S512x384.Idx → EReal)
    (wo : S1024x1024.Idx → EReal) (g b : S1x1024.Idx → EReal)
    (hx : ∀ r k, x (ix2 r k) = A.x (R + r.val) k.val) (hoa : ∀ r k, oa (ix2 r k) = A.oa (R + r.val) k.val)
    (hob : ∀ r k, ob (ix2 r k) = A.ob (R + r.val) k.val) (hoc : ∀ r k, oc (ix2 r k) = A.oc (R + r.val) k.val)
    (hwo : ∀ i j, wo (ix2 i j) = A.wo i.val j.val)
    (hg : ∀ k : Fin 1024, at2 g 0 k.val = A.g1 k.val) (hb : ∀ k : Fin 1024, at2 b 0 k.val = A.b1 k.val)
    (r : Fin 512) (k : Fin 1024) : X1 (F := Ideal) x oa ob oc wo g b (ix2 r k) = x1 A (R + r.val) k := by
  unfold X1
  dsimp only
  rw [pay8_apply]
  refine lnRow_congr (fun j => ?_) (hg k) (hb k)
  unfold mixRow
  pointwise
  simp only [hx, hoa, hob, hoc, hwo]

/-- The narrow format loses nothing at the ideal instance. -/
theorem XB_eq (x : S512x1024.Idx → EReal) (oa : S512x256.Idx → EReal) (ob oc : S512x384.Idx → EReal)
    (wo : S1024x1024.Idx → EReal) (g b : S1x1024.Idx → EReal) :
    (XB (F := Ideal) x oa ob oc wo g b : S512x1024.Idx → EReal) = X1 (F := Ideal) x oa ob oc wo g b := rfl

variable (m : (ℓ : Loc nD τ sig) → Buf (Elt Ideal) ℓ) (c : Dev nD) (t : Fin cfg0.N)

/-- The point's normalised rows are the specification's. -/
theorem x1At_apply (r : Fin 512) (k : Fin 1024) : (x1At m c t : S512x1024.Idx → EReal) (ix2 r k) = x1 (args m c) (512 * (t.val / 2) + r.val) k := by
  have e : (ev t).val / 2 = t.val / 2 := by show 2 * (t.val / 2) / 2 = t.val / 2; omega
  unfold x1At
  refine (X1_of (args m c) (512 * ((ev t).val / 2)) _ _ _ _ _ _ _ (blk0 m c (ev t)) (blk1 m c (ev t)) (blk2 m c (ev t)) (blk3 m c (ev t))
    (blk4 m c (ev t)) (fun k => (at2_fin _ (0 : Fin 1) k).symm.trans (blk5 m c (ev t) k))
    (fun k => (at2_fin _ (0 : Fin 1) k).symm.trans (blk6 m c (ev t) k)) r k).trans ?_
  rw [e]

/-- So are the rows in the narrow format. -/
theorem xbAt_apply (r : Fin 512) (k : Fin 1024) : (xbAt m c t : S512x1024.Idx → EReal) (ix2 r k) = x1 (args m c) (512 * (t.val / 2) + r.val) k :=
  x1At_apply m c t r k

/-- The point's block of the gate. -/
theorem hg_apply (r : Fin 512) (j : Fin 1408) :
    k0_pay11 (F := Ideal) (xbAt m c t) (iblk m c 7 t) (ix2 r j) = hg (args m c) (512 * (t.val / 2) + r.val) (1408 * (t.val % 2) + j.val) := by
  rw [pay11_apply]
  exact Finset.sum_congr rfl fun k _ => congrArg₂ (· * ·) (xbAt_apply m c t r k) (blk7 m c t k j)

/-- The point's block of the up projection. -/
theorem hu_apply (r : Fin 512) (j : Fin 1408) :
    k0_pay12 (F := Ideal) (xbAt m c t) (iblk m c 8 t) (ix2 r j) = hu (args m c) (512 * (t.val / 2) + r.val) (1408 * (t.val % 2) + j.val) := by
  rw [pay12_apply]
  exact Finset.sum_congr rfl fun k _ => congrArg₂ (· * ·) (xbAt_apply m c t r k) (blk8 m c t k j)

/-- The rows a point keeps for the next row block. -/
theorem tailAt_apply (s : Fin 8) (j : Fin 1408) :
    (tailAt m c t : S1x8x1408.Idx → EReal) (ix3 0 s j) = hg (args m c) (512 * (t.val / 2) + (504 + s.val)) (1408 * (t.val % 2) + j.val) := by
  unfold tailAt Tail
  rw [pay19_apply]
  exact hg_apply m c t ⟨504 + s.val, by omega⟩ j

/-- The rows a point writes to the second result. -/
theorem csAt_apply (s : Fin 8) (j : Fin 1408) :
    (csAt m c t : S1x8x1408.Idx → EReal) (ix3 0 s j) = hg (args m c) (512 * (t.val / 2) + (504 + s.val)) (1408 * (t.val % 2) + j.val) := by
  unfold csAt
  rw [pay20_apply]
  exact hg_apply m c t ⟨504 + s.val, by omega⟩ j

/-- The eight rows before a point's rows: zeros at the start of a sequence, else the gate's. -/
theorem prevAt_apply (s : Fin 8) (j : Fin 1408) :
    (prevAt m c t : S1x8x1408.Idx → EReal) (ix3 0 s j)
      = if t.val / 2 % 16 = 0 then 0 else hg (args m c) (512 * (t.val / 2) + s.val - 8) (1408 * (t.val % 2) + j.val) := by
  by_cases h : t.val / 2 % 16 = 0
  · rw [prevAt_start m c t h, if_pos h, pay15_apply]
  · rw [prevAt_later m c t h, if_neg h, tailAt_apply]
    have hb : (back t 2).val = t.val - 2 := rfl
    congr 1 <;> omega

/-- The gate one row back. -/
theorem back1_apply (r : Fin 512) (j : Fin 1408) :
    (if r.val = 0 then k0_pay18 (F := Ideal) (prevAt m c t) (ix2 0 j) else k0_pay13 (F := Ideal) (xbAt m c t) (iblk m c 7 t) (ix2 r j))
      = back1 (args m c) 8192 (512 * (t.val / 2) + r.val) (1408 * (t.val % 2) + j.val) := by
  have hr := r.isLt
  unfold back1
  by_cases h : r.val = 0
  · rw [if_pos h, pay18_apply, prevAt_apply]
    by_cases h1 : t.val / 2 % 16 = 0
    · rw [if_pos h1, if_pos (by omega)]; rfl
    · rw [if_neg h1, if_neg (by omega)]
      congr 1
      show 512 * (t.val / 2) + 7 - 8 = _
      omega
  · rw [if_neg h, if_neg (by omega), pay13_apply, hg_apply]
    congr 1
    dsimp only
    omega

/-- The gate two rows back. -/
theorem back2_apply (r : Fin 512) (j : Fin 1408) :
    (if r.val = 0 then k0_pay17 (F := Ideal) (prevAt m c t) (ix2 0 j) else if r.val = 1 then k0_pay18 (F := Ideal) (prevAt m c t) (ix2 0 j)
        else k0_pay14 (F := Ideal) (xbAt m c t) (iblk m c 7 t) (ix2 r j))
      = back2 (args m c) 8192 (512 * (t.val / 2) + r.val) (1408 * (t.val % 2) + j.val) := by
  have hr := r.isLt
  unfold back2
  by_cases h : r.val = 0
  · rw [if_pos h, pay17_apply, prevAt_apply]
    by_cases h1 : t.val / 2 % 16 = 0
    · rw [if_pos h1, if_pos (by omega)]; rfl
    · rw [if_neg h1, if_neg (by omega)]
      congr 1
      show 512 * (t.val / 2) + 6 - 8 = _
      omega
  · rw [if_neg h]
    by_cases h2 : r.val = 1
    · rw [if_pos h2, pay18_apply, prevAt_apply]
      by_cases h1 : t.val / 2 % 16 = 0
      · rw [if_pos h1, if_pos (by omega)]; rfl
      · rw [if_neg h1, if_neg (by omega)]
        congr 1
        show 512 * (t.val / 2) + 7 - 8 = _
        omega
    · rw [if_neg h2, if_neg (by omega), pay14_apply, hg_apply]
      congr 1
      dsimp only
      omega

/-- The point's block of the convolution. -/
theorem conv_apply (r : Fin 512) (j : Fin 1408) :
    k0_pay21 (F := Ideal) (k0_pay11 (xbAt m c t) (iblk m c 7 t)) (k0_pay13 (xbAt m c t) (iblk m c 7 t)) (k0_pay14 (xbAt m c t) (iblk m c 7 t))
        (k0_pay17 (prevAt m c t)) (k0_pay18 (prevAt m c t)) (iota .tc S8x1408 32 [0] iota_S8x1408_d0_w32) 0#32 (iblk m c 9 t) (iblk m c 10 t) (ix2 r j)
      = conv (args m c) 8192 (512 * (t.val / 2) + r.val) (1408 * (t.val % 2) + j.val) := by
  rw [pay21_apply, back1_apply, back2_apply, hg_apply]
  unfold conv
  refine congrArg₂ (· + ·) (congrArg₂ (· + ·) (congrArg₂ (· + ·) (blk10 m c t j) ?_) ?_) ?_
  · exact congrArg (· * _) (blk9 m c t 0 j)
  · exact congrArg (· * _) (blk9 m c t 1 j)
  · exact congrArg (· * _) (blk9 m c t 2 j)

/-- One point's step of the accumulator: the sum goes on over the point's columns. -/
theorem accOf_apply (acc : S512x1024.Idx → EReal) (r : Fin 512) (k : Fin 1024)
    (ha : acc (ix2 r k) = down (args m c) 8192 (1408 * (t.val % 2)) (512 * (t.val / 2) + r.val) k) :
    (accOf m c t acc : S512x1024.Idx → EReal) (ix2 r k) = down (args m c) 8192 (1408 * (t.val % 2) + 1408) (512 * (t.val / 2) + r.val) k := by
  unfold accOf Hand.Acc
  rw [pay1_apply, down_add, ha]
  refine congrArg₂ (· + ·) rfl (Finset.sum_congr rfl fun j _ => ?_)
  rw [conv_apply, hu_apply]
  exact congrArg (_ * ·) (blk11 m c t j k)

/-- After an even point the sum is over the first column block. -/
theorem accAt_first (h : t.val % 2 = 0) (r : Fin 512) (k : Fin 1024) :
    (accAt m c t : S512x1024.Idx → EReal) (ix2 r k) = down (args m c) 8192 1408 (512 * (t.val / 2) + r.val) k := by
  rw [accAt_even m c t h]
  refine (accOf_apply m c t _ r k ?_).trans ?_
  · rw [h]
    unfold down k0_pay10
    pointwise
    rfl
  · rw [h]

/-- After an odd point the sum is over all columns. -/
theorem accAt_last (h : t.val % 2 = 1) (r : Fin 512) (k : Fin 1024) :
    (accAt m c t : S512x1024.Idx → EReal) (ix2 r k) = down (args m c) 8192 2816 (512 * (t.val / 2) + r.val) k := by
  rw [accAt_odd m c t h]
  have hb : (back t 1).val = t.val - 1 := rfl
  have e : (back t 1).val / 2 = t.val / 2 := by omega
  refine (accOf_apply m c t _ r k ?_).trans ?_
  · rw [accAt_first m c (back t 1) (by omega), e, h]
  · rw [h]

/-- The output rows of an odd point. -/
theorem yAt_apply (h : t.val % 2 = 1) (r : Fin 512) (k : Fin 1024) :
    (yAt m c t : S512x1024.Idx → EReal) (ix2 r k) = y (args m c) 8192 (512 * (t.val / 2) + r.val) k := by
  unfold yAt
  rw [pay2_apply]
  refine lnRow_congr (fun j => ?_) ((at2_fin _ (0 : Fin 1) k).symm.trans (blk12 m c t k))
    ((at2_fin _ (0 : Fin 1) k).symm.trans (blk13 m c t k))
  exact congrArg₂ (· + ·) (congrArg (_ * ·) (x1At_apply m c t r j)) (accAt_last m c t h r j)

/-- The contents of the first result. -/
def G14 : S16384x1024.Idx → EReal := fun i => y (args m c) 8192 (i 0).val (i 1)

/-- The contents of the second result: the gate's last eight rows of each row block. -/
def G15 : S32x8x2816.Idx → EReal := fun i => hg (args m c) (512 * (i 0).val + (504 + (i 1).val)) (i 2).val

/-- The first result's block at a point is its row block. -/
theorem idx14 : ∀ t : Fin cfg0.N, win0_14.index t (0 : Fin 2) = t.val / 2 ∧ win0_14.index t (1 : Fin 2) = 0 :=
  (by decide +kernel : ∀ t : Fin grid0.N, _)

/-- The second result's block at a point is its row block and its column block. -/
theorem idx15 : ∀ t : Fin cfg0.N, win0_15.index t (0 : Fin 3) = t.val / 2 ∧ win0_15.index t (1 : Fin 3) = 0 ∧ win0_15.index t (2 : Fin 3) = t.val % 2 :=
  (by decide +kernel : ∀ t : Fin grid0.N, _)

/-- What an odd point writes back to the first result is its block of the contents. -/
theorem flushed14_eq (h : t.val % 2 = 1) :
    (dats m 0 c).flushed 14 t = ((cfg0.win 14).blk t).view.read (Elt Ideal) (G14 m c) := by
  show (cfg0.win 14).cut (grid0.coords t) ((dats m 0 c).after 14 t) = _
  rw [after_14]
  have hN := lt64 t
  obtain ⟨e0, e1⟩ := idx14 t
  have key (r : Fin 512) (j : Fin 1024) : (yAt m c t : S512x1024.Idx → EReal) (ix2 r j)
      = G14 m c (((cfg0.win 14).blk t).view.emb (ix2 r j)) := by
    have e : (((cfg0.win 14).blk t).view.emb (ix2 r j) : S16384x1024.Idx) = ix2 ⟨512 * (t.val / 2) + r.val, by omega⟩ j := by
      funext a; apply Fin.ext
      match a with
      | ⟨0, _⟩ => show win0_14.index t 0 * 512 + 1 * r.val = 512 * (t.val / 2) + r.val; omega
      | ⟨1, _⟩ => show win0_14.index t 1 * 1024 + 1 * j.val = j.val; omega
    rw [e]
    exact yAt_apply m c t h r j
  refine funext (α := S512x1024.Idx) fun y => ?_
  idx_vars y
  exact key _ _

/-- What a point writes back to the second result is its block of the contents. -/
theorem flushed15_eq :
    (dats m 0 c).flushed 15 t = ((cfg0.win 15).blk t).view.read (Elt Ideal) (G15 m c) := by
  show (cfg0.win 15).cut (grid0.coords t) ((dats m 0 c).after 15 t) = _
  rw [after_15]
  have hN := lt64 t
  obtain ⟨e0, e1, e2⟩ := idx15 t
  have key (a : Fin 1) (s : Fin 8) (j : Fin 1408) : (csAt m c t : S1x8x1408.Idx → EReal) (ix3 a s j)
      = G15 m c (((cfg0.win 15).blk t).view.emb (ix3 a s j)) := by
    obtain rfl : a = 0 := Subsingleton.elim _ _
    have e : (((cfg0.win 15).blk t).view.emb (ix3 0 s j) : S32x8x2816.Idx)
        = ix3 ⟨t.val / 2, by omega⟩ s ⟨1408 * (t.val % 2) + j.val, by omega⟩ := by
      funext a; apply Fin.ext
      match a with
      | ⟨0, _⟩ => show win0_15.index t 0 * 1 + 1 * 0 = t.val / 2; omega
      | ⟨1, _⟩ => show win0_15.index t 1 * 8 + 1 * s.val = s.val; omega
      | ⟨2, _⟩ => show win0_15.index t 2 * 1408 + 1 * j.val = 1408 * (t.val % 2) + j.val; omega
    rw [e]
    exact csAt_apply m c t s j
  refine funext (α := S1x8x1408.Idx) fun y => ?_
  idx_vars y
  exact key _ _ _

/-- The blocks of the first result tile it, so it ends at its contents. -/
theorem final14 : (dats m 0 c).arrAt 14 cfg0.N = G14 m c :=
  (dats m 0 c).arrAt_eq_of_cover 14 (G14 m c) (fun t h => flushed14_eq m c t ((flush0_14 t).mp h)) fun i => by
    revert i
    show ∀ i : S16384x1024.Idx, _
    intro i
    have h0 : (i 0).val < 16384 := (i 0).isLt
    have h1 : (i 1).val < 1024 := (i 1).isLt
    have hlt : 2 * ((i 0).val / 512) + 1 < cfg0.N := lt_of_lt_of_eq (by omega) N_0.symm
    obtain ⟨e0, e1⟩ := idx14 ⟨2 * ((i 0).val / 512) + 1, hlt⟩
    refine ⟨⟨2 * ((i 0).val / 512) + 1, hlt⟩, (flush0_14 _).mpr (by dsimp only; omega), ?_⟩
    show i ∈ ((View.whole main_v33_0).slice (win0_14.rect ⟨2 * ((i 0).val / 512) + 1, hlt⟩)).set
    rw [View.set_slice_whole, Rect.mem_set_unit]
    intro a
    match a with
    | ⟨0, _⟩ => show win0_14.index ⟨2 * ((i 0).val / 512) + 1, hlt⟩ (0 : Fin 2) * 512 ≤ (i 0).val ∧ (i 0).val < win0_14.index ⟨2 * ((i 0).val / 512) + 1, hlt⟩ (0 : Fin 2) * 512 + 512; dsimp only at e0; omega
    | ⟨1, _⟩ => show win0_14.index ⟨2 * ((i 0).val / 512) + 1, hlt⟩ (1 : Fin 2) * 1024 ≤ (i 1).val ∧ (i 1).val < win0_14.index ⟨2 * ((i 0).val / 512) + 1, hlt⟩ (1 : Fin 2) * 1024 + 1024; omega

/-- The blocks of the second result tile it, so it ends at its contents. -/
theorem final15 : (dats m 0 c).arrAt 15 cfg0.N = G15 m c :=
  (dats m 0 c).arrAt_eq_of_cover 15 (G15 m c) (fun t _ => flushed15_eq m c t) fun i => by
    revert i
    show ∀ i : S32x8x2816.Idx, _
    intro i
    have h0 : (i 0).val < 32 := (i 0).isLt
    have h1 : (i 1).val < 8 := (i 1).isLt
    have h2 : (i 2).val < 2816 := (i 2).isLt
    have hlt : 2 * (i 0).val + (i 2).val / 1408 < cfg0.N := lt_of_lt_of_eq (by omega) N_0.symm
    obtain ⟨e0, e1, e2⟩ := idx15 ⟨2 * (i 0).val + (i 2).val / 1408, hlt⟩
    refine ⟨⟨2 * (i 0).val + (i 2).val / 1408, hlt⟩, flush0_15 _, ?_⟩
    show i ∈ ((View.whole main_v33_1).slice (win0_15.rect ⟨2 * (i 0).val + (i 2).val / 1408, hlt⟩)).set
    rw [View.set_slice_whole, Rect.mem_set_unit]
    dsimp only at e0 e2
    intro a
    match a with
    | ⟨0, _⟩ => show win0_15.index ⟨2 * (i 0).val + (i 2).val / 1408, hlt⟩ (0 : Fin 3) * 1 ≤ (i 0).val ∧ (i 0).val < win0_15.index ⟨2 * (i 0).val + (i 2).val / 1408, hlt⟩ (0 : Fin 3) * 1 + 1; omega
    | ⟨1, _⟩ => show win0_15.index ⟨2 * (i 0).val + (i 2).val / 1408, hlt⟩ (1 : Fin 3) * 8 ≤ (i 1).val ∧ (i 1).val < win0_15.index ⟨2 * (i 0).val + (i 2).val / 1408, hlt⟩ (1 : Fin 3) * 8 + 8; omega
    | ⟨2, _⟩ => show win0_15.index ⟨2 * (i 0).val + (i 2).val / 1408, hlt⟩ (2 : Fin 3) * 1408 ≤ (i 2).val ∧ (i 2).val < win0_15.index ⟨2 * (i 0).val + (i 2).val / 1408, hlt⟩ (2 : Fin 3) * 1408 + 1408; omega

end Cert.Kernel2Ideal.Val

end
-- ==== Proof.Ffn.Ref2.lean ====
/-
  The reference of the prompt read at an index, at the ideal instance: its two results are the specification's
  output rows and gate rows. Row `8192·b + t` is position `t` of sequence `b`.
-/
module

public import proofs.«01_k».proof.Proof.Gen.Reference2Ideal.Read
public import proofs.«01_k».proof.Proof.Ffn.Spec

@[expose] public section

set_option maxRecDepth 16384

noncomputable section

namespace Cert.Reference2Ideal.Val

open Cert.Reference2Ideal Cert.Reference2Ideal.Gen Cert.Reference2Ideal.Read
open Idealize.ShloMosaic Idealize.ShloMosaic.TcCoe Idealize.SL.Sem
open Cert.Ffn

variable (x0 : (⟨S2x8192x1024, .f32⟩ : BufTy).Contents (Elt Ideal)) (x1' : (⟨S2x8192x256, .f32⟩ : BufTy).Contents (Elt Ideal))
  (x2 x3 : (⟨S2x8192x384, .f32⟩ : BufTy).Contents (Elt Ideal))
  (x4 : (⟨S1024x1024, .f32⟩ : BufTy).Contents (Elt Ideal)) (x5 x6 : (⟨S1024, .f32⟩ : BufTy).Contents (Elt Ideal))
  (x7 x8 : (⟨S1024x2816, .f32⟩ : BufTy).Contents (Elt Ideal)) (x9 : (⟨S3x2816, .f32⟩ : BufTy).Contents (Elt Ideal))
  (x10 : (⟨S2816, .f32⟩ : BufTy).Contents (Elt Ideal)) (x11 : (⟨S2816x1024, .f32⟩ : BufTy).Contents (Elt Ideal))
  (x12 x13 : (⟨S1024, .f32⟩ : BufTy).Contents (Elt Ideal))

/-- The arguments as functions of natural numbers. -/
def rargs : Args where
  x r k := at3 x0 (r / 8192) (r % 8192) k
  oa r k := at3 x1' (r / 8192) (r % 8192) k
  ob r k := at3 x2 (r / 8192) (r % 8192) k
  oc r k := at3 x3 (r / 8192) (r % 8192) k
  prev _ _ _ := 0
  wo k n := at2 x4 k n
  g1 k := at1 x5 k
  b1 k := at1 x6 k
  wg k n := at2 x7 k n
  wu k n := at2 x8 k n
  cw k n := at2 x9 k n
  cb k := at1 x10 k
  wd k n := at2 x11 k n
  g2 k := at1 x12 k
  b2 k := at1 x13 k

local notation "RA" => rargs x0 x1' x2 x3 x4 x5 x6 x7 x8 x9 x10 x11 x12 x13

/-- A rank-3 array at row `8192·b + t` of its flattening. -/
theorem at_row {d : ℕ} (A : (⟨3, ![2, 8192, d]⟩ : Shape).Idx → EReal) (b : Fin 2) (t : Fin 8192) (k : Fin d) :
    A (ix3 b t k) = at3 A ((8192 * b.val + t.val) / 8192) ((8192 * b.val + t.val) % 8192) k.val := by
  rw [at3_fin (a := 2) (b := 8192) (d := d) A, show (8192 * b.val + t.val) / 8192 = b.val by omega, show (8192 * b.val + t.val) % 8192 = t.val by omega]

/-- The concatenated mixer outputs. -/
theorem v0_apply (b : Fin 2) (t : Fin 8192) (n : Fin 1024) : val_main_v0 (F := Ideal) x1' x2 x3 (ix3 b t n)
      = mixed (at3 x1' ((8192 * b.val + t.val) / 8192) ((8192 * b.val + t.val) % 8192)) (at3 x2 ((8192 * b.val + t.val) / 8192) ((8192 * b.val + t.val) % 8192))
          (at3 x3 ((8192 * b.val + t.val) / 8192) ((8192 * b.val + t.val) % 8192)) n.val := by
  have hn := n.isLt
  pointwise [val_main_v0]
  unfold mixed
  by_cases h1 : n.val < 256
  · rw [dif_pos h1, if_pos h1]
    exact at_row x1' b t ⟨n.val, h1⟩
  · rw [dif_neg h1, if_neg h1]
    by_cases h2 : n.val < 640
    · rw [dif_pos (by omega), if_pos h2]
      exact at_row x2 b t ⟨n.val - 256, by omega⟩
    · rw [dif_neg (by omega), if_neg h2]
      exact (at_row x3 b t ⟨n.val - 256 - 384, by omega⟩).trans (congrArg (at3 x3 _ _) (Nat.sub_sub n.val 256 384))

/-- The concatenated mixer outputs times `w_out`. -/
theorem v4_apply (b : Fin 2) (t : Fin 8192) (k : Fin 1024) :
    ∑ n : Fin 1024, val_main_v0 (F := Ideal) x1' x2 x3 (ix3 b t n) * x4 (ix2 n k)
      = mixRow (at3 x1' ((8192 * b.val + t.val) / 8192) ((8192 * b.val + t.val) % 8192)) (at3 x2 ((8192 * b.val + t.val) / 8192) ((8192 * b.val + t.val) % 8192))
          (at3 x3 ((8192 * b.val + t.val) / 8192) ((8192 * b.val + t.val) % 8192)) (at2 x4) k.val := by
  rw [← mixed_sum]
  exact Finset.sum_congr rfl fun n _ => congrArg₂ (· * ·) (v0_apply x1' x2 x3 b t n) (at2_fin _ _ _)

/-- The rows before the first normalisation. -/
theorem v5_apply (b : Fin 2) (t : Fin 8192) (k : Fin 1024) : val_main_v5 (F := Ideal) x0 x1' x2 x3 x4 (ix3 b t k)
      = Ideal.ofBits .f32 0x3FB504F3#32 * (RA).x (8192 * b.val + t.val) k.val
        + mixRow ((RA).oa (8192 * b.val + t.val)) ((RA).ob (8192 * b.val + t.val)) ((RA).oc (8192 * b.val + t.val)) (RA).wo k.val := by
  pointwise [val_main_v5, val_main_v4, val_main_v3, val_main_v2, val_main_cst_0]
  exact congrArg₂ (· + ·) (congrArg (_ * ·) (at_row x0 b t k)) (v4_apply x1' x2 x3 x4 b t k)

/-- The normalised rows. -/
theorem v29_apply (b : Fin 2) (t : Fin 8192) (k : Fin 1024) : val_main_v29 (F := Ideal) x0 x1' x2 x3 x4 x5 x6 (ix3 b t k)
      = x1 RA (8192 * b.val + t.val) k := by
  refine Eq.trans (b := lnRow (fun j => val_main_v5 (F := Ideal) x0 x1' x2 x3 x4 (ix3 b t j)) (at1 (a := 1024) x5) (at1 (a := 1024) x6) k) ?_ ?_
  · pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_1, val_main_cst_2, val_main_cst_3, val_main_cst_4, val_main_cst_5]
    rw [at1_fin (a := 1024) x5, at1_fin (a := 1024) x6]
    rfl
  · exact lnRow_congr (fun j => v5_apply x0 x1' x2 x3 x4 x5 x6 x7 x8 x9 x10 x11 x12 x13 b t j) rfl rfl

/-- The gate projection. -/
theorem v30_apply (b : Fin 2) (t : Fin 8192) (f : Fin 2816) : val_main_v30 (F := Ideal) x0 x1' x2 x3 x4 x5 x6 x7 (ix3 b t f)
      = hg RA (8192 * b.val + t.val) f.val := by
  pointwise [val_main_v30]
  exact Finset.sum_congr rfl fun k _ => congrArg₂ (· * ·) (v29_apply x0 x1' x2 x3 x4 x5 x6 x7 x8 x9 x10 x11 x12 x13 b t k) (at2_fin _ _ _)

/-- The up projection. -/
theorem v31_apply (b : Fin 2) (t : Fin 8192) (f : Fin 2816) : val_main_v31 (F := Ideal) x0 x1' x2 x3 x4 x5 x6 x8 (ix3 b t f)
      = hu RA (8192 * b.val + t.val) f.val := by
  pointwise [val_main_v31]
  exact Finset.sum_congr rfl fun k _ => congrArg₂ (· * ·) (v29_apply x0 x1' x2 x3 x4 x5 x6 x7 x8 x9 x10 x11 x12 x13 b t k) (at2_fin _ _ _)

/-- The gate with two rows of zeros before its sequence. -/
theorem v32_apply (b : Fin 2) (t : Fin 8194) (f : Fin 2816) : val_main_v32 (F := Ideal) x0 x1' x2 x3 x4 x5 x6 x7 (ix3 b t f)
      = if t.val < 2 then (RA).prev b.val t.val f.val else hg RA (8192 * b.val + (t.val - 2)) f.val := by
  pointwise [val_main_v32]
  by_cases h : t.val < 2
  · rw [dif_pos h, if_pos h]
    pointwise [val_main_v1, val_main_cst]
    rfl
  · rw [dif_neg h, if_neg h]
    exact v30_apply x0 x1' x2 x3 x4 x5 x6 x7 x8 x9 x10 x11 x12 x13 b ⟨t.val - 2, by omega⟩ f

/-- The causal convolution. -/
theorem v57_apply (b : Fin 2) (t : Fin 8192) (f : Fin 2816) : val_main_v57 (F := Ideal) x0 x1' x2 x3 x4 x5 x6 x7 x9 x10 (ix3 b t f)
      = conv RA 8192 (8192 * b.val + t.val) f.val := by
  have ht := t.isLt
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_6]
  simp only [v32_apply x0 x1' x2 x3 x4 x5 x6 x7 x8 x9 x10 x11 x12 x13]
  have hb : (8192 * b.val + t.val) / 8192 = b.val := by omega
  have hm : (8192 * b.val + t.val) % 8192 = t.val := by omega
  have e2 : (if t.val < 2 then (RA).prev b.val t.val f.val else hg RA (8192 * b.val + (t.val - 2)) f.val)
      = back2 RA 8192 (8192 * b.val + t.val) f.val := by
    unfold back2
    rw [hb, hm]
    by_cases h : t.val < 2
    · rw [if_pos h, if_pos h]
    · rw [if_neg h, if_neg h, Nat.add_sub_assoc (by omega)]
  have e1 : (if 1 + t.val < 2 then (RA).prev b.val (1 + t.val) f.val else hg RA (8192 * b.val + (1 + t.val - 2)) f.val)
      = back1 RA 8192 (8192 * b.val + t.val) f.val := by
    unfold back1
    rw [hb, hm]
    by_cases h : t.val = 0
    · rw [if_pos (by omega), if_pos h, h]
    · rw [if_neg (by omega), if_neg h, show 8192 * b.val + (1 + t.val - 2) = 8192 * b.val + t.val - 1 by omega]
  have e0 : (if 2 + t.val < 2 then (RA).prev b.val (2 + t.val) f.val else hg RA (8192 * b.val + (2 + t.val - 2)) f.val)
      = hg RA (8192 * b.val + t.val) f.val := by
    rw [if_neg (by omega), show 2 + t.val - 2 = t.val by omega]
  rw [e2, e1, e0, at1_fin (a := 2816) x10, at2_fin (a := 3) (b := 2816) x9, at2_fin (a := 3) (b := 2816) x9 1, at2_fin (a := 3) (b := 2816) x9 2, ← add_assoc, ← add_assoc]
  rfl

/-- The down projection. -/
theorem v72_apply (b : Fin 2) (t : Fin 8192) (k : Fin 1024) : val_main_v72 (F := Ideal) x0 x1' x2 x3 x4 x5 x6 x7 x8 x9 x10 x11 (ix3 b t k)
      = down RA 8192 2816 (8192 * b.val + t.val) k := by
  pointwise [val_main_v72]
  unfold down
  rw [Finset.sum_range]
  refine Finset.sum_congr rfl fun f _ => congrArg₂ (· * ·) ?_ (at2_fin _ _ _)
  pointwise [val_main_v71, val_main_v70, val_main_v69, val_main_v68, val_main_v67, val_main_v66, val_main_v65, val_main_v64, val_main_v63, val_main_v62, val_main_v61, val_main_v60, val_main_v59, val_main_v58, val_main_cst_7, val_main_cst_8, val_main_cst_9, val_main_cst_10]
  rw [v57_apply x0 x1' x2 x3 x4 x5 x6 x7 x8 x9 x10 x11 x12 x13, v31_apply x0 x1' x2 x3 x4 x5 x6 x7 x8 x9 x10 x11 x12 x13]
  unfold act gelu
  simp only [mul_assoc]

/-- The output rows. -/
theorem v99_apply (b : Fin 2) (t : Fin 8192) (k : Fin 1024) : val_main_v99 (F := Ideal) x0 x1' x2 x3 x4 x5 x6 x7 x8 x9 x10 x11 x12 x13 (ix3 b t k)
      = y RA 8192 (8192 * b.val + t.val) k := by
  refine Eq.trans (b := lnRow (fun j => val_main_v75 (F := Ideal) x0 x1' x2 x3 x4 x5 x6 x7 x8 x9 x10 x11 (ix3 b t j)) (at1 (a := 1024) x12) (at1 (a := 1024) x13) k) ?_ ?_
  · pointwise [val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_cst_12, val_main_cst_13, val_main_cst_14, val_main_cst_15, val_main_cst_16]
    rw [at1_fin (a := 1024) x12, at1_fin (a := 1024) x13]
    rfl
  · refine lnRow_congr (fun j => ?_) rfl rfl
    pointwise [val_main_v75, val_main_v74, val_main_v73, val_main_cst_11]
    rw [v29_apply x0 x1' x2 x3 x4 x5 x6 x7 x8 x9 x10 x11 x12 x13, v72_apply x0 x1' x2 x3 x4 x5 x6 x7 x8 x9 x10 x11 x12 x13]

/-- The first result. -/
theorem v100_apply (r : Fin 16384) (k : Fin 1024) : val_main_v100 (F := Ideal) x0 x1' x2 x3 x4 x5 x6 x7 x8 x9 x10 x11 x12 x13 (ix2 r k)
      = y RA 8192 r.val k := by
  have hr := r.isLt
  pointwise [val_main_v100]
  refine (v99_apply x0 x1' x2 x3 x4 x5 x6 x7 x8 x9 x10 x11 x12 x13 _ _ _).trans ?_
  dsimp only
  rw [Nat.div_add_mod]

/-- The second result: the last eight gate rows of each block of 512. -/
theorem v102_apply (i : Fin 32) (s : Fin 8) (f : Fin 2816) : val_main_v102 (F := Ideal) x0 x1' x2 x3 x4 x5 x6 x7 (ix3 i s f)
      = hg RA (512 * i.val + 504 + s.val) f.val := by
  have hi := i.isLt
  have hs := s.isLt
  have hf := f.isLt
  have e := v30_apply x0 x1' x2 x3 x4 x5 x6 x7 x8 x9 x10 x11 x12 x13 ⟨i.val / 16, by omega⟩ ⟨512 * (i.val % 16) + 504 + s.val, by omega⟩ f
  dsimp only at e
  rw [show 8192 * (i.val / 16) + (512 * (i.val % 16) + 504 + s.val) = 512 * i.val + 504 + s.val by omega] at e
  rw [← e, val_main_v102_apply, val_main_v101_apply]
  refine congrArg (val_main_v30 (F := Ideal) x0 x1' x2 x3 x4 x5 x6 x7) ?_
  funext a; apply Fin.ext
  match a with
  | ⟨0, _⟩ => show ((i.val * 512 + (504 + s.val)) * 2816 + f.val) / 23068672 = i.val / 16; omega
  | ⟨1, _⟩ => show ((i.val * 512 + (504 + s.val)) * 2816 + f.val) / 2816 % 8192 = 512 * (i.val % 16) + 504 + s.val; omega
  | ⟨2, _⟩ => show ((i.val * 512 + (504 + s.val)) * 2816 + f.val) % 2816 = f.val; omega

end Cert.Reference2Ideal.Val

end
-- ==== Proof.Ffn.Claim2.lean ====
/-
  The prompt's claims: the launches' frames, and the equality of the kernel's two results with the reference's.
-/
module

public import proofs.«01_k».proof.Defs
public import proofs.«01_k».proof.Proof.Ffn.Sweep2
public import proofs.«01_k».proof.Proof.Ffn.Ref2
public import proofs.«01_k».proof.Proof.Gen.Kernel2

@[expose] public section

set_option maxRecDepth 16384

noncomputable section

namespace Cert.Ffn.Claim2

open Idealize.ShloMosaic Idealize.ShloMosaic.TcCoe Idealize.SL.Sem Idealize.ShloMosaic.StableHlo

section same

variable {F : FTy → Type} [FloatOps F]

set_option maxHeartbeats 2000000 in
/-- The two readings' body tables are one. -/
theorem bodies_eq : Cert.Kernel2.defs₀ (F := F) = Cert.Kernel2Ideal.defs₀ (F := F) :=
  congrArg Defs.onTc (funext fun l => match l with
    | ⟨0, _⟩ => funext fun _ => rfl
    | ⟨_ + 1, h⟩ => absurd h (Nat.not_lt.2 (Nat.le_add_left _ _)))

set_option maxHeartbeats 2000000 in
/-- So are the body tables with the pipeline. -/
theorem defs_eq : Cert.Kernel2.defs (F := F) = Cert.Kernel2Ideal.defs (F := F) :=
  congrArg (Pipeline.defs Cert.Kernel2Ideal.pcfgs) bodies_eq

set_option maxHeartbeats 2000000 in
/-- And the programs. -/
theorem main_eq : Cert.Kernel2.main (F := F) = Cert.Kernel2Ideal.main (F := F) := rfl

end same

set_option maxHeartbeats 2000000 in
/-- The kernel's frame on the machine's words: the same run, at the words. -/
theorem frame_kernel : Cert.quiescent_Kernel2 := by
  intro m ρ _
  have key : ∀ D M Q, D = Cert.Kernel2Ideal.defs (F := Bits) → M = Cert.Kernel2Ideal.main (F := Bits) →
      θ_run (Cert.Kernel2Ideal.defs (F := Bits)) (onTc (τ := Cert.Kernel2Ideal.τ) (Cert.Kernel2Ideal.main (F := Bits))) ⟨m, fun _ => 0, ρ⟩ Q →
      θ_run D (onTc (τ := Cert.Kernel2Ideal.τ) M) ⟨m, fun _ => 0, ρ⟩ Q := by
    rintro _ _ _ rfl rfl h
    exact h
  exact key _ _ _ defs_eq main_eq (Cert.Kernel2Ideal.Hand.frame (F := Bits) m ρ)

/-- The kernel's frame at the ideal instance. -/
theorem frame_kernelIdeal : Cert.quiescent_Kernel2Ideal := fun m ρ _ => Cert.Kernel2Ideal.Hand.frame m ρ

/-- The reference's frame at the ideal instance. -/
theorem frame_referenceIdeal : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- No operation was rewritten. -/
theorem preserves : Cert.preserves_Kernel2_Kernel2Ideal := trivial

/-- At the ideal instance the kernel's output rows and kept gate rows are the reference's. -/
theorem algebraic : Cert.algebraic_Kernel2Ideal_Reference2Ideal := by
  intro m ρ m' ρ' _ hag
  refine ⟨fun c => Cert.Kernel2Ideal.Val.G14 m c, fun c => Cert.Kernel2Ideal.Val.G15 m c,
    (θ_run Cert.Kernel2Ideal.defs _ _).mono (fun r h c => ⟨((h c).1 14).trans (Cert.Kernel2Ideal.Val.final14 m c), ((h c).1 15).trans (Cert.Kernel2Ideal.Val.final15 m c),
      ((h c).2 Cert.Kernel2Ideal.main_arg0 (Pipeline.mem_restRefs_of Cert.Kernel2Ideal.main_arg0 (by decide) (by decide))).trans (Cert.Kernel2Ideal.Hand.V_arg0 m c),
      ((h c).2 Cert.Kernel2Ideal.main_arg1 (Pipeline.mem_restRefs_of Cert.Kernel2Ideal.main_arg1 (by decide) (by decide))).trans (Cert.Kernel2Ideal.Hand.V_arg1 m c),
      ((h c).2 Cert.Kernel2Ideal.main_arg2 (Pipeline.mem_restRefs_of Cert.Kernel2Ideal.main_arg2 (by decide) (by decide))).trans (Cert.Kernel2Ideal.Hand.V_arg2 m c),
      ((h c).2 Cert.Kernel2Ideal.main_arg3 (Pipeline.mem_restRefs_of Cert.Kernel2Ideal.main_arg3 (by decide) (by decide))).trans (Cert.Kernel2Ideal.Hand.V_arg3 m c),
      ((h c).2 Cert.Kernel2Ideal.main_arg4 (Pipeline.mem_restRefs_of Cert.Kernel2Ideal.main_arg4 (by decide) (by decide))).trans (Cert.Kernel2Ideal.Hand.V_arg4 m c),
      ((h c).2 Cert.Kernel2Ideal.main_arg5 (Pipeline.mem_restRefs_of Cert.Kernel2Ideal.main_arg5 (by decide) (by decide))).trans (Cert.Kernel2Ideal.Hand.V_arg5 m c),
      ((h c).2 Cert.Kernel2Ideal.main_arg6 (Pipeline.mem_restRefs_of Cert.Kernel2Ideal.main_arg6 (by decide) (by decide))).trans (Cert.Kernel2Ideal.Hand.V_arg6 m c),
      ((h c).2 Cert.Kernel2Ideal.main_arg7 (Pipeline.mem_restRefs_of Cert.Kernel2Ideal.main_arg7 (by decide) (by decide))).trans (Cert.Kernel2Ideal.Hand.V_arg7 m c),
      ((h c).2 Cert.Kernel2Ideal.main_arg8 (Pipeline.mem_restRefs_of Cert.Kernel2Ideal.main_arg8 (by decide) (by decide))).trans (Cert.Kernel2Ideal.Hand.V_arg8 m c),
      ((h c).2 Cert.Kernel2Ideal.main_arg9 (Pipeline.mem_restRefs_of Cert.Kernel2Ideal.main_arg9 (by decide) (by decide))).trans (Cert.Kernel2Ideal.Hand.V_arg9 m c),
      ((h c).2 Cert.Kernel2Ideal.main_arg10 (Pipeline.mem_restRefs_of Cert.Kernel2Ideal.main_arg10 (by decide) (by decide))).trans (Cert.Kernel2Ideal.Hand.V_arg10 m c),
      ((h c).2 Cert.Kernel2Ideal.main_arg11 (Pipeline.mem_restRefs_of Cert.Kernel2Ideal.main_arg11 (by decide) (by decide))).trans (Cert.Kernel2Ideal.Hand.V_arg11 m c),
      ((h c).2 Cert.Kernel2Ideal.main_arg12 (Pipeline.mem_restRefs_of Cert.Kernel2Ideal.main_arg12 (by decide) (by decide))).trans (Cert.Kernel2Ideal.Hand.V_arg12 m c),
      ((h c).2 Cert.Kernel2Ideal.main_arg13 (Pipeline.mem_restRefs_of Cert.Kernel2Ideal.main_arg13 (by decide) (by decide))).trans (Cert.Kernel2Ideal.Hand.V_arg13 m c)⟩)
      (Cert.Kernel2Ideal.Hand.run_main m ρ), ?_⟩
  have ha (c : Dev Cert.Kernel2Ideal.nD) : Cert.Reference2Ideal.Val.rargs
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))
      (m' ((c.tc : Thread Cert.Reference2Ideal.nD Cert.Reference2Ideal.τ).loc Cert.Reference2Ideal.main_arg6))
      (m' ((c.tc : Thread Cert.Reference2Ideal.nD Cert.Reference2Ideal.τ).loc Cert.Reference2Ideal.main_arg7))
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12))
      (m' ((c.tc : Thread Cert.Reference2Ideal.nD Cert.Reference2Ideal.τ).loc Cert.Reference2Ideal.main_arg13))
      = Cert.Kernel2Ideal.Val.args m c := by
    obtain ⟨a0, a1, a2, a3, a4, a5, a6, a7, a8, a9, a10, a11, a12, a13⟩ := hag c
    rw [a0, a1, a2, a3, a4, a5, a6, a7, a8, a9, a10, a11, a12, a13]
    rfl
  refine (θ_run Cert.Reference2Ideal.defs _ _).mono (fun r h c => ⟨(h c).1.trans ?_, (h c).2.1.trans ?_, (h c).2.2⟩)
    (Cert.Reference2Ideal.Value.run (F := Ideal) m' ρ')
  · refine (Cert.Reference2Ideal.Read.val_main_v100_eq (launchContents m' c)).trans ?_
    funext i
    idx_vars i
    refine (Cert.Reference2Ideal.Val.v100_apply _ _ _ _ _ _ _ _ _ _ _ _ _ _ _ _).trans ?_
    exact congrArg (fun A => y A 8192 _ _) (ha c)
  · refine (Cert.Reference2Ideal.Read.val_main_v102_eq (launchContents m' c)).trans ?_
    funext i
    idx_vars i
    refine (Cert.Reference2Ideal.Val.v102_apply _ _ _ _ _ _ _ _
      (m' ((c.tc : Thread Cert.Reference2Ideal.nD Cert.Reference2Ideal.τ).loc Cert.Reference2Ideal.main_arg8))
      (m' ((c.tc : Thread Cert.Reference2Ideal.nD Cert.Reference2Ideal.τ).loc Cert.Reference2Ideal.main_arg9))
      (m' ((c.tc : Thread Cert.Reference2Ideal.nD Cert.Reference2Ideal.τ).loc Cert.Reference2Ideal.main_arg10))
      (m' ((c.tc : Thread Cert.Reference2Ideal.nD Cert.Reference2Ideal.τ).loc Cert.Reference2Ideal.main_arg11))
      (m' ((c.tc : Thread Cert.Reference2Ideal.nD Cert.Reference2Ideal.τ).loc Cert.Reference2Ideal.main_arg12))
      (m' ((c.tc : Thread Cert.Reference2Ideal.nD Cert.Reference2Ideal.τ).loc Cert.Reference2Ideal.main_arg13)) _ _ _).trans ?_
    refine Eq.trans (congrArg (fun A => hg A _ _) (ha c)) ?_
    unfold Cert.Kernel2Ideal.Val.G15
    dsimp only
    rw [Nat.add_assoc]
    rfl

end Cert.Ffn.Claim2

end
-- ==== Proof.ProjS.Spec.lean ====
/- The projection of the layer input, over the extended reals. -/
module

public import proofs.«01_k».proof.Proof.Ffn.Spec

@[expose] public section

set_option maxRecDepth 16384

noncomputable section

namespace Cert.ProjS

open Idealize.ShloMosaic Cert.Ffn

/-- The word of `64 ^ (-1/2)`, the scale of the attention's queries. -/
abbrev scale : EReal := Ideal.ofBits .f32 0x3E000000#32

/-- The scale is one eighth. -/
theorem scale_eq : scale = (((1 : ℝ) / 8 : ℝ) : EReal) := by
  simp [scale, Ideal.ofBits, Ideal.ieee, -EReal.coe_mul]
  norm_num

/-- The scale can be taken out of a sum. -/
theorem sum_scale {ι : Type} (s : Finset ι) (f g : ι → EReal) :
    ∑ k ∈ s, f k * (g k * scale) = (∑ k ∈ s, f k * g k) * scale := by
  classical
  have h0 : 0 ≤ scale := by rw [scale_eq]; exact EReal.coe_nonneg.2 (by norm_num)
  have h1 : scale ≠ ⊤ := by rw [scale_eq]; exact EReal.coe_ne_top _
  induction s using Finset.induction_on with
  | empty => simp
  | insert a s ha ih =>
    rw [Finset.sum_insert ha, Finset.sum_insert ha, ih, EReal.right_distrib_of_nonneg_of_ne_top h0 h1, mul_assoc]

/-- Entry `n` of row `r` of the product of the 32·16 input rows with the weight. -/
def prj (x : (⟨3, ![32, 16, 1024]⟩ : Shape).Idx → EReal) (w : (⟨2, ![1024, 2856]⟩ : Shape).Idx → EReal) (r n : ℕ) : EReal :=
  ∑ k : Fin 1024, at3 x (r / 16) (r % 16) k.val * at2 w k.val n

end Cert.ProjS

end
-- ==== Proof.ProjS.Host.lean ====
/- The packed weight of the projection, read at an index in terms of the weight. -/
module

public import proofs.«01_k».proof.Proof.Gen.Kernel5Ideal.Frame
public import Idealize.ShloMosaic.Lib.StableHlo.ReadAt
public import Idealize.ShloMosaic.Lib.Pipeline.Value
public import proofs.«01_k».proof.Proof.ProjS.Spec

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.StableHlo Cert.Ffn Cert.ProjS

/-- Operations in two runs, one after the other. -/
theorem after_two {Val : EltTy → Type} (k l : List (HloOp τ sig Val)) (W : Valuation τ sig Val) :
    after (k ++ l) W = after l (after k W) := by
  induction k generalizing W with
  | nil => rfl
  | cons op k ih => exact ih _

/-- The padding value. -/
theorem zero_word : (FloatOps.sitofp (F := Ideal) .f32 0#32 : EReal) = 0 := by
  show (((0#32 : BitVec 32).toInt : ℝ) : EReal) = 0
  simp

variable (m : (ℓ : Loc nD τ sig) → Buf (Elt Ideal) ℓ) (c : Dev nD)

/-- The buffers when the weight's pieces are made and not yet put together. -/
def before : Valuation τ sig (Elt Ideal) :=
  after [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29].flatten (fun b => m (c, b))

/-- Entry `n` of row `k` of the weight. -/
def wIn (k n : ℕ) : EReal := at2 (m ((c : Thread nD τ).loc main_arg1) : S1024x2856.Idx → EReal) k n

/-- The first sixteen pieces of the packed weight, side by side. -/
def leftPieces (B : Valuation τ sig (Elt Ideal)) : S1024x3328.Idx → EReal :=
  concatenate S1024x3328 1 [
    ⟨S1024x256, (B main_v1 : S1024x256.Idx → EReal)⟩,
    ⟨S1024x256, (B main_v2 : S1024x256.Idx → EReal)⟩,
    ⟨S1024x128, (B main_v16 : S1024x128.Idx → EReal)⟩,
    ⟨S1024x128, (B main_v18 : S1024x128.Idx → EReal)⟩,
    ⟨S1024x128, (B main_v20 : S1024x128.Idx → EReal)⟩,
    ⟨S1024x128, (B main_v22 : S1024x128.Idx → EReal)⟩,
    ⟨S1024x128, (B main_v24 : S1024x128.Idx → EReal)⟩,
    ⟨S1024x128, (B main_v26 : S1024x128.Idx → EReal)⟩,
    ⟨S1024x384, (B main_v9 : S1024x384.Idx → EReal)⟩,
    ⟨S1024x384, (B main_v10 : S1024x384.Idx → EReal)⟩,
    ⟨S1024x384, (B main_v11 : S1024x384.Idx → EReal)⟩,
    ⟨S1024x384, (B main_v12 : S1024x384.Idx → EReal)⟩,
    ⟨S1024x128, (B main_v28 : S1024x128.Idx → EReal)⟩,
    ⟨S1024x128, (B main_v30 : S1024x128.Idx → EReal)⟩,
    ⟨S1024x128, (B main_v32 : S1024x128.Idx → EReal)⟩,
    ⟨S1024x128, (B main_v34 : S1024x128.Idx → EReal)⟩]
    concatenates_S1024x256_S1024x256_S1024x128_S1024x128_S1024x128_S1024x128_S1024x128_S1024x128_S1024x384_S1024x384_S1024x384_S1024x384_S1024x128_S1024x128_S1024x128_S1024x128_S1024x3328_d1

/-- The last seven pieces of the packed weight, side by side. -/
def rightPieces (B : Valuation τ sig (Elt Ideal)) : S1024x768.Idx → EReal :=
  concatenate S1024x768 1 [
    ⟨S1024x128, (B main_v36 : S1024x128.Idx → EReal)⟩,
    ⟨S1024x128, (B main_v38 : S1024x128.Idx → EReal)⟩,
    ⟨S1024x128, (B main_v40 : S1024x128.Idx → EReal)⟩,
    ⟨S1024x128, (B main_v42 : S1024x128.Idx → EReal)⟩,
    ⟨S1024x64, (B main_v4 : S1024x64.Idx → EReal)⟩,
    ⟨S1024x64, (B main_v5 : S1024x64.Idx → EReal)⟩,
    ⟨S1024x128, (B main_v44 : S1024x128.Idx → EReal)⟩]
    concatenates_S1024x128_S1024x128_S1024x128_S1024x128_S1024x64_S1024x64_S1024x128_S1024x768_d1

/-- The packed weight, put together. -/
theorem packed_eq : V m c main_v48 = (concatenate S1024x4096 1
    [⟨S1024x3328, leftPieces (before m c)⟩, ⟨S1024x768, rightPieces (before m c)⟩]
    concatenates_S1024x3328_S1024x768_S1024x4096_d1 : S1024x4096.Idx → EReal) := by
  have e (b : Ref sig .tc) : V m c b = after hostOps0_30 (before m c) b := by
    unfold before
    rw [← after_two]
    rfl
  rw [e]
  generalize before m c = B
  rfl

/-- The packed weight's first 3328 columns. -/
theorem packed_left (r : Fin 1024) (k : Fin 3328) : (V m c main_v48 : S1024x4096.Idx → EReal) (ix2 r ⟨k.val, by omega⟩)
    = leftPieces (before m c) (ix2 r k) := by
  rw [packed_eq]
  refine concatenate_apply_piece (t := S1024x4096) 1 _ _ _ 0 ?_ S1024x3328 (leftPieces (before m c)) rfl rfl 0 rfl (ix2 r k) ?_ ?_
  · simp
  · intro b hb
    match b with
    | ⟨0, _⟩ => rfl
    | ⟨1, _⟩ => exact absurd rfl hb
  · exact Nat.zero_add _

/-- The packed weight's last 768 columns. -/
theorem packed_right (r : Fin 1024) (k : Fin 768) : (V m c main_v48 : S1024x4096.Idx → EReal) (ix2 r ⟨3328 + k.val, by omega⟩)
    = rightPieces (before m c) (ix2 r k) := by
  rw [packed_eq]
  refine concatenate_apply_piece (t := S1024x4096) 1 _ _ _ 1 ?_ S1024x768 (rightPieces (before m c)) rfl rfl 3328 rfl (ix2 r k) ?_ rfl
  · simp
  · intro b hb
    match b with
    | ⟨0, _⟩ => rfl
    | ⟨1, _⟩ => exact absurd rfl hb

/-- The packed weight's columns 0 to 255. -/
theorem packed_v1 (r : Fin 1024) (k : Fin 256) : (V m c main_v48 : S1024x4096.Idx → EReal) (ix2 r ⟨0 + k.val, by omega⟩)
    = (before m c main_v1 : S1024x256.Idx → EReal) (ix2 r k) := by
  refine Eq.trans ?_ ((packed_left m c r ⟨0 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 0 ?_ S1024x256 (before m c main_v1) ?_ rfl 0 ?_ (ix2 r k) ?_ ?_
    · simp
    · rfl
    · rfl
    · intro b hb
      match b with
      | ⟨0, _⟩ => rfl
      | ⟨1, _⟩ => exact absurd rfl hb
    · rfl

/-- The packed weight's columns 256 to 511. -/
theorem packed_v2 (r : Fin 1024) (k : Fin 256) : (V m c main_v48 : S1024x4096.Idx → EReal) (ix2 r ⟨256 + k.val, by omega⟩)
    = (before m c main_v2 : S1024x256.Idx → EReal) (ix2 r k) := by
  refine Eq.trans ?_ ((packed_left m c r ⟨256 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 1 ?_ S1024x256 (before m c main_v2) ?_ rfl 256 ?_ (ix2 r k) ?_ ?_
    · simp
    · rfl
    · rfl
    · intro b hb
      match b with
      | ⟨0, _⟩ => rfl
      | ⟨1, _⟩ => exact absurd rfl hb
    · rfl

/-- The packed weight's columns 512 to 639. -/
theorem packed_v16 (r : Fin 1024) (k : Fin 128) : (V m c main_v48 : S1024x4096.Idx → EReal) (ix2 r ⟨512 + k.val, by omega⟩)
    = (before m c main_v16 : S1024x128.Idx → EReal) (ix2 r k) := by
  refine Eq.trans ?_ ((packed_left m c r ⟨512 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 2 ?_ S1024x128 (before m c main_v16) ?_ rfl 512 ?_ (ix2 r k) ?_ ?_
    · simp
    · rfl
    · rfl
    · intro b hb
      match b with
      | ⟨0, _⟩ => rfl
      | ⟨1, _⟩ => exact absurd rfl hb
    · rfl

/-- The packed weight's columns 640 to 767. -/
theorem packed_v18 (r : Fin 1024) (k : Fin 128) : (V m c main_v48 : S1024x4096.Idx → EReal) (ix2 r ⟨640 + k.val, by omega⟩)
    = (before m c main_v18 : S1024x128.Idx → EReal) (ix2 r k) := by
  refine Eq.trans ?_ ((packed_left m c r ⟨640 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 3 ?_ S1024x128 (before m c main_v18) ?_ rfl 640 ?_ (ix2 r k) ?_ ?_
    · simp
    · rfl
    · rfl
    · intro b hb
      match b with
      | ⟨0, _⟩ => rfl
      | ⟨1, _⟩ => exact absurd rfl hb
    · rfl

/-- The packed weight's columns 768 to 895. -/
theorem packed_v20 (r : Fin 1024) (k : Fin 128) : (V m c main_v48 : S1024x4096.Idx → EReal) (ix2 r ⟨768 + k.val, by omega⟩)
    = (before m c main_v20 : S1024x128.Idx → EReal) (ix2 r k) := by
  refine Eq.trans ?_ ((packed_left m c r ⟨768 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 4 ?_ S1024x128 (before m c main_v20) ?_ rfl 768 ?_ (ix2 r k) ?_ ?_
    · simp
    · rfl
    · rfl
    · intro b hb
      match b with
      | ⟨0, _⟩ => rfl
      | ⟨1, _⟩ => exact absurd rfl hb
    · rfl

/-- The packed weight's columns 896 to 1023. -/
theorem packed_v22 (r : Fin 1024) (k : Fin 128) : (V m c main_v48 : S1024x4096.Idx → EReal) (ix2 r ⟨896 + k.val, by omega⟩)
    = (before m c main_v22 : S1024x128.Idx → EReal) (ix2 r k) := by
  refine Eq.trans ?_ ((packed_left m c r ⟨896 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 5 ?_ S1024x128 (before m c main_v22) ?_ rfl 896 ?_ (ix2 r k) ?_ ?_
    · simp
    · rfl
    · rfl
    · intro b hb
      match b with
      | ⟨0, _⟩ => rfl
      | ⟨1, _⟩ => exact absurd rfl hb
    · rfl

/-- The packed weight's columns 1024 to 1151. -/
theorem packed_v24 (r : Fin 1024) (k : Fin 128) : (V m c main_v48 : S1024x4096.Idx → EReal) (ix2 r ⟨1024 + k.val, by omega⟩)
    = (before m c main_v24 : S1024x128.Idx → EReal) (ix2 r k) := by
  refine Eq.trans ?_ ((packed_left m c r ⟨1024 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 6 ?_ S1024x128 (before m c main_v24) ?_ rfl 1024 ?_ (ix2 r k) ?_ ?_
    · simp
    · rfl
    · rfl
    · intro b hb
      match b with
      | ⟨0, _⟩ => rfl
      | ⟨1, _⟩ => exact absurd rfl hb
    · rfl

/-- The packed weight's columns 1152 to 1279. -/
theorem packed_v26 (r : Fin 1024) (k : Fin 128) : (V m c main_v48 : S1024x4096.Idx → EReal) (ix2 r ⟨1152 + k.val, by omega⟩)
    = (before m c main_v26 : S1024x128.Idx → EReal) (ix2 r k) := by
  refine Eq.trans ?_ ((packed_left m c r ⟨1152 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 7 ?_ S1024x128 (before m c main_v26) ?_ rfl 1152 ?_ (ix2 r k) ?_ ?_
    · simp
    · rfl
    · rfl
    · intro b hb
      match b with
      | ⟨0, _⟩ => rfl
      | ⟨1, _⟩ => exact absurd rfl hb
    · rfl

/-- The packed weight's columns 1280 to 1663. -/
theorem packed_v9 (r : Fin 1024) (k : Fin 384) : (V m c main_v48 : S1024x4096.Idx → EReal) (ix2 r ⟨1280 + k.val, by omega⟩)
    = (before m c main_v9 : S1024x384.Idx → EReal) (ix2 r k) := by
  refine Eq.trans ?_ ((packed_left m c r ⟨1280 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 8 ?_ S1024x384 (before m c main_v9) ?_ rfl 1280 ?_ (ix2 r k) ?_ ?_
    · simp
    · rfl
    · rfl
    · intro b hb
      match b with
      | ⟨0, _⟩ => rfl
      | ⟨1, _⟩ => exact absurd rfl hb
    · rfl

/-- The packed weight's columns 1664 to 2047. -/
theorem packed_v10 (r : Fin 1024) (k : Fin 384) : (V m c main_v48 : S1024x4096.Idx → EReal) (ix2 r ⟨1664 + k.val, by omega⟩)
    = (before m c main_v10 : S1024x384.Idx → EReal) (ix2 r k) := by
  refine Eq.trans ?_ ((packed_left m c r ⟨1664 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 9 ?_ S1024x384 (before m c main_v10) ?_ rfl 1664 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2048 to 2431. -/
theorem packed_v11 (r : Fin 1024) (k : Fin 384) : (V m c main_v48 : S1024x4096.Idx → EReal) (ix2 r ⟨2048 + k.val, by omega⟩)
    = (before m c main_v11 : S1024x384.Idx → EReal) (ix2 r k) := by
  refine Eq.trans ?_ ((packed_left m c r ⟨2048 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 10 ?_ S1024x384 (before m c main_v11) ?_ rfl 2048 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2432 to 2815. -/
theorem packed_v12 (r : Fin 1024) (k : Fin 384) : (V m c main_v48 : S1024x4096.Idx → EReal) (ix2 r ⟨2432 + k.val, by omega⟩)
    = (before m c main_v12 : S1024x384.Idx → EReal) (ix2 r k) := by
  refine Eq.trans ?_ ((packed_left m c r ⟨2432 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 11 ?_ S1024x384 (before m c main_v12) ?_ rfl 2432 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2816 to 2943. -/
theorem packed_v28 (r : Fin 1024) (k : Fin 128) : (V m c main_v48 : S1024x4096.Idx → EReal) (ix2 r ⟨2816 + k.val, by omega⟩)
    = (before m c main_v28 : S1024x128.Idx → EReal) (ix2 r k) := by
  refine Eq.trans ?_ ((packed_left m c r ⟨2816 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 12 ?_ S1024x128 (before m c main_v28) ?_ rfl 2816 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 2944 to 3071. -/
theorem packed_v30 (r : Fin 1024) (k : Fin 128) : (V m c main_v48 : S1024x4096.Idx → EReal) (ix2 r ⟨2944 + k.val, by omega⟩)
    = (before m c main_v30 : S1024x128.Idx → EReal) (ix2 r k) := by
  refine Eq.trans ?_ ((packed_left m c r ⟨2944 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 13 ?_ S1024x128 (before m c main_v30) ?_ rfl 2944 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 3072 to 3199. -/
theorem packed_v32 (r : Fin 1024) (k : Fin 128) : (V m c main_v48 : S1024x4096.Idx → EReal) (ix2 r ⟨3072 + k.val, by omega⟩)
    = (before m c main_v32 : S1024x128.Idx → EReal) (ix2 r k) := by
  refine Eq.trans ?_ ((packed_left m c r ⟨3072 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 14 ?_ S1024x128 (before m c main_v32) ?_ rfl 3072 ?_ (ix2 r k) ?_ ?_
    · simp
    · rfl
    · rfl
    · intro b hb
      match b with
      | ⟨0, _⟩ => rfl
      | ⟨1, _⟩ => exact absurd rfl hb
    · rfl

set_option maxHeartbeats 2000000 in
/-- The packed weight's columns 3200 to 3327. -/
theorem packed_v34 (r : Fin 1024) (k : Fin 128) : (V m c main_v48 : S1024x4096.Idx → EReal) (ix2 r ⟨3200 + k.val, by omega⟩)
    = (before m c main_v34 : S1024x128.Idx → EReal) (ix2 r k) := by
  refine Eq.trans ?_ ((packed_left m c r ⟨3200 + k.val, by omega⟩).trans ?_)
  · exact congrArg (fun i : Fin 4096 => (V m c main_v48 : S1024x4096.Idx → EReal) (ix2 r i)) (Fin.ext (by first | (dsimp only; done) | (dsimp only; omega)))
  · unfold leftPieces
    refine concatenate_apply_piece (t := S1024x3328) 1 _ _ _ 15 ?_ S1024x128 (before m c main_v34) ?_ rfl 3200 ?_ (ix2 r k) ?_ ?_
    · simp
    · rfl
    · rfl
    · intro b hb
      match b with
      | ⟨0, _⟩ => rfl
      | ⟨1, _⟩ => exact absurd rfl hb
    · rfl

/-- The packed weight's columns 3328 to 3455. -/
theorem packed_v36 (r : Fin 1024) (k : Fin 128) : (V m c main_v48 : S1024x4096.Idx → EReal) (ix2 r ⟨3328 + k.val, by omega⟩)
    = (before m c main_v36 : S1024x128.Idx → EReal) (ix2 r k) := by
  refine Eq.trans ?_ ((packed_right m c r ⟨0 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 0 ?_ S1024x128 (before m c main_v36) ?_ rfl 0 ?_ (ix2 r k) ?_ ?_
    · simp
    · rfl
    · rfl
    · intro b hb
      match b with
      | ⟨0, _⟩ => rfl
      | ⟨1, _⟩ => exact absurd rfl hb
    · rfl

/-- The packed weight's columns 3456 to 3583. -/
theorem packed_v38 (r : Fin 1024) (k : Fin 128) : (V m c main_v48 : S1024x4096.Idx → EReal) (ix2 r ⟨3456 + k.val, by omega⟩)
    = (before m c main_v38 : S1024x128.Idx → EReal) (ix2 r k) := by
  refine Eq.trans ?_ ((packed_right m c r ⟨128 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 1 ?_ S1024x128 (before m c main_v38) ?_ rfl 128 ?_ (ix2 r k) ?_ ?_
    · simp
    · rfl
    · rfl
    · intro b hb
      match b with
      | ⟨0, _⟩ => rfl
      | ⟨1, _⟩ => exact absurd rfl hb
    · rfl

/-- The packed weight's columns 3584 to 3711. -/
theorem packed_v40 (r : Fin 1024) (k : Fin 128) : (V m c main_v48 : S1024x4096.Idx → EReal) (ix2 r ⟨3584 + k.val, by omega⟩)
    = (before m c main_v40 : S1024x128.Idx → EReal) (ix2 r k) := by
  refine Eq.trans ?_ ((packed_right m c r ⟨256 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 2 ?_ S1024x128 (before m c main_v40) ?_ rfl 256 ?_ (ix2 r k) ?_ ?_
    · simp
    · rfl
    · rfl
    · intro b hb
      match b with
      | ⟨0, _⟩ => rfl
      | ⟨1, _⟩ => exact absurd rfl hb
    · rfl

/-- The packed weight's columns 3712 to 3839. -/
theorem packed_v42 (r : Fin 1024) (k : Fin 128) : (V m c main_v48 : S1024x4096.Idx → EReal) (ix2 r ⟨3712 + k.val, by omega⟩)
    = (before m c main_v42 : S1024x128.Idx → EReal) (ix2 r k) := by
  refine Eq.trans ?_ ((packed_right m c r ⟨384 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 3 ?_ S1024x128 (before m c main_v42) ?_ rfl 384 ?_ (ix2 r k) ?_ ?_
    · simp
    · rfl
    · rfl
    · intro b hb
      match b with
      | ⟨0, _⟩ => rfl
      | ⟨1, _⟩ => exact absurd rfl hb
    · rfl

/-- The packed weight's columns 3840 to 3903. -/
theorem packed_v4 (r : Fin 1024) (k : Fin 64) : (V m c main_v48 : S1024x4096.Idx → EReal) (ix2 r ⟨3840 + k.val, by omega⟩)
    = (before m c main_v4 : S1024x64.Idx → EReal) (ix2 r k) := by
  refine Eq.trans ?_ ((packed_right m c r ⟨512 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 4 ?_ S1024x64 (before m c main_v4) ?_ rfl 512 ?_ (ix2 r k) ?_ ?_
    · simp
    · rfl
    · rfl
    · intro b hb
      match b with
      | ⟨0, _⟩ => rfl
      | ⟨1, _⟩ => exact absurd rfl hb
    · rfl

/-- The packed weight's columns 3904 to 3967. -/
theorem packed_v5 (r : Fin 1024) (k : Fin 64) : (V m c main_v48 : S1024x4096.Idx → EReal) (ix2 r ⟨3904 + k.val, by omega⟩)
    = (before m c main_v5 : S1024x64.Idx → EReal) (ix2 r k) := by
  refine Eq.trans ?_ ((packed_right m c r ⟨576 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 5 ?_ S1024x64 (before m c main_v5) ?_ rfl 576 ?_ (ix2 r k) ?_ ?_
    · simp
    · rfl
    · rfl
    · intro b hb
      match b with
      | ⟨0, _⟩ => rfl
      | ⟨1, _⟩ => exact absurd rfl hb
    · rfl

/-- The packed weight's columns 3968 to 4095. -/
theorem packed_v44 (r : Fin 1024) (k : Fin 128) : (V m c main_v48 : S1024x4096.Idx → EReal) (ix2 r ⟨3968 + k.val, by omega⟩)
    = (before m c main_v44 : S1024x128.Idx → EReal) (ix2 r k) := by
  refine Eq.trans ?_ ((packed_right m c r ⟨640 + k.val, by omega⟩).trans ?_)
  · exact congrArg (fun i : Fin 4096 => (V m c main_v48 : S1024x4096.Idx → EReal) (ix2 r i)) (Fin.ext (by first | (dsimp only; done) | (dsimp only; omega)))
  · unfold rightPieces
    refine concatenate_apply_piece (t := S1024x768) 1 _ _ _ 6 ?_ S1024x128 (before m c main_v44) ?_ rfl 640 ?_ (ix2 r k) ?_ ?_
    · simp
    · rfl
    · rfl
    · intro b hb
      match b with
      | ⟨0, _⟩ => rfl
      | ⟨1, _⟩ => exact absurd rfl hb
    · rfl

/-- A plain piece: the weight's columns 0 to 255. -/
theorem before_v1 (r : Fin 1024) (k : Fin 256) : (before m c main_v1 : S1024x256.Idx → EReal) (ix2 r k) = wIn m c r (0 + k.val) := by
  unfold before wIn
  after_reads_at
  first | exact at2_fin _ _ _ | exact (at2_fin _ _ _).trans (congrArg (at2 _ r.val) (by first | (dsimp only; done) | (dsimp only; omega)))

/-- A plain piece: the weight's columns 256 to 511. -/
theorem before_v2 (r : Fin 1024) (k : Fin 256) : (before m c main_v2 : S1024x256.Idx → EReal) (ix2 r k) = wIn m c r (256 + k.val) := by
  unfold before wIn
  after_reads_at
  first | exact at2_fin _ _ _ | exact (at2_fin _ _ _).trans (congrArg (at2 _ r.val) (by first | (dsimp only; done) | (dsimp only; omega)))

/-- A plain piece: the weight's columns 1320 to 1703. -/
theorem before_v9 (r : Fin 1024) (k : Fin 384) : (before m c main_v9 : S1024x384.Idx → EReal) (ix2 r k) = wIn m c r (1320 + k.val) := by
  unfold before wIn
  after_reads_at
  first | exact at2_fin _ _ _ | exact (at2_fin _ _ _).trans (congrArg (at2 _ r.val) (by first | (dsimp only; done) | (dsimp only; omega)))

/-- A plain piece: the weight's columns 1704 to 2087. -/
theorem before_v10 (r : Fin 1024) (k : Fin 384) : (before m c main_v10 : S1024x384.Idx → EReal) (ix2 r k) = wIn m c r (1704 + k.val) := by
  unfold before wIn
  after_reads_at
  first | exact at2_fin _ _ _ | exact (at2_fin _ _ _).trans (congrArg (at2 _ r.val) (by first | (dsimp only; done) | (dsimp only; omega)))

/-- A plain piece: the weight's columns 2088 to 2471. -/
theorem before_v11 (r : Fin 1024) (k : Fin 384) : (before m c main_v11 : S1024x384.Idx → EReal) (ix2 r k) = wIn m c r (2088 + k.val) := by
  unfold before wIn
  after_reads_at
  first | exact at2_fin _ _ _ | exact (at2_fin _ _ _).trans (congrArg (at2 _ r.val) (by first | (dsimp only; done) | (dsimp only; omega)))

/-- A plain piece: the weight's columns 2472 to 2855. -/
theorem before_v12 (r : Fin 1024) (k : Fin 384) : (before m c main_v12 : S1024x384.Idx → EReal) (ix2 r k) = wIn m c r (2472 + k.val) := by
  unfold before wIn
  after_reads_at
  first | exact at2_fin _ _ _ | exact (at2_fin _ _ _).trans (congrArg (at2 _ r.val) (by first | (dsimp only; done) | (dsimp only; omega)))

/-- A plain piece: the weight's columns 896 to 959. -/
theorem before_v4 (r : Fin 1024) (k : Fin 64) : (before m c main_v4 : S1024x64.Idx → EReal) (ix2 r k) = wIn m c r (896 + k.val) := by
  unfold before wIn
  after_reads_at
  first | exact at2_fin _ _ _ | exact (at2_fin _ _ _).trans (congrArg (at2 _ r.val) (by first | (dsimp only; done) | (dsimp only; omega)))

/-- A plain piece: the weight's columns 960 to 1023. -/
theorem before_v5 (r : Fin 1024) (k : Fin 64) : (before m c main_v5 : S1024x64.Idx → EReal) (ix2 r k) = wIn m c r (960 + k.val) := by
  unfold before wIn
  after_reads_at
  first | exact at2_fin _ _ _ | exact (at2_fin _ _ _).trans (congrArg (at2 _ r.val) (by first | (dsimp only; done) | (dsimp only; omega)))

/-- Head 0 of the attention's queries, scaled and padded. -/
theorem before_v16 (r : Fin 1024) (k : Fin 128) : (before m c main_v16 : S1024x128.Idx → EReal) (ix2 r k)
    = if k.val < 64 then wIn m c r (512 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 1 of the attention's queries, scaled and padded. -/
theorem before_v18 (r : Fin 1024) (k : Fin 128) : (before m c main_v18 : S1024x128.Idx → EReal) (ix2 r k)
    = if k.val < 64 then wIn m c r (576 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 2 of the attention's queries, scaled and padded. -/
theorem before_v20 (r : Fin 1024) (k : Fin 128) : (before m c main_v20 : S1024x128.Idx → EReal) (ix2 r k)
    = if k.val < 64 then wIn m c r (640 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 3 of the attention's queries, scaled and padded. -/
theorem before_v22 (r : Fin 1024) (k : Fin 128) : (before m c main_v22 : S1024x128.Idx → EReal) (ix2 r k)
    = if k.val < 64 then wIn m c r (704 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 4 of the attention's queries, scaled and padded. -/
theorem before_v24 (r : Fin 1024) (k : Fin 128) : (before m c main_v24 : S1024x128.Idx → EReal) (ix2 r k)
    = if k.val < 64 then wIn m c r (768 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 5 of the attention's queries, scaled and padded. -/
theorem before_v26 (r : Fin 1024) (k : Fin 128) : (before m c main_v26 : S1024x128.Idx → EReal) (ix2 r k)
    = if k.val < 64 then wIn m c r (832 + k.val) * scale else 0 := by
  unfold before wIn
  after_reads_at
  by_cases h : k.val < 64
  · rw [dif_pos h, if_pos h]
    exact congrArg (· * scale) ((at2_fin _ _ _).trans (congrArg (at2 _ r.val) (by first | (dsimp only; done) | (dsimp only; omega))))
  · rw [dif_neg h, if_neg h]
    exact zero_word

/-- Head 0 of the indexer's queries, padded. -/
theorem before_v28 (r : Fin 1024) (k : Fin 128) : (before m c main_v28 : S1024x128.Idx → EReal) (ix2 r k)
    = if k.val < 32 then wIn m c r (1024 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 1 of the indexer's queries, padded. -/
theorem before_v30 (r : Fin 1024) (k : Fin 128) : (before m c main_v30 : S1024x128.Idx → EReal) (ix2 r k)
    = if k.val < 32 then wIn m c r (1056 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 2 of the indexer's queries, padded. -/
theorem before_v32 (r : Fin 1024) (k : Fin 128) : (before m c main_v32 : S1024x128.Idx → EReal) (ix2 r k)
    = if k.val < 32 then wIn m c r (1088 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 3 of the indexer's queries, padded. -/
theorem before_v34 (r : Fin 1024) (k : Fin 128) : (before m c main_v34 : S1024x128.Idx → EReal) (ix2 r k)
    = if k.val < 32 then wIn m c r (1120 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 4 of the indexer's queries, padded. -/
theorem before_v36 (r : Fin 1024) (k : Fin 128) : (before m c main_v36 : S1024x128.Idx → EReal) (ix2 r k)
    = if k.val < 32 then wIn m c r (1152 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 5 of the indexer's queries, padded. -/
theorem before_v38 (r : Fin 1024) (k : Fin 128) : (before m c main_v38 : S1024x128.Idx → EReal) (ix2 r k)
    = if k.val < 32 then wIn m c r (1184 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 6 of the indexer's queries, padded. -/
theorem before_v40 (r : Fin 1024) (k : Fin 128) : (before m c main_v40 : S1024x128.Idx → EReal) (ix2 r k)
    = if k.val < 32 then wIn m c r (1216 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- Head 7 of the indexer's queries, padded. -/
theorem before_v42 (r : Fin 1024) (k : Fin 128) : (before m c main_v42 : S1024x128.Idx → EReal) (ix2 r k)
    = if k.val < 32 then wIn m c r (1248 + k.val) else 0 := by
  unfold before wIn
  after_reads_at
  by_cases h : k.val < 32
  · rw [dif_pos h, if_pos h]
    exact (at2_fin _ _ _).trans (congrArg (at2 _ r.val) (by first | (dsimp only; done) | (dsimp only; omega)))
  · rw [dif_neg h, if_neg h]
    exact zero_word

/-- The indexer's keys and weights, padded. -/
theorem before_v44 (r : Fin 1024) (k : Fin 128) : (before m c main_v44 : S1024x128.Idx → EReal) (ix2 r k)
    = if k.val < 40 then wIn m c r (1280 + k.val) else 0 := by
  unfold before wIn
  after_reads_at
  by_cases h : k.val < 40
  · rw [dif_pos h, if_pos h]
    by_cases h' : k.val < 32
    · rw [dif_pos h']
      after_reads_at
      exact (at2_fin _ _ _).trans (congrArg (at2 _ r.val) (by first | (dsimp only; done) | (dsimp only; omega)))
    · rw [dif_neg h']
      after_reads_at
      exact (at2_fin _ _ _).trans (congrArg (at2 _ r.val) (by first | (dsimp only; done) | (dsimp only; omega)))
  · rw [dif_neg h, if_neg h]
    exact zero_word

/-- Row `r` of the layer input. -/
theorem V0_apply (r : Fin 512) (k : Fin 1024) : (V m c main_v0 : S512x1024.Idx → EReal) (ix2 r k)
    = at3 (m ((c : Thread nD τ).loc main_arg0) : S32x16x1024.Idx → EReal) (r.val / 16) (r.val % 16) k.val := by
  unfold V
  after_reads_at
  exact at3_fin _ _ _ _

end Cert.Kernel5Ideal.Val

end
-- ==== Proof.ProjS.Kernel.lean ====
/- What the projection kernel leaves in its eight arrays, over the extended reals, in terms of the arguments. -/
module

public import proofs.«01_k».proof.Proof.Gen.Kernel5Ideal.Value
public import proofs.«01_k».proof.Proof.ProjS.Host

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Idealize.ShloMosaic.StableHlo Cert.Ffn Cert.ProjS

variable (m : (ℓ : Loc nD τ sig) → Buf (Elt Ideal) ℓ) (c : Dev nD)

/-- Entry `n` of row `r` of the input's product with the weight. -/
def pr (r n : ℕ) : EReal :=
  prj (m ((c : Thread nD τ).loc main_arg0) : S32x16x1024.Idx → EReal) (m ((c : Thread nD τ).loc main_arg1) : S1024x2856.Idx → EReal) r n

/-- Entry `k` of row `r` of the input. -/
def xIn (r k : ℕ) : EReal := at3 (m ((c : Thread nD τ).loc main_arg0) : S32x16x1024.Idx → EReal) (r / 16) (r % 16) k

/-- The packed weight's entry `n` of row `k`. -/
abbrev packedAt (k : Fin 1024) (n : Fin 4096) : EReal := (V m c main_v48 : S1024x4096.Idx → EReal) (ix2 k n)

/-- A column of the packed weight under another name of its number. -/
theorem packedAt_congr (k : Fin 1024) {n n' : Fin 4096} (h : n.val = n'.val) : packedAt m c k n = packedAt m c k n' :=
  congrArg (packedAt m c k) (Fin.ext h)

/-- The first mixer's columns. -/
theorem cols_a (k : Fin 1024) (j : Fin 512) : packedAt m c k ⟨0 + j.val, by omega⟩ = wIn m c k j.val := by
  by_cases h : j.val < 256
  · refine (packedAt_congr m c k ?_).trans ((packed_v1 m c k ⟨j.val, h⟩).trans ((before_v1 m c k ⟨j.val, h⟩).trans ?_))
    · rfl
    · exact congrArg (wIn m c k) (by first | (dsimp only; done) | (dsimp only; omega))
  · refine (packedAt_congr m c k ?_).trans ((packed_v2 m c k ⟨j.val - 256, by omega⟩).trans ((before_v2 m c k ⟨j.val - 256, by omega⟩).trans ?_))
    · dsimp only; omega
    · exact congrArg (wIn m c k) (by first | (dsimp only; done) | (dsimp only; omega))

/-- The attention's queries' columns: each head's at the front of 128 lanes. -/
theorem cols_q (k : Fin 1024) (j : Fin 768) : packedAt m c k ⟨512 + j.val, by omega⟩
    = if j.val % 128 < 64 then wIn m c k (512 + 64 * (j.val / 128) + j.val % 128) * scale else 0 := by
  have hj := j.isLt
  rcases (by omega : j.val / 128 = 0 ∨ j.val / 128 = 1 ∨ j.val / 128 = 2 ∨ j.val / 128 = 3 ∨ j.val / 128 = 4 ∨ j.val / 128 = 5) with h | h | h | h | h | h
  · refine (packedAt_congr m c k ?_).trans ((packed_v16 m c k ⟨j.val % 128, by omega⟩).trans ((before_v16 m c k ⟨j.val % 128, by omega⟩).trans ?_))
    · dsimp only; omega
    · rw [h]
  · refine (packedAt_congr m c k ?_).trans ((packed_v18 m c k ⟨j.val % 128, by omega⟩).trans ((before_v18 m c k ⟨j.val % 128, by omega⟩).trans ?_))
    · dsimp only; omega
    · rw [h]
  · refine (packedAt_congr m c k ?_).trans ((packed_v20 m c k ⟨j.val % 128, by omega⟩).trans ((before_v20 m c k ⟨j.val % 128, by omega⟩).trans ?_))
    · dsimp only; omega
    · rw [h]
  · refine (packedAt_congr m c k ?_).trans ((packed_v22 m c k ⟨j.val % 128, by omega⟩).trans ((before_v22 m c k ⟨j.val % 128, by omega⟩).trans ?_))
    · dsimp only; omega
    · rw [h]
  · refine (packedAt_congr m c k ?_).trans ((packed_v24 m c k ⟨j.val % 128, by omega⟩).trans ((before_v24 m c k ⟨j.val % 128, by omega⟩).trans ?_))
    · dsimp only; omega
    · rw [h]
  · refine (packedAt_congr m c k ?_).trans ((packed_v26 m c k ⟨j.val % 128, by omega⟩).trans ((before_v26 m c k ⟨j.val % 128, by omega⟩).trans ?_))
    · dsimp only; omega
    · rw [h]

/-- The indexer's queries' columns: each head's at the front of 128 lanes. -/
theorem cols_i (k : Fin 1024) (j : Fin 1024) : packedAt m c k ⟨2816 + j.val, by omega⟩
    = if j.val % 128 < 32 then wIn m c k (1024 + 32 * (j.val / 128) + j.val % 128) else 0 := by
  have hj := j.isLt
  rcases (by omega : j.val / 128 = 0 ∨ j.val / 128 = 1 ∨ j.val / 128 = 2 ∨ j.val / 128 = 3 ∨ j.val / 128 = 4 ∨ j.val / 128 = 5 ∨ j.val / 128 = 6 ∨ j.val / 128 = 7) with h | h | h | h | h | h | h | h
  · refine (packedAt_congr m c k ?_).trans ((packed_v28 m c k ⟨j.val % 128, by omega⟩).trans ((before_v28 m c k ⟨j.val % 128, by omega⟩).trans ?_))
    · dsimp only; omega
    · rw [h]
  · refine (packedAt_congr m c k ?_).trans ((packed_v30 m c k ⟨j.val % 128, by omega⟩).trans ((before_v30 m c k ⟨j.val % 128, by omega⟩).trans ?_))
    · dsimp only; omega
    · rw [h]
  · refine (packedAt_congr m c k ?_).trans ((packed_v32 m c k ⟨j.val % 128, by omega⟩).trans ((before_v32 m c k ⟨j.val % 128, by omega⟩).trans ?_))
    · dsimp only; omega
    · rw [h]
  · refine (packedAt_congr m c k ?_).trans ((packed_v34 m c k ⟨j.val % 128, by omega⟩).trans ((before_v34 m c k ⟨j.val % 128, by omega⟩).trans ?_))
    · dsimp only; omega
    · rw [h]
  · refine (packedAt_congr m c k ?_).trans ((packed_v36 m c k ⟨j.val % 128, by omega⟩).trans ((before_v36 m c k ⟨j.val % 128, by omega⟩).trans ?_))
    · dsimp only; omega
    · rw [h]
  · refine (packedAt_congr m c k ?_).trans ((packed_v38 m c k ⟨j.val % 128, by omega⟩).trans ((before_v38 m c k ⟨j.val % 128, by omega⟩).trans ?_))
    · dsimp only; omega
    · rw [h]
  · refine (packedAt_congr m c k ?_).trans ((packed_v40 m c k ⟨j.val % 128, by omega⟩).trans ((before_v40 m c k ⟨j.val % 128, by omega⟩).trans ?_))
    · dsimp only; omega
    · rw [h]
  · refine (packedAt_congr m c k ?_).trans ((packed_v42 m c k ⟨j.val % 128, by omega⟩).trans ((before_v42 m c k ⟨j.val % 128, by omega⟩).trans ?_))
    · dsimp only; omega
    · rw [h]

/-- The retention's columns. -/
theorem cols_r (k : Fin 1024) (j : Fin 1536) : packedAt m c k ⟨1280 + j.val, by omega⟩ = wIn m c k (1320 + j.val) := by
  have hj := j.isLt
  rcases (by omega : j.val / 384 = 0 ∨ j.val / 384 = 1 ∨ j.val / 384 = 2 ∨ j.val / 384 = 3) with h | h | h | h
  · refine (packedAt_congr m c k ?_).trans ((packed_v9 m c k ⟨j.val - 0, by omega⟩).trans ((before_v9 m c k ⟨j.val - 0, by omega⟩).trans ?_))
    · dsimp only; omega
    · exact congrArg (wIn m c k) (by first | (dsimp only; done) | (dsimp only; omega))
  · refine (packedAt_congr m c k ?_).trans ((packed_v10 m c k ⟨j.val - 384, by omega⟩).trans ((before_v10 m c k ⟨j.val - 384, by omega⟩).trans ?_))
    · dsimp only; omega
    · exact congrArg (wIn m c k) (by first | (dsimp only; done) | (dsimp only; omega))
  · refine (packedAt_congr m c k ?_).trans ((packed_v11 m c k ⟨j.val - 768, by omega⟩).trans ((before_v11 m c k ⟨j.val - 768, by omega⟩).trans ?_))
    · dsimp only; omega
    · exact congrArg (wIn m c k) (by first | (dsimp only; done) | (dsimp only; omega))
  · refine (packedAt_congr m c k ?_).trans ((packed_v12 m c k ⟨j.val - 1152, by omega⟩).trans ((before_v12 m c k ⟨j.val - 1152, by omega⟩).trans ?_))
    · dsimp only; omega
    · exact congrArg (wIn m c k) (by first | (dsimp only; done) | (dsimp only; omega))

/-- The attention's keys' and values' columns. -/
theorem cols_kv (k : Fin 1024) (j : Fin 128) : packedAt m c k ⟨3840 + j.val, by omega⟩ = wIn m c k (896 + j.val) := by
  by_cases h : j.val < 64
  · refine (packedAt_congr m c k ?_).trans ((packed_v4 m c k ⟨j.val, h⟩).trans ((before_v4 m c k ⟨j.val, h⟩).trans ?_))
    · rfl
    · rfl
  · refine (packedAt_congr m c k ?_).trans ((packed_v5 m c k ⟨j.val - 64, by omega⟩).trans ((before_v5 m c k ⟨j.val - 64, by omega⟩).trans ?_))
    · dsimp only; omega
    · exact congrArg (wIn m c k) (by dsimp only; omega)

/-- The indexer's keys' and weights' columns, padded. -/
theorem cols_kw (k : Fin 1024) (j : Fin 128) : packedAt m c k ⟨3968 + j.val, by omega⟩
    = if j.val < 40 then wIn m c k (1280 + j.val) else 0 :=
  (packed_v44 m c k j).trans (before_v44 m c k j)

/-- The input's rows against columns that carry the scale or are zero. -/
theorem sum_lanes (r : ℕ) (p : Prop) [Decidable p] (n : ℕ) :
    ∑ k : Fin 1024, xIn m c r k.val * (if p then wIn m c k.val n * scale else 0) = if p then pr m c r n * scale else 0 := by
  by_cases h : p
  · simp only [if_pos h]
    exact sum_scale _ _ _
  · simp only [if_neg h, mul_zero, Finset.sum_const_zero]

/-- The input's rows against columns some of which are zero. -/
theorem sum_pad (r : ℕ) (p : Prop) [Decidable p] (n : ℕ) :
    ∑ k : Fin 1024, xIn m c r k.val * (if p then wIn m c k.val n else 0) = if p then pr m c r n else 0 := by
  by_cases h : p
  · simp only [if_pos h]
    rfl
  · simp only [if_neg h, mul_zero, Finset.sum_const_zero]

/-- The two input windows' block indices. -/
theorem idxIn : ∀ t : Fin cfg0.N, (win0_0.index t (0 : Fin 2) = t.val ∧ win0_0.index t (1 : Fin 2) = 0)
    ∧ win0_1.index t (0 : Fin 2) = 0 ∧ win0_1.index t (1 : Fin 2) = 0 :=
  (by decide +kernel : ∀ t : Fin grid0.N, _)

/-- The input rows at point `t`. -/
theorem blk0 (t : Fin cfg0.N) (r : Fin 512) (k : Fin 1024) :
    (iblk m c 0 t : S512x1024.Idx → EReal) (ix2 r k) = xIn m c (512 * t.val + r.val) k.val := by
  have hN : t.val < 1 := lt_of_lt_of_eq t.isLt (show cfg0.N = 1 from N_0)
  obtain ⟨⟨e0, e1⟩, -⟩ := idxIn t
  unfold iblk
  rw [View.read_apply]
  have e : (((cfg0.win 0).blk t).view.emb (ix2 r k) : S512x1024.Idx) = ix2 ⟨512 * t.val + r.val, by omega⟩ k := by
    funext a; apply Fin.ext
    match a with
    | ⟨0, _⟩ => show win0_0.index t 0 * 512 + 1 * r.val = 512 * t.val + r.val; omega
    | ⟨1, _⟩ => show win0_0.index t 1 * 1024 + 1 * k.val = k.val; omega
  show (V m c main_v0 : S512x1024.Idx → EReal) (((cfg0.win 0).blk t).view.emb (ix2 r k)) = _
  rw [e]
  exact V0_apply m c ⟨512 * t.val + r.val, by omega⟩ k

/-- The packed weight at point `t`. -/
theorem blk1 (t : Fin cfg0.N) (k : Fin 1024) (n : Fin 4096) :
    (iblk m c 1 t : S1024x4096.Idx → EReal) (ix2 k n) = packedAt m c k n := by
  obtain ⟨-, e0, e1⟩ := idxIn t
  unfold iblk
  rw [View.read_apply]
  have e : (((cfg0.win 1).blk t).view.emb (ix2 k n) : S1024x4096.Idx) = ix2 k n := by
    funext a; apply Fin.ext
    match a with
    | ⟨0, _⟩ => show win0_1.index t 0 * 1024 + 1 * k.val = k.val; omega
    | ⟨1, _⟩ => show win0_1.index t 1 * 4096 + 1 * n.val = n.val; omega
  show (V m c main_v48 : S1024x4096.Idx → EReal) (((cfg0.win 1).blk t).view.emb (ix2 k n)) = _
  rw [e]

theorem hz : (![0, 0] : Fin 2 → Nat) = fun _ => 0 := funext fun a => by fin_cases a <;> rfl

/-- The value of row `r`, entry `n` of result 1. -/
def val2 (r n : ℕ) : EReal := pr m c r n

/-- The product payload of result 1 at point `t`. -/
theorem pay_2 (t : Fin cfg0.N) (r : Fin 512) (j : Fin 512) :
    (k0_pay4 (F := Ideal) (iblk m c 0 t) (View.ld (iblk m c 1 t) r0_1) : S512x512.Idx → EReal) (ix2 r j)
      = val2 m c (512 * t.val + r.val) j.val := by
  have e (x : Vec Ideal S512x1024 .f32) (y : Vec Ideal S1024x512 .bf16) :
      k0_pay4 (F := Ideal) x y (ix2 r j) = ∑ k : Fin 1024, x (ix2 r k) * y (ix2 k j) := by
    pointwise [k0_pay4, k0_pay3]
  refine (e _ _).trans ?_
  have l (k : Fin 1024) : (View.ld (iblk m c 1 t) r0_1 : S1024x512.Idx → EReal) (ix2 k j) = packedAt m c k ⟨0 + j.val, by omega⟩ := by
    refine Eq.trans ?_ (blk1 m c t k ⟨0 + j.val, by omega⟩)
    refine congrArg (iblk m c 1 t : S1024x4096.Idx → EReal) ?_
    funext a; apply Fin.ext
    match a with
    | ⟨0, _⟩ => show 0 + 1 * k.val = k.val; omega
    | ⟨1, _⟩ => show 0 + 1 * j.val = 0 + j.val; omega
  refine Eq.trans (Finset.sum_congr rfl fun k _ => congrArg₂ (· * ·) (blk0 m c t r k) ((l k).trans (cols_a m c k j))) ?_
  unfold val2
  rfl

/-- The value of row `r`, entry `n` of result 2. -/
def val3 (r n : ℕ) : EReal := if n % 128 < 64 then pr m c r (512 + 64 * (n / 128) + n % 128) * scale else 0

/-- The product payload of result 2 at point `t`. -/
theorem pay_3 (t : Fin cfg0.N) (r : Fin 512) (j : Fin 768) :
    (k0_pay5 (F := Ideal) (iblk m c 0 t) (View.ld (iblk m c 1 t) r0_3) : S512x768.Idx → EReal) (ix2 r j)
      = val3 m c (512 * t.val + r.val) j.val := by
  have e (x : Vec Ideal S512x1024 .f32) (y : Vec Ideal S1024x768 .bf16) :
      k0_pay5 (F := Ideal) x y (ix2 r j) = ∑ k : Fin 1024, x (ix2 r k) * y (ix2 k j) := by
    pointwise [k0_pay5, k0_pay3]
  refine (e _ _).trans ?_
  have l (k : Fin 1024) : (View.ld (iblk m c 1 t) r0_3 : S1024x768.Idx → EReal) (ix2 k j) = packedAt m c k ⟨512 + j.val, by omega⟩ := by
    refine Eq.trans ?_ (blk1 m c t k ⟨512 + j.val, by omega⟩)
    refine congrArg (iblk m c 1 t : S1024x4096.Idx → EReal) ?_
    funext a; apply Fin.ext
    match a with
    | ⟨0, _⟩ => show 0 + 1 * k.val = k.val; omega
    | ⟨1, _⟩ => show 512 + 1 * j.val = 512 + j.val; omega
  refine Eq.trans (Finset.sum_congr rfl fun k _ => congrArg₂ (· * ·) (blk0 m c t r k) ((l k).trans (cols_q m c k j))) ?_
  unfold val3
  exact sum_lanes m c _ _ _

/-- The value of row `r`, entry `n` of result 3. -/
def val4 (r n : ℕ) : EReal := pr m c r (1320 + n)

/-- The product payload of result 3 at point `t`. -/
theorem pay_4 (t : Fin cfg0.N) (r : Fin 512) (j : Fin 1536) :
    (k0_pay6 (F := Ideal) (iblk m c 0 t) (View.ld (iblk m c 1 t) r0_5) : S512x1536.Idx → EReal) (ix2 r j)
      = val4 m c (512 * t.val + r.val) j.val := by
  have e (x : Vec Ideal S512x1024 .f32) (y : Vec Ideal S1024x1536 .bf16) :
      k0_pay6 (F := Ideal) x y (ix2 r j) = ∑ k : Fin 1024, x (ix2 r k) * y (ix2 k j) := by
    pointwise [k0_pay6, k0_pay3]
  refine (e _ _).trans ?_
  have l (k : Fin 1024) : (View.ld (iblk m c 1 t) r0_5 : S1024x1536.Idx → EReal) (ix2 k j) = packedAt m c k ⟨1280 + j.val, by omega⟩ := by
    refine Eq.trans ?_ (blk1 m c t k ⟨1280 + j.val, by omega⟩)
    refine congrArg (iblk m c 1 t : S1024x4096.Idx → EReal) ?_
    funext a; apply Fin.ext
    match a with
    | ⟨0, _⟩ => show 0 + 1 * k.val = k.val; omega
    | ⟨1, _⟩ => show 1280 + 1 * j.val = 1280 + j.val; omega
  refine Eq.trans (Finset.sum_congr rfl fun k _ => congrArg₂ (· * ·) (blk0 m c t r k) ((l k).trans (cols_r m c k j))) ?_
  unfold val4
  rfl

/-- The value of row `r`, entry `n` of result 4. -/
def val5 (r n : ℕ) : EReal := if n % 128 < 32 then pr m c r (1024 + 32 * (n / 128) + n % 128) else 0

/-- The product payload of result 4 at point `t`. -/
theorem pay_5 (t : Fin cfg0.N) (r : Fin 512) (j : Fin 1024) :
    (k0_pay7 (F := Ideal) (iblk m c 0 t) (View.ld (iblk m c 1 t) r0_7) : S512x1024.Idx → EReal) (ix2 r j)
      = val5 m c (512 * t.val + r.val) j.val := by
  have e (x : Vec Ideal S512x1024 .f32) (y : Vec Ideal S1024x1024 .bf16) :
      k0_pay7 (F := Ideal) x y (ix2 r j) = ∑ k : Fin 1024, x (ix2 r k) * y (ix2 k j) := by
    pointwise [k0_pay7, k0_pay3]
  refine (e _ _).trans ?_
  have l (k : Fin 1024) : (View.ld (iblk m c 1 t) r0_7 : S1024x1024.Idx → EReal) (ix2 k j) = packedAt m c k ⟨2816 + j.val, by omega⟩ := by
    refine Eq.trans ?_ (blk1 m c t k ⟨2816 + j.val, by omega⟩)
    refine congrArg (iblk m c 1 t : S1024x4096.Idx → EReal) ?_
    funext a; apply Fin.ext
    match a with
    | ⟨0, _⟩ => show 0 + 1 * k.val = k.val; omega
    | ⟨1, _⟩ => show 2816 + 1 * j.val = 2816 + j.val; omega
  refine Eq.trans (Finset.sum_congr rfl fun k _ => congrArg₂ (· * ·) (blk0 m c t r k) ((l k).trans (cols_i m c k j))) ?_
  unfold val5
  exact sum_pad m c _ _ _

/-- The value of row `r`, entry `n` of result 5. -/
def val6 (r n : ℕ) : EReal := pr m c r (896 + n)

/-- The product payload of result 5 at point `t`. -/
theorem pay_6 (t : Fin cfg0.N) (r : Fin 512) (j : Fin 128) :
    (k0_pay8 (F := Ideal) (iblk m c 0 t) (View.ld (iblk m c 1 t) r0_8) : S512x128.Idx → EReal) (ix2 r j)
      = val6 m c (512 * t.val + r.val) j.val := by
  have e (x : Vec Ideal S512x1024 .f32) (y : Vec Ideal S1024x128 .bf16) :
      k0_pay8 (F := Ideal) x y (ix2 r j) = ∑ k : Fin 1024, x (ix2 r k) * y (ix2 k j) := by
    pointwise [k0_pay8, k0_pay3]
  refine (e _ _).trans ?_
  have l (k : Fin 1024) : (View.ld (iblk m c 1 t) r0_8 : S1024x128.Idx → EReal) (ix2 k j) = packedAt m c k ⟨3840 + j.val, by omega⟩ := by
    refine Eq.trans ?_ (blk1 m c t k ⟨3840 + j.val, by omega⟩)
    refine congrArg (iblk m c 1 t : S1024x4096.Idx → EReal) ?_
    funext a; apply Fin.ext
    match a with
    | ⟨0, _⟩ => show 0 + 1 * k.val = k.val; omega
    | ⟨1, _⟩ => show 3840 + 1 * j.val = 3840 + j.val; omega
  refine Eq.trans (Finset.sum_congr rfl fun k _ => congrArg₂ (· * ·) (blk0 m c t r k) ((l k).trans (cols_kv m c k j))) ?_
  unfold val6
  rfl

/-- The value of row `r`, entry `n` of result 6. -/
def val7 (r n : ℕ) : EReal := if n < 40 then pr m c r (1280 + n) else 0

/-- The product payload of result 6 at point `t`. -/
theorem pay_7 (t : Fin cfg0.N) (r : Fin 512) (j : Fin 128) :
    (k0_pay9 (F := Ideal) (iblk m c 0 t) (View.ld (iblk m c 1 t) r0_9) : S512x128.Idx → EReal) (ix2 r j)
      = val7 m c (512 * t.val + r.val) j.val := by
  have e (x : Vec Ideal S512x1024 .f32) (y : Vec Ideal S1024x128 .bf16) :
      k0_pay9 (F := Ideal) x y (ix2 r j) = ∑ k : Fin 1024, x (ix2 r k) * y (ix2 k j) := by
    pointwise [k0_pay9, k0_pay3]
  refine (e _ _).trans ?_
  have l (k : Fin 1024) : (View.ld (iblk m c 1 t) r0_9 : S1024x128.Idx → EReal) (ix2 k j) = packedAt m c k ⟨3968 + j.val, by omega⟩ := by
    refine Eq.trans ?_ (blk1 m c t k ⟨3968 + j.val, by omega⟩)
    refine congrArg (iblk m c 1 t : S1024x4096.Idx → EReal) ?_
    funext a; apply Fin.ext
    match a with
    | ⟨0, _⟩ => show 0 + 1 * k.val = k.val; omega
    | ⟨1, _⟩ => show 3968 + 1 * j.val = 3968 + j.val; omega
  refine Eq.trans (Finset.sum_congr rfl fun k _ => congrArg₂ (· * ·) (blk0 m c t r k) ((l k).trans (cols_kw m c k j))) ?_
  unfold val7
  exact sum_pad m c _ _ _

/-- The contents of result 1. -/
def G2 : S512x512.Idx → EReal := fun i => val2 m c (i 0).val (i 1).val

theorem idx2 : ∀ t : Fin cfg0.N, win0_2.index t (0 : Fin 2) = t.val ∧ win0_2.index t (1 : Fin 2) = 0 :=
  (by decide +kernel : ∀ t : Fin grid0.N, _)

/-- What point `t` writes back to result 1 is its block of the contents. -/
theorem flushed2_eq (t : Fin cfg0.N) :
    (dats m 0 c).flushed 2 t = ((cfg0.win 2).blk t).view.read (Elt Ideal) (G2 m c) := by
  rw [Value.flushed2]
  unfold out0_2
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx2 t
  have key (r : Fin 512) (j : Fin 512) : (k0_pay4 (F := Ideal) (iblk m c 0 t) (View.ld (iblk m c 1 t) r0_1) : S512x512.Idx → EReal) (ix2 r j)
      = G2 m c (((cfg0.win 2).blk t).view.emb (ix2 r j)) := by
    have e : (((cfg0.win 2).blk t).view.emb (ix2 r j) : S512x512.Idx) = ix2 ⟨512 * t.val + r.val, by omega⟩ j := by
      funext a; apply Fin.ext
      match a with
      | ⟨0, _⟩ => show win0_2.index t 0 * 512 + 1 * r.val = 512 * t.val + r.val; omega
      | ⟨1, _⟩ => show win0_2.index t 1 * 512 + 1 * j.val = j.val; omega
    rw [e]
    exact pay_2 m c t r j
  refine funext (α := S512x512.Idx) fun y => ?_
  idx_vars y
  exact key _ _

/-- The blocks of result 1 tile it, so it ends at its contents. -/
theorem final2 : (dats m 0 c).arrAt 2 cfg0.N = G2 m c :=
  (dats m 0 c).arrAt_eq_of_cover 2 (G2 m c) (fun t _ => flushed2_eq m c t) fun i => by
    revert i
    show ∀ i : S512x512.Idx, _
    intro i
    have h0 : (i 0).val < 512 := (i 0).isLt
    have h1 : (i 1).val < 512 := (i 1).isLt
    have hlt : (i 0).val / 512 < cfg0.N := lt_of_lt_of_eq (by omega) N_0.symm
    obtain ⟨e0, e1⟩ := idx2 ⟨(i 0).val / 512, hlt⟩
    refine ⟨⟨(i 0).val / 512, hlt⟩, flush0_2 _, ?_⟩
    show i ∈ ((View.whole main_v49_0).slice (win0_2.rect ⟨(i 0).val / 512, hlt⟩)).set
    rw [View.set_slice_whole, Rect.mem_set_unit]
    intro a
    match a with
    | ⟨0, _⟩ => show win0_2.index ⟨(i 0).val / 512, hlt⟩ (0 : Fin 2) * 512 ≤ (i 0).val ∧ (i 0).val < win0_2.index ⟨(i 0).val / 512, hlt⟩ (0 : Fin 2) * 512 + 512; dsimp only at e0; omega
    | ⟨1, _⟩ => show win0_2.index ⟨(i 0).val / 512, hlt⟩ (1 : Fin 2) * 512 ≤ (i 1).val ∧ (i 1).val < win0_2.index ⟨(i 0).val / 512, hlt⟩ (1 : Fin 2) * 512 + 512; omega

/-- The contents of result 2. -/
def G3 : S512x768.Idx → EReal := fun i => val3 m c (i 0).val (i 1).val

theorem idx3 : ∀ t : Fin cfg0.N, win0_3.index t (0 : Fin 2) = t.val ∧ win0_3.index t (1 : Fin 2) = 0 :=
  (by decide +kernel : ∀ t : Fin grid0.N, _)

/-- What point `t` writes back to result 2 is its block of the contents. -/
theorem flushed3_eq (t : Fin cfg0.N) :
    (dats m 0 c).flushed 3 t = ((cfg0.win 3).blk t).view.read (Elt Ideal) (G3 m c) := by
  rw [Value.flushed3]
  unfold out0_3
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx3 t
  have key (r : Fin 512) (j : Fin 768) : (k0_pay5 (F := Ideal) (iblk m c 0 t) (View.ld (iblk m c 1 t) r0_3) : S512x768.Idx → EReal) (ix2 r j)
      = G3 m c (((cfg0.win 3).blk t).view.emb (ix2 r j)) := by
    have e : (((cfg0.win 3).blk t).view.emb (ix2 r j) : S512x768.Idx) = ix2 ⟨512 * t.val + r.val, by omega⟩ j := by
      funext a; apply Fin.ext
      match a with
      | ⟨0, _⟩ => show win0_3.index t 0 * 512 + 1 * r.val = 512 * t.val + r.val; omega
      | ⟨1, _⟩ => show win0_3.index t 1 * 768 + 1 * j.val = j.val; omega
    rw [e]
    exact pay_3 m c t r j
  refine funext (α := S512x768.Idx) fun y => ?_
  idx_vars y
  exact key _ _

/-- The blocks of result 2 tile it, so it ends at its contents. -/
theorem final3 : (dats m 0 c).arrAt 3 cfg0.N = G3 m c :=
  (dats m 0 c).arrAt_eq_of_cover 3 (G3 m c) (fun t _ => flushed3_eq m c t) fun i => by
    revert i
    show ∀ i : S512x768.Idx, _
    intro i
    have h0 : (i 0).val < 512 := (i 0).isLt
    have h1 : (i 1).val < 768 := (i 1).isLt
    have hlt : (i 0).val / 512 < cfg0.N := lt_of_lt_of_eq (by omega) N_0.symm
    obtain ⟨e0, e1⟩ := idx3 ⟨(i 0).val / 512, hlt⟩
    refine ⟨⟨(i 0).val / 512, hlt⟩, flush0_3 _, ?_⟩
    show i ∈ ((View.whole main_v49_1).slice (win0_3.rect ⟨(i 0).val / 512, hlt⟩)).set
    rw [View.set_slice_whole, Rect.mem_set_unit]
    intro a
    match a with
    | ⟨0, _⟩ => show win0_3.index ⟨(i 0).val / 512, hlt⟩ (0 : Fin 2) * 512 ≤ (i 0).val ∧ (i 0).val < win0_3.index ⟨(i 0).val / 512, hlt⟩ (0 : Fin 2) * 512 + 512; dsimp only at e0; omega
    | ⟨1, _⟩ => show win0_3.index ⟨(i 0).val / 512, hlt⟩ (1 : Fin 2) * 768 ≤ (i 1).val ∧ (i 1).val < win0_3.index ⟨(i 0).val / 512, hlt⟩ (1 : Fin 2) * 768 + 768; omega

/-- The contents of result 3. -/
def G4 : S512x1536.Idx → EReal := fun i => val4 m c (i 0).val (i 1).val

theorem idx4 : ∀ t : Fin cfg0.N, win0_4.index t (0 : Fin 2) = t.val ∧ win0_4.index t (1 : Fin 2) = 0 :=
  (by decide +kernel : ∀ t : Fin grid0.N, _)

/-- What point `t` writes back to result 3 is its block of the contents. -/
theorem flushed4_eq (t : Fin cfg0.N) :
    (dats m 0 c).flushed 4 t = ((cfg0.win 4).blk t).view.read (Elt Ideal) (G4 m c) := by
  rw [Value.flushed4]
  unfold out0_4
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx4 t
  have key (r : Fin 512) (j : Fin 1536) : (k0_pay6 (F := Ideal) (iblk m c 0 t) (View.ld (iblk m c 1 t) r0_5) : S512x1536.Idx → EReal) (ix2 r j)
      = G4 m c (((cfg0.win 4).blk t).view.emb (ix2 r j)) := by
    have e : (((cfg0.win 4).blk t).view.emb (ix2 r j) : S512x1536.Idx) = ix2 ⟨512 * t.val + r.val, by omega⟩ j := by
      funext a; apply Fin.ext
      match a with
      | ⟨0, _⟩ => show win0_4.index t 0 * 512 + 1 * r.val = 512 * t.val + r.val; omega
      | ⟨1, _⟩ => show win0_4.index t 1 * 1536 + 1 * j.val = j.val; omega
    rw [e]
    exact pay_4 m c t r j
  refine funext (α := S512x1536.Idx) fun y => ?_
  idx_vars y
  exact key _ _

/-- The blocks of result 3 tile it, so it ends at its contents. -/
theorem final4 : (dats m 0 c).arrAt 4 cfg0.N = G4 m c :=
  (dats m 0 c).arrAt_eq_of_cover 4 (G4 m c) (fun t _ => flushed4_eq m c t) fun i => by
    revert i
    show ∀ i : S512x1536.Idx, _
    intro i
    have h0 : (i 0).val < 512 := (i 0).isLt
    have h1 : (i 1).val < 1536 := (i 1).isLt
    have hlt : (i 0).val / 512 < cfg0.N := lt_of_lt_of_eq (by omega) N_0.symm
    obtain ⟨e0, e1⟩ := idx4 ⟨(i 0).val / 512, hlt⟩
    refine ⟨⟨(i 0).val / 512, hlt⟩, flush0_4 _, ?_⟩
    show i ∈ ((View.whole main_v49_2).slice (win0_4.rect ⟨(i 0).val / 512, hlt⟩)).set
    rw [View.set_slice_whole, Rect.mem_set_unit]
    intro a
    match a with
    | ⟨0, _⟩ => show win0_4.index ⟨(i 0).val / 512, hlt⟩ (0 : Fin 2) * 512 ≤ (i 0).val ∧ (i 0).val < win0_4.index ⟨(i 0).val / 512, hlt⟩ (0 : Fin 2) * 512 + 512; dsimp only at e0; omega
    | ⟨1, _⟩ => show win0_4.index ⟨(i 0).val / 512, hlt⟩ (1 : Fin 2) * 1536 ≤ (i 1).val ∧ (i 1).val < win0_4.index ⟨(i 0).val / 512, hlt⟩ (1 : Fin 2) * 1536 + 1536; omega

/-- The contents of result 4. -/
def G5 : S512x1024.Idx → EReal := fun i => val5 m c (i 0).val (i 1).val

theorem idx5 : ∀ t : Fin cfg0.N, win0_5.index t (0 : Fin 2) = t.val ∧ win0_5.index t (1 : Fin 2) = 0 :=
  (by decide +kernel : ∀ t : Fin grid0.N, _)

/-- What point `t` writes back to result 4 is its block of the contents. -/
theorem flushed5_eq (t : Fin cfg0.N) :
    (dats m 0 c).flushed 5 t = ((cfg0.win 5).blk t).view.read (Elt Ideal) (G5 m c) := by
  rw [Value.flushed5]
  unfold out0_5
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx5 t
  have key (r : Fin 512) (j : Fin 1024) : (k0_pay7 (F := Ideal) (iblk m c 0 t) (View.ld (iblk m c 1 t) r0_7) : S512x1024.Idx → EReal) (ix2 r j)
      = G5 m c (((cfg0.win 5).blk t).view.emb (ix2 r j)) := by
    have e : (((cfg0.win 5).blk t).view.emb (ix2 r j) : S512x1024.Idx) = ix2 ⟨512 * t.val + r.val, by omega⟩ j := by
      funext a; apply Fin.ext
      match a with
      | ⟨0, _⟩ => show win0_5.index t 0 * 512 + 1 * r.val = 512 * t.val + r.val; omega
      | ⟨1, _⟩ => show win0_5.index t 1 * 1024 + 1 * j.val = j.val; omega
    rw [e]
    exact pay_5 m c t r j
  refine funext (α := S512x1024.Idx) fun y => ?_
  idx_vars y
  exact key _ _

/-- The blocks of result 4 tile it, so it ends at its contents. -/
theorem final5 : (dats m 0 c).arrAt 5 cfg0.N = G5 m c :=
  (dats m 0 c).arrAt_eq_of_cover 5 (G5 m c) (fun t _ => flushed5_eq m c t) fun i => by
    revert i
    show ∀ i : S512x1024.Idx, _
    intro i
    have h0 : (i 0).val < 512 := (i 0).isLt
    have h1 : (i 1).val < 1024 := (i 1).isLt
    have hlt : (i 0).val / 512 < cfg0.N := lt_of_lt_of_eq (by omega) N_0.symm
    obtain ⟨e0, e1⟩ := idx5 ⟨(i 0).val / 512, hlt⟩
    refine ⟨⟨(i 0).val / 512, hlt⟩, flush0_5 _, ?_⟩
    show i ∈ ((View.whole main_v49_3).slice (win0_5.rect ⟨(i 0).val / 512, hlt⟩)).set
    rw [View.set_slice_whole, Rect.mem_set_unit]
    intro a
    match a with
    | ⟨0, _⟩ => show win0_5.index ⟨(i 0).val / 512, hlt⟩ (0 : Fin 2) * 512 ≤ (i 0).val ∧ (i 0).val < win0_5.index ⟨(i 0).val / 512, hlt⟩ (0 : Fin 2) * 512 + 512; dsimp only at e0; omega
    | ⟨1, _⟩ => show win0_5.index ⟨(i 0).val / 512, hlt⟩ (1 : Fin 2) * 1024 ≤ (i 1).val ∧ (i 1).val < win0_5.index ⟨(i 0).val / 512, hlt⟩ (1 : Fin 2) * 1024 + 1024; omega

/-- The contents of result 5. -/
def G6 : S512x128.Idx → EReal := fun i => val6 m c (i 0).val (i 1).val

theorem idx6 : ∀ t : Fin cfg0.N, win0_6.index t (0 : Fin 2) = t.val ∧ win0_6.index t (1 : Fin 2) = 0 :=
  (by decide +kernel : ∀ t : Fin grid0.N, _)

/-- What point `t` writes back to result 5 is its block of the contents. -/
theorem flushed6_eq (t : Fin cfg0.N) :
    (dats m 0 c).flushed 6 t = ((cfg0.win 6).blk t).view.read (Elt Ideal) (G6 m c) := by
  rw [Value.flushed6]
  unfold out0_6
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx6 t
  have key (r : Fin 512) (j : Fin 128) : (k0_pay8 (F := Ideal) (iblk m c 0 t) (View.ld (iblk m c 1 t) r0_8) : S512x128.Idx → EReal) (ix2 r j)
      = G6 m c (((cfg0.win 6).blk t).view.emb (ix2 r j)) := by
    have e : (((cfg0.win 6).blk t).view.emb (ix2 r j) : S512x128.Idx) = ix2 ⟨512 * t.val + r.val, by omega⟩ j := by
      funext a; apply Fin.ext
      match a with
      | ⟨0, _⟩ => show win0_6.index t 0 * 512 + 1 * r.val = 512 * t.val + r.val; omega
      | ⟨1, _⟩ => show win0_6.index t 1 * 128 + 1 * j.val = j.val; omega
    rw [e]
    exact pay_6 m c t r j
  refine funext (α := S512x128.Idx) fun y => ?_
  idx_vars y
  exact key _ _

/-- The blocks of result 5 tile it, so it ends at its contents. -/
theorem final6 : (dats m 0 c).arrAt 6 cfg0.N = G6 m c :=
  (dats m 0 c).arrAt_eq_of_cover 6 (G6 m c) (fun t _ => flushed6_eq m c t) fun i => by
    revert i
    show ∀ i : S512x128.Idx, _
    intro i
    have h0 : (i 0).val < 512 := (i 0).isLt
    have h1 : (i 1).val < 128 := (i 1).isLt
    have hlt : (i 0).val / 512 < cfg0.N := lt_of_lt_of_eq (by omega) N_0.symm
    obtain ⟨e0, e1⟩ := idx6 ⟨(i 0).val / 512, hlt⟩
    refine ⟨⟨(i 0).val / 512, hlt⟩, flush0_6 _, ?_⟩
    show i ∈ ((View.whole main_v49_4).slice (win0_6.rect ⟨(i 0).val / 512, hlt⟩)).set
    rw [View.set_slice_whole, Rect.mem_set_unit]
    intro a
    match a with
    | ⟨0, _⟩ => show win0_6.index ⟨(i 0).val / 512, hlt⟩ (0 : Fin 2) * 512 ≤ (i 0).val ∧ (i 0).val < win0_6.index ⟨(i 0).val / 512, hlt⟩ (0 : Fin 2) * 512 + 512; dsimp only at e0; omega
    | ⟨1, _⟩ => show win0_6.index ⟨(i 0).val / 512, hlt⟩ (1 : Fin 2) * 128 ≤ (i 1).val ∧ (i 1).val < win0_6.index ⟨(i 0).val / 512, hlt⟩ (1 : Fin 2) * 128 + 128; omega

/-- The contents of result 6. -/
def G7 : S512x128.Idx → EReal := fun i => val7 m c (i 0).val (i 1).val

theorem idx7 : ∀ t : Fin cfg0.N, win0_7.index t (0 : Fin 2) = t.val ∧ win0_7.index t (1 : Fin 2) = 0 :=
  (by decide +kernel : ∀ t : Fin grid0.N, _)

/-- What point `t` writes back to result 6 is its block of the contents. -/
theorem flushed7_eq (t : Fin cfg0.N) :
    (dats m 0 c).flushed 7 t = ((cfg0.win 7).blk t).view.read (Elt Ideal) (G7 m c) := by
  rw [Value.flushed7]
  unfold out0_7
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx7 t
  have key (r : Fin 512) (j : Fin 128) : (k0_pay9 (F := Ideal) (iblk m c 0 t) (View.ld (iblk m c 1 t) r0_9) : S512x128.Idx → EReal) (ix2 r j)
      = G7 m c (((cfg0.win 7).blk t).view.emb (ix2 r j)) := by
    have e : (((cfg0.win 7).blk t).view.emb (ix2 r j) : S512x128.Idx) = ix2 ⟨512 * t.val + r.val, by omega⟩ j := by
      funext a; apply Fin.ext
      match a with
      | ⟨0, _⟩ => show win0_7.index t 0 * 512 + 1 * r.val = 512 * t.val + r.val; omega
      | ⟨1, _⟩ => show win0_7.index t 1 * 128 + 1 * j.val = j.val; omega
    rw [e]
    exact pay_7 m c t r j
  refine funext (α := S512x128.Idx) fun y => ?_
  idx_vars y
  exact key _ _

/-- The blocks of result 6 tile it, so it ends at its contents. -/
theorem final7 : (dats m 0 c).arrAt 7 cfg0.N = G7 m c :=
  (dats m 0 c).arrAt_eq_of_cover 7 (G7 m c) (fun t _ => flushed7_eq m c t) fun i => by
    revert i
    show ∀ i : S512x128.Idx, _
    intro i
    have h0 : (i 0).val < 512 := (i 0).isLt
    have h1 : (i 1).val < 128 := (i 1).isLt
    have hlt : (i 0).val / 512 < cfg0.N := lt_of_lt_of_eq (by omega) N_0.symm
    obtain ⟨e0, e1⟩ := idx7 ⟨(i 0).val / 512, hlt⟩
    refine ⟨⟨(i 0).val / 512, hlt⟩, flush0_7 _, ?_⟩
    show i ∈ ((View.whole main_v49_5).slice (win0_7.rect ⟨(i 0).val / 512, hlt⟩)).set
    rw [View.set_slice_whole, Rect.mem_set_unit]
    intro a
    match a with
    | ⟨0, _⟩ => show win0_7.index ⟨(i 0).val / 512, hlt⟩ (0 : Fin 2) * 512 ≤ (i 0).val ∧ (i 0).val < win0_7.index ⟨(i 0).val / 512, hlt⟩ (0 : Fin 2) * 512 + 512; dsimp only at e0; omega
    | ⟨1, _⟩ => show win0_7.index ⟨(i 0).val / 512, hlt⟩ (1 : Fin 2) * 128 ≤ (i 1).val ∧ (i 1).val < win0_7.index ⟨(i 0).val / 512, hlt⟩ (1 : Fin 2) * 128 + 128; omega

/-- The contents of result 7. -/
def G8 : S512x128.Idx → EReal := fun i => val6 m c (i 0).val (i 1).val

theorem idx8 : ∀ t : Fin cfg0.N, win0_8.index t (0 : Fin 2) = t.val ∧ win0_8.index t (1 : Fin 2) = 0 :=
  (by decide +kernel : ∀ t : Fin grid0.N, _)

/-- What point `t` writes back to result 7 is its block of the contents. -/
theorem flushed8_eq (t : Fin cfg0.N) :
    (dats m 0 c).flushed 8 t = ((cfg0.win 8).blk t).view.read (Elt Ideal) (G8 m c) := by
  rw [Value.flushed8]
  unfold out0_8
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx8 t
  have key (r : Fin 512) (j : Fin 128) : (k0_pay1 (k0_pay8 (F := Ideal) (iblk m c 0 t) (View.ld (iblk m c 1 t) r0_8)) : S512x128.Idx → EReal) (ix2 r j)
      = G8 m c (((cfg0.win 8).blk t).view.emb (ix2 r j)) := by
    have e : (((cfg0.win 8).blk t).view.emb (ix2 r j) : S512x128.Idx) = ix2 ⟨512 * t.val + r.val, by omega⟩ j := by
      funext a; apply Fin.ext
      match a with
      | ⟨0, _⟩ => show win0_8.index t 0 * 512 + 1 * r.val = 512 * t.val + r.val; omega
      | ⟨1, _⟩ => show win0_8.index t 1 * 128 + 1 * j.val = j.val; omega
    rw [e]
    exact pay_6 m c t r j
  refine funext (α := S512x128.Idx) fun y => ?_
  idx_vars y
  exact key _ _

/-- The blocks of result 7 tile it, so it ends at its contents. -/
theorem final8 : (dats m 0 c).arrAt 8 cfg0.N = G8 m c :=
  (dats m 0 c).arrAt_eq_of_cover 8 (G8 m c) (fun t _ => flushed8_eq m c t) fun i => by
    revert i
    show ∀ i : S512x128.Idx, _
    intro i
    have h0 : (i 0).val < 512 := (i 0).isLt
    have h1 : (i 1).val < 128 := (i 1).isLt
    have hlt : (i 0).val / 512 < cfg0.N := lt_of_lt_of_eq (by omega) N_0.symm
    obtain ⟨e0, e1⟩ := idx8 ⟨(i 0).val / 512, hlt⟩
    refine ⟨⟨(i 0).val / 512, hlt⟩, flush0_8 _, ?_⟩
    show i ∈ ((View.whole main_v49_6).slice (win0_8.rect ⟨(i 0).val / 512, hlt⟩)).set
    rw [View.set_slice_whole, Rect.mem_set_unit]
    intro a
    match a with
    | ⟨0, _⟩ => show win0_8.index ⟨(i 0).val / 512, hlt⟩ (0 : Fin 2) * 512 ≤ (i 0).val ∧ (i 0).val < win0_8.index ⟨(i 0).val / 512, hlt⟩ (0 : Fin 2) * 512 + 512; dsimp only at e0; omega
    | ⟨1, _⟩ => show win0_8.index ⟨(i 0).val / 512, hlt⟩ (1 : Fin 2) * 128 ≤ (i 1).val ∧ (i 1).val < win0_8.index ⟨(i 0).val / 512, hlt⟩ (1 : Fin 2) * 128 + 128; omega

/-- The contents of result 8. -/
def G9 : S512x128.Idx → EReal := fun i => val7 m c (i 0).val (i 1).val

theorem idx9 : ∀ t : Fin cfg0.N, win0_9.index t (0 : Fin 2) = t.val ∧ win0_9.index t (1 : Fin 2) = 0 :=
  (by decide +kernel : ∀ t : Fin grid0.N, _)

/-- What point `t` writes back to result 8 is its block of the contents. -/
theorem flushed9_eq (t : Fin cfg0.N) :
    (dats m 0 c).flushed 9 t = ((cfg0.win 9).blk t).view.read (Elt Ideal) (G9 m c) := by
  rw [Value.flushed9]
  unfold out0_9
  rw [View.canon_unit_zero hz]
  try unfold k0_pay10
  try unfold k0_pay11
  rw [View.ld_unit_zero hz]
  have hN : t.val < 1 := lt_of_lt_of_eq t.isLt (show cfg0.N = 1 from N_0)
  obtain ⟨e0, e1⟩ := idx9 t
  have key (r : Fin 512) (j : Fin 128) : (k0_pay2 (k0_pay9 (F := Ideal) (iblk m c 0 t) (View.ld (iblk m c 1 t) r0_9)) : S512x128.Idx → EReal) (ix2 r j)
      = G9 m c (((cfg0.win 9).blk t).view.emb (ix2 r j)) := by
    have e : (((cfg0.win 9).blk t).view.emb (ix2 r j) : S512x128.Idx) = ix2 ⟨512 * t.val + r.val, by omega⟩ j := by
      funext a; apply Fin.ext
      match a with
      | ⟨0, _⟩ => show win0_9.index t 0 * 512 + 1 * r.val = 512 * t.val + r.val; omega
      | ⟨1, _⟩ => show win0_9.index t 1 * 128 + 1 * j.val = j.val; omega
    rw [e]
    exact pay_7 m c t r j
  refine funext (α := S512x128.Idx) fun y => ?_
  idx_vars y
  exact key _ _

/-- The blocks of result 8 tile it, so it ends at its contents. -/
theorem final9 : (dats m 0 c).arrAt 9 cfg0.N = G9 m c :=
  (dats m 0 c).arrAt_eq_of_cover 9 (G9 m c) (fun t _ => flushed9_eq m c t) fun i => by
    revert i
    show ∀ i : S512x128.Idx, _
    intro i
    have h0 : (i 0).val < 512 := (i 0).isLt
    have h1 : (i 1).val < 128 := (i 1).isLt
    have hlt : (i 0).val / 512 < cfg0.N := lt_of_lt_of_eq (by omega) N_0.symm
    obtain ⟨e0, e1⟩ := idx9 ⟨(i 0).val / 512, hlt⟩
    refine ⟨⟨(i 0).val / 512, hlt⟩, flush0_9 _, ?_⟩
    show i ∈ ((View.whole main_v49_7).slice (win0_9.rect ⟨(i 0).val / 512, hlt⟩)).set
    rw [View.set_slice_whole, Rect.mem_set_unit]
    intro a
    match a with
    | ⟨0, _⟩ => show win0_9.index ⟨(i 0).val / 512, hlt⟩ (0 : Fin 2) * 512 ≤ (i 0).val ∧ (i 0).val < win0_9.index ⟨(i 0).val / 512, hlt⟩ (0 : Fin 2) * 512 + 512; dsimp only at e0; omega
    | ⟨1, _⟩ => show win0_9.index ⟨(i 0).val / 512, hlt⟩ (1 : Fin 2) * 128 ≤ (i 1).val ∧ (i 1).val < win0_9.index ⟨(i 0).val / 512, hlt⟩ (1 : Fin 2) * 128 + 128; omega

end Cert.Kernel5Ideal.Val

end
-- ==== Proof.ProjS.Ref.lean ====
/- The projection's reference read at an index, over the extended reals: its eight arrays in terms of the input's product with the weight. -/
module

public import proofs.«01_k».proof.Proof.Gen.Reference5Ideal.Read
public import proofs.«01_k».proof.Proof.ProjS.Spec

@[expose] public section

set_option maxRecDepth 16384

noncomputable section

namespace Cert.Reference5Ideal.Val

open Cert.Reference5Ideal Cert.Reference5Ideal.Gen Cert.Reference5Ideal.Read
open Idealize.ShloMosaic Idealize.ShloMosaic.TcCoe Idealize.SL.Sem
open Cert.Ffn Cert.ProjS

variable (x0 : (⟨S32x16x1024, .f32⟩ : BufTy).Contents (Elt Ideal)) (x1 : (⟨S1024x2856, .f32⟩ : BufTy).Contents (Elt Ideal))

/-- Row `16·b + t` of the product is position `t` of sequence `b`. -/
theorem v0_apply (b : Fin 32) (t : Fin 16) (n : Fin 2856) :
    val_main_v0 (F := Ideal) x0 x1 (ix3 b t n) = prj x0 x1 (16 * b.val + t.val) n.val := by
  pointwise [val_main_v0]
  unfold prj
  refine Finset.sum_congr rfl fun k _ => congrArg₂ (· * ·) ?_ (at2_fin _ _ _)
  rw [at3_fin (a := 32) (b := 16) (d := 1024) x0, show (16 * b.val + t.val) / 16 = b.val by omega, show (16 * b.val + t.val) % 16 = t.val by omega]

/-- Columns 0 to 255 of the product, its rows flattened. -/
theorem v13_apply (r : Fin 512) (j : Fin 256) : val_main_v13 (F := Ideal) x0 x1 (ix2 r j) = prj x0 x1 r.val (0 + j.val) := by
  have hr := r.isLt
  have hj := j.isLt
  pointwise [val_main_v13, val_main_v1]
  refine (v0_apply x0 x1 _ _ _).trans ?_
  exact congrArg₂ (prj x0 x1) (by first | (dsimp only <;> omega) | omega) (by first | (dsimp only <;> omega) | omega)

/-- Columns 256 to 511 of the product, its rows flattened. -/
theorem v14_apply (r : Fin 512) (j : Fin 256) : val_main_v14 (F := Ideal) x0 x1 (ix2 r j) = prj x0 x1 r.val (256 + j.val) := by
  have hr := r.isLt
  have hj := j.isLt
  pointwise [val_main_v14, val_main_v2]
  refine (v0_apply x0 x1 _ _ _).trans ?_
  exact congrArg₂ (prj x0 x1) (by first | (dsimp only <;> omega) | omega) (by first | (dsimp only <;> omega) | omega)

/-- Columns 512 to 895 of the product, its rows flattened. -/
theorem v15_apply (r : Fin 512) (j : Fin 384) : val_main_v15 (F := Ideal) x0 x1 (ix2 r j) = prj x0 x1 r.val (512 + j.val) := by
  have hr := r.isLt
  have hj := j.isLt
  pointwise [val_main_v15, val_main_v3]
  refine (v0_apply x0 x1 _ _ _).trans ?_
  exact congrArg₂ (prj x0 x1) (by first | (dsimp only <;> omega) | omega) (by first | (dsimp only <;> omega) | omega)

/-- Columns 896 to 959 of the product, its rows flattened. -/
theorem v16_apply (r : Fin 512) (j : Fin 64) : val_main_v16 (F := Ideal) x0 x1 (ix2 r j) = prj x0 x1 r.val (896 + j.val) := by
  have hr := r.isLt
  have hj := j.isLt
  pointwise [val_main_v16, val_main_v4]
  refine (v0_apply x0 x1 _ _ _).trans ?_
  exact congrArg₂ (prj x0 x1) (by first | (dsimp only <;> omega) | omega) (by first | (dsimp only <;> omega) | omega)

/-- Columns 960 to 1023 of the product, its rows flattened. -/
theorem v17_apply (r : Fin 512) (j : Fin 64) : val_main_v17 (F := Ideal) x0 x1 (ix2 r j) = prj x0 x1 r.val (960 + j.val) := by
  have hr := r.isLt
  have hj := j.isLt
  pointwise [val_main_v17, val_main_v5]
  refine (v0_apply x0 x1 _ _ _).trans ?_
  exact congrArg₂ (prj x0 x1) (by first | (dsimp only <;> omega) | omega) (by first | (dsimp only <;> omega) | omega)

/-- Columns 1024 to 1279 of the product, its rows flattened. -/
theorem v18_apply (r : Fin 512) (j : Fin 256) : val_main_v18 (F := Ideal) x0 x1 (ix2 r j) = prj x0 x1 r.val (1024 + j.val) := by
  have hr := r.isLt
  have hj := j.isLt
  pointwise [val_main_v18, val_main_v6]
  refine (v0_apply x0 x1 _ _ _).trans ?_
  exact congrArg₂ (prj x0 x1) (by first | (dsimp only <;> omega) | omega) (by first | (dsimp only <;> omega) | omega)

/-- Columns 1280 to 1311 of the product, its rows flattened. -/
theorem v19_apply (r : Fin 512) (j : Fin 32) : val_main_v19 (F := Ideal) x0 x1 (ix2 r j) = prj x0 x1 r.val (1280 + j.val) := by
  have hr := r.isLt
  have hj := j.isLt
  pointwise [val_main_v19, val_main_v7]
  refine (v0_apply x0 x1 _ _ _).trans ?_
  exact congrArg₂ (prj x0 x1) (by first | (dsimp only <;> omega) | omega) (by first | (dsimp only <;> omega) | omega)

/-- Columns 1312 to 1319 of the product, its rows flattened. -/
theorem v20_apply (r : Fin 512) (j : Fin 8) : val_main_v20 (F := Ideal) x0 x1 (ix2 r j) = prj x0 x1 r.val (1312 + j.val) := by
  have hr := r.isLt
  have hj := j.isLt
  pointwise [val_main_v20, val_main_v8]
  refine (v0_apply x0 x1 _ _ _).trans ?_
  exact congrArg₂ (prj x0 x1) (by first | (dsimp only <;> omega) | omega) (by first | (dsimp only <;> omega) | omega)

/-- Columns 1320 to 1703 of the product, its rows flattened. -/
theorem v21_apply (r : Fin 512) (j : Fin 384) : val_main_v21 (F := Ideal) x0 x1 (ix2 r j) = prj x0 x1 r.val (1320 + j.val) := by
  have hr := r.isLt
  have hj := j.isLt
  pointwise [val_main_v21, val_main_v9]
  refine (v0_apply x0 x1 _ _ _).trans ?_
  exact congrArg₂ (prj x0 x1) (by first | (dsimp only <;> omega) | omega) (by first | (dsimp only <;> omega) | omega)

/-- Columns 1704 to 2087 of the product, its rows flattened. -/
theorem v22_apply (r : Fin 512) (j : Fin 384) : val_main_v22 (F := Ideal) x0 x1 (ix2 r j) = prj x0 x1 r.val (1704 + j.val) := by
  have hr := r.isLt
  have hj := j.isLt
  pointwise [val_main_v22, val_main_v10]
  refine (v0_apply x0 x1 _ _ _).trans ?_
  exact congrArg₂ (prj x0 x1) (by first | (dsimp only <;> omega) | omega) (by first | (dsimp only <;> omega) | omega)

/-- Columns 2088 to 2471 of the product, its rows flattened. -/
theorem v23_apply (r : Fin 512) (j : Fin 384) : val_main_v23 (F := Ideal) x0 x1 (ix2 r j) = prj x0 x1 r.val (2088 + j.val) := by
  have hr := r.isLt
  have hj := j.isLt
  pointwise [val_main_v23, val_main_v11]
  refine (v0_apply x0 x1 _ _ _).trans ?_
  exact congrArg₂ (prj x0 x1) (by first | (dsimp only <;> omega) | omega) (by first | (dsimp only <;> omega) | omega)

/-- Columns 2472 to 2855 of the product, its rows flattened. -/
theorem v24_apply (r : Fin 512) (j : Fin 384) : val_main_v24 (F := Ideal) x0 x1 (ix2 r j) = prj x0 x1 r.val (2472 + j.val) := by
  have hr := r.isLt
  have hj := j.isLt
  pointwise [val_main_v24, val_main_v12]
  refine (v0_apply x0 x1 _ _ _).trans ?_
  exact congrArg₂ (prj x0 x1) (by first | (dsimp only <;> omega) | omega) (by first | (dsimp only <;> omega) | omega)

/-- The word of the integer zero is zero. -/
theorem zero_word : (FloatOps.sitofp (F := Ideal) .f32 (0#32 : BitVec 32) : EReal) = 0 := by
  show (((0#32 : BitVec 32).toInt : ℝ) : EReal) = 0
  simp

/-- The first mixer's columns. -/
theorem v28_apply (r : Fin 512) (j : Fin 512) : val_main_v28 (F := Ideal) x0 x1 (ix2 r j) = prj x0 x1 r.val j.val := by
  have hj := j.isLt
  pointwise [val_main_v28]
  by_cases h : j.val < 256
  · rw [dif_pos h]
    exact (v13_apply x0 x1 r ⟨j.val, h⟩).trans (congrArg (prj x0 x1 _) (by first | (dsimp only <;> omega) | omega))
  · rw [dif_neg h]
    exact (v14_apply x0 x1 r ⟨j.val - 256, by omega⟩).trans (congrArg (prj x0 x1 _) (by first | (dsimp only <;> omega) | omega))

/-- The attention's keys and values. -/
theorem v25_apply (r : Fin 512) (j : Fin 128) : val_main_v25 (F := Ideal) x0 x1 (ix2 r j) = prj x0 x1 r.val (896 + j.val) := by
  have hj := j.isLt
  pointwise [val_main_v25]
  by_cases h : j.val < 64
  · rw [dif_pos h]
    exact v16_apply x0 x1 r ⟨j.val, h⟩
  · rw [dif_neg h]
    exact (v17_apply x0 x1 r ⟨j.val - 64, by omega⟩).trans (congrArg (prj x0 x1 _) (by first | (dsimp only <;> omega) | omega))

/-- The indexer's keys and weights. -/
theorem v26_apply (r : Fin 512) (j : Fin 40) : val_main_v26 (F := Ideal) x0 x1 (ix2 r j) = prj x0 x1 r.val (1280 + j.val) := by
  have hj := j.isLt
  pointwise [val_main_v26]
  by_cases h : j.val < 32
  · rw [dif_pos h]
    exact v19_apply x0 x1 r ⟨j.val, h⟩
  · rw [dif_neg h]
    exact (v20_apply x0 x1 r ⟨j.val - 32, by omega⟩).trans (congrArg (prj x0 x1 _) (by first | (dsimp only <;> omega) | omega))

/-- The indexer's keys and weights, padded. -/
theorem v27_apply (r : Fin 512) (j : Fin 128) : val_main_v27 (F := Ideal) x0 x1 (ix2 r j)
    = if j.val < 40 then prj x0 x1 r.val (1280 + j.val) else 0 := by
  have hj := j.isLt
  pointwise [val_main_v27, val_main_call0_v0, val_main_c]
  by_cases h : j.val < 40
  · rw [if_pos h, dif_pos (by omega)]
    exact v26_apply x0 x1 r ⟨j.val, h⟩
  · rw [if_neg h, dif_neg (by omega)]
    exact zero_word

/-- The recurrence's queries, keys, values and gates. -/
theorem v35_apply (r : Fin 512) (j : Fin 1536) : val_main_v35 (F := Ideal) x0 x1 (ix2 r j) = prj x0 x1 r.val (1320 + j.val) := by
  have hj := j.isLt
  pointwise [val_main_v35]
  by_cases h : j.val < 384
  · rw [dif_pos h]
    exact v21_apply x0 x1 r ⟨j.val, h⟩
  · rw [dif_neg h]
    by_cases h2 : j.val < 768
    · rw [dif_pos (by omega)]
      exact (v22_apply x0 x1 r ⟨j.val - 384, by omega⟩).trans (congrArg (prj x0 x1 _) (by first | (dsimp only <;> omega) | omega))
    · rw [dif_neg (by omega)]
      by_cases h3 : j.val < 1152
      · rw [dif_pos (by omega)]
        exact (v23_apply x0 x1 r ⟨j.val - 384 - 384, by omega⟩).trans (congrArg (prj x0 x1 _) (by first | (dsimp only <;> omega) | omega))
      · rw [dif_neg (by omega)]
        exact (v24_apply x0 x1 r ⟨j.val - 384 - 384 - 384, by omega⟩).trans (congrArg (prj x0 x1 _) (by first | (dsimp only <;> omega) | omega))

/-- The attention's queries, scaled and laid out by heads. -/
theorem v31_apply (r : Fin 512) (h : Fin 6) (j : Fin 64) : val_main_v31 (F := Ideal) x0 x1 (ix3 r h j)
    = prj x0 x1 r.val (512 + (64 * h.val + j.val)) * scale := by
  have hr := r.isLt
  have hh := h.isLt
  have hj := j.isLt
  pointwise [val_main_v31, val_main_v30, val_main_v29, val_main_cst]
  refine congrArg (· * scale) ((v15_apply x0 x1 _ _).trans ?_)
  exact congrArg₂ (prj x0 x1) (by first | (dsimp only <;> omega) | omega) (by first | (dsimp only <;> omega) | omega)

/-- The attention's queries, each head padded to 128 lanes. -/
theorem v34_apply (r : Fin 512) (j : Fin 768) : val_main_v34 (F := Ideal) x0 x1 (ix2 r j)
    = if j.val % 128 < 64 then prj x0 x1 r.val (512 + 64 * (j.val / 128) + j.val % 128) * scale else 0 := by
  have hr := r.isLt
  have hj := j.isLt
  pointwise [val_main_v34, val_main_v33, val_main_v32, val_main_call1_v0, val_main_c_0]
  by_cases h : j.val % 128 < 64
  · rw [if_pos h, dif_pos (by omega)]
    refine (v31_apply x0 x1 _ _ _).trans (congrArg (· * scale) (congrArg₂ (prj x0 x1) (by first | (dsimp only <;> omega) | omega) (by first | (dsimp only <;> omega) | omega)))
  · rw [if_neg h, dif_neg (by omega)]
    exact zero_word

/-- The indexer's queries laid out by heads. -/
theorem v36_apply (r : Fin 512) (h : Fin 8) (j : Fin 32) : val_main_v36 (F := Ideal) x0 x1 (ix3 r h j)
    = prj x0 x1 r.val (1024 + (32 * h.val + j.val)) := by
  have hr := r.isLt
  have hh := h.isLt
  have hj := j.isLt
  pointwise [val_main_v36]
  refine (v18_apply x0 x1 _ _).trans ?_
  exact congrArg₂ (prj x0 x1) (by first | (dsimp only <;> omega) | omega) (by first | (dsimp only <;> omega) | omega)

/-- The indexer's queries, each head padded to 128 lanes. -/
theorem v39_apply (r : Fin 512) (j : Fin 1024) : val_main_v39 (F := Ideal) x0 x1 (ix2 r j)
    = if j.val % 128 < 32 then prj x0 x1 r.val (1024 + 32 * (j.val / 128) + j.val % 128) else 0 := by
  have hr := r.isLt
  have hj := j.isLt
  pointwise [val_main_v39, val_main_v38, val_main_v37, val_main_call2_v0, val_main_c_1]
  by_cases h : j.val % 128 < 32
  · rw [if_pos h, dif_pos (by omega)]
    refine (v36_apply x0 x1 _ _ _).trans (congrArg₂ (prj x0 x1) (by first | (dsimp only <;> omega) | omega) (by first | (dsimp only <;> omega) | omega))
  · rw [if_neg h, dif_neg (by omega)]
    exact zero_word

/-- The rounded keys and values are the keys and values. -/
theorem v40_apply (r : Fin 512) (j : Fin 128) : val_main_v40 (F := Ideal) x0 x1 (ix2 r j) = prj x0 x1 r.val (896 + j.val) :=
  v25_apply x0 x1 r j

/-- The rounded indexer's keys and weights are the indexer's keys and weights. -/
theorem v41_apply (r : Fin 512) (j : Fin 128) : val_main_v41 (F := Ideal) x0 x1 (ix2 r j)
    = if j.val < 40 then prj x0 x1 r.val (1280 + j.val) else 0 :=
  v27_apply x0 x1 r j

end Cert.Reference5Ideal.Val

end
-- ==== Proof.ProjS.Claim.lean ====
/- The projection's claims: the launches' frames, and the equality of the kernel's eight arrays with the reference's. -/
module

public import proofs.«01_k».proof.Defs
public import proofs.«01_k».proof.Proof.Gen.Kernel5.Frame
public import proofs.«01_k».proof.Proof.Gen.Reference5Ideal.Run
public import proofs.«01_k».proof.Proof.ProjS.Kernel
public import proofs.«01_k».proof.Proof.ProjS.Ref

@[expose] public section

set_option maxRecDepth 16384

noncomputable section

namespace Cert.ProjS.Claim

open Idealize.ShloMosaic Idealize.ShloMosaic.TcCoe Idealize.SL.Sem Idealize.ShloMosaic.StableHlo

/-- The kernel's frame on the machine's words. -/
theorem frame_kernel : Cert.quiescent_Kernel5 := fun m ρ _ => Cert.Kernel5.Gen.frame m ρ

/-- The kernel's frame at the ideal instance. -/
theorem frame_kernelIdeal : Cert.quiescent_Kernel5Ideal := fun m ρ _ => Cert.Kernel5Ideal.Gen.frame m ρ

/-- The reference's frame at the ideal instance. -/
theorem frame_referenceIdeal : Cert.quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

/-- No operation was rewritten. -/
theorem preserves : Cert.preserves_Kernel5_Kernel5Ideal := trivial

/-- At the ideal instance the kernel's eight arrays are the reference's. -/
theorem algebraic : Cert.algebraic_Kernel5Ideal_Reference5Ideal := by
  intro m ρ m' ρ' _ hag
  refine ⟨fun c => Cert.Kernel5Ideal.Val.G2 m c, fun c => Cert.Kernel5Ideal.Val.G3 m c, fun c => Cert.Kernel5Ideal.Val.G4 m c, fun c => Cert.Kernel5Ideal.Val.G5 m c, fun c => Cert.Kernel5Ideal.Val.G6 m c, fun c => Cert.Kernel5Ideal.Val.G7 m c, fun c => Cert.Kernel5Ideal.Val.G8 m c, fun c => Cert.Kernel5Ideal.Val.G9 m c, ?_, ?_⟩
  · refine (θ_run Cert.Kernel5Ideal.defs _ _).mono (fun r h c => ?_) (Cert.Kernel5Ideal.Value.run_blocks (F := Ideal) m ρ)
    obtain ⟨h2, h3, h4, h5, h6, h7, h8, h9, h10⟩ := h c
    exact ⟨h2.trans (Cert.Kernel5Ideal.Val.final2 m c), h3.trans (Cert.Kernel5Ideal.Val.final3 m c), h4.trans (Cert.Kernel5Ideal.Val.final4 m c), h5.trans (Cert.Kernel5Ideal.Val.final5 m c), h6.trans (Cert.Kernel5Ideal.Val.final6 m c), h7.trans (Cert.Kernel5Ideal.Val.final7 m c), h8.trans (Cert.Kernel5Ideal.Val.final8 m c), h9.trans (Cert.Kernel5Ideal.Val.final9 m c), h10⟩
  · refine (θ_run Cert.Reference5Ideal.defs _ _).mono (fun r h c => ?_) (Cert.Reference5Ideal.Value.run (F := Ideal) m' ρ')
    obtain ⟨h2, h3, h4, h5, h6, h7, h8, h9, h10⟩ := h c
    obtain ⟨a0, a1⟩ := hag c
    refine ⟨h2.trans ?_, h3.trans ?_, h4.trans ?_, h5.trans ?_, h6.trans ?_, h7.trans ?_, h8.trans ?_, h9.trans ?_, h10⟩
    · refine (Cert.Reference5Ideal.Read.val_main_v28_eq _ _).trans ?_
      rw [a0, a1]
      funext i
      idx_vars i
      exact Cert.Reference5Ideal.Val.v28_apply _ _ _ _
    · refine (Cert.Reference5Ideal.Read.val_main_v34_eq _ _).trans ?_
      rw [a0, a1]
      funext i
      idx_vars i
      exact Cert.Reference5Ideal.Val.v34_apply _ _ _ _
    · refine (Cert.Reference5Ideal.Read.val_main_v35_eq _ _).trans ?_
      rw [a0, a1]
      funext i
      idx_vars i
      exact Cert.Reference5Ideal.Val.v35_apply _ _ _ _
    · refine (Cert.Reference5Ideal.Read.val_main_v39_eq _ _).trans ?_
      rw [a0, a1]
      funext i
      idx_vars i
      exact Cert.Reference5Ideal.Val.v39_apply _ _ _ _
    · refine (Cert.Reference5Ideal.Read.val_main_v25_eq _ _).trans ?_
      rw [a0, a1]
      funext i
      idx_vars i
      exact Cert.Reference5Ideal.Val.v25_apply _ _ _ _
    · refine (Cert.Reference5Ideal.Read.val_main_v27_eq _ _).trans ?_
      rw [a0, a1]
      funext i
      idx_vars i
      exact Cert.Reference5Ideal.Val.v27_apply _ _ _ _
    · refine (Cert.Reference5Ideal.Read.val_main_v40_eq _ _).trans ?_
      rw [a0, a1]
      funext i
      idx_vars i
      exact Cert.Reference5Ideal.Val.v40_apply _ _ _ _
    · refine (Cert.Reference5Ideal.Read.val_main_v41_eq _ _).trans ?_
      rw [a0, a1]
      funext i
      idx_vars i
      exact Cert.Reference5Ideal.Val.v41_apply _ _ _ _

end Cert.ProjS.Claim

end
-- ==== Proof.Mixa.Spec.lean ====
/-
  The first mixer of the layer on one step's rows, over the extended reals: a group normalisation of the gated half over
  four groups of 64 columns, a causal mixing of the sixteen positions of a sequence with one matrix per group, and the
  product with the other half. A row is named by its number in the flattened batch, a column by a natural number.
-/
module

public import proofs.«01_k».proof.Proof.Ffn.Spec
public import Idealize.ShloMosaic.PureOps.Ideal.Laws

@[expose] public section

set_option maxRecDepth 16384

noncomputable section

namespace Cert.Mixa

open Idealize.ShloMosaic Cert.Ffn

/-- The word of 64, the number of columns in a group. -/
abbrev w64 : EReal := Ideal.ofBits .f32 0x42800000#32

theorem w64_eq : w64 = ((64 : ℝ) : EReal) := by
  simp [w64, Ideal.ofBits, Ideal.ieee, -EReal.coe_mul]
  norm_num

/-- The mean of a row over the group of column `c`. -/
def gmean (f : ℕ → EReal) (c : ℕ) : EReal := Ideal.div (∑ k : Fin 64, f (64 * (c / 64) + k.val)) w64

/-- The group normalisation of a row at column `c`. -/
def gnorm (f g b : ℕ → EReal) (c : ℕ) : EReal :=
  (f c - gmean f c) * Ideal.rsqrt (gmean (fun n => (f n - gmean f n) * (f n - gmean f n)) c + Ideal.ofBits .f32 0x3727C5AC#32)
    * g c + b c

/-- The matrix that averages over a group: one over 64 where the two columns share a group. -/
def gmat (n c : ℕ) : EReal := Ideal.div (if n / 64 = c / 64 then 1 else 0) w64

/-- An extended real that is a real number. -/
def IsReal (x : EReal) : Prop := ∃ y : ℝ, x = (y : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.tanh {x : EReal} (hx : IsReal x) : IsReal (Ideal.tanh x) := by
  obtain ⟨a, rfl⟩ := hx; exact ⟨Real.tanh a, rfl⟩

theorem IsReal.zero : IsReal 0 := ⟨0, rfl⟩

theorem IsReal.one : IsReal 1 := ⟨1, rfl⟩

theorem IsReal.sub_self {x : EReal} (hx : IsReal x) : x - x = 0 := by
  obtain ⟨a, rfl⟩ := hx; rw [← EReal.coe_sub, _root_.sub_self]; rfl

theorem IsReal.sum {ι : Type} (s : Finset ι) {f : ι → EReal} (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

theorem IsReal.gmean {f : ℕ → EReal} (h : ∀ n, IsReal (f n)) (c : ℕ) : IsReal (gmean f c) := by
  unfold Mixa.gmean
  rw [w64_eq, Ideal.div_coe (by norm_num)]
  exact (IsReal.sum _ fun k => h _).mul ⟨_, rfl⟩

theorem half_real : IsReal (Ideal.ofBits .f32 0x3F000000#32) := by
  refine ⟨1 / 2, ?_⟩
  simp [Ideal.ofBits, Ideal.ieee, -EReal.coe_mul]
  norm_num

theorem outer_real : IsReal (Ideal.ofBits .f32 0x3F4C422A#32) := by
  refine ⟨13386282 / 16777216, ?_⟩
  simp [Ideal.ofBits, Ideal.ieee, -EReal.coe_mul]
  norm_num

theorem inner_real : IsReal (Ideal.ofBits .f32 0x3D372713#32) := by
  refine ⟨12003091 / 268435456, ?_⟩
  simp [Ideal.ofBits, Ideal.ieee, -EReal.coe_mul]
  norm_num

/-- The GELU of a real number is one. -/
theorem IsReal.gelu {x : EReal} (hx : IsReal x) : IsReal (gelu x) := by
  unfold Ffn.gelu
  exact hx.mul (half_real.mul (IsReal.one.add ((outer_real.mul (hx.add (inner_real.mul (hx.mul (hx.mul hx))))).tanh)))

/-- A sum over `a` blocks of `b`, block by block. -/
theorem sum_blocks (a b : ℕ) (f : ℕ → EReal) : ∑ n : Fin (a * b), f n.val = ∑ g : Fin a, ∑ k : Fin b, f (b * g.val + k.val) := by
  rw [← finProdFinEquiv.sum_comp, Fintype.sum_prod_type]
  refine Finset.sum_congr rfl fun g _ => Finset.sum_congr rfl fun k _ => congrArg f ?_
  show k.val + b * g.val = b * g.val + k.val
  omega

/-- A row times the averaging matrix is its mean over the group. -/
theorem sum_gmat (f : ℕ → EReal) (c : ℕ) (hc : c < 256) : ∑ n : Fin 256, f n.val * gmat n.val c = gmean f c := by
  rw [sum_blocks 4 64 (fun n => f n * gmat n c), Finset.sum_eq_single (⟨c / 64, by omega⟩ : Fin 4)]
  · unfold gmean gmat
    rw [w64_eq, Ideal.div_coe (by norm_num)]
    have e (k : Fin 64) : (64 * (c / 64) + k.val) / 64 = c / 64 := by omega
    simp only [e, if_pos]
    rw [Ideal.div_coe (by norm_num), one_mul]
    have h0 : (0 : EReal) ≤ (((1 : ℝ) / 64 : ℝ) : EReal) := EReal.coe_nonneg.2 (by norm_num)
    have h1 : (((1 : ℝ) / 64 : ℝ) : EReal) ≠ ⊤ := EReal.coe_ne_top _
    generalize (((1 : ℝ) / 64 : ℝ) : EReal) = z at h0 h1
    generalize (Finset.univ : Finset (Fin 64)) = s
    classical
    induction s using Finset.induction_on with
    | empty => simp
    | insert a s ha ih =>
      rw [Finset.sum_insert ha, Finset.sum_insert ha, ih, EReal.right_distrib_of_nonneg_of_ne_top h0 h1]
  · intro g _ hg
    refine Finset.sum_eq_zero fun k _ => ?_
    have hne : (64 * g.val + k.val) / 64 ≠ c / 64 := fun h => hg (Fin.ext (by dsimp only; omega))
    unfold gmat
    rw [if_neg hne, w64_eq, Ideal.div_coe (by norm_num), zero_mul, mul_zero]
  · intro h; exact absurd (Finset.mem_univ _) h

/-- The average taken as a real row's own product and the product of what the row leaves over itself, which is zero. -/
theorem sum_gmat_split (f : ℕ → EReal) (hf : ∀ n, IsReal (f n)) (c : ℕ) (hc : c < 256) :
    ∑ n : Fin 256, f n.val * gmat n.val c + ∑ n : Fin 256, (f n.val - f n.val) * gmat n.val c = gmean f c := by
  rw [sum_gmat f c hc]
  simp only [(hf _).sub_self, zero_mul, Finset.sum_const_zero, add_zero]

/-- The entry of the causal mixing matrix of group `g`, from position `j` to position `i`. -/
def wm (ws : (⟨3, ![4, 128, 128]⟩ : Shape).Idx → EReal) (g i j : ℕ) : EReal := at3 ws g i j * (if j ≤ i then 1 else 0)

variable (u v : (⟨3, ![32, 16, 256]⟩ : Shape).Idx → EReal) (lg lb : (⟨1, ![256]⟩ : Shape).Idx → EReal)
  (ws : (⟨3, ![4, 128, 128]⟩ : Shape).Idx → EReal) (bs : (⟨2, ![4, 128]⟩ : Shape).Idx → EReal)

/-- The normalised half at row `r`, column `c`. -/
def av (r c : ℕ) : EReal := gnorm (fun n => gelu (at3 v (r / 16) (r % 16) n)) (at1 lg) (at1 lb) c

/-- The mixer's output at row `r`, column `c`. -/
def oa (r c : ℕ) : EReal :=
  gelu (at3 u (r / 16) (r % 16) c)
    * (∑ j : Fin 16, wm ws (c / 64) (r % 16) j.val * av v lg lb (16 * (r / 16) + j.val) c + at2 bs (c / 64) (r % 16))

/-- Every entry of the gated half is a real number. -/
def Finite : Prop := ∀ i, IsReal (v i)

/-- So is every entry read at natural numbers. -/
theorem at3_real (h : Finite v) (i j k : ℕ) : IsReal (at3 v i j k) := by
  unfold at3
  split
  · exact h _
  · exact IsReal.zero

end Cert.Mixa

end
-- ==== Proof.Mixa.Host.lean ====
/- What the first mixer's kernel is handed, read at an index in terms of the arguments. -/
module

public import proofs.«01_k».proof.Proof.Gen.Kernel6Ideal.Frame
public import Idealize.ShloMosaic.Lib.StableHlo.ReadAt
public import Idealize.ShloMosaic.Lib.Pipeline.Value
public import proofs.«01_k».proof.Proof.Mixa.Spec

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Idealize.ShloMosaic.StableHlo Cert.Ffn Cert.Mixa

variable (m : (ℓ : Loc nD τ sig) → Buf (Elt Ideal) ℓ) (c : Dev nD)

/-- The half that multiplies the mixed one. -/
abbrev uIn : S32x16x256.Idx → EReal := m ((c : Thread nD τ).loc main_arg0)
/-- The half that is normalised and mixed. -/
abbrev vIn : S32x16x256.Idx → EReal := m ((c : Thread nD τ).loc main_arg1)
/-- The normalisation's scale. -/
abbrev gIn : S256.Idx → EReal := m ((c : Thread nD τ).loc main_arg2)
/-- The normalisation's shift. -/
abbrev bIn : S256.Idx → EReal := m ((c : Thread nD τ).loc main_arg3)
/-- The mixing matrices. -/
abbrev wsIn : S4x128x128.Idx → EReal := m ((c : Thread nD τ).loc main_arg4)
/-- The mixing's shift. -/
abbrev bsIn : S4x128.Idx → EReal := m ((c : Thread nD τ).loc main_arg5)

/-- The rows of the first half. -/
theorem V2_left (r : Fin 512) (k : Fin 256) : (V m c main_v2 : S512x512.Idx → EReal) (ix2 r ⟨k.val, by omega⟩)
    = at3 (uIn m c) (r / 16) (r % 16) k := by
  have hk := k.isLt
  unfold V
  after_reads_at
  exact at3_fin _ _ _ _

/-- The rows of the second half. -/
theorem V2_right (r : Fin 512) (k : Fin 256) : (V m c main_v2 : S512x512.Idx → EReal) (ix2 r ⟨256 + k.val, by omega⟩)
    = at3 (vIn m c) (r / 16) (r % 16) k := by
  have hk := k.isLt
  unfold V
  after_reads_at
  exact at3_fin _ _ _ _

/-- The normalisation's scale. -/
theorem V23_apply (k : Fin 256) : (V m c main_v23 : S1x256.Idx → EReal) (ix2 0 k) = at1 (gIn m c) k := by
  unfold V
  after_reads_at
  exact at1_fin _ _

/-- The normalisation's shift. -/
theorem V24_apply (k : Fin 256) : (V m c main_v24 : S1x256.Idx → EReal) (ix2 0 k) = at1 (bIn m c) k := by
  unfold V
  after_reads_at
  exact at1_fin _ _

/-- The mixing's shift, a group's over its 64 columns. -/
theorem V22_apply (i : Fin 16) (k : Fin 256) : (V m c main_v22 : S16x256.Idx → EReal) (ix2 i k)
    = at2 (bsIn m c) (k / 64) i := by
  have hk := k.isLt
  have hi := i.isLt
  unfold V
  after_reads_at
  exact at2_fin _ _ _

/-- The averaging matrix. -/
theorem V36_apply (n k : Fin 256) : (V m c main_v36 : S256x256.Idx → EReal) (ix2 n k) = gmat n k := by
  unfold V
  after_reads_at
  have e : ∀ a b : Fin 256, IntOp.cmpi .eq (IntOp.divsi .host (BitVec.ofNat 32 a.val) 64#32) (IntOp.divsi .host (BitVec.ofNat 32 b.val) 64#32)
      = if a.val / 64 = b.val / 64 then 1#1 else 0#1 := by
    intro a b
    have d : ∀ x : Fin 256, IntOp.divsi .host (BitVec.ofNat 32 x.val) 64#32 = BitVec.ofNat 32 (x.val / 64) := by decide +kernel
    have f : ∀ x y : Fin 4, IntOp.cmpi .eq (BitVec.ofNat 32 x.val) (BitVec.ofNat 32 y.val) = if x.val = y.val then 1#1 else 0#1 := by decide +kernel
    rw [d, d]
    exact f ⟨a.val / 64, by omega⟩ ⟨b.val / 64, by omega⟩
  rw [e]
  unfold gmat
  congr 1
  split
  · show ((((1#1 : BitVec 1).toNat : ℕ) : ℝ) : EReal) = 1
    simp
  · show ((((0#1 : BitVec 1).toNat : ℕ) : ℝ) : EReal) = 0
    simp

/-- The four mixing matrices below their diagonals, side by side. -/
theorem V18_apply (i : Fin 16) (k : Fin 64) : (V m c main_v18 : S16x64.Idx → EReal) (ix2 i k)
    = wm (wsIn m c) (k / 16) i (k % 16) := by
  have hk := k.isLt
  have hi := i.isLt
  have e : ∀ a b : Fin 16, IntOp.cmpi .sge (IntOp.addi (BitVec.ofNat 32 a.val) 0#32) (BitVec.ofNat 32 b.val)
      = if b.val ≤ a.val then 1#1 else 0#1 := by decide +kernel
  have d (g : Fin 4) (q : Fin 16) (hg : k.val / 16 = g.val) (hq : k.val % 16 = q.val) :
      Scalar.select (IntOp.cmpi .sge (IntOp.addi (BitVec.ofNat 32 i.val) 0#32) (BitVec.ofNat 32 q.val))
        (wsIn m c (ix3 g ⟨i.val, by omega⟩ ⟨q.val, by omega⟩)) (0 : EReal) = wm (wsIn m c) (k / 16) i (k % 16) := by
    rw [e, hg, hq]
    unfold wm
    split
    · rw [mul_one]
      exact at3_fin _ _ _ _
    · rw [mul_zero]
      rfl
  unfold V
  after_reads_at
  by_cases h0 : k.val < 16
  · rw [dif_pos h0]
    after_reads_at
    exact d 0 ⟨k.val, by omega⟩ (by show _ = 0; omega) (by dsimp only; omega)
  rw [dif_neg h0]
  by_cases h1 : k.val - 16 < 16
  · rw [dif_pos h1]
    after_reads_at
    exact d 1 ⟨k.val - 16, by omega⟩ (by show _ = 1; omega) (by dsimp only; omega)
  rw [dif_neg h1]
  by_cases h2 : k.val - 16 - 16 < 16
  · rw [dif_pos h2]
    after_reads_at
    exact d 2 ⟨k.val - 16 - 16, by omega⟩ (by show _ = 2; omega) (by dsimp only; omega)
  rw [dif_neg h2]
  after_reads_at
  exact d 3 ⟨k.val - 16 - 16 - 16, by omega⟩ (by show _ = 3; omega) (by dsimp only; omega)

end Cert.Kernel6Ideal.Val

end
-- ==== Proof.Mixa.Pay.lean ====
/- The first mixer's kernel body read at an index, over the extended reals, for any blocks. -/
module

public import proofs.«01_k».proof.Proof.Gen.Kernel6Ideal.Frame
public import Idealize.ShloMosaic.Lib.Pipeline.Value
public import proofs.«01_k».proof.Proof.Mixa.Spec

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.Ffn Cert.Mixa

/-- The first half's GELU. -/
theorem pay3_apply (x : Vec Ideal S512x512 .f32) (r : Fin 512) (c : Fin 256) :
    k0_pay3 (F := Ideal) x (ix2 r c) = gelu (x (ix2 r ⟨c.val, by omega⟩)) := by
  have hc := c.isLt
  pointwise [k0_pay3, k0_pay2]
  rfl

/-- The second half's GELU less its group's mean, the mean taken with the averaging matrix. -/
theorem pay5_apply (x : Vec Ideal S512x512 .f32) (w : Vec Ideal S256x256 .bf16) (f : ℕ → EReal) (r : Fin 512)
    (hf : ∀ n : Fin 256, gelu (x (ix2 r ⟨256 + n.val, by omega⟩)) = f n.val) (c : Fin 256) :
    k0_pay5 (F := Ideal) x w (ix2 r c)
      = f c.val - (∑ n : Fin 256, f n.val * w (ix2 n c) + ∑ n : Fin 256, (f n.val - f n.val) * w (ix2 n c)) := by
  have hc := c.isLt
  simp only [← hf]
  pointwise [k0_pay5, k0_pay4, k0_pay2]
  rfl

/-- The squares. -/
theorem pay7_apply (x : Vec Ideal S512x512 .f32) (w : Vec Ideal S256x256 .bf16) (r : Fin 512) (c : Fin 256) :
    k0_pay7 (F := Ideal) x w (ix2 r c) = k0_pay5 (F := Ideal) x w (ix2 r c) * k0_pay5 (F := Ideal) x w (ix2 r c) := by
  pointwise [k0_pay7, k0_pay6]

/-- What the squares leave over themselves. -/
theorem pay8_apply (x : Vec Ideal S512x512 .f32) (w : Vec Ideal S256x256 .bf16) (r : Fin 512) (c : Fin 256) :
    k0_pay8 (F := Ideal) x w (ix2 r c)
      = k0_pay5 (F := Ideal) x w (ix2 r c) * k0_pay5 (F := Ideal) x w (ix2 r c)
        - k0_pay5 (F := Ideal) x w (ix2 r c) * k0_pay5 (F := Ideal) x w (ix2 r c) := by
  pointwise [k0_pay8, k0_pay7, k0_pay6]

/-- The normalised half from the centred one and its squares. -/
theorem pay9_apply (w : FVec Ideal S256x256 .bf16) (d : FVec Ideal S512x256 .f32) (p q : FVec Ideal S512x256 .bf16)
    (g b : Vec Ideal S1x256 .f32) (r : Fin 512) (c : Fin 256) :
    k0_pay9 (F := Ideal) w d p q g b (ix2 r c)
      = d (ix2 r c) * Ideal.rsqrt (∑ n : Fin 256, p (ix2 r n) * w (ix2 n c) + ∑ n : Fin 256, q (ix2 r n) * w (ix2 n c)
          + Ideal.ofBits .f32 0x3727C5AC#32) * g (ix2 0 c) + b (ix2 0 c) := by
  pointwise [k0_pay9]

/-- The body's normalisation of a row of real numbers is the group normalisation. -/
theorem norm_row (f g b : ℕ → EReal) (hf : ∀ n, IsReal (f n)) (d : ℕ → EReal)
    (hd : ∀ c, c < 256 → d c = f c - (∑ n : Fin 256, f n.val * gmat n.val c + ∑ n : Fin 256, (f n.val - f n.val) * gmat n.val c))
    (c : ℕ) (hc : c < 256) :
    d c * Ideal.rsqrt (∑ n : Fin 256, d n.val * d n.val * gmat n.val c
        + ∑ n : Fin 256, (d n.val * d n.val - d n.val * d n.val) * gmat n.val c + Ideal.ofBits .f32 0x3727C5AC#32) * g c + b c
      = gnorm f g b c := by
  have e (n : ℕ) (hn : n < 256) : d n = f n - gmean f n := by rw [hd n hn, sum_gmat_split f hf n hn]
  have hr (n : ℕ) : IsReal ((f n - gmean f n) * (f n - gmean f n)) :=
    ((hf n).sub (IsReal.gmean hf n)).mul ((hf n).sub (IsReal.gmean hf n))
  have s := sum_gmat_split (fun n => (f n - gmean f n) * (f n - gmean f n)) hr c hc
  unfold gnorm
  rw [← s, e c hc]
  simp only [e _ (Fin.isLt _)]

/-- The group of a column. -/
theorem pay10_apply (i : Fin 16) (j : Fin 256) : k0_pay10 (ix2 i j) = BitVec.ofNat 32 (j.val / 64) := by
  pointwise [k0_pay10]
  clear i
  revert j
  decide +kernel

/-- A sequence's sixteen rows four times over, each time with the columns of one group alone. -/
def stack (x : FVec Ideal S16x256 .f32) (l : IVec S16x256 32) : FVec Ideal S64x256 .bf16 :=
  concatenate S64x256 0
    [⟨S16x256, truncf .bf16 (select (cmpi .eq l (broadcast S16x256 0#32)) x (broadcast S16x256 (Scalar.ofBits .f32 0x00000000#32))) bitsLt_bf16_f32⟩,
     ⟨S16x256, truncf .bf16 (select (cmpi .eq l (broadcast S16x256 1#32)) x (broadcast S16x256 (Scalar.ofBits .f32 0x00000000#32))) bitsLt_bf16_f32⟩,
     ⟨S16x256, truncf .bf16 (select (cmpi .eq l (broadcast S16x256 2#32)) x (broadcast S16x256 (Scalar.ofBits .f32 0x00000000#32))) bitsLt_bf16_f32⟩,
     ⟨S16x256, truncf .bf16 (select (cmpi .eq l (broadcast S16x256 3#32)) x (broadcast S16x256 (Scalar.ofBits .f32 0x00000000#32))) bitsLt_bf16_f32⟩]
    concatenates_S16x256_S16x256_S16x256_S16x256_S64x256_d0

/-- The stacked rows at row `16·g + q`. -/
theorem stack_apply (x : FVec Ideal S16x256 .f32) (k : Fin 64) (j : Fin 256) :
    stack x k0_pay10 (ix2 k j) = if j.val / 64 = k.val / 16 then x (ix2 ⟨k.val % 16, by omega⟩ j) else 0 := by
  have hk := k.isLt
  have hj := j.isLt
  have f : ∀ x y : Fin 4, IntOp.cmpi .eq (BitVec.ofNat 32 x.val) (BitVec.ofNat 32 y.val) = if x.val = y.val then 1#1 else 0#1 := by
    decide +kernel
  pointwise [stack]
  simp only [pay10_apply]
  have d (b : Fin 4) (z : EReal) : Scalar.select (IntOp.cmpi .eq (BitVec.ofNat 32 (j.val / 64)) (BitVec.ofNat 32 b.val)) z (0 : EReal)
      = if j.val / 64 = b.val then z else 0 := by
    rw [f ⟨j.val / 64, by omega⟩ b]
    dsimp only
    split <;> rfl
  have w (b : Fin 4) (q : Fin 16) (hb : k.val / 16 = b.val) (hq : k.val % 16 = q.val) :
      Scalar.select (IntOp.cmpi .eq (BitVec.ofNat 32 (j.val / 64)) (BitVec.ofNat 32 b.val)) (x (ix2 q j)) (0 : EReal)
        = if j.val / 64 = k.val / 16 then x (ix2 ⟨k.val % 16, by omega⟩ j) else 0 := by
    have e : q = ⟨k.val % 16, Nat.mod_lt _ (by decide)⟩ := Fin.ext hq.symm
    rw [d, hb]
    exact if_congr Iff.rfl (congrArg (fun q => x (ix2 q j)) e) rfl
  by_cases h0 : k.val < 16
  · rw [dif_pos h0]
    exact w 0 ⟨k.val, by omega⟩ (by show _ = 0; omega) (by dsimp only; omega)
  rw [dif_neg h0]
  by_cases h1 : k.val - 16 < 16
  · rw [dif_pos h1]
    exact w 1 ⟨k.val - 16, by omega⟩ (by show _ = 1; omega) (by dsimp only; omega)
  rw [dif_neg h1]
  by_cases h2 : k.val - 16 - 16 < 16
  · rw [dif_pos h2]
    exact w 2 ⟨k.val - 16 - 16, by omega⟩ (by show _ = 2; omega) (by dsimp only; omega)
  rw [dif_neg h2]
  exact w 3 ⟨k.val - 16 - 16 - 16, by omega⟩ (by show _ = 3; omega) (by dsimp only; omega)

/-- What the body stores for the sequence whose rows begin at `o`. -/
def chunk (o : ℕ) (h : S512x256.Slices ![o, 0] S16x256) (U V : FVec Ideal S512x256 .f32) (l : IVec S16x256 32)
    (W : FVec Ideal S16x64 .bf16) (B : FVec Ideal S16x256 .f32) : FVec Ideal S16x256 .f32 :=
  mulf (extractStridedSlice S16x256 ![o, 0] U h)
    (addf (matmul dot_S16x64_S64x256_S16x256_1_0_0_1_n_n none W (stack (extractStridedSlice S16x256 ![o, 0] V h) l)
      (constant S16x256 .f32 0x00000000#32)) B)

/-- That block at an index. -/
theorem chunk_apply (o : ℕ) (h : S512x256.Slices ![o, 0] S16x256) (ho : o + 16 ≤ 512) (U V : FVec Ideal S512x256 .f32)
    (W : FVec Ideal S16x64 .bf16) (B : FVec Ideal S16x256 .f32) (i : Fin 16) (j : Fin 256) :
    chunk o h U V k0_pay10 W B (ix2 i j)
      = U (ix2 ⟨o + i.val, by omega⟩ j)
        * (∑ k : Fin 64, W (ix2 i k) * (if j.val / 64 = k.val / 16 then V (ix2 ⟨o + k.val % 16, by omega⟩ j) else 0) + B (ix2 i j)) := by
  have s (q : Fin 16) : extractStridedSlice S16x256 ![o, 0] V h (ix2 q j) = V (ix2 ⟨o + q.val, by omega⟩ j) := by
    pointwise
  pointwise [chunk]
  simp only [stack_apply]
  simp only [s]

end Cert.Kernel6Ideal.Val

end
-- ==== Proof.Mixa.Body.lean ====
/- What the first mixer's kernel body leaves in its two output blocks, over the extended reals. -/
module

public import proofs.«01_k».proof.Proof.Mixa.Pay

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.Ffn Cert.Mixa

theorem hz : (![0, 0] : Fin 2 → Nat) = fun _ => 0 := funext fun a => by fin_cases a <;> rfl

variable (x0 : Vec Ideal S512x512 .f32) (x1 : Vec Ideal S16x64 .bf16) (x2 : Vec Ideal S16x256 .f32) (x3 x4 : Vec Ideal S1x256 .f32)
  (x5 : Vec Ideal S256x256 .bf16) (u v : S32x16x256.Idx → EReal) (lg lb : S256.Idx → EReal) (ws : S4x128x128.Idx → EReal)
  (bs : S4x128.Idx → EReal)

/-- The body's input blocks in terms of the arguments, the normalised half's entries real numbers. -/
structure Blocks : Prop where
  left : ∀ (r : Fin 512) (k : Fin 256), x0 (ix2 r ⟨k.val, by omega⟩) = at3 u (r / 16) (r % 16) k
  right : ∀ (r : Fin 512) (k : Fin 256), x0 (ix2 r ⟨256 + k.val, by omega⟩) = at3 v (r / 16) (r % 16) k
  mix : ∀ (i : Fin 16) (k : Fin 64), x1 (ix2 i k) = wm ws (k / 16) i (k % 16)
  bias : ∀ (i : Fin 16) (k : Fin 256), x2 (ix2 i k) = at2 bs (k / 64) i
  scale : ∀ k : Fin 256, x3 (ix2 0 k) = at1 lg k
  shift : ∀ k : Fin 256, x4 (ix2 0 k) = at1 lb k
  mean : ∀ n k : Fin 256, x5 (ix2 n k) = gmat n k
  real : Finite v

variable (H : Blocks x0 x1 x2 x3 x4 x5 u v lg lb ws bs)
include H

/-- The first half's GELU. -/
theorem pay100_apply (r : Fin 512) (c : Fin 256) : k0_pay100 (F := Ideal) x0 x1 x2 x3 x4 x5 (ix2 r c) = gelu (at3 u (r / 16) (r % 16) c) := by
  unfold k0_pay100
  have l0 : View.ld x0 r0_0 = x0 := View.ld_unit_zero hz _ _
  rw [l0, pay3_apply, H.left]

/-- The normalised half. -/
theorem pay105_apply (r : Fin 512) (c : Fin 256) : k0_pay105 (F := Ideal) x0 x1 x2 x3 x4 x5 (ix2 r c) = av v lg lb r c := by
  have l0 : View.ld x0 r0_0 = x0 := View.ld_unit_zero hz _ _
  have l5 : View.ld x5 r0_1 = x5 := View.ld_unit_zero hz _ _
  have l3 : View.ld x3 r0_2 = x3 := View.ld_unit_zero hz _ _
  have l4 : View.ld x4 r0_2 = x4 := View.ld_unit_zero hz _ _
  have p4 (n k : Fin 256) : k0_pay4 (F := Ideal) x5 (ix2 n k) = gmat n k := by
    refine Eq.trans ?_ (H.mean n k)
    pointwise [k0_pay4]
  have hf (n : ℕ) : IsReal (gelu (at3 v (r / 16) (r % 16) n)) := (at3_real v H.real _ _ _).gelu
  have e (n : Fin 256) : k0_pay5 (F := Ideal) x0 x5 (ix2 r n)
      = (fun c : ℕ => gelu (at3 v (r / 16) (r % 16) c) - (∑ n : Fin 256, gelu (at3 v (r / 16) (r % 16) n) * gmat n.val c
        + ∑ n : Fin 256, (gelu (at3 v (r / 16) (r % 16) n) - gelu (at3 v (r / 16) (r % 16) n)) * gmat n.val c)) n.val := by
    rw [pay5_apply x0 x5 (fun n => gelu (at3 v (r / 16) (r % 16) n)) r (fun n => by rw [H.right])]
    simp only [H.mean]
  unfold k0_pay105 k0_pay101 k0_pay102 k0_pay103 k0_pay104
  rw [l0, l5, l3, l4, pay9_apply]
  simp only [pay7_apply, pay8_apply, p4, H.scale, H.shift]
  rw [e c]
  simp only [e]
  exact norm_row (fun n => gelu (at3 v (r / 16) (r % 16) n)) (at1 lg) (at1 lb) hf _ (fun _ _ => rfl) c.val c.isLt

/-- The second output block. -/
theorem out7_apply (r : Fin 512) (c : Fin 256) : out0_7 (F := Ideal) x0 x1 x2 x3 x4 x5 (ix2 r c) = av v lg lb r c := by
  unfold out0_7
  rw [View.canon_unit_zero hz]
  exact pay105_apply x0 x1 x2 x3 x4 x5 u v lg lb ws bs H r c

/-- The block stored for the sequence whose rows begin at `o`. -/
theorem chunk_blocks (o : ℕ) (h : S512x256.Slices ![o, 0] S16x256) (ho : o + 16 ≤ 512) (hd : o % 16 = 0) (i : Fin 16) (j : Fin 256) :
    chunk o h (k0_pay100 x0 x1 x2 x3 x4 x5) (k0_pay105 x0 x1 x2 x3 x4 x5) (k0_pay106 (F := Ideal) x0 x1 x2 x3 x4 x5)
      (k0_pay107 x0 x1 x2 x3 x4 x5) (k0_pay108 x0 x1 x2 x3 x4 x5) (ix2 i j) = oa u v lg lb ws bs (o + 1 * i.val) (0 + 1 * j.val) := by
  have hi := i.isLt
  have hj := j.isLt
  have l1 : View.ld x1 r0_4 = x1 := View.ld_unit_zero hz _ _
  have l2 : View.ld x2 r0_5 = x2 := View.ld_unit_zero hz _ _
  have p7 (k : Fin 64) : k0_pay107 (F := Ideal) x0 x1 x2 x3 x4 x5 (ix2 i k) = wm ws (k / 16) i (k % 16) := by
    unfold k0_pay107
    rw [l1]
    refine Eq.trans ?_ (H.mix i k)
    pointwise [k0_pay11]
  have p8 : k0_pay108 (F := Ideal) x0 x1 x2 x3 x4 x5 (ix2 i j) = at2 bs (j / 64) i := by
    unfold k0_pay108
    rw [l2]
    refine Eq.trans ?_ (H.bias i j)
    pointwise [k0_pay12]
  have ei : (o + i.val) % 16 = i.val := by omega
  have eo : 16 * ((o + i.val) / 16) = o := by omega
  unfold k0_pay106
  rw [chunk_apply o h ho, Nat.one_mul, Nat.one_mul, Nat.zero_add, pay100_apply x0 x1 x2 x3 x4 x5 u v lg lb ws bs H, p8]
  simp only [p7, pay105_apply x0 x1 x2 x3 x4 x5 u v lg lb ws bs H]
  unfold oa
  rw [ei, eo]
  refine congrArg₂ (· * ·) (by dsimp only) (congrArg₂ (· + ·) ?_ rfl)
  rw [sum_blocks 4 16 (fun k => wm ws (k / 16) i (k % 16) * (if j.val / 64 = k / 16 then av v lg lb (o + k % 16) j else 0)),
    Finset.sum_eq_single (⟨j.val / 64, by omega⟩ : Fin 4)]
  · refine Finset.sum_congr rfl fun q _ => ?_
    have hq := q.isLt
    dsimp only
    rw [show (16 * (j.val / 64) + q.val) / 16 = j.val / 64 by omega, show (16 * (j.val / 64) + q.val) % 16 = q.val by omega, if_pos rfl]
  · intro g _ hg
    refine Finset.sum_eq_zero fun q _ => ?_
    have hq := q.isLt
    have hne : j.val / 64 ≠ (16 * g.val + q.val) / 16 := fun e => hg (Fin.ext (by dsimp only; omega))
    rw [if_neg hne, mul_zero]
  · intro h; exact absurd (Finset.mem_univ _) h

/-- The first output block. -/
theorem out6_apply (r : Fin 512) (c : Fin 256) : out0_6 (F := Ideal) x0 x1 x2 x3 x4 x5 (ix2 r c) = oa u v lg lb ws bs r c := by
  have key (o : ℕ) (h : S512x256.Slices ![o, 0] S16x256) (ho : o + 16 ≤ 512) (hd : o % 16 = 0)
      (inb : ∀ a, (![o, 0] : Fin 2 → ℕ) a + S16x256.size a ≤ S512x256.size a) : ∀ x : S16x256.Idx,
      chunk o h (k0_pay100 x0 x1 x2 x3 x4 x5) (k0_pay105 x0 x1 x2 x3 x4 x5) (k0_pay106 (F := Ideal) x0 x1 x2 x3 x4 x5) (k0_pay107 x0 x1 x2 x3 x4 x5) (k0_pay108 x0 x1 x2 x3 x4 x5) x
        = (fun y : S512x256.Idx => oa u v lg lb ws bs (y 0).val (y 1).val) ((Rect.unit (s := S512x256) ![o, 0] S16x256.size inb).emb x) := by
    intro y
    idx_vars y
    exact chunk_blocks x0 x1 x2 x3 x4 x5 u v lg lb ws bs H o h ho hd _ _
  unfold out0_6
  refine (View.canon_apply_of_pieces (fun y : S512x256.Idx => oa u v lg lb ws bs (y 0).val (y 1).val) _ ?_ (ix2 r c)
    (cover0_6 _ _ _ _ _ _ _ _ _ _ _ _ _ _ _ _ _ _ _ _ _ _ _ _ _ _ _ _ _ _ _ _ (ix2 r c))).trans rfl
  refine List.forall_mem_cons.2 ⟨key 496 slices_S512x256_o496_0_S16x256 (by omega) rfl inb_S512x256_S16x256_496_0, ?_⟩
  refine List.forall_mem_cons.2 ⟨key 480 slices_S512x256_o480_0_S16x256 (by omega) rfl inb_S512x256_S16x256_480_0, ?_⟩
  refine List.forall_mem_cons.2 ⟨key 464 slices_S512x256_o464_0_S16x256 (by omega) rfl inb_S512x256_S16x256_464_0, ?_⟩
  refine List.forall_mem_cons.2 ⟨key 448 slices_S512x256_o448_0_S16x256 (by omega) rfl inb_S512x256_S16x256_448_0, ?_⟩
  refine List.forall_mem_cons.2 ⟨key 432 slices_S512x256_o432_0_S16x256 (by omega) rfl inb_S512x256_S16x256_432_0, ?_⟩
  refine List.forall_mem_cons.2 ⟨key 416 slices_S512x256_o416_0_S16x256 (by omega) rfl inb_S512x256_S16x256_416_0, ?_⟩
  refine List.forall_mem_cons.2 ⟨key 400 slices_S512x256_o400_0_S16x256 (by omega) rfl inb_S512x256_S16x256_400_0, ?_⟩
  refine List.forall_mem_cons.2 ⟨key 384 slices_S512x256_o384_0_S16x256 (by omega) rfl inb_S512x256_S16x256_384_0, ?_⟩
  refine List.forall_mem_cons.2 ⟨key 368 slices_S512x256_o368_0_S16x256 (by omega) rfl inb_S512x256_S16x256_368_0, ?_⟩
  refine List.forall_mem_cons.2 ⟨key 352 slices_S512x256_o352_0_S16x256 (by omega) rfl inb_S512x256_S16x256_352_0, ?_⟩
  refine List.forall_mem_cons.2 ⟨key 336 slices_S512x256_o336_0_S16x256 (by omega) rfl inb_S512x256_S16x256_336_0, ?_⟩
  refine List.forall_mem_cons.2 ⟨key 320 slices_S512x256_o320_0_S16x256 (by omega) rfl inb_S512x256_S16x256_320_0, ?_⟩
  refine List.forall_mem_cons.2 ⟨key 304 slices_S512x256_o304_0_S16x256 (by omega) rfl inb_S512x256_S16x256_304_0, ?_⟩
  refine List.forall_mem_cons.2 ⟨key 288 slices_S512x256_o288_0_S16x256 (by omega) rfl inb_S512x256_S16x256_288_0, ?_⟩
  refine List.forall_mem_cons.2 ⟨key 272 slices_S512x256_o272_0_S16x256 (by omega) rfl inb_S512x256_S16x256_272_0, ?_⟩
  refine List.forall_mem_cons.2 ⟨key 256 slices_S512x256_o256_0_S16x256 (by omega) rfl inb_S512x256_S16x256_256_0, ?_⟩
  refine List.forall_mem_cons.2 ⟨key 240 slices_S512x256_o240_0_S16x256 (by omega) rfl inb_S512x256_S16x256_240_0, ?_⟩
  refine List.forall_mem_cons.2 ⟨key 224 slices_S512x256_o224_0_S16x256 (by omega) rfl inb_S512x256_S16x256_224_0, ?_⟩
  refine List.forall_mem_cons.2 ⟨key 208 slices_S512x256_o208_0_S16x256 (by omega) rfl inb_S512x256_S16x256_208_0, ?_⟩
  refine List.forall_mem_cons.2 ⟨key 192 slices_S512x256_o192_0_S16x256 (by omega) rfl inb_S512x256_S16x256_192_0, ?_⟩
  refine List.forall_mem_cons.2 ⟨key 176 slices_S512x256_o176_0_S16x256 (by omega) rfl inb_S512x256_S16x256_176_0, ?_⟩
  refine List.forall_mem_cons.2 ⟨key 160 slices_S512x256_o160_0_S16x256 (by omega) rfl inb_S512x256_S16x256_160_0, ?_⟩
  refine List.forall_mem_cons.2 ⟨key 144 slices_S512x256_o144_0_S16x256 (by omega) rfl inb_S512x256_S16x256_144_0, ?_⟩
  refine List.forall_mem_cons.2 ⟨key 128 slices_S512x256_o128_0_S16x256 (by omega) rfl inb_S512x256_S16x256_128_0, ?_⟩
  refine List.forall_mem_cons.2 ⟨key 112 slices_S512x256_o112_0_S16x256 (by omega) rfl inb_S512x256_S16x256_112_0, ?_⟩
  refine List.forall_mem_cons.2 ⟨key 96 slices_S512x256_o96_0_S16x256 (by omega) rfl inb_S512x256_S16x256_96_0, ?_⟩
  refine List.forall_mem_cons.2 ⟨key 80 slices_S512x256_o80_0_S16x256 (by omega) rfl inb_S512x256_S16x256_80_0, ?_⟩
  refine List.forall_mem_cons.2 ⟨key 64 slices_S512x256_o64_0_S16x256 (by omega) rfl inb_S512x256_S16x256_64_0, ?_⟩
  refine List.forall_mem_cons.2 ⟨key 48 slices_S512x256_o48_0_S16x256 (by omega) rfl inb_S512x256_S16x256_48_0, ?_⟩
  refine List.forall_mem_cons.2 ⟨key 32 slices_S512x256_o32_0_S16x256 (by omega) rfl inb_S512x256_S16x256_32_0, ?_⟩
  refine List.forall_mem_cons.2 ⟨key 16 slices_S512x256_o16_0_S16x256 (by omega) rfl inb_S512x256_S16x256_16_0, ?_⟩
  refine List.forall_mem_cons.2 ⟨key 0 slices_S512x256_o0_0_S16x256 (by omega) rfl inb_S512x256_S16x256_0_0, ?_⟩
  exact fun _ h => absurd h List.not_mem_nil

end Cert.Kernel6Ideal.Val

end
-- ==== Proof.Mixa.Kernel.lean ====
/- What the first mixer's kernel leaves in its two arrays, over the extended reals, in terms of the arguments. -/
module

public import proofs.«01_k».proof.Proof.Gen.Kernel6Ideal.Value
public import proofs.«01_k».proof.Proof.Mixa.Host
public import proofs.«01_k».proof.Proof.Mixa.Body

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.Ffn Cert.Mixa

variable (m : (ℓ : Loc nD τ sig) → Buf (Elt Ideal) ℓ) (c : Dev nD)

/-- Every window's one block begins at the array's first entry. -/
theorem idxAll : ∀ t : Fin cfg0.N, (win0_0.index t (0 : Fin 2) = 0 ∧ win0_0.index t (1 : Fin 2) = 0) ∧ (win0_1.index t (0 : Fin 2) = 0 ∧ win0_1.index t (1 : Fin 2) = 0) ∧ (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)

/-- Input window 0's block is its whole array. -/
theorem blk0 (t : Fin cfg0.N) (r : Fin 512) (k : Fin 512) :
    (iblk m c 0 t : S512x512.Idx → EReal) (ix2 r k) = (V m c main_v2 : S512x512.Idx → EReal) (ix2 r k) := by
  obtain ⟨⟨e0, e1⟩, -⟩ := idxAll t
  unfold iblk
  rw [View.read_apply]
  have e : (((cfg0.win 0).blk t).view.emb (ix2 r k) : S512x512.Idx) = ix2 r k := by
    funext a; apply Fin.ext
    match a with
    | ⟨0, _⟩ => show win0_0.index t 0 * 512 + 1 * r.val = r.val; omega
    | ⟨1, _⟩ => show win0_0.index t 1 * 512 + 1 * k.val = k.val; omega
  show (V m c main_v2 : S512x512.Idx → EReal) (((cfg0.win 0).blk t).view.emb (ix2 r k)) = _
  rw [e]

/-- Input window 1's block is its whole array. -/
theorem blk1 (t : Fin cfg0.N) (r : Fin 16) (k : Fin 64) :
    (iblk m c 1 t : S16x64.Idx → EReal) (ix2 r k) = (V m c main_v18 : S16x64.Idx → EReal) (ix2 r k) := by
  obtain ⟨-, ⟨e0, e1⟩, -⟩ := idxAll t
  unfold iblk
  rw [View.read_apply]
  have e : (((cfg0.win 1).blk t).view.emb (ix2 r k) : S16x64.Idx) = ix2 r k := by
    funext a; apply Fin.ext
    match a with
    | ⟨0, _⟩ => show win0_1.index t 0 * 16 + 1 * r.val = r.val; omega
    | ⟨1, _⟩ => show win0_1.index t 1 * 64 + 1 * k.val = k.val; omega
  show (V m c main_v18 : S16x64.Idx → EReal) (((cfg0.win 1).blk t).view.emb (ix2 r k)) = _
  rw [e]

/-- Input window 2's block is its whole array. -/
theorem blk2 (t : Fin cfg0.N) (r : Fin 16) (k : Fin 256) :
    (iblk m c 2 t : S16x256.Idx → EReal) (ix2 r k) = (V m c main_v22 : S16x256.Idx → EReal) (ix2 r k) := by
  obtain ⟨-, -, ⟨e0, e1⟩, -⟩ := idxAll t
  unfold iblk
  rw [View.read_apply]
  have e : (((cfg0.win 2).blk t).view.emb (ix2 r k) : S16x256.Idx) = ix2 r k := by
    funext a; apply Fin.ext
    match a with
    | ⟨0, _⟩ => show win0_2.index t 0 * 16 + 1 * r.val = r.val; omega
    | ⟨1, _⟩ => show win0_2.index t 1 * 256 + 1 * k.val = k.val; omega
  show (V m c main_v22 : S16x256.Idx → EReal) (((cfg0.win 2).blk t).view.emb (ix2 r k)) = _
  rw [e]

/-- Input window 3's block is its whole array. -/
theorem blk3 (t : Fin cfg0.N) (r : Fin 1) (k : Fin 256) :
    (iblk m c 3 t : S1x256.Idx → EReal) (ix2 r k) = (V m c main_v23 : S1x256.Idx → EReal) (ix2 r k) := by
  obtain ⟨-, -, -, ⟨e0, e1⟩, -⟩ := idxAll t
  unfold iblk
  rw [View.read_apply]
  have e : (((cfg0.win 3).blk t).view.emb (ix2 r k) : S1x256.Idx) = ix2 r k := by
    funext a; apply Fin.ext
    match a with
    | ⟨0, _⟩ => show win0_3.index t 0 * 1 + 1 * r.val = r.val; omega
    | ⟨1, _⟩ => show win0_3.index t 1 * 256 + 1 * k.val = k.val; omega
  show (V m c main_v23 : S1x256.Idx → EReal) (((cfg0.win 3).blk t).view.emb (ix2 r k)) = _
  rw [e]

/-- Input window 4's block is its whole array. -/
theorem blk4 (t : Fin cfg0.N) (r : Fin 1) (k : Fin 256) :
    (iblk m c 4 t : S1x256.Idx → EReal) (ix2 r k) = (V m c main_v24 : S1x256.Idx → EReal) (ix2 r k) := by
  obtain ⟨-, -, -, -, ⟨e0, e1⟩, -⟩ := idxAll t
  unfold iblk
  rw [View.read_apply]
  have e : (((cfg0.win 4).blk t).view.emb (ix2 r k) : S1x256.Idx) = ix2 r k := by
    funext a; apply Fin.ext
    match a with
    | ⟨0, _⟩ => show win0_4.index t 0 * 1 + 1 * r.val = r.val; omega
    | ⟨1, _⟩ => show win0_4.index t 1 * 256 + 1 * k.val = k.val; omega
  show (V m c main_v24 : S1x256.Idx → EReal) (((cfg0.win 4).blk t).view.emb (ix2 r k)) = _
  rw [e]

/-- Input window 5's block is its whole array. -/
theorem blk5 (t : Fin cfg0.N) (r : Fin 256) (k : Fin 256) :
    (iblk m c 5 t : S256x256.Idx → EReal) (ix2 r k) = (V m c main_v36 : S256x256.Idx → EReal) (ix2 r k) := by
  obtain ⟨-, -, -, -, -, ⟨e0, e1⟩, -⟩ := idxAll t
  unfold iblk
  rw [View.read_apply]
  have e : (((cfg0.win 5).blk t).view.emb (ix2 r k) : S256x256.Idx) = ix2 r k := by
    funext a; apply Fin.ext
    match a with
    | ⟨0, _⟩ => show win0_5.index t 0 * 256 + 1 * r.val = r.val; omega
    | ⟨1, _⟩ => show win0_5.index t 1 * 256 + 1 * k.val = k.val; omega
  show (V m c main_v36 : S256x256.Idx → EReal) (((cfg0.win 5).blk t).view.emb (ix2 r k)) = _
  rw [e]

/-- The body's input blocks in terms of the arguments. -/
theorem blocks (hv : Finite (vIn m c)) (t : Fin cfg0.N) :
    Blocks (iblk m c 0 t) (iblk m c 1 t) (iblk m c 2 t) (iblk m c 3 t) (iblk m c 4 t) (iblk m c 5 t)
      (uIn m c) (vIn m c) (gIn m c) (bIn m c) (wsIn m c) (bsIn m c) where
  left r k := (blk0 m c t r _).trans (V2_left m c r k)
  right r k := (blk0 m c t r _).trans (V2_right m c r k)
  mix i k := (blk1 m c t i k).trans (V18_apply m c i k)
  bias i k := (blk2 m c t i k).trans (V22_apply m c i k)
  scale k := (blk3 m c t 0 k).trans (V23_apply m c k)
  shift k := (blk4 m c t 0 k).trans (V24_apply m c k)
  mean n k := (blk5 m c t n k).trans (V36_apply m c n k)
  real := hv

/-- The contents of the first result. -/
def G6 : S512x256.Idx → EReal := fun i => oa (uIn m c) (vIn m c) (gIn m c) (bIn m c) (wsIn m c) (bsIn m c) (i 0).val (i 1).val

/-- What the kernel writes back to the first result is its contents. -/
theorem flushed6_eq (hv : Finite (vIn m c)) (t : Fin cfg0.N) :
    (dats m 0 c).flushed 6 t = ((cfg0.win 6).blk t).view.read (Elt Ideal) (G6 m c) := by
  rw [Value.flushed6]
  obtain ⟨-, -, -, -, -, -, ⟨e0, e1⟩, -⟩ := idxAll t
  have key (r : Fin 512) (j : Fin 256) :
      (out0_6 (F := Ideal) (iblk m c 0 t) (iblk m c 1 t) (iblk m c 2 t) (iblk m c 3 t) (iblk m c 4 t) (iblk m c 5 t) : S512x256.Idx → EReal) (ix2 r j)
        = G6 m c (((cfg0.win 6).blk t).view.emb (ix2 r j)) := by
    have e : (((cfg0.win 6).blk t).view.emb (ix2 r j) : S512x256.Idx) = ix2 r j := by
      funext a; apply Fin.ext
      match a with
      | ⟨0, _⟩ => show win0_6.index t 0 * 512 + 1 * r.val = r.val; omega
      | ⟨1, _⟩ => show win0_6.index t 1 * 256 + 1 * j.val = j.val; omega
    rw [e]
    exact out6_apply _ _ _ _ _ _ _ _ _ _ _ _ (blocks m c hv t) r j
  refine funext (α := S512x256.Idx) fun y => ?_
  idx_vars y
  exact key _ _

/-- The one block of the first result is the whole of it. -/
theorem final6 (hv : Finite (vIn m c)) : (dats m 0 c).arrAt 6 cfg0.N = G6 m c :=
  (dats m 0 c).arrAt_eq_of_cover 6 (G6 m c) (fun t _ => flushed6_eq m c hv t) fun i => by
    revert i
    show ∀ i : S512x256.Idx, _
    intro i
    have h0 : (i 0).val < 512 := (i 0).isLt
    have h1 : (i 1).val < 256 := (i 1).isLt
    have hlt : 0 < cfg0.N := lt_of_lt_of_eq (by omega) N_0.symm
    obtain ⟨-, -, -, -, -, -, ⟨e0, e1⟩, -⟩ := idxAll ⟨0, hlt⟩
    refine ⟨⟨0, hlt⟩, flush0_6 _, ?_⟩
    show i ∈ ((View.whole main_v37_0).slice (win0_6.rect ⟨0, hlt⟩)).set
    rw [View.set_slice_whole, Rect.mem_set_unit]
    intro a
    match a with
    | ⟨0, _⟩ => show win0_6.index ⟨0, hlt⟩ (0 : Fin 2) * 512 ≤ (i 0).val ∧ (i 0).val < win0_6.index ⟨0, hlt⟩ (0 : Fin 2) * 512 + 512; omega
    | ⟨1, _⟩ => show win0_6.index ⟨0, hlt⟩ (1 : Fin 2) * 256 ≤ (i 1).val ∧ (i 1).val < win0_6.index ⟨0, hlt⟩ (1 : Fin 2) * 256 + 256; omega

/-- The contents of the second result. -/
def G7 : S512x256.Idx → EReal := fun i => av (vIn m c) (gIn m c) (bIn m c) (i 0).val (i 1).val

/-- What the kernel writes back to the second result is its contents. -/
theorem flushed7_eq (hv : Finite (vIn m c)) (t : Fin cfg0.N) :
    (dats m 0 c).flushed 7 t = ((cfg0.win 7).blk t).view.read (Elt Ideal) (G7 m c) := by
  rw [Value.flushed7]
  obtain ⟨-, -, -, -, -, -, -, e0, e1⟩ := idxAll t
  have key (r : Fin 512) (j : Fin 256) :
      (out0_7 (F := Ideal) (iblk m c 0 t) (iblk m c 1 t) (iblk m c 2 t) (iblk m c 3 t) (iblk m c 4 t) (iblk m c 5 t) : S512x256.Idx → EReal) (ix2 r j)
        = G7 m c (((cfg0.win 7).blk t).view.emb (ix2 r j)) := by
    have e : (((cfg0.win 7).blk t).view.emb (ix2 r j) : S512x256.Idx) = ix2 r j := by
      funext a; apply Fin.ext
      match a with
      | ⟨0, _⟩ => show win0_7.index t 0 * 512 + 1 * r.val = r.val; omega
      | ⟨1, _⟩ => show win0_7.index t 1 * 256 + 1 * j.val = j.val; omega
    rw [e]
    exact out7_apply _ _ _ _ _ _ _ _ _ _ _ _ (blocks m c hv t) r j
  refine funext (α := S512x256.Idx) fun y => ?_
  idx_vars y
  exact key _ _

/-- The one block of the second result is the whole of it. -/
theorem final7 (hv : Finite (vIn m c)) : (dats m 0 c).arrAt 7 cfg0.N = G7 m c :=
  (dats m 0 c).arrAt_eq_of_cover 7 (G7 m c) (fun t _ => flushed7_eq m c hv t) fun i => by
    revert i
    show ∀ i : S512x256.Idx, _
    intro i
    have h0 : (i 0).val < 512 := (i 0).isLt
    have h1 : (i 1).val < 256 := (i 1).isLt
    have hlt : 0 < cfg0.N := lt_of_lt_of_eq (by omega) N_0.symm
    obtain ⟨-, -, -, -, -, -, -, e0, e1⟩ := idxAll ⟨0, hlt⟩
    refine ⟨⟨0, hlt⟩, flush0_7 _, ?_⟩
    show i ∈ ((View.whole main_v37_1).slice (win0_7.rect ⟨0, hlt⟩)).set
    rw [View.set_slice_whole, Rect.mem_set_unit]
    intro a
    match a with
    | ⟨0, _⟩ => show win0_7.index ⟨0, hlt⟩ (0 : Fin 2) * 512 ≤ (i 0).val ∧ (i 0).val < win0_7.index ⟨0, hlt⟩ (0 : Fin 2) * 512 + 512; omega
    | ⟨1, _⟩ => show win0_7.index ⟨0, hlt⟩ (1 : Fin 2) * 256 ≤ (i 1).val ∧ (i 1).val < win0_7.index ⟨0, hlt⟩ (1 : Fin 2) * 256 + 256; omega

end Cert.Kernel6Ideal.Val

end
-- ==== Proof.Mixa.Ref.lean ====
/- The first mixer's reference read at an index, over the extended reals. -/
module

public import proofs.«01_k».proof.Proof.Gen.Reference6Ideal.Read
public import proofs.«01_k».proof.Proof.Mixa.Spec

@[expose] public section

set_option maxRecDepth 16384

noncomputable section

namespace Cert.Reference6Ideal.Val

open Cert.Reference6Ideal Cert.Reference6Ideal.Gen Cert.Reference6Ideal.Read
open Idealize.ShloMosaic Idealize.ShloMosaic.TcCoe Idealize.SL.Sem
open Cert.Ffn Cert.Mixa

variable (x0 x1 : (⟨S32x16x256, .f32⟩ : BufTy).Contents (Elt Ideal)) (x2 x3 : (⟨S256, .f32⟩ : BufTy).Contents (Elt Ideal))
  (x4 : (⟨S4x128x128, .f32⟩ : BufTy).Contents (Elt Ideal)) (x5 : (⟨S4x128, .f32⟩ : BufTy).Contents (Elt Ideal))

/-- The GELU of the first half. -/
theorem v12_apply (b : Fin 32) (t : Fin 16) (n : Fin 256) : val_main_v12 (F := Ideal) x0 (ix3 b t n) = gelu (x0 (ix3 b t n)) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  unfold gelu
  rw [mul_comm (x0 (ix3 b t n) * x0 (ix3 b t n)) (x0 (ix3 b t n))]

/-- The GELU of the second half. -/
theorem v25_apply (b : Fin 32) (t : Fin 16) (n : Fin 256) : val_main_v25 (F := Ideal) x1 (ix3 b t n) = gelu (x1 (ix3 b t n)) := by
  pointwise [val_main_v25, val_main_v24, val_main_v23, val_main_v22, val_main_v21, val_main_v20, val_main_v19, val_main_v18,
    val_main_v17, val_main_v16, val_main_v15, val_main_v14, val_main_v13, val_main_cst_3, val_main_cst_4, val_main_cst_5, val_main_cst_6]
  unfold gelu
  rw [mul_comm (x1 (ix3 b t n) * x1 (ix3 b t n)) (x1 (ix3 b t n))]

/-- A row of the second half's GELU. -/
def row (b t : ℕ) : ℕ → EReal := fun n => gelu (at3 x1 b t n)

/-- The GELU of the second half, its columns by group. -/
theorem v26_apply (b : Fin 32) (t : Fin 16) (g : Fin 4) (k : Fin 64) :
    val_main_v26 (F := Ideal) x1 (ix4 b t g k) = row x1 b t (64 * g.val + k.val) := by
  have hg := g.isLt
  have hk := k.isLt
  pointwise [val_main_v26]
  refine (v25_apply x1 _ _ _).trans (congrArg gelu ((at3_fin (a := 32) (b := 16) (d := 256) x1 _ _ _).trans ?_))
  exact congrArg (at3 x1 b t) (by dsimp only; omega)

/-- The mean over a group. -/
theorem v32_apply (b : Fin 32) (t : Fin 16) (g : Fin 4) (c : ℕ) (hc : c / 64 = g.val) :
    val_main_v32 (F := Ideal) x1 (ix4 b t g 0) = gmean (row x1 b t) c := by
  pointwise [val_main_v32, val_main_v31, val_main_v30, val_main_v29, val_main_cst_8, val_main_cst_7]
  unfold gmean
  refine congrArg (Ideal.div · _) (Finset.sum_congr rfl fun k _ => ?_)
  rw [v26_apply, hc]

/-- The mixing matrix of a group, below its diagonal. -/
theorem v58_apply (g : Fin 4) (i j : Fin 16) : val_main_v58 (F := Ideal) x4 (ix3 g i j) = wm x4 g i j := by
  pointwise [val_main_v58, val_main_v57, val_main_v56, val_main_v55, val_main_v54, val_main_v53, val_main_call0_v5, val_main_call0_v4,
    val_main_call0_v3, val_main_call0_v2, val_main_call0_v1, val_main_call0_v0, val_main_call0_c, val_main_call0_cst, val_main_cst_12]
  have e : ∀ a b : Fin 16, IntOp.cmpi .sge (IntOp.addi (BitVec.ofNat 32 a.val) 0#32) (BitVec.ofNat 32 b.val)
      = if b.val ≤ a.val then 1#1 else 0#1 := by decide +kernel
  rw [e]
  unfold wm
  split
  · rw [mul_one]
    exact at3_fin _ _ _ _
  · rw [mul_zero]
    rfl

/-- The mixed half. -/
theorem v60_apply (b : Fin 32) (t : Fin 16) (g : Fin 4) (k : Fin 64) :
    val_main_v60 (F := Ideal) x1 x2 x3 x4 (ix4 b t g k)
      = ∑ j : Fin 16, val_main_v52 (F := Ideal) x1 x2 x3 (ix4 b j g k) * val_main_v58 (F := Ideal) x4 (ix3 g t j) := by
  pointwise [val_main_v60, val_main_v59]

/-- The variance over a group. -/
theorem v39_apply (b : Fin 32) (t : Fin 16) (g : Fin 4) (c : ℕ) (hc : c / 64 = g.val) :
    val_main_v39 (F := Ideal) x1 (ix4 b t g 0)
      = gmean (fun n => (row x1 b t n - gmean (row x1 b t) n) * (row x1 b t n - gmean (row x1 b t) n)) c := by
  pointwise [val_main_v39, val_main_v38, val_main_v37, val_main_v36, val_main_v35, val_main_v34, val_main_v33, val_main_cst_9, val_main_cst_10]
  unfold gmean
  refine congrArg (Ideal.div · _) (Finset.sum_congr rfl fun k _ => ?_)
  have h := v32_apply x1 b t g (64 * g.val + k.val) (by omega)
  rw [v26_apply, h, hc]
  rfl

/-- The normalised half, its columns by group. -/
theorem v52_apply (b : Fin 32) (t : Fin 16) (g : Fin 4) (k : Fin 64) :
    val_main_v52 (F := Ideal) x1 x2 x3 (ix4 b t g k) = gnorm (row x1 b t) (at1 x2) (at1 x3) (64 * g.val + k.val) := by
  have hg := g.isLt
  have hk := k.isLt
  pointwise [val_main_v52, val_main_v51, val_main_v50, val_main_v49, val_main_v48, val_main_v47, val_main_v46, val_main_v45, val_main_v44,
    val_main_v43, val_main_v42, val_main_v41, val_main_v40, val_main_v28, val_main_v27, val_main_cst_11]
  rw [v26_apply, v32_apply x1 b t g (64 * g.val + k.val) (by omega), v39_apply x1 b t g (64 * g.val + k.val) (by omega)]
  have e (A : S256.Idx → EReal) : A (ix1 ⟨g.val * 64 + k.val, by omega⟩) = at1 A (64 * g.val + k.val) :=
    (at1_fin A _).trans (congrArg (at1 A) (by dsimp only; omega))
  unfold gnorm
  exact congrArg₂ (· + ·) (congrArg₂ (· * ·) rfl (e x2)) (e x3)

/-- The second result is the normalised half, row by row. -/
theorem v69_apply (r : Fin 512) (c : Fin 256) : val_main_v69 (F := Ideal) x1 x2 x3 (ix2 r c) = av x1 x2 x3 r c := by
  have hr := r.isLt
  have hc := c.isLt
  pointwise [val_main_v69]
  refine (v52_apply x1 x2 x3 _ _ _ _).trans ?_
  unfold av
  exact congrArg (gnorm _ _ _) (by dsimp only; omega)

/-- The normalised half at position `j` of sequence `b`. -/
theorem av_row (b j c : ℕ) (hj : j < 16) : av x1 x2 x3 (16 * b + j) c = gnorm (row x1 b j) (at1 x2) (at1 x3) c := by
  unfold av row
  rw [show (16 * b + j) / 16 = b by omega, show (16 * b + j) % 16 = j by omega]

/-- The first result is the mixer's output, row by row. -/
theorem v68_apply (r : Fin 512) (c : Fin 256) : val_main_v68 (F := Ideal) x0 x1 x2 x3 x4 x5 (ix2 r c) = oa x0 x1 x2 x3 x4 x5 r c := by
  have hr := r.isLt
  have hc := c.isLt
  pointwise [val_main_v68, val_main_v67, val_main_v66, val_main_v65, val_main_v64, val_main_v63, val_main_v62, val_main_v61]
  unfold oa
  refine congrArg₂ (· * ·) ((v12_apply x0 _ _ _).trans (congrArg gelu (at3_fin (a := 32) (b := 16) (d := 256) x0 _ _ _)))
    (congrArg₂ (· + ·) ((v60_apply x1 x2 x3 x4 _ _ _ _).trans (Finset.sum_congr rfl fun j _ => ?_)) (at2_fin _ _ _))
  refine Eq.trans ?_ (mul_comm _ _)
  refine congrArg₂ (· * ·) ?_ (v58_apply x4 _ _ _)
  rw [av_row x1 x2 x3 _ _ _ j.isLt]
  refine (v52_apply x1 x2 x3 _ _ _ _).trans ?_
  exact congrArg (gnorm _ _ _) (by dsimp only; omega)

end Cert.Reference6Ideal.Val

end
-- ==== Proof.Mixa.Claim.lean ====
/- The first mixer's claims: the launches' frames, and the equality of the kernel's two arrays with the reference's where
   every entry of the second argument is a real number. -/
module

public import proofs.«01_k».proof.Defs
public import proofs.«01_k».proof.Proof.Gen.Kernel6.Frame
public import proofs.«01_k».proof.Proof.Gen.Reference6Ideal.Run
public import proofs.«01_k».proof.Proof.Mixa.Kernel
public import proofs.«01_k».proof.Proof.Mixa.Ref

@[expose] public section

set_option maxRecDepth 16384

noncomputable section

namespace Cert.Mixa.Claim

open Idealize.ShloMosaic Idealize.ShloMosaic.TcCoe Idealize.SL.Sem Idealize.ShloMosaic.StableHlo

/-- The precondition's one shape relation: one number fills the array. -/
instance factsPre : Cert.Pre_v_finite.Facts where
  bcast_S_S32x16x256 := by decide

/-- A number whose absolute value is below +∞ is real. -/
theorem real_of_abs_lt {x : EReal} (h : max x (-x) < ⊤) : IsReal x := by
  obtain ⟨h1, h2⟩ := max_lt_iff.1 h
  exact ⟨x.toReal, (EReal.coe_toReal (ne_of_lt h1) fun e => by rw [e] at h2; exact absurd h2 (by simp)).symm⟩

/-- Under the precondition every entry of the second argument is real. -/
theorem finite_of_pre (m : (ℓ : Loc Cert.Kernel6Ideal.nD Cert.Kernel6Ideal.τ Cert.Kernel6Ideal.sig) → Buf (Elt Ideal) ℓ)
    (h : Cert.Pre_Kernel6Ideal_v_finite m) (c : Dev Cert.Kernel6Ideal.nD) : Finite (Cert.Kernel6Ideal.Val.vIn m c) := by
  intro i
  have e := congrFun (h c) i
  have htop : Ideal.ofBits .f32 0x7F800000#32 = ⊤ := by simp [Ideal.ofBits, Ideal.ieee]
  have e' : Ideal.cmp .olt (max (Cert.Kernel6Ideal.Val.vIn m c i) (-(Cert.Kernel6Ideal.Val.vIn m c i))) (Ideal.ofBits .f32 0x7F800000#32) = 1#1 := e
  rw [htop] at e'
  apply real_of_abs_lt
  by_contra hn
  unfold Ideal.cmp at e'
  simp [hn] at e'

/-- The kernel's frame on the machine's words. -/
theorem frame_kernel : Cert.quiescent_Kernel6 := fun m ρ _ => Cert.Kernel6.Gen.frame m ρ

/-- The kernel's frame at the ideal instance. -/
theorem frame_kernelIdeal : Cert.quiescent_Kernel6Ideal := fun m ρ _ => Cert.Kernel6Ideal.Gen.frame m ρ

/-- The kernel's frame at the ideal instance, under the precondition. -/
theorem frame_kernelIdeal_pre : Cert.quiescent_Kernel6Ideal_pre_v_finite := fun m ρ _ => Cert.Kernel6Ideal.Gen.frame m ρ

/-- The reference leaves its arguments as they were and its semaphores at zero. -/
theorem frame_referenceIdeal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference's frame under the precondition. -/
theorem frame_referenceIdeal_pre : Cert.quiescent_Reference6Ideal_pre_v_finite := fun m ρ _ => frame_referenceIdeal m ρ trivial

/-- No operation was rewritten. -/
theorem preserves : Cert.preserves_Kernel6_Kernel6Ideal := trivial

/-- At the ideal instance, under the precondition, the kernel's two arrays are the reference's. -/
theorem algebraic : Cert.algebraic_Kernel6Ideal_Reference6Ideal_pre_v_finite := by
  intro m ρ m' ρ' hp hag
  refine ⟨fun c => Cert.Kernel6Ideal.Val.G6 m c, fun c => Cert.Kernel6Ideal.Val.G7 m c, ?_, ?_⟩
  · refine (θ_run Cert.Kernel6Ideal.defs _ _).mono (fun r h c => ?_) (Cert.Kernel6Ideal.Value.run_blocks (F := Ideal) m ρ)
    obtain ⟨h6, h7, hk⟩ := h c
    exact ⟨h6.trans (Cert.Kernel6Ideal.Val.final6 m c (finite_of_pre m hp c)), h7.trans (Cert.Kernel6Ideal.Val.final7 m c (finite_of_pre m hp c)), hk⟩
  · refine (θ_run Cert.Reference6Ideal.defs _ _).mono (fun r h c => ?_) (Cert.Reference6Ideal.Value.run (F := Ideal) m' ρ')
    obtain ⟨h6, h7, hk⟩ := h c
    obtain ⟨a0, a1, a2, a3, a4, a5⟩ := hag c
    refine ⟨h6.trans ?_, h7.trans ?_, hk⟩
    · refine (Cert.Reference6Ideal.Read.val_main_v68_eq _ _).trans ?_
      rw [a0, a1, a2, a3, a4, a5]
      funext i
      idx_vars i
      exact Cert.Reference6Ideal.Val.v68_apply _ _ _ _ _ _ _ _
    · refine (Cert.Reference6Ideal.Read.val_main_v69_eq _ _).trans ?_
      rw [a1, a2, a3]
      funext i
      idx_vars i
      exact Cert.Reference6Ideal.Val.v69_apply _ _ _ _ _

end Cert.Mixa.Claim

end
-- ==== Proof.lean ====
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Value
public import proofs.«01_k».proof.Proof.Gen.Kernel4Ideal.Frame
public import proofs.«01_k».proof.Proof.Gen.Kernel4.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Value
public import proofs.«01_k».proof.Proof.Gen.Kernel3Ideal.Frame
public import proofs.«01_k».proof.Proof.Gen.Kernel3.Frame
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Value
public import proofs.«01_k».proof.Proof.Gen.Kernel5Ideal.Frame
public import proofs.«01_k».proof.Proof.Gen.Kernel5.Frame
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Value
public import proofs.«01_k».proof.Proof.Gen.Kernel6Ideal.Frame
public import proofs.«01_k».proof.Proof.Gen.Kernel6.Frame
public import proofs.«01_k».proof.Proof.Ffn.Claim4
public import proofs.«01_k».proof.Proof.Proj.Claim
public import proofs.«01_k».proof.Proof.Ffn.Claim2
public import proofs.«01_k».proof.Proof.ProjS.Claim
public import proofs.«01_k».proof.Proof.Mixa.Claim
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel4.Gen.facts, Cert.Kernel4Ideal.Gen.facts, Cert.Reference4Ideal.Gen.facts, Cert.Kernel3.Gen.facts, Cert.Kernel3Ideal.Gen.facts, Cert.Reference3Ideal.Gen.facts, Cert.Kernel2.Gen.facts, Cert.Kernel2Ideal.Gen.facts, Cert.Reference2Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Mixa.Claim.factsPre,
  Cert.Ffn.Claim4.frame_kernel, Cert.Ffn.Claim4.frame_kernelIdeal, Cert.Ffn.Claim4.frame_referenceIdeal,
  Cert.Proj.Claim.frame_kernel, Cert.Proj.Claim.frame_kernelIdeal, Cert.Proj.Claim.frame_referenceIdeal,
  Cert.Ffn.Claim2.frame_kernel, Cert.Ffn.Claim2.frame_kernelIdeal, Cert.Ffn.Claim2.frame_referenceIdeal,
  Cert.ProjS.Claim.frame_kernel, Cert.ProjS.Claim.frame_kernelIdeal, Cert.ProjS.Claim.frame_referenceIdeal,
  Cert.Mixa.Claim.frame_kernel, Cert.Mixa.Claim.frame_kernelIdeal, Cert.Mixa.Claim.frame_kernelIdeal_pre, Cert.Mixa.Claim.frame_referenceIdeal, Cert.Mixa.Claim.frame_referenceIdeal_pre,
  Cert.Ffn.Claim4.preserves, Cert.Ffn.Claim4.algebraic,
  Cert.Proj.Claim.preserves, Cert.Proj.Claim.algebraic,
  Cert.Ffn.Claim2.preserves, Cert.Ffn.Claim2.algebraic,
  Cert.ProjS.Claim.preserves, Cert.ProjS.Claim.algebraic,
  Cert.Mixa.Claim.preserves, Cert.Mixa.Claim.algebraic⟩

end Cert.Proof

end
